-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_gains [hPre_finite_gains : Cert.Pre_finite_gains.Facts] (m : (ℓ : Loc Cert.MixerIdeal.nD Cert.MixerIdeal.τ Cert.MixerIdeal.sig) → Buf (Elt Ideal) ℓ) : Prop :=
  ∀ c : Dev Cert.MixerIdeal.nD,
    (Cert.Pre_finite_gains.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4))).1 = (fun _ => 1#1)
    ∧ (Cert.Pre_finite_gains.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4))).2 = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite_gains [hPre_finite_gains : Cert.Pre_finite_gains.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite_gains.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4))).1 = (fun _ => 1#1)
    ∧ (Cert.Pre_finite_gains.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4))).2 = (fun _ => 1#1)

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_FfnEven (m : (ℓ : Loc Cert.FfnEven.nD Cert.FfnEven.τ Cert.FfnEven.sig) → Buf (Elt Bits) ℓ) : Prop :=
  True

def Pre_FfnEvenIdeal (m : (ℓ : Loc Cert.FfnEvenIdeal.nD Cert.FfnEvenIdeal.τ Cert.FfnEvenIdeal.sig) → Buf (Elt Ideal) ℓ) : Prop :=
  True

def Pre_FfnEvenRefIdeal (m : (ℓ : Loc Cert.FfnEvenRefIdeal.nD Cert.FfnEvenRefIdeal.τ Cert.FfnEvenRefIdeal.sig) → Buf (Elt Ideal) ℓ) : Prop :=
  True

def Pre_LruFirst (m : (ℓ : Loc Cert.LruFirst.nD Cert.LruFirst.τ Cert.LruFirst.sig) → Buf (Elt Bits) ℓ) : Prop :=
  True

def Pre_LruFirstIdeal (m : (ℓ : Loc Cert.LruFirstIdeal.nD Cert.LruFirstIdeal.τ Cert.LruFirstIdeal.sig) → Buf (Elt Ideal) ℓ) : Prop :=
  True

def Pre_LruFirstRefIdeal (m : (ℓ : Loc Cert.LruFirstRefIdeal.nD Cert.LruFirstRefIdeal.τ Cert.LruFirstRefIdeal.sig) → Buf (Elt Ideal) ℓ) : Prop :=
  True

def Pre_LruLater (m : (ℓ : Loc Cert.LruLater.nD Cert.LruLater.τ Cert.LruLater.sig) → Buf (Elt Bits) ℓ) : Prop :=
  True

def Pre_LruLaterIdeal (m : (ℓ : Loc Cert.LruLaterIdeal.nD Cert.LruLaterIdeal.τ Cert.LruLaterIdeal.sig) → Buf (Elt Ideal) ℓ) : Prop :=
  True

def Pre_LruLaterRefIdeal (m : (ℓ : Loc Cert.LruLaterRefIdeal.nD Cert.LruLaterRefIdeal.τ Cert.LruLaterRefIdeal.sig) → Buf (Elt Ideal) ℓ) : Prop :=
  True

def Pre_MixerOnline (m : (ℓ : Loc Cert.MixerOnline.nD Cert.MixerOnline.τ Cert.MixerOnline.sig) → Buf (Elt Bits) ℓ) : Prop :=
  True

def Pre_MixerOnlineIdeal (m : (ℓ : Loc Cert.MixerOnlineIdeal.nD Cert.MixerOnlineIdeal.τ Cert.MixerOnlineIdeal.sig) → Buf (Elt Ideal) ℓ) : Prop :=
  True

def Pre_MixerOnlineIdeal_finite_gains [hPre_finite_gains : Cert.Pre_finite_gains.Facts] (m : (ℓ : Loc Cert.MixerOnlineIdeal.nD Cert.MixerOnlineIdeal.τ Cert.MixerOnlineIdeal.sig) → Buf (Elt Ideal) ℓ) : Prop :=
  ∀ c : Dev Cert.MixerOnlineIdeal.nD,
    (Cert.Pre_finite_gains.fn (F := Ideal) (m ((c.tc : Thread Cert.MixerOnlineIdeal.nD Cert.MixerOnlineIdeal.τ).loc Cert.MixerOnlineIdeal.main_arg0)) (m ((c.tc : Thread Cert.MixerOnlineIdeal.nD Cert.MixerOnlineIdeal.τ).loc Cert.MixerOnlineIdeal.main_arg1)) (m ((c.tc : Thread Cert.MixerOnlineIdeal.nD Cert.MixerOnlineIdeal.τ).loc Cert.MixerOnlineIdeal.main_arg2)) (m ((c.tc : Thread Cert.MixerOnlineIdeal.nD Cert.MixerOnlineIdeal.τ).loc Cert.MixerOnlineIdeal.main_arg3)) (m ((c.tc : Thread Cert.MixerOnlineIdeal.nD Cert.MixerOnlineIdeal.τ).loc Cert.MixerOnlineIdeal.main_arg4))).1 = (fun _ => 1#1)
    ∧ (Cert.Pre_finite_gains.fn (F := Ideal) (m ((c.tc : Thread Cert.MixerOnlineIdeal.nD Cert.MixerOnlineIdeal.τ).loc Cert.MixerOnlineIdeal.main_arg0)) (m ((c.tc : Thread Cert.MixerOnlineIdeal.nD Cert.MixerOnlineIdeal.τ).loc Cert.MixerOnlineIdeal.main_arg1)) (m ((c.tc : Thread Cert.MixerOnlineIdeal.nD Cert.MixerOnlineIdeal.τ).loc Cert.MixerOnlineIdeal.main_arg2)) (m ((c.tc : Thread Cert.MixerOnlineIdeal.nD Cert.MixerOnlineIdeal.τ).loc Cert.MixerOnlineIdeal.main_arg3)) (m ((c.tc : Thread Cert.MixerOnlineIdeal.nD Cert.MixerOnlineIdeal.τ).loc Cert.MixerOnlineIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ r.2.sem = fun _ => 0)

def quiescent_MixerIdeal_pre_finite_gains [hMixerIdeal : Cert.MixerIdeal.Facts] [hPre_finite_gains : Cert.Pre_finite_gains.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_gains m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4))
      ∧ r.2.sem = fun _ => 0)

def quiescent_MixerRefIdeal_pre_finite_gains [hMixerRefIdeal : Cert.MixerRefIdeal.Facts] [hPre_finite_gains : Cert.Pre_finite_gains.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite_gains m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def quiescent_FfnEven [hFfnEven : Cert.FfnEven.Facts] : Prop :=
  ∀ (m : (ℓ : Loc Cert.FfnEven.nD Cert.FfnEven.τ Cert.FfnEven.sig) → Buf (Elt Bits) ℓ) (g : Dev Cert.FfnEven.nD → PrngReg), Pre_FfnEven m →
    θ_run (Cert.FfnEven.defs (F := Bits)) (onTc (τ := Cert.FfnEven.τ) (Cert.FfnEven.main (F := Bits))) ⟨m, fun _ => 0, g⟩ (fun r => (∀ c : Dev Cert.FfnEven.nD,
      r.2.mem ((c.tc : Thread Cert.FfnEven.nD Cert.FfnEven.τ).loc Cert.FfnEven.main_arg0) = m ((c.tc : Thread Cert.FfnEven.nD Cert.FfnEven.τ).loc Cert.FfnEven.main_arg0)
      ∧ r.2.mem ((c.tc : Thread Cert.FfnEven.nD Cert.FfnEven.τ).loc Cert.FfnEven.main_arg1) = m ((c.tc : Thread Cert.FfnEven.nD Cert.FfnEven.τ).loc Cert.FfnEven.main_arg1)
      ∧ r.2.mem ((c.tc : Thread Cert.FfnEven.nD Cert.FfnEven.τ).loc Cert.FfnEven.main_arg2) = m ((c.tc : Thread Cert.FfnEven.nD Cert.FfnEven.τ).loc Cert.FfnEven.main_arg2)
      ∧ r.2.mem ((c.tc : Thread Cert.FfnEven.nD Cert.FfnEven.τ).loc Cert.FfnEven.main_arg3) = m ((c.tc : Thread Cert.FfnEven.nD Cert.FfnEven.τ).loc Cert.FfnEven.main_arg3))
      ∧ r.2.sem = fun _ => 0)

def quiescent_FfnEvenIdeal [hFfnEvenIdeal : Cert.FfnEvenIdeal.Facts] : Prop :=
  ∀ (m : (ℓ : Loc Cert.FfnEvenIdeal.nD Cert.FfnEvenIdeal.τ Cert.FfnEvenIdeal.sig) → Buf (Elt Ideal) ℓ) (g : Dev Cert.FfnEvenIdeal.nD → PrngReg), Pre_FfnEvenIdeal m →
    θ_run (Cert.FfnEvenIdeal.defs (F := Ideal)) (onTc (τ := Cert.FfnEvenIdeal.τ) (Cert.FfnEvenIdeal.main (F := Ideal))) ⟨m, fun _ => 0, g⟩ (fun r => (∀ c : Dev Cert.FfnEvenIdeal.nD,
      r.2.mem ((c.tc : Thread Cert.FfnEvenIdeal.nD Cert.FfnEvenIdeal.τ).loc Cert.FfnEvenIdeal.main_arg0) = m ((c.tc : Thread Cert.FfnEvenIdeal.nD Cert.FfnEvenIdeal.τ).loc Cert.FfnEvenIdeal.main_arg0)
      ∧ r.2.mem ((c.tc : Thread Cert.FfnEvenIdeal.nD Cert.FfnEvenIdeal.τ).loc Cert.FfnEvenIdeal.main_arg1) = m ((c.tc : Thread Cert.FfnEvenIdeal.nD Cert.FfnEvenIdeal.τ).loc Cert.FfnEvenIdeal.main_arg1)
      ∧ r.2.mem ((c.tc : Thread Cert.FfnEvenIdeal.nD Cert.FfnEvenIdeal.τ).loc Cert.FfnEvenIdeal.main_arg2) = m ((c.tc : Thread Cert.FfnEvenIdeal.nD Cert.FfnEvenIdeal.τ).loc Cert.FfnEvenIdeal.main_arg2)
      ∧ r.2.mem ((c.tc : Thread Cert.FfnEvenIdeal.nD Cert.FfnEvenIdeal.τ).loc Cert.FfnEvenIdeal.main_arg3) = m ((c.tc : Thread Cert.FfnEvenIdeal.nD Cert.FfnEvenIdeal.τ).loc Cert.FfnEvenIdeal.main_arg3))
      ∧ r.2.sem = fun _ => 0)

def quiescent_FfnEvenRefIdeal [hFfnEvenRefIdeal : Cert.FfnEvenRefIdeal.Facts] : Prop :=
  ∀ (m : (ℓ : Loc Cert.FfnEvenRefIdeal.nD Cert.FfnEvenRefIdeal.τ Cert.FfnEvenRefIdeal.sig) → Buf (Elt Ideal) ℓ) (g : Dev Cert.FfnEvenRefIdeal.nD → PrngReg), Pre_FfnEvenRefIdeal m →
    θ_run (Cert.FfnEvenRefIdeal.defs (F := Ideal)) (onTc (τ := Cert.FfnEvenRefIdeal.τ) (Cert.FfnEvenRefIdeal.main (F := Ideal))) ⟨m, fun _ => 0, g⟩ (fun r => (∀ c : Dev Cert.FfnEvenRefIdeal.nD,
      r.2.mem ((c.tc : Thread Cert.FfnEvenRefIdeal.nD Cert.FfnEvenRefIdeal.τ).loc Cert.FfnEvenRefIdeal.main_arg0) = m ((c.tc : Thread Cert.FfnEvenRefIdeal.nD Cert.FfnEvenRefIdeal.τ).loc Cert.FfnEvenRefIdeal.main_arg0)
      ∧ r.2.mem ((c.tc : Thread Cert.FfnEvenRefIdeal.nD Cert.FfnEvenRefIdeal.τ).loc Cert.FfnEvenRefIdeal.main_arg1) = m ((c.tc : Thread Cert.FfnEvenRefIdeal.nD Cert.FfnEvenRefIdeal.τ).loc Cert.FfnEvenRefIdeal.main_arg1)
      ∧ r.2.mem ((c.tc : Thread Cert.FfnEvenRefIdeal.nD Cert.FfnEvenRefIdeal.τ).loc Cert.FfnEvenRefIdeal.main_arg2) = m ((c.tc : Thread Cert.FfnEvenRefIdeal.nD Cert.FfnEvenRefIdeal.τ).loc Cert.FfnEvenRefIdeal.main_arg2)
      ∧ r.2.mem ((c.tc : Thread Cert.FfnEvenRefIdeal.nD Cert.FfnEvenRefIdeal.τ).loc Cert.FfnEvenRefIdeal.main_arg3) = m ((c.tc : Thread Cert.FfnEvenRefIdeal.nD Cert.FfnEvenRefIdeal.τ).loc Cert.FfnEvenRefIdeal.main_arg3))
      ∧ r.2.sem = fun _ => 0)

def quiescent_LruFirst [hLruFirst : Cert.LruFirst.Facts] : Prop :=
  ∀ (m : (ℓ : Loc Cert.LruFirst.nD Cert.LruFirst.τ Cert.LruFirst.sig) → Buf (Elt Bits) ℓ) (g : Dev Cert.LruFirst.nD → PrngReg), Pre_LruFirst m →
    θ_run (Cert.LruFirst.defs (F := Bits)) (onTc (τ := Cert.LruFirst.τ) (Cert.LruFirst.main (F := Bits))) ⟨m, fun _ => 0, g⟩ (fun r => (∀ c : Dev Cert.LruFirst.nD,
      r.2.mem ((c.tc : Thread Cert.LruFirst.nD Cert.LruFirst.τ).loc Cert.LruFirst.main_arg0) = m ((c.tc : Thread Cert.LruFirst.nD Cert.LruFirst.τ).loc Cert.LruFirst.main_arg0)
      ∧ r.2.mem ((c.tc : Thread Cert.LruFirst.nD Cert.LruFirst.τ).loc Cert.LruFirst.main_arg1) = m ((c.tc : Thread Cert.LruFirst.nD Cert.LruFirst.τ).loc Cert.LruFirst.main_arg1)
      ∧ r.2.mem ((c.tc : Thread Cert.LruFirst.nD Cert.LruFirst.τ).loc Cert.LruFirst.main_arg2) = m ((c.tc : Thread Cert.LruFirst.nD Cert.LruFirst.τ).loc Cert.LruFirst.main_arg2)
      ∧ r.2.mem ((c.tc : Thread Cert.LruFirst.nD Cert.LruFirst.τ).loc Cert.LruFirst.main_arg3) = m ((c.tc : Thread Cert.LruFirst.nD Cert.LruFirst.τ).loc Cert.LruFirst.main_arg3))
      ∧ r.2.sem = fun _ => 0)

def quiescent_LruFirstIdeal [hLruFirstIdeal : Cert.LruFirstIdeal.Facts] : Prop :=
  ∀ (m : (ℓ : Loc Cert.LruFirstIdeal.nD Cert.LruFirstIdeal.τ Cert.LruFirstIdeal.sig) → Buf (Elt Ideal) ℓ) (g : Dev Cert.LruFirstIdeal.nD → PrngReg), Pre_LruFirstIdeal m →
    θ_run (Cert.LruFirstIdeal.defs (F := Ideal)) (onTc (τ := Cert.LruFirstIdeal.τ) (Cert.LruFirstIdeal.main (F := Ideal))) ⟨m, fun _ => 0, g⟩ (fun r => (∀ c : Dev Cert.LruFirstIdeal.nD,
      r.2.mem ((c.tc : Thread Cert.LruFirstIdeal.nD Cert.LruFirstIdeal.τ).loc Cert.LruFirstIdeal.main_arg0) = m ((c.tc : Thread Cert.LruFirstIdeal.nD Cert.LruFirstIdeal.τ).loc Cert.LruFirstIdeal.main_arg0)
      ∧ r.2.mem ((c.tc : Thread Cert.LruFirstIdeal.nD Cert.LruFirstIdeal.τ).loc Cert.LruFirstIdeal.main_arg1) = m ((c.tc : Thread Cert.LruFirstIdeal.nD Cert.LruFirstIdeal.τ).loc Cert.LruFirstIdeal.main_arg1)
      ∧ r.2.mem ((c.tc : Thread Cert.LruFirstIdeal.nD Cert.LruFirstIdeal.τ).loc Cert.LruFirstIdeal.main_arg2) = m ((c.tc : Thread Cert.LruFirstIdeal.nD Cert.LruFirstIdeal.τ).loc Cert.LruFirstIdeal.main_arg2)
      ∧ r.2.mem ((c.tc : Thread Cert.LruFirstIdeal.nD Cert.LruFirstIdeal.τ).loc Cert.LruFirstIdeal.main_arg3) = m ((c.tc : Thread Cert.LruFirstIdeal.nD Cert.LruFirstIdeal.τ).loc Cert.LruFirstIdeal.main_arg3))
      ∧ r.2.sem = fun _ => 0)

def quiescent_LruFirstRefIdeal [hLruFirstRefIdeal : Cert.LruFirstRefIdeal.Facts] : Prop :=
  ∀ (m : (ℓ : Loc Cert.LruFirstRefIdeal.nD Cert.LruFirstRefIdeal.τ Cert.LruFirstRefIdeal.sig) → Buf (Elt Ideal) ℓ) (g : Dev Cert.LruFirstRefIdeal.nD → PrngReg), Pre_LruFirstRefIdeal m →
    θ_run (Cert.LruFirstRefIdeal.defs (F := Ideal)) (onTc (τ := Cert.LruFirstRefIdeal.τ) (Cert.LruFirstRefIdeal.main (F := Ideal))) ⟨m, fun _ => 0, g⟩ (fun r => (∀ c : Dev Cert.LruFirstRefIdeal.nD,
      r.2.mem ((c.tc : Thread Cert.LruFirstRefIdeal.nD Cert.LruFirstRefIdeal.τ).loc Cert.LruFirstRefIdeal.main_arg0) = m ((c.tc : Thread Cert.LruFirstRefIdeal.nD Cert.LruFirstRefIdeal.τ).loc Cert.LruFirstRefIdeal.main_arg0)
      ∧ r.2.mem ((c.tc : Thread Cert.LruFirstRefIdeal.nD Cert.LruFirstRefIdeal.τ).loc Cert.LruFirstRefIdeal.main_arg1) = m ((c.tc : Thread Cert.LruFirstRefIdeal.nD Cert.LruFirstRefIdeal.τ).loc Cert.LruFirstRefIdeal.main_arg1)
      ∧ r.2.mem ((c.tc : Thread Cert.LruFirstRefIdeal.nD Cert.LruFirstRefIdeal.τ).loc Cert.LruFirstRefIdeal.main_arg2) = m ((c.tc : Thread Cert.LruFirstRefIdeal.nD Cert.LruFirstRefIdeal.τ).loc Cert.LruFirstRefIdeal.main_arg2)
      ∧ r.2.mem ((c.tc : Thread Cert.LruFirstRefIdeal.nD Cert.LruFirstRefIdeal.τ).loc Cert.LruFirstRefIdeal.main_arg3) = m ((c.tc : Thread Cert.LruFirstRefIdeal.nD Cert.LruFirstRefIdeal.τ).loc Cert.LruFirstRefIdeal.main_arg3))
      ∧ r.2.sem = fun _ => 0)

def quiescent_LruLater [hLruLater : Cert.LruLater.Facts] : Prop :=
  ∀ (m : (ℓ : Loc Cert.LruLater.nD Cert.LruLater.τ Cert.LruLater.sig) → Buf (Elt Bits) ℓ) (g : Dev Cert.LruLater.nD → PrngReg), Pre_LruLater m →
    θ_run (Cert.LruLater.defs (F := Bits)) (onTc (τ := Cert.LruLater.τ) (Cert.LruLater.main (F := Bits))) ⟨m, fun _ => 0, g⟩ (fun r => (∀ c : Dev Cert.LruLater.nD,
      r.2.mem ((c.tc : Thread Cert.LruLater.nD Cert.LruLater.τ).loc Cert.LruLater.main_arg0) = m ((c.tc : Thread Cert.LruLater.nD Cert.LruLater.τ).loc Cert.LruLater.main_arg0)
      ∧ r.2.mem ((c.tc : Thread Cert.LruLater.nD Cert.LruLater.τ).loc Cert.LruLater.main_arg1) = m ((c.tc : Thread Cert.LruLater.nD Cert.LruLater.τ).loc Cert.LruLater.main_arg1)
      ∧ r.2.mem ((c.tc : Thread Cert.LruLater.nD Cert.LruLater.τ).loc Cert.LruLater.main_arg2) = m ((c.tc : Thread Cert.LruLater.nD Cert.LruLater.τ).loc Cert.LruLater.main_arg2))
      ∧ r.2.sem = fun _ => 0)

def quiescent_LruLaterIdeal [hLruLaterIdeal : Cert.LruLaterIdeal.Facts] : Prop :=
  ∀ (m : (ℓ : Loc Cert.LruLaterIdeal.nD Cert.LruLaterIdeal.τ Cert.LruLaterIdeal.sig) → Buf (Elt Ideal) ℓ) (g : Dev Cert.LruLaterIdeal.nD → PrngReg), Pre_LruLaterIdeal m →
    θ_run (Cert.LruLaterIdeal.defs (F := Ideal)) (onTc (τ := Cert.LruLaterIdeal.τ) (Cert.LruLaterIdeal.main (F := Ideal))) ⟨m, fun _ => 0, g⟩ (fun r => (∀ c : Dev Cert.LruLaterIdeal.nD,
      r.2.mem ((c.tc : Thread Cert.LruLaterIdeal.nD Cert.LruLaterIdeal.τ).loc Cert.LruLaterIdeal.main_arg0) = m ((c.tc : Thread Cert.LruLaterIdeal.nD Cert.LruLaterIdeal.τ).loc Cert.LruLaterIdeal.main_arg0)
      ∧ r.2.mem ((c.tc : Thread Cert.LruLaterIdeal.nD Cert.LruLaterIdeal.τ).loc Cert.LruLaterIdeal.main_arg1) = m ((c.tc : Thread Cert.LruLaterIdeal.nD Cert.LruLaterIdeal.τ).loc Cert.LruLaterIdeal.main_arg1)
      ∧ r.2.mem ((c.tc : Thread Cert.LruLaterIdeal.nD Cert.LruLaterIdeal.τ).loc Cert.LruLaterIdeal.main_arg2) = m ((c.tc : Thread Cert.LruLaterIdeal.nD Cert.LruLaterIdeal.τ).loc Cert.LruLaterIdeal.main_arg2))
      ∧ r.2.sem = fun _ => 0)

def quiescent_LruLaterRefIdeal [hLruLaterRefIdeal : Cert.LruLaterRefIdeal.Facts] : Prop :=
  ∀ (m : (ℓ : Loc Cert.LruLaterRefIdeal.nD Cert.LruLaterRefIdeal.τ Cert.LruLaterRefIdeal.sig) → Buf (Elt Ideal) ℓ) (g : Dev Cert.LruLaterRefIdeal.nD → PrngReg), Pre_LruLaterRefIdeal m →
    θ_run (Cert.LruLaterRefIdeal.defs (F := Ideal)) (onTc (τ := Cert.LruLaterRefIdeal.τ) (Cert.LruLaterRefIdeal.main (F := Ideal))) ⟨m, fun _ => 0, g⟩ (fun r => (∀ c : Dev Cert.LruLaterRefIdeal.nD,
      r.2.mem ((c.tc : Thread Cert.LruLaterRefIdeal.nD Cert.LruLaterRefIdeal.τ).loc Cert.LruLaterRefIdeal.main_arg0) = m ((c.tc : Thread Cert.LruLaterRefIdeal.nD Cert.LruLaterRefIdeal.τ).loc Cert.LruLaterRefIdeal.main_arg0)
      ∧ r.2.mem ((c.tc : Thread Cert.LruLaterRefIdeal.nD Cert.LruLaterRefIdeal.τ).loc Cert.LruLaterRefIdeal.main_arg1) = m ((c.tc : Thread Cert.LruLaterRefIdeal.nD Cert.LruLaterRefIdeal.τ).loc Cert.LruLaterRefIdeal.main_arg1)
      ∧ r.2.mem ((c.tc : Thread Cert.LruLaterRefIdeal.nD Cert.LruLaterRefIdeal.τ).loc Cert.LruLaterRefIdeal.main_arg2) = m ((c.tc : Thread Cert.LruLaterRefIdeal.nD Cert.LruLaterRefIdeal.τ).loc Cert.LruLaterRefIdeal.main_arg2))
      ∧ r.2.sem = fun _ => 0)

def quiescent_MixerOnline [hMixerOnline : Cert.MixerOnline.Facts] : Prop :=
  ∀ (m : (ℓ : Loc Cert.MixerOnline.nD Cert.MixerOnline.τ Cert.MixerOnline.sig) → Buf (Elt Bits) ℓ) (g : Dev Cert.MixerOnline.nD → PrngReg), Pre_MixerOnline m →
    θ_run (Cert.MixerOnline.defs (F := Bits)) (onTc (τ := Cert.MixerOnline.τ) (Cert.MixerOnline.main (F := Bits))) ⟨m, fun _ => 0, g⟩ (fun r => (∀ c : Dev Cert.MixerOnline.nD,
      r.2.mem ((c.tc : Thread Cert.MixerOnline.nD Cert.MixerOnline.τ).loc Cert.MixerOnline.main_arg0) = m ((c.tc : Thread Cert.MixerOnline.nD Cert.MixerOnline.τ).loc Cert.MixerOnline.main_arg0)
      ∧ r.2.mem ((c.tc : Thread Cert.MixerOnline.nD Cert.MixerOnline.τ).loc Cert.MixerOnline.main_arg1) = m ((c.tc : Thread Cert.MixerOnline.nD Cert.MixerOnline.τ).loc Cert.MixerOnline.main_arg1)
      ∧ r.2.mem ((c.tc : Thread Cert.MixerOnline.nD Cert.MixerOnline.τ).loc Cert.MixerOnline.main_arg2) = m ((c.tc : Thread Cert.MixerOnline.nD Cert.MixerOnline.τ).loc Cert.MixerOnline.main_arg2)
      ∧ r.2.mem ((c.tc : Thread Cert.MixerOnline.nD Cert.MixerOnline.τ).loc Cert.MixerOnline.main_arg3) = m ((c.tc : Thread Cert.MixerOnline.nD Cert.MixerOnline.τ).loc Cert.MixerOnline.main_arg3)
      ∧ r.2.mem ((c.tc : Thread Cert.MixerOnline.nD Cert.MixerOnline.τ).loc Cert.MixerOnline.main_arg4) = m ((c.tc : Thread Cert.MixerOnline.nD Cert.MixerOnline.τ).loc Cert.MixerOnline.main_arg4))
      ∧ r.2.sem = fun _ => 0)

def quiescent_MixerOnlineIdeal [hMixerOnlineIdeal : Cert.MixerOnlineIdeal.Facts] : Prop :=
  ∀ (m : (ℓ : Loc Cert.MixerOnlineIdeal.nD Cert.MixerOnlineIdeal.τ Cert.MixerOnlineIdeal.sig) → Buf (Elt Ideal) ℓ) (g : Dev Cert.MixerOnlineIdeal.nD → PrngReg), Pre_MixerOnlineIdeal m →
    θ_run (Cert.MixerOnlineIdeal.defs (F := Ideal)) (onTc (τ := Cert.MixerOnlineIdeal.τ) (Cert.MixerOnlineIdeal.main (F := Ideal))) ⟨m, fun _ => 0, g⟩ (fun r => (∀ c : Dev Cert.MixerOnlineIdeal.nD,
      r.2.mem ((c.tc : Thread Cert.MixerOnlineIdeal.nD Cert.MixerOnlineIdeal.τ).loc Cert.MixerOnlineIdeal.main_arg0) = m ((c.tc : Thread Cert.MixerOnlineIdeal.nD Cert.MixerOnlineIdeal.τ).loc Cert.MixerOnlineIdeal.main_arg0)
      ∧ r.2.mem ((c.tc : Thread Cert.MixerOnlineIdeal.nD Cert.MixerOnlineIdeal.τ).loc Cert.MixerOnlineIdeal.main_arg1) = m ((c.tc : Thread Cert.MixerOnlineIdeal.nD Cert.MixerOnlineIdeal.τ).loc Cert.MixerOnlineIdeal.main_arg1)
      ∧ r.2.mem ((c.tc : Thread Cert.MixerOnlineIdeal.nD Cert.MixerOnlineIdeal.τ).loc Cert.MixerOnlineIdeal.main_arg2) = m ((c.tc : Thread Cert.MixerOnlineIdeal.nD Cert.MixerOnlineIdeal.τ).loc Cert.MixerOnlineIdeal.main_arg2)
      ∧ r.2.mem ((c.tc : Thread Cert.MixerOnlineIdeal.nD Cert.MixerOnlineIdeal.τ).loc Cert.MixerOnlineIdeal.main_arg3) = m ((c.tc : Thread Cert.MixerOnlineIdeal.nD Cert.MixerOnlineIdeal.τ).loc Cert.MixerOnlineIdeal.main_arg3)
      ∧ r.2.mem ((c.tc : Thread Cert.MixerOnlineIdeal.nD Cert.MixerOnlineIdeal.τ).loc Cert.MixerOnlineIdeal.main_arg4) = m ((c.tc : Thread Cert.MixerOnlineIdeal.nD Cert.MixerOnlineIdeal.τ).loc Cert.MixerOnlineIdeal.main_arg4))
      ∧ r.2.sem = fun _ => 0)

def quiescent_MixerOnlineIdeal_pre_finite_gains [hMixerOnlineIdeal : Cert.MixerOnlineIdeal.Facts] [hPre_finite_gains : Cert.Pre_finite_gains.Facts] : Prop :=
  ∀ (m : (ℓ : Loc Cert.MixerOnlineIdeal.nD Cert.MixerOnlineIdeal.τ Cert.MixerOnlineIdeal.sig) → Buf (Elt Ideal) ℓ) (g : Dev Cert.MixerOnlineIdeal.nD → PrngReg), Pre_MixerOnlineIdeal_finite_gains m →
    θ_run (Cert.MixerOnlineIdeal.defs (F := Ideal)) (onTc (τ := Cert.MixerOnlineIdeal.τ) (Cert.MixerOnlineIdeal.main (F := Ideal))) ⟨m, fun _ => 0, g⟩ (fun r => (∀ c : Dev Cert.MixerOnlineIdeal.nD,
      r.2.mem ((c.tc : Thread Cert.MixerOnlineIdeal.nD Cert.MixerOnlineIdeal.τ).loc Cert.MixerOnlineIdeal.main_arg0) = m ((c.tc : Thread Cert.MixerOnlineIdeal.nD Cert.MixerOnlineIdeal.τ).loc Cert.MixerOnlineIdeal.main_arg0)
      ∧ r.2.mem ((c.tc : Thread Cert.MixerOnlineIdeal.nD Cert.MixerOnlineIdeal.τ).loc Cert.MixerOnlineIdeal.main_arg1) = m ((c.tc : Thread Cert.MixerOnlineIdeal.nD Cert.MixerOnlineIdeal.τ).loc Cert.MixerOnlineIdeal.main_arg1)
      ∧ r.2.mem ((c.tc : Thread Cert.MixerOnlineIdeal.nD Cert.MixerOnlineIdeal.τ).loc Cert.MixerOnlineIdeal.main_arg2) = m ((c.tc : Thread Cert.MixerOnlineIdeal.nD Cert.MixerOnlineIdeal.τ).loc Cert.MixerOnlineIdeal.main_arg2)
      ∧ r.2.mem ((c.tc : Thread Cert.MixerOnlineIdeal.nD Cert.MixerOnlineIdeal.τ).loc Cert.MixerOnlineIdeal.main_arg3) = m ((c.tc : Thread Cert.MixerOnlineIdeal.nD Cert.MixerOnlineIdeal.τ).loc Cert.MixerOnlineIdeal.main_arg3)
      ∧ r.2.mem ((c.tc : Thread Cert.MixerOnlineIdeal.nD Cert.MixerOnlineIdeal.τ).loc Cert.MixerOnlineIdeal.main_arg4) = m ((c.tc : Thread Cert.MixerOnlineIdeal.nD Cert.MixerOnlineIdeal.τ).loc Cert.MixerOnlineIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mixer_MixerIdeal : Prop :=
  IdealRules.named_const.Statement Cert.MixerIdeal.κ "q_scale" .f32 0x3E0293EE#32 (((Real.sqrt 128)⁻¹ * (Real.log 2)⁻¹ : ℝ) : EReal)

def algebraic_MixerIdeal_MixerRefIdeal_pre_finite_gains [hMixerIdeal : Cert.MixerIdeal.Facts] [hMixerRefIdeal : Cert.MixerRefIdeal.Facts] [hPre_finite_gains : Cert.Pre_finite_gains.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite_gains m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)) →
    ∃ (v0 : (c : Dev Cert.MixerIdeal.nD) → Buf (Elt Ideal) ((c.tc : Thread Cert.MixerIdeal.nD Cert.MixerIdeal.τ).loc Cert.MixerIdeal.main_v102)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v102) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v144) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)
      ∧ m' ((c.tc : Thread Cert.FfnMidRefIdeal.nD Cert.FfnMidRefIdeal.τ).loc Cert.FfnMidRefIdeal.main_arg5) = m ((c.tc : Thread Cert.FfnMidIdeal.nD Cert.FfnMidIdeal.τ).loc Cert.FfnMidIdeal.main_arg5)) →
    ∃ (v0 : (c : Dev Cert.FfnMidIdeal.nD) → Buf (Elt Ideal) ((c.tc : Thread Cert.FfnMidIdeal.nD Cert.FfnMidIdeal.τ).loc Cert.FfnMidIdeal.main_v10)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v10) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v54) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4)
          ∧ r.2.mem ((c.tc : Thread Cert.FfnMidRefIdeal.nD Cert.FfnMidRefIdeal.τ).loc Cert.FfnMidRefIdeal.main_arg5) = m' ((c.tc : Thread Cert.FfnMidRefIdeal.nD Cert.FfnMidRefIdeal.τ).loc Cert.FfnMidRefIdeal.main_arg5))

def preserves_FfnEven_FfnEvenIdeal : Prop :=
  True

def algebraic_FfnEvenIdeal_FfnEvenRefIdeal [hFfnEvenIdeal : Cert.FfnEvenIdeal.Facts] [hFfnEvenRefIdeal : Cert.FfnEvenRefIdeal.Facts] : Prop :=
  ∀ (m : (ℓ : Loc Cert.FfnEvenIdeal.nD Cert.FfnEvenIdeal.τ Cert.FfnEvenIdeal.sig) → Buf (Elt Ideal) ℓ) (g : Dev Cert.FfnEvenIdeal.nD → PrngReg)
    (m' : (ℓ : Loc Cert.FfnEvenRefIdeal.nD Cert.FfnEvenRefIdeal.τ Cert.FfnEvenRefIdeal.sig) → Buf (Elt Ideal) ℓ) (g' : Dev Cert.FfnEvenRefIdeal.nD → PrngReg), Pre_FfnEvenIdeal m →
    (∀ c : Dev Cert.FfnEvenIdeal.nD,
      m' ((c.tc : Thread Cert.FfnEvenRefIdeal.nD Cert.FfnEvenRefIdeal.τ).loc Cert.FfnEvenRefIdeal.main_arg0) = m ((c.tc : Thread Cert.FfnEvenIdeal.nD Cert.FfnEvenIdeal.τ).loc Cert.FfnEvenIdeal.main_arg0)
      ∧ m' ((c.tc : Thread Cert.FfnEvenRefIdeal.nD Cert.FfnEvenRefIdeal.τ).loc Cert.FfnEvenRefIdeal.main_arg1) = m ((c.tc : Thread Cert.FfnEvenIdeal.nD Cert.FfnEvenIdeal.τ).loc Cert.FfnEvenIdeal.main_arg1)
      ∧ m' ((c.tc : Thread Cert.FfnEvenRefIdeal.nD Cert.FfnEvenRefIdeal.τ).loc Cert.FfnEvenRefIdeal.main_arg2) = m ((c.tc : Thread Cert.FfnEvenIdeal.nD Cert.FfnEvenIdeal.τ).loc Cert.FfnEvenIdeal.main_arg2)
      ∧ m' ((c.tc : Thread Cert.FfnEvenRefIdeal.nD Cert.FfnEvenRefIdeal.τ).loc Cert.FfnEvenRefIdeal.main_arg3) = m ((c.tc : Thread Cert.FfnEvenIdeal.nD Cert.FfnEvenIdeal.τ).loc Cert.FfnEvenIdeal.main_arg3)) →
    ∃ (v0 : (c : Dev Cert.FfnEvenIdeal.nD) → Buf (Elt Ideal) ((c.tc : Thread Cert.FfnEvenIdeal.nD Cert.FfnEvenIdeal.τ).loc Cert.FfnEvenIdeal.main_v7)),
      θ_run (Cert.FfnEvenIdeal.defs (F := Ideal)) (onTc (τ := Cert.FfnEvenIdeal.τ) (Cert.FfnEvenIdeal.main (F := Ideal))) ⟨m, fun _ => 0, g⟩ (fun r => ∀ c : Dev Cert.FfnEvenIdeal.nD,
          r.2.mem ((c.tc : Thread Cert.FfnEvenIdeal.nD Cert.FfnEvenIdeal.τ).loc Cert.FfnEvenIdeal.main_v7) = v0 c
          ∧ r.2.mem ((c.tc : Thread Cert.FfnEvenIdeal.nD Cert.FfnEvenIdeal.τ).loc Cert.FfnEvenIdeal.main_arg0) = m ((c.tc : Thread Cert.FfnEvenIdeal.nD Cert.FfnEvenIdeal.τ).loc Cert.FfnEvenIdeal.main_arg0)
          ∧ r.2.mem ((c.tc : Thread Cert.FfnEvenIdeal.nD Cert.FfnEvenIdeal.τ).loc Cert.FfnEvenIdeal.main_arg1) = m ((c.tc : Thread Cert.FfnEvenIdeal.nD Cert.FfnEvenIdeal.τ).loc Cert.FfnEvenIdeal.main_arg1)
          ∧ r.2.mem ((c.tc : Thread Cert.FfnEvenIdeal.nD Cert.FfnEvenIdeal.τ).loc Cert.FfnEvenIdeal.main_arg2) = m ((c.tc : Thread Cert.FfnEvenIdeal.nD Cert.FfnEvenIdeal.τ).loc Cert.FfnEvenIdeal.main_arg2)
          ∧ r.2.mem ((c.tc : Thread Cert.FfnEvenIdeal.nD Cert.FfnEvenIdeal.τ).loc Cert.FfnEvenIdeal.main_arg3) = m ((c.tc : Thread Cert.FfnEvenIdeal.nD Cert.FfnEvenIdeal.τ).loc Cert.FfnEvenIdeal.main_arg3))
      ∧ θ_run (Cert.FfnEvenRefIdeal.defs (F := Ideal)) (onTc (τ := Cert.FfnEvenRefIdeal.τ) (Cert.FfnEvenRefIdeal.main (F := Ideal))) ⟨m', fun _ => 0, g'⟩ (fun r => ∀ c : Dev Cert.FfnEvenRefIdeal.nD,
          r.2.mem ((c.tc : Thread Cert.FfnEvenRefIdeal.nD Cert.FfnEvenRefIdeal.τ).loc Cert.FfnEvenRefIdeal.main_v36) = v0 c
          ∧ r.2.mem ((c.tc : Thread Cert.FfnEvenRefIdeal.nD Cert.FfnEvenRefIdeal.τ).loc Cert.FfnEvenRefIdeal.main_arg0) = m' ((c.tc : Thread Cert.FfnEvenRefIdeal.nD Cert.FfnEvenRefIdeal.τ).loc Cert.FfnEvenRefIdeal.main_arg0)
          ∧ r.2.mem ((c.tc : Thread Cert.FfnEvenRefIdeal.nD Cert.FfnEvenRefIdeal.τ).loc Cert.FfnEvenRefIdeal.main_arg1) = m' ((c.tc : Thread Cert.FfnEvenRefIdeal.nD Cert.FfnEvenRefIdeal.τ).loc Cert.FfnEvenRefIdeal.main_arg1)
          ∧ r.2.mem ((c.tc : Thread Cert.FfnEvenRefIdeal.nD Cert.FfnEvenRefIdeal.τ).loc Cert.FfnEvenRefIdeal.main_arg2) = m' ((c.tc : Thread Cert.FfnEvenRefIdeal.nD Cert.FfnEvenRefIdeal.τ).loc Cert.FfnEvenRefIdeal.main_arg2)
          ∧ r.2.mem ((c.tc : Thread Cert.FfnEvenRefIdeal.nD Cert.FfnEvenRefIdeal.τ).loc Cert.FfnEvenRefIdeal.main_arg3) = m' ((c.tc : Thread Cert.FfnEvenRefIdeal.nD Cert.FfnEvenRefIdeal.τ).loc Cert.FfnEvenRefIdeal.main_arg3))

def preserves_LruFirst_LruFirstIdeal : Prop :=
  True

def algebraic_LruFirstIdeal_LruFirstRefIdeal [hLruFirstIdeal : Cert.LruFirstIdeal.Facts] [hLruFirstRefIdeal : Cert.LruFirstRefIdeal.Facts] : Prop :=
  ∀ (m : (ℓ : Loc Cert.LruFirstIdeal.nD Cert.LruFirstIdeal.τ Cert.LruFirstIdeal.sig) → Buf (Elt Ideal) ℓ) (g : Dev Cert.LruFirstIdeal.nD → PrngReg)
    (m' : (ℓ : Loc Cert.LruFirstRefIdeal.nD Cert.LruFirstRefIdeal.τ Cert.LruFirstRefIdeal.sig) → Buf (Elt Ideal) ℓ) (g' : Dev Cert.LruFirstRefIdeal.nD → PrngReg), Pre_LruFirstIdeal m →
    (∀ c : Dev Cert.LruFirstIdeal.nD,
      m' ((c.tc : Thread Cert.LruFirstRefIdeal.nD Cert.LruFirstRefIdeal.τ).loc Cert.LruFirstRefIdeal.main_arg0) = m ((c.tc : Thread Cert.LruFirstIdeal.nD Cert.LruFirstIdeal.τ).loc Cert.LruFirstIdeal.main_arg0)
      ∧ m' ((c.tc : Thread Cert.LruFirstRefIdeal.nD Cert.LruFirstRefIdeal.τ).loc Cert.LruFirstRefIdeal.main_arg1) = m ((c.tc : Thread Cert.LruFirstIdeal.nD Cert.LruFirstIdeal.τ).loc Cert.LruFirstIdeal.main_arg1)
      ∧ m' ((c.tc : Thread Cert.LruFirstRefIdeal.nD Cert.LruFirstRefIdeal.τ).loc Cert.LruFirstRefIdeal.main_arg2) = m ((c.tc : Thread Cert.LruFirstIdeal.nD Cert.LruFirstIdeal.τ).loc Cert.LruFirstIdeal.main_arg2)
      ∧ m' ((c.tc : Thread Cert.LruFirstRefIdeal.nD Cert.LruFirstRefIdeal.τ).loc Cert.LruFirstRefIdeal.main_arg3) = m ((c.tc : Thread Cert.LruFirstIdeal.nD Cert.LruFirstIdeal.τ).loc Cert.LruFirstIdeal.main_arg3)) →
    ∃ (v0 : (c : Dev Cert.LruFirstIdeal.nD) → Buf (Elt Ideal) ((c.tc : Thread Cert.LruFirstIdeal.nD Cert.LruFirstIdeal.τ).loc Cert.LruFirstIdeal.main_v5_0)) (v1 : (c : Dev Cert.LruFirstIdeal.nD) → Buf (Elt Ideal) ((c.tc : Thread Cert.LruFirstIdeal.nD Cert.LruFirstIdeal.τ).loc Cert.LruFirstIdeal.main_v5_1)),
      θ_run (Cert.LruFirstIdeal.defs (F := Ideal)) (onTc (τ := Cert.LruFirstIdeal.τ) (Cert.LruFirstIdeal.main (F := Ideal))) ⟨m, fun _ => 0, g⟩ (fun r => ∀ c : Dev Cert.LruFirstIdeal.nD,
          r.2.mem ((c.tc : Thread Cert.LruFirstIdeal.nD Cert.LruFirstIdeal.τ).loc Cert.LruFirstIdeal.main_v5_0) = v0 c
          ∧ r.2.mem ((c.tc : Thread Cert.LruFirstIdeal.nD Cert.LruFirstIdeal.τ).loc Cert.LruFirstIdeal.main_v5_1) = v1 c
          ∧ r.2.mem ((c.tc : Thread Cert.LruFirstIdeal.nD Cert.LruFirstIdeal.τ).loc Cert.LruFirstIdeal.main_arg0) = m ((c.tc : Thread Cert.LruFirstIdeal.nD Cert.LruFirstIdeal.τ).loc Cert.LruFirstIdeal.main_arg0)
          ∧ r.2.mem ((c.tc : Thread Cert.LruFirstIdeal.nD Cert.LruFirstIdeal.τ).loc Cert.LruFirstIdeal.main_arg1) = m ((c.tc : Thread Cert.LruFirstIdeal.nD Cert.LruFirstIdeal.τ).loc Cert.LruFirstIdeal.main_arg1)
          ∧ r.2.mem ((c.tc : Thread Cert.LruFirstIdeal.nD Cert.LruFirstIdeal.τ).loc Cert.LruFirstIdeal.main_arg2) = m ((c.tc : Thread Cert.LruFirstIdeal.nD Cert.LruFirstIdeal.τ).loc Cert.LruFirstIdeal.main_arg2)
          ∧ r.2.mem ((c.tc : Thread Cert.LruFirstIdeal.nD Cert.LruFirstIdeal.τ).loc Cert.LruFirstIdeal.main_arg3) = m ((c.tc : Thread Cert.LruFirstIdeal.nD Cert.LruFirstIdeal.τ).loc Cert.LruFirstIdeal.main_arg3))
      ∧ θ_run (Cert.LruFirstRefIdeal.defs (F := Ideal)) (onTc (τ := Cert.LruFirstRefIdeal.τ) (Cert.LruFirstRefIdeal.main (F := Ideal))) ⟨m', fun _ => 0, g'⟩ (fun r => ∀ c : Dev Cert.LruFirstRefIdeal.nD,
          r.2.mem ((c.tc : Thread Cert.LruFirstRefIdeal.nD Cert.LruFirstRefIdeal.τ).loc Cert.LruFirstRefIdeal.main_v33) = v0 c
          ∧ r.2.mem ((c.tc : Thread Cert.LruFirstRefIdeal.nD Cert.LruFirstRefIdeal.τ).loc Cert.LruFirstRefIdeal.main_v35) = v1 c
          ∧ r.2.mem ((c.tc : Thread Cert.LruFirstRefIdeal.nD Cert.LruFirstRefIdeal.τ).loc Cert.LruFirstRefIdeal.main_arg0) = m' ((c.tc : Thread Cert.LruFirstRefIdeal.nD Cert.LruFirstRefIdeal.τ).loc Cert.LruFirstRefIdeal.main_arg0)
          ∧ r.2.mem ((c.tc : Thread Cert.LruFirstRefIdeal.nD Cert.LruFirstRefIdeal.τ).loc Cert.LruFirstRefIdeal.main_arg1) = m' ((c.tc : Thread Cert.LruFirstRefIdeal.nD Cert.LruFirstRefIdeal.τ).loc Cert.LruFirstRefIdeal.main_arg1)
          ∧ r.2.mem ((c.tc : Thread Cert.LruFirstRefIdeal.nD Cert.LruFirstRefIdeal.τ).loc Cert.LruFirstRefIdeal.main_arg2) = m' ((c.tc : Thread Cert.LruFirstRefIdeal.nD Cert.LruFirstRefIdeal.τ).loc Cert.LruFirstRefIdeal.main_arg2)
          ∧ r.2.mem ((c.tc : Thread Cert.LruFirstRefIdeal.nD Cert.LruFirstRefIdeal.τ).loc Cert.LruFirstRefIdeal.main_arg3) = m' ((c.tc : Thread Cert.LruFirstRefIdeal.nD Cert.LruFirstRefIdeal.τ).loc Cert.LruFirstRefIdeal.main_arg3))

def preserves_LruLater_LruLaterIdeal : Prop :=
  True

def algebraic_LruLaterIdeal_LruLaterRefIdeal [hLruLaterIdeal : Cert.LruLaterIdeal.Facts] [hLruLaterRefIdeal : Cert.LruLaterRefIdeal.Facts] : Prop :=
  ∀ (m : (ℓ : Loc Cert.LruLaterIdeal.nD Cert.LruLaterIdeal.τ Cert.LruLaterIdeal.sig) → Buf (Elt Ideal) ℓ) (g : Dev Cert.LruLaterIdeal.nD → PrngReg)
    (m' : (ℓ : Loc Cert.LruLaterRefIdeal.nD Cert.LruLaterRefIdeal.τ Cert.LruLaterRefIdeal.sig) → Buf (Elt Ideal) ℓ) (g' : Dev Cert.LruLaterRefIdeal.nD → PrngReg), Pre_LruLaterIdeal m →
    (∀ c : Dev Cert.LruLaterIdeal.nD,
      m' ((c.tc : Thread Cert.LruLaterRefIdeal.nD Cert.LruLaterRefIdeal.τ).loc Cert.LruLaterRefIdeal.main_arg0) = m ((c.tc : Thread Cert.LruLaterIdeal.nD Cert.LruLaterIdeal.τ).loc Cert.LruLaterIdeal.main_arg0)
      ∧ m' ((c.tc : Thread Cert.LruLaterRefIdeal.nD Cert.LruLaterRefIdeal.τ).loc Cert.LruLaterRefIdeal.main_arg1) = m ((c.tc : Thread Cert.LruLaterIdeal.nD Cert.LruLaterIdeal.τ).loc Cert.LruLaterIdeal.main_arg1)
      ∧ m' ((c.tc : Thread Cert.LruLaterRefIdeal.nD Cert.LruLaterRefIdeal.τ).loc Cert.LruLaterRefIdeal.main_arg2) = m ((c.tc : Thread Cert.LruLaterIdeal.nD Cert.LruLaterIdeal.τ).loc Cert.LruLaterIdeal.main_arg2)) →
    ∃ (v0 : (c : Dev Cert.LruLaterIdeal.nD) → Buf (Elt Ideal) ((c.tc : Thread Cert.LruLaterIdeal.nD Cert.LruLaterIdeal.τ).loc Cert.LruLaterIdeal.main_v4_0)) (v1 : (c : Dev Cert.LruLaterIdeal.nD) → Buf (Elt Ideal) ((c.tc : Thread Cert.LruLaterIdeal.nD Cert.LruLaterIdeal.τ).loc Cert.LruLaterIdeal.main_v4_1)),
      θ_run (Cert.LruLaterIdeal.defs (F := Ideal)) (onTc (τ := Cert.LruLaterIdeal.τ) (Cert.LruLaterIdeal.main (F := Ideal))) ⟨m, fun _ => 0, g⟩ (fun r => ∀ c : Dev Cert.LruLaterIdeal.nD,
          r.2.mem ((c.tc : Thread Cert.LruLaterIdeal.nD Cert.LruLaterIdeal.τ).loc Cert.LruLaterIdeal.main_v4_0) = v0 c
          ∧ r.2.mem ((c.tc : Thread Cert.LruLaterIdeal.nD Cert.LruLaterIdeal.τ).loc Cert.LruLaterIdeal.main_v4_1) = v1 c
          ∧ r.2.mem ((c.tc : Thread Cert.LruLaterIdeal.nD Cert.LruLaterIdeal.τ).loc Cert.LruLaterIdeal.main_arg0) = m ((c.tc : Thread Cert.LruLaterIdeal.nD Cert.LruLaterIdeal.τ).loc Cert.LruLaterIdeal.main_arg0)
          ∧ r.2.mem ((c.tc : Thread Cert.LruLaterIdeal.nD Cert.LruLaterIdeal.τ).loc Cert.LruLaterIdeal.main_arg1) = m ((c.tc : Thread Cert.LruLaterIdeal.nD Cert.LruLaterIdeal.τ).loc Cert.LruLaterIdeal.main_arg1)
          ∧ r.2.mem ((c.tc : Thread Cert.LruLaterIdeal.nD Cert.LruLaterIdeal.τ).loc Cert.LruLaterIdeal.main_arg2) = m ((c.tc : Thread Cert.LruLaterIdeal.nD Cert.LruLaterIdeal.τ).loc Cert.LruLaterIdeal.main_arg2))
      ∧ θ_run (Cert.LruLaterRefIdeal.defs (F := Ideal)) (onTc (τ := Cert.LruLaterRefIdeal.τ) (Cert.LruLaterRefIdeal.main (F := Ideal))) ⟨m', fun _ => 0, g'⟩ (fun r => ∀ c : Dev Cert.LruLaterRefIdeal.nD,
          r.2.mem ((c.tc : Thread Cert.LruLaterRefIdeal.nD Cert.LruLaterRefIdeal.τ).loc Cert.LruLaterRefIdeal.main_v30) = v0 c
          ∧ r.2.mem ((c.tc : Thread Cert.LruLaterRefIdeal.nD Cert.LruLaterRefIdeal.τ).loc Cert.LruLaterRefIdeal.main_v32) = v1 c
          ∧ r.2.mem ((c.tc : Thread Cert.LruLaterRefIdeal.nD Cert.LruLaterRefIdeal.τ).loc Cert.LruLaterRefIdeal.main_arg0) = m' ((c.tc : Thread Cert.LruLaterRefIdeal.nD Cert.LruLaterRefIdeal.τ).loc Cert.LruLaterRefIdeal.main_arg0)
          ∧ r.2.mem ((c.tc : Thread Cert.LruLaterRefIdeal.nD Cert.LruLaterRefIdeal.τ).loc Cert.LruLaterRefIdeal.main_arg1) = m' ((c.tc : Thread Cert.LruLaterRefIdeal.nD Cert.LruLaterRefIdeal.τ).loc Cert.LruLaterRefIdeal.main_arg1)
          ∧ r.2.mem ((c.tc : Thread Cert.LruLaterRefIdeal.nD Cert.LruLaterRefIdeal.τ).loc Cert.LruLaterRefIdeal.main_arg2) = m' ((c.tc : Thread Cert.LruLaterRefIdeal.nD Cert.LruLaterRefIdeal.τ).loc Cert.LruLaterRefIdeal.main_arg2))

def preserves_MixerOnline_MixerOnlineIdeal : Prop :=
  IdealRules.named_const.Statement Cert.MixerOnlineIdeal.κ "q_scale" .f32 0x3E0293EE#32 (((Real.sqrt 128)⁻¹ * (Real.log 2)⁻¹ : ℝ) : EReal)

def algebraic_MixerOnlineIdeal_MixerRefIdeal_pre_finite_gains [hMixerOnlineIdeal : Cert.MixerOnlineIdeal.Facts] [hMixerRefIdeal : Cert.MixerRefIdeal.Facts] [hPre_finite_gains : Cert.Pre_finite_gains.Facts] : Prop :=
  ∀ (m : (ℓ : Loc Cert.MixerOnlineIdeal.nD Cert.MixerOnlineIdeal.τ Cert.MixerOnlineIdeal.sig) → Buf (Elt Ideal) ℓ) (g : Dev Cert.MixerOnlineIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerOnlineIdeal_finite_gains m →
    (∀ c : Dev Cert.MixerOnlineIdeal.nD,
      m' ((c.tc : Thread Cert.MixerRefIdeal.nD Cert.MixerRefIdeal.τ).loc Cert.MixerRefIdeal.main_arg0) = m ((c.tc : Thread Cert.MixerOnlineIdeal.nD Cert.MixerOnlineIdeal.τ).loc Cert.MixerOnlineIdeal.main_arg0)
      ∧ m' ((c.tc : Thread Cert.MixerRefIdeal.nD Cert.MixerRefIdeal.τ).loc Cert.MixerRefIdeal.main_arg1) = m ((c.tc : Thread Cert.MixerOnlineIdeal.nD Cert.MixerOnlineIdeal.τ).loc Cert.MixerOnlineIdeal.main_arg1)
      ∧ m' ((c.tc : Thread Cert.MixerRefIdeal.nD Cert.MixerRefIdeal.τ).loc Cert.MixerRefIdeal.main_arg2) = m ((c.tc : Thread Cert.MixerOnlineIdeal.nD Cert.MixerOnlineIdeal.τ).loc Cert.MixerOnlineIdeal.main_arg2)
      ∧ m' ((c.tc : Thread Cert.MixerRefIdeal.nD Cert.MixerRefIdeal.τ).loc Cert.MixerRefIdeal.main_arg3) = m ((c.tc : Thread Cert.MixerOnlineIdeal.nD Cert.MixerOnlineIdeal.τ).loc Cert.MixerOnlineIdeal.main_arg3)
      ∧ m' ((c.tc : Thread Cert.MixerRefIdeal.nD Cert.MixerRefIdeal.τ).loc Cert.MixerRefIdeal.main_arg4) = m ((c.tc : Thread Cert.MixerOnlineIdeal.nD Cert.MixerOnlineIdeal.τ).loc Cert.MixerOnlineIdeal.main_arg4)) →
    ∃ (v0 : (c : Dev Cert.MixerOnlineIdeal.nD) → Buf (Elt Ideal) ((c.tc : Thread Cert.MixerOnlineIdeal.nD Cert.MixerOnlineIdeal.τ).loc Cert.MixerOnlineIdeal.main_v100)),
      θ_run (Cert.MixerOnlineIdeal.defs (F := Ideal)) (onTc (τ := Cert.MixerOnlineIdeal.τ) (Cert.MixerOnlineIdeal.main (F := Ideal))) ⟨m, fun _ => 0, g⟩ (fun r => ∀ c : Dev Cert.MixerOnlineIdeal.nD,
          r.2.mem ((c.tc : Thread Cert.MixerOnlineIdeal.nD Cert.MixerOnlineIdeal.τ).loc Cert.MixerOnlineIdeal.main_v100) = v0 c
          ∧ r.2.mem ((c.tc : Thread Cert.MixerOnlineIdeal.nD Cert.MixerOnlineIdeal.τ).loc Cert.MixerOnlineIdeal.main_arg0) = m ((c.tc : Thread Cert.MixerOnlineIdeal.nD Cert.MixerOnlineIdeal.τ).loc Cert.MixerOnlineIdeal.main_arg0)
          ∧ r.2.mem ((c.tc : Thread Cert.MixerOnlineIdeal.nD Cert.MixerOnlineIdeal.τ).loc Cert.MixerOnlineIdeal.main_arg1) = m ((c.tc : Thread Cert.MixerOnlineIdeal.nD Cert.MixerOnlineIdeal.τ).loc Cert.MixerOnlineIdeal.main_arg1)
          ∧ r.2.mem ((c.tc : Thread Cert.MixerOnlineIdeal.nD Cert.MixerOnlineIdeal.τ).loc Cert.MixerOnlineIdeal.main_arg2) = m ((c.tc : Thread Cert.MixerOnlineIdeal.nD Cert.MixerOnlineIdeal.τ).loc Cert.MixerOnlineIdeal.main_arg2)
          ∧ r.2.mem ((c.tc : Thread Cert.MixerOnlineIdeal.nD Cert.MixerOnlineIdeal.τ).loc Cert.MixerOnlineIdeal.main_arg3) = m ((c.tc : Thread Cert.MixerOnlineIdeal.nD Cert.MixerOnlineIdeal.τ).loc Cert.MixerOnlineIdeal.main_arg3)
          ∧ r.2.mem ((c.tc : Thread Cert.MixerOnlineIdeal.nD Cert.MixerOnlineIdeal.τ).loc Cert.MixerOnlineIdeal.main_arg4) = m ((c.tc : Thread Cert.MixerOnlineIdeal.nD Cert.MixerOnlineIdeal.τ).loc Cert.MixerOnlineIdeal.main_arg4))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v144) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4))

def Claim : Prop :=
  ∃ (hKernel : Cert.Kernel.Facts) (hKernelIdeal : Cert.KernelIdeal.Facts) (hReferenceIdeal : Cert.ReferenceIdeal.Facts) (hMixer : Cert.Mixer.Facts) (hMixerIdeal : Cert.MixerIdeal.Facts) (hMixerRefIdeal : Cert.MixerRefIdeal.Facts) (hFfnMid : Cert.FfnMid.Facts) (hFfnMidIdeal : Cert.FfnMidIdeal.Facts) (hFfnMidRefIdeal : Cert.FfnMidRefIdeal.Facts) (hFfnEven : Cert.FfnEven.Facts) (hFfnEvenIdeal : Cert.FfnEvenIdeal.Facts) (hFfnEvenRefIdeal : Cert.FfnEvenRefIdeal.Facts) (hLruFirst : Cert.LruFirst.Facts) (hLruFirstIdeal : Cert.LruFirstIdeal.Facts) (hLruFirstRefIdeal : Cert.LruFirstRefIdeal.Facts) (hLruLater : Cert.LruLater.Facts) (hLruLaterIdeal : Cert.LruLaterIdeal.Facts) (hLruLaterRefIdeal : Cert.LruLaterRefIdeal.Facts) (hMixerOnline : Cert.MixerOnline.Facts) (hMixerOnlineIdeal : Cert.MixerOnlineIdeal.Facts) (hPre_finite_gains : Cert.Pre_finite_gains.Facts),
    quiescent_Kernel (hKernel := hKernel)
    ∧ quiescent_KernelIdeal (hKernelIdeal := hKernelIdeal)
    ∧ quiescent_ReferenceIdeal (hReferenceIdeal := hReferenceIdeal)
    ∧ quiescent_Mixer (hMixer := hMixer)
    ∧ quiescent_MixerIdeal (hMixerIdeal := hMixerIdeal)
    ∧ quiescent_MixerIdeal_pre_finite_gains (hMixerIdeal := hMixerIdeal) (hPre_finite_gains := hPre_finite_gains)
    ∧ quiescent_MixerRefIdeal (hMixerRefIdeal := hMixerRefIdeal)
    ∧ quiescent_MixerRefIdeal_pre_finite_gains (hMixerRefIdeal := hMixerRefIdeal) (hPre_finite_gains := hPre_finite_gains)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_FfnEven (hFfnEven := hFfnEven)
    ∧ quiescent_FfnEvenIdeal (hFfnEvenIdeal := hFfnEvenIdeal)
    ∧ quiescent_FfnEvenRefIdeal (hFfnEvenRefIdeal := hFfnEvenRefIdeal)
    ∧ quiescent_LruFirst (hLruFirst := hLruFirst)
    ∧ quiescent_LruFirstIdeal (hLruFirstIdeal := hLruFirstIdeal)
    ∧ quiescent_LruFirstRefIdeal (hLruFirstRefIdeal := hLruFirstRefIdeal)
    ∧ quiescent_LruLater (hLruLater := hLruLater)
    ∧ quiescent_LruLaterIdeal (hLruLaterIdeal := hLruLaterIdeal)
    ∧ quiescent_LruLaterRefIdeal (hLruLaterRefIdeal := hLruLaterRefIdeal)
    ∧ quiescent_MixerOnline (hMixerOnline := hMixerOnline)
    ∧ quiescent_MixerOnlineIdeal (hMixerOnlineIdeal := hMixerOnlineIdeal)
    ∧ quiescent_MixerOnlineIdeal_pre_finite_gains (hMixerOnlineIdeal := hMixerOnlineIdeal) (hPre_finite_gains := hPre_finite_gains)
    ∧ preserves_Kernel_KernelIdeal
    ∧ algebraic_KernelIdeal_ReferenceIdeal (hKernelIdeal := hKernelIdeal) (hReferenceIdeal := hReferenceIdeal)
    ∧ preserves_Mixer_MixerIdeal
    ∧ algebraic_MixerIdeal_MixerRefIdeal_pre_finite_gains (hMixerIdeal := hMixerIdeal) (hMixerRefIdeal := hMixerRefIdeal) (hPre_finite_gains := hPre_finite_gains)
    ∧ preserves_FfnMid_FfnMidIdeal
    ∧ algebraic_FfnMidIdeal_FfnMidRefIdeal (hFfnMidIdeal := hFfnMidIdeal) (hFfnMidRefIdeal := hFfnMidRefIdeal)
    ∧ preserves_FfnEven_FfnEvenIdeal
    ∧ algebraic_FfnEvenIdeal_FfnEvenRefIdeal (hFfnEvenIdeal := hFfnEvenIdeal) (hFfnEvenRefIdeal := hFfnEvenRefIdeal)
    ∧ preserves_LruFirst_LruFirstIdeal
    ∧ algebraic_LruFirstIdeal_LruFirstRefIdeal (hLruFirstIdeal := hLruFirstIdeal) (hLruFirstRefIdeal := hLruFirstRefIdeal)
    ∧ preserves_LruLater_LruLaterIdeal
    ∧ algebraic_LruLaterIdeal_LruLaterRefIdeal (hLruLaterIdeal := hLruLaterIdeal) (hLruLaterRefIdeal := hLruLaterRefIdeal)
    ∧ preserves_MixerOnline_MixerOnlineIdeal
    ∧ algebraic_MixerOnlineIdeal_MixerRefIdeal_pre_finite_gains (hMixerOnlineIdeal := hMixerOnlineIdeal) (hMixerRefIdeal := hMixerRefIdeal) (hPre_finite_gains := hPre_finite_gains)
-- ==== Pre_finite_gains.lean ====
abbrev S8x8208x1024 : Shape := ⟨3, ![8, 8208, 1024]⟩
abbrev S4x1024 : Shape := ⟨2, ![4, 1024]⟩
abbrev S1024x1536 : Shape := ⟨2, ![1024, 1536]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S8x8208x1024 .f32) (main_arg1 : FVec F S4x1024 .f32) (main_arg2 : FVec F S1024x1536 .f32) (main_arg3 : FVec F S128 .f32) (main_arg4 : FVec F S128 .f32) : IVec S128 1 × IVec S128 1 :=
  let main_v0 : FVec F S128 .f32 := Host.absf main_arg3
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg4
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  (main_v2, main_v5)
-- ==== Kernel.lean ====
abbrev S8x8208x1024 : Shape := ⟨3, ![8, 8208, 1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S4x1x1024 : Shape := ⟨3, ![4, 1, 1024]⟩
abbrev S1x1x1024 : Shape := ⟨3, ![1, 1, 1024]⟩
abbrev S1x1024 : Shape := ⟨2, ![1, 1024]⟩
abbrev S65664x1024 : Shape := ⟨2, ![65664, 1024]⟩
abbrev S65536x1024 : Shape := ⟨2, ![65536, 1024]⟩
abbrev S1024 : Shape := ⟨1, ![1024]⟩
abbrev S1024x1 : Shape := ⟨2, ![1024, 1]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 19
  | .vmem => 12
  | .smem => 0
  | _ => 0

abbrev bufTy : (tb : Table) → Fin (tcTables nBuf tb) → BufTy
  | .hbm, ⟨0, _⟩ => ⟨S8x8208x1024, .bf16⟩
  | .hbm, ⟨1, _⟩ => ⟨S8x8208x1024, .f32⟩
  | .hbm, ⟨2, _⟩ => ⟨S4x1024, .f32⟩
  | .hbm, ⟨3, _⟩ => ⟨S1024x1024, .f32⟩
  | .hbm, ⟨4, _⟩ => ⟨S1024x5632, .f32⟩
  | .hbm, ⟨5, _⟩ => ⟨S2816x1024, .f32⟩
  | .hbm, ⟨6, _⟩ => ⟨S4x1x1024, .f32⟩
  | .hbm, ⟨7, _⟩ => ⟨S1024x1024, .bf16⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S1x1x1024, .f32⟩
  | .hbm, ⟨15, _⟩ => ⟨S1x1024, .f32⟩
  | .hbm, ⟨16, _⟩ => ⟨S65664x1024, .f32⟩
  | .hbm, ⟨17, _⟩ => ⟨S65664x1024, .bf16⟩
  | .hbm, ⟨18, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S8x8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c8208_i32 : BitVec 32 := 8208#32
  let v0 : BitVec 32 := Scalar.muli arg0 c8208_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def k0_mult2 (i : grid0.Coords) : BitVec 32 :=
  let arg0 : BitVec 32 := BitVec.ofNat 32 (i 0).val
  let c8208_i32 : BitVec 32 := 8208#32
  let v0 : BitVec 32 := Scalar.muli arg0 c8208_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c8208_i32 : BitVec 32 := 8208#32
  let v0 : BitVec 32 := Scalar.muli arg0 c8208_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8208_i32 : BitVec 32 := 8208#32
  let v0 : BitVec 32 := Scalar.muli arg0 c8208_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x8208x1024 : Shape := ⟨3, ![8, 8208, 1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S8x8208 : Shape := ⟨2, ![8, 8208]⟩
abbrev S8x8208x1 : Shape := ⟨3, ![8, 8208, 1]⟩
abbrev S1x1x1024 : Shape := ⟨3, ![1, 1, 1024]⟩
abbrev S8x8208x5632 : Shape := ⟨3, ![8, 8208, 5632]⟩
abbrev S8x8208x2816 : Shape := ⟨3, ![8, 8208, 2816]⟩
abbrev S8x8192x1024 : Shape := ⟨3, ![8, 8192, 1024]⟩
abbrev S65536x1024 : Shape := ⟨2, ![65536, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8x8208x1024, .bf16⟩
  | .hbm, ⟨1, _⟩ => ⟨S8x8208x1024, .f32⟩
  | .hbm, ⟨2, _⟩ => ⟨S4x1024, .f32⟩
  | .hbm, ⟨3, _⟩ => ⟨S1024x1024, .f32⟩
  | .hbm, ⟨4, _⟩ => ⟨S1024x5632, .f32⟩
  | .hbm, ⟨5, _⟩ => ⟨S2816x1024, .f32⟩
  | .hbm, ⟨6, _⟩ => ⟨S8x8208x1024, .f32⟩
  | .hbm, ⟨7, _⟩ => ⟨S8x8208x1024, .f32⟩
  | .hbm, ⟨8, _⟩ => ⟨S1x1024, .f32⟩
  | .hbm, ⟨9, _⟩ => ⟨S1024, .f32⟩
  | .hbm, ⟨10, _⟩ => ⟨S8x8208x1024, .f32⟩
  | .hbm, ⟨11, _⟩ => ⟨S_, .f32⟩
  | .hbm, ⟨12, _⟩ => ⟨S8x8208, .f32⟩
  | .hbm, ⟨13, _⟩ => ⟨S8x8208x1, .f32⟩
  | .hbm, ⟨14, _⟩ => ⟨S_, .f32⟩
  | .hbm, ⟨15, _⟩ => ⟨S8x8208x1, .f32⟩
  | .hbm, ⟨16, _⟩ => ⟨S8x8208x1, .f32⟩
  | .hbm, ⟨17, _⟩ => ⟨S_, .f32⟩
  | .hbm, ⟨18, _⟩ => ⟨S8x8208x1, .f32⟩
  | .hbm, ⟨19, _⟩ => ⟨S8x8208x1, .f32⟩
  | .hbm, ⟨20, _⟩ => ⟨S8x8208x1, .f32⟩
  | .hbm, ⟨21, _⟩ => ⟨S8x8208x1024, .f32⟩
  | .hbm, ⟨22, _⟩ => ⟨S8x8208x1024, .f32⟩
  | .hbm, ⟨23, _⟩ => ⟨S1x1x1024, .f32⟩
  | .hbm, ⟨24, _⟩ => ⟨S8x8208x1024, .f32⟩
  | .hbm, ⟨25, _⟩ => ⟨S8x8208x1024, .f32⟩
  | .hbm, ⟨26, _⟩ => ⟨S8x8208x1024, .f32⟩
  | .hbm, ⟨27, _⟩ => ⟨S1x1024, .f32⟩
  | .hbm, ⟨28, _⟩ => ⟨S1024, .f32⟩
  | .hbm, ⟨29, _⟩ => ⟨S8x8208x1024, .f32⟩
  | .hbm, ⟨30, _⟩ => ⟨S_, .f32⟩
  | .hbm, ⟨31, _⟩ => ⟨S8x8208, .f32⟩
  | .hbm, ⟨32, _⟩ => ⟨S8x8208x1, .f32⟩
  | .hbm, ⟨33, _⟩ => ⟨S_, .f32⟩
  | .hbm, ⟨34, _⟩ => ⟨S8x8208x1, .f32⟩
  | .hbm, ⟨35, _⟩ => ⟨S8x8208x1, .f32⟩
  | .hbm, ⟨36, _⟩ => ⟨S_, .f32⟩
  | .hbm, ⟨37, _⟩ => ⟨S8x8208x1, .f32⟩
  | .hbm, ⟨38, _⟩ => ⟨S8x8208x1, .f32⟩
  | .hbm, ⟨39, _⟩ => ⟨S8x8208x1, .f32⟩
  | .hbm, ⟨40, _⟩ => ⟨S8x8208x1024, .f32⟩
  | .hbm, ⟨41, _⟩ => ⟨S8x8208x1024, .f32⟩
  | .hbm, ⟨42, _⟩ => ⟨S1x1x1024, .f32⟩
  | .hbm, ⟨43, _⟩ => ⟨S8x8208x1024, .f32⟩
  | .hbm, ⟨44, _⟩ => ⟨S8x8208x1024, .f32⟩
  | .hbm, ⟨45, _⟩ => ⟨S8x8208x5632, .f32⟩
  | .hbm, ⟨46, _⟩ => ⟨S8x8208x2816, .f32⟩
  | .hbm, ⟨47, _⟩ => ⟨S8x8208x2816, .f32⟩
  | .hbm, ⟨48, _⟩ => ⟨S8x8208x2816, .f32⟩
  | .hbm, ⟨49, _⟩ => ⟨S_, .f32⟩
  | .hbm, ⟨50, _⟩ => ⟨S8x8208x2816, .f32⟩
  | .hbm, ⟨51, _⟩ => ⟨S8x8208x2816, .f32⟩
  | .hbm, ⟨52, _⟩ => ⟨S_, .f32⟩
  | .hbm, ⟨53, _⟩ => ⟨S8x8208x2816, .f32⟩
  | .hbm, ⟨54, _⟩ => ⟨S8x8208x2816, .f32⟩
  | .hbm, ⟨55, _⟩ => ⟨S8x8208x2816, .f32⟩
  | .hbm, ⟨56, _⟩ => ⟨S8x8208x2816, .f32⟩
  | .hbm, ⟨57, _⟩ => ⟨S8x8208x2816, .f32⟩
  | .hbm, ⟨58, _⟩ => ⟨S8x8208x1024, .f32⟩
  | .hbm, ⟨59, _⟩ => ⟨S1x1024, .f32⟩
  | .hbm, ⟨60, _⟩ => ⟨S1024, .f32⟩
  | .hbm, ⟨61, _⟩ => ⟨S8x8208x1024, .f32⟩
  | .hbm, ⟨62, _⟩ => ⟨S_, .f32⟩
  | .hbm, ⟨63, _⟩ => ⟨S8x8208, .f32⟩
  | .hbm, ⟨64, _⟩ => ⟨S8x8208x1, .f32⟩
  | .hbm, ⟨65, _⟩ => ⟨S_, .f32⟩
  | .hbm, ⟨66, _⟩ => ⟨S8x8208x1, .f32⟩
  | .hbm, ⟨67, _⟩ => ⟨S8x8208x1, .f32⟩
  | .hbm, ⟨68, _⟩ => ⟨S_, .f32⟩
  | .hbm, ⟨69, _⟩ => ⟨S8x8208x1, .f32⟩
  | .hbm, ⟨70, _⟩ => ⟨S8x8208x1, .f32⟩
  | .hbm, ⟨71, _⟩ => ⟨S8x8208x1, .f32⟩
  | .hbm, ⟨72, _⟩ => ⟨S8x8208x1024, .f32⟩
  | .hbm, ⟨73, _⟩ => ⟨S8x8208x1024, .f32⟩
  | .hbm, ⟨74, _⟩ => ⟨S1x1x1024, .f32⟩
  | .hbm, ⟨75, _⟩ => ⟨S8x8208x1024, .f32⟩
  | .hbm, ⟨76, _⟩ => ⟨S8x8208x1024, .f32⟩
  | .hbm, ⟨77, _⟩ => ⟨S8x8208x1024, .f32⟩
  | .hbm, ⟨78, _⟩ => ⟨S8x8192x1024, .f32⟩
  | .hbm, ⟨79, _⟩ => ⟨S65536x1024, .f32⟩
  | _, _ => ⟨S8x8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Mixer.lean ====
abbrev S8x8208x1024 : Shape := ⟨3, ![8, 8208, 1024]⟩
abbrev S4x1024 : Shape := ⟨2, ![4, 1024]⟩
abbrev S1024x1536 : Shape := ⟨2, ![1024, 1536]⟩
abbrev S128 : Shape := ⟨1, ![128]⟩
abbrev S32 : Shape := ⟨1, ![32]⟩
abbrev S_ : Shape := ⟨0, ![]⟩
abbrev S128x1 : Shape := ⟨2, ![128, 1]⟩
abbrev S1x32 : Shape := ⟨2, ![1, 32]⟩
abbrev S128x32 : Shape := ⟨2, ![128, 32]⟩
abbrev S64 : Shape := ⟨1, ![64]⟩
abbrev S64x1 : Shape := ⟨2, ![64, 1]⟩
abbrev S64x32 : Shape := ⟨2, ![64, 32]⟩
abbrev S128x1x32 : Shape := ⟨3, ![128, 1, 32]⟩
abbrev S128x64x32 : Shape := ⟨3, ![128, 64, 32]⟩
abbrev S8192x32 : Shape := ⟨2, ![8192, 32]⟩
abbrev S1x64x32 : Shape := ⟨3, ![1, 64, 32]⟩
abbrev S8192x128 : Shape := ⟨2, ![8192, 128]⟩
abbrev S16x128 : Shape := ⟨2, ![16, 128]⟩
abbrev S8208x128 : Shape := ⟨2, ![8208, 128]⟩
abbrev S1x128 : Shape := ⟨2, ![1, 128]⟩
abbrev S4x1x1024 : Shape := ⟨3, ![4, 1, 1024]⟩
abbrev S1x1x1024 : Shape := ⟨3, ![1, 1, 1024]⟩
abbrev S1x1024 : Shape := ⟨2, ![1, 1024]⟩
abbrev S1280 : Shape := ⟨1, ![1280]⟩
abbrev S10x128 : Shape := ⟨2, ![10, 128]⟩
abbrev S10x1 : Shape := ⟨2, ![10, 1]⟩
abbrev S1280x1 : Shape := ⟨2, ![1280, 1]⟩
abbrev S1024x1280 : Shape := ⟨2, ![1024, 1280]⟩
abbrev S1024x256 : Shape := ⟨2, ![1024, 256]⟩
abbrev S8x8208x256 : Shape := ⟨3, ![8, 8208, 256]⟩
abbrev S1x912x1024 : Shape := ⟨3, ![1, 912, 1024]⟩
abbrev S912x128 : Shape := ⟨2, ![912, 128]⟩
abbrev S1x912x256 : Shape := ⟨3, ![1, 912, 256]⟩
abbrev S1x304x1024 : Shape := ⟨3, ![1, 304, 1024]⟩
abbrev S304x1024 : Shape := ⟨2, ![304, 1024]⟩
abbrev S304 : Shape := ⟨1, ![304]⟩
abbrev S304x1 : Shape := ⟨2, ![304, 1]⟩
abbrev S304x128 : Shape := ⟨2, ![304, 128]⟩
abbrev S1024x1024 : Shape := ⟨2, ![1024, 1024]⟩
abbrev S1x304x128 : Shape := ⟨3, ![1, 304, 128]⟩
abbrev S1024x512 : Shape := ⟨2, ![1024, 512]⟩
abbrev S304x512 : Shape := ⟨2, ![304, 512]⟩
abbrev S304x256 : Shape := ⟨2, ![304, 256]⟩
abbrev S1x304x256 : Shape := ⟨3, ![1, 304, 256]⟩
abbrev S8x8208x2x128 : Shape := ⟨4, ![8, 8208, 2, 128]⟩
abbrev S8x2x128x8208 : Shape := ⟨4, ![8, 2, 128, 8208]⟩
abbrev S1x2736x512 : Shape := ⟨3, ![1, 2736, 512]⟩
abbrev S1x8208x128 : Shape := ⟨3, ![1, 8208, 128]⟩
abbrev S1x1x128x8208 : Shape := ⟨4, ![1, 1, 128, 8208]⟩
abbrev S1x2736x128 : Shape := ⟨3, ![1, 2736, 128]⟩
abbrev S2736x128 : Shape := ⟨2, ![2736, 128]⟩
abbrev S128x2736 : Shape := ⟨2, ![128, 2736]⟩
abbrev S8x2736 : Shape := ⟨2, ![8, 2736]⟩
abbrev S1x16x128 : Shape := ⟨3, ![1, 16, 128]⟩
abbrev S1x1x128x16 : Shape := ⟨4, ![1, 1, 128, 16]⟩
abbrev S128x16 : Shape := ⟨2, ![128, 16]⟩
abbrev S16x2736 : Shape := ⟨2, ![16, 2736]⟩
abbrev S2x8x2736 : Shape := ⟨3, ![2, 8, 2736]⟩
abbrev S1x512x128 : Shape := ⟨3, ![1, 512, 128]⟩
abbrev S512x128 : Shape := ⟨2, ![512, 128]⟩
abbrev S1x1x128x512 : Shape := ⟨4, ![1, 1, 128, 512]⟩
abbrev S128x512 : Shape := ⟨2, ![128, 512]⟩
abbrev S512x2736 : Shape := ⟨2, ![512, 2736]⟩
abbrev S64x8x2736 : Shape := ⟨3, ![64, 8, 2736]⟩
abbrev S2736 : Shape := ⟨1, ![2736]⟩
abbrev S1x2736 : Shape := ⟨2, ![1, 2736]⟩

abbrev nBuf : Space → Nat
  | .hbm => 129
  | .vmem => 24
  | .smem => 0
  | _ => 0

abbrev hbmTy0_0 (i : Nat) : BufTy := match i % 128 with
  | 0 => ⟨S8x8208x1024, .f32⟩
  | 1 => ⟨S4x1024, .f32⟩
  | 2 => ⟨S1024x1536, .f32⟩
  | 3 => ⟨S128, .f32⟩
  | 4 => ⟨S128, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S128, .f32⟩
  | 20 => ⟨S128x1, .f32⟩
  | 21 => ⟨S1x32, .f32⟩
  | 22 => ⟨S128x32, .f32⟩
  | 23 => ⟨S128x32, .f32⟩
  | 24 => ⟨S128x32, .f32⟩
  | 25 => ⟨S64, .f32⟩
  | 26 => ⟨S64x1, .f32⟩
  | 27 => ⟨S1x32, .f32⟩
  | 28 => ⟨S64x32, .f32⟩
  | 29 => ⟨S64x32, .f32⟩
  | 30 => ⟨S64x32, .f32⟩
  | 31 => ⟨S128x1x32, .f32⟩
  | 32 => ⟨S128x64x32, .f32⟩
  | 33 => ⟨S8192x32, .f32⟩
  | 34 => ⟨S1x64x32, .f32⟩
  | 35 => ⟨S128x64x32, .f32⟩
  | 36 => ⟨S8192x32, .f32⟩
  | 37 => ⟨S8192x128, .f32⟩
  | 38 => ⟨S_, .f32⟩
  | 39 => ⟨S16x128, .f32⟩
  | 40 => ⟨S8208x128, .f32⟩
  | 41 => ⟨S_, .f32⟩
  | 42 => ⟨S64, .f32⟩
  | 43 => ⟨S64, .f32⟩
  | 44 => ⟨S_, .f32⟩
  | 45 => ⟨S64, .f32⟩
  | 46 => ⟨S128, .f32⟩
  | 47 => ⟨S8208x128, .f32⟩
  | 48 => ⟨S8208x128, .f32⟩
  | 49 => ⟨S1x128, .f32⟩
  | 50 => ⟨S8208x128, .f32⟩
  | 51 => ⟨S8208x128, .f32⟩
  | 52 => ⟨S4x1x1024, .f32⟩
  | 53 => ⟨S32, .i32⟩
  | 54 => ⟨S32, .i32⟩
  | 55 => ⟨S_, .i32⟩
  | 56 => ⟨S32, .i32⟩
  | 57 => ⟨S32, .i32⟩
  | 58 => ⟨S32, .i32⟩
  | 59 => ⟨S_, .i32⟩
  | 60 => ⟨S32, .i32⟩
  | 61 => ⟨S32, .i32⟩
  | 62 => ⟨S32, .i32⟩
  | 63 => ⟨S_, .i32⟩
  | 64 => ⟨S32, .i32⟩
  | 65 => ⟨S32, .i32⟩
  | 66 => ⟨S128, .i32⟩
  | 67 => ⟨S1x1x1024, .f32⟩
  | 68 => ⟨S1x1024, .f32⟩
  | 69 => ⟨S32, .i32⟩
  | 70 => ⟨S32, .i32⟩
  | 71 => ⟨S_, .i32⟩
  | 72 => ⟨S32, .i32⟩
  | 73 => ⟨S32, .i32⟩
  | 74 => ⟨S32, .i32⟩
  | 75 => ⟨S_, .i32⟩
  | 76 => ⟨S32, .i32⟩
  | 77 => ⟨S32, .i32⟩
  | 78 => ⟨S32, .i32⟩
  | 79 => ⟨S_, .i32⟩
  | 80 => ⟨S32, .i32⟩
  | 81 => ⟨S32, .i32⟩
  | 82 => ⟨S128, .i32⟩
  | 83 => ⟨S1280, .i32⟩
  | 84 => ⟨S10x128, .i32⟩
  | 85 => ⟨S10x1, .i32⟩
  | 86 => ⟨S1x128, .i32⟩
  | 87 => ⟨S10x128, .i32⟩
  | 88 => ⟨S10x128, .i32⟩
  | 89 => ⟨S10x128, .i32⟩
  | 90 => ⟨S1280, .i32⟩
  | 91 => ⟨S_, .i32⟩
  | 92 => ⟨S1280, .i32⟩
  | 93 => ⟨S1280, .i1⟩
  | 94 => ⟨S_, .i32⟩
  | 95 => ⟨S1280, .i32⟩
  | 96 => ⟨S1280, .i32⟩
  | 97 => ⟨S1280, .i32⟩
  | 98 => ⟨S1280x1, .i32⟩
  | 99 => ⟨S1024x1280, .f32⟩
  | 100 => ⟨S1024x256, .f32⟩
  | 101 => ⟨S1024x1536, .f32⟩
  | 102 => ⟨S1024x1536, .bf16⟩
  | 103 => ⟨S_, .i32⟩
  | 104 => ⟨S128, .i32⟩
  | 105 => ⟨S128, .i1⟩
  | 106 => ⟨S_, .i32⟩
  | 107 => ⟨S128, .i32⟩
  | 108 => ⟨S128, .i32⟩
  | 109 => ⟨S128, .i32⟩
  | 110 => ⟨S128x1, .i32⟩
  | 111 => ⟨S128, .f32⟩
  | 112 => ⟨S1x128, .f32⟩
  | 113 => ⟨S_, .i32⟩
  | 114 => ⟨S128, .i32⟩
  | 115 => ⟨S128, .i1⟩
  | 116 => ⟨S_, .i32⟩
  | 117 => ⟨S128, .i32⟩
  | 118 => ⟨S128, .i32⟩
  | 119 => ⟨S128, .i32⟩
  | 120 => ⟨S128x1, .i32⟩
  | 121 => ⟨S128, .f32⟩
  | 122 => ⟨S1x128, .f32⟩
  | 123 => ⟨S8x8208x1024, .bf16⟩
  | 124 => ⟨S8x8208x256, .bf16⟩
  | 125 => ⟨S8x8208x256, .bf16⟩
  | 126 => ⟨S8x8208x2x128, .bf16⟩
  | 127 => ⟨S8x2x128x8208, .bf16⟩
  | _ => ⟨S8x8208x1024, .f32⟩

abbrev hbmTy0_1 (i : Nat) : BufTy := match i % 128 with
  | 0 => ⟨S8x8208x1024, .bf16⟩
  | _ => ⟨S8x8208x1024, .f32⟩

abbrev hbmTy (i : Nat) : BufTy := match i / 128 with
  | 0 => hbmTy0_0 i
  | 1 => hbmTy0_1 i
  | _ => ⟨S8x8208x1024, .f32⟩

abbrev bufTy : (tb : Table) → Fin (tcTables nBuf tb) → BufTy
  | .hbm, ⟨i, _⟩ => hbmTy i
  | .local _ .vmem, ⟨0, _⟩ => ⟨S1x912x1024, .f32⟩
  | .local _ .vmem, ⟨1, _⟩ => ⟨S1x912x1024, .f32⟩
  | .local _ .vmem, ⟨2, _⟩ => ⟨S1x1024, .f32⟩
  | .local _ .vmem, ⟨3, _⟩ => ⟨S1024x1536, .bf16⟩
  | .local _ .vmem, ⟨4, _⟩ => ⟨S1x128, .f32⟩
  | .local _ .vmem, ⟨5, _⟩ => ⟨S1x128, .f32⟩
  | .local _ .vmem, ⟨6, _⟩ => ⟨S912x128, .f32⟩
  | .local _ .vmem, ⟨7, _⟩ => ⟨S912x128, .f32⟩
  | .local _ .vmem, ⟨8, _⟩ => ⟨S912x128, .f32⟩
  | .local _ .vmem, ⟨9, _⟩ => ⟨S912x128, .f32⟩
  | .local _ .vmem, ⟨10, _⟩ => ⟨S1x912x1024, .bf16⟩
  | .local _ .vmem, ⟨11, _⟩ => ⟨S1x912x1024, .bf16⟩
  | .local _ .vmem, ⟨12, _⟩ => ⟨S1x912x256, .bf16⟩
  | .local _ .vmem, ⟨13, _⟩ => ⟨S1x912x256, .bf16⟩
  | .local _ .vmem, ⟨14, _⟩ => ⟨S1x912x256, .bf16⟩
  | .local _ .vmem, ⟨15, _⟩ => ⟨S1x912x256, .bf16⟩
  | .local _ .vmem, ⟨16, _⟩ => ⟨S1x2736x512, .bf16⟩
  | .local _ .vmem, ⟨17, _⟩ => ⟨S1x2736x512, .bf16⟩
  | .local _ .vmem, ⟨18, _⟩ => ⟨S1x8208x128, .bf16⟩
  | .local _ .vmem, ⟨19, _⟩ => ⟨S1x8208x128, .bf16⟩
  | .local _ .vmem, ⟨20, _⟩ => ⟨S1x1x128x8208, .bf16⟩
  | .local _ .vmem, ⟨21, _⟩ => ⟨S1x1x128x8208, .bf16⟩
  | .local _ .vmem, ⟨22, _⟩ => ⟨S1x2736x512, .bf16⟩
  | .local _ .vmem, ⟨23, _⟩ => ⟨S1x2736x512, .bf16⟩
  | _, _ => ⟨S8x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_10 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_11 : Ref sig .tc := ⟨.hbm, 91, rfl⟩
abbrev main_v73 : Ref sig .tc := ⟨.hbm, 92, rfl⟩
abbrev main_v74 : Ref sig .tc := ⟨.hbm, 93, rfl⟩
abbrev main_c_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_c_13 : Ref sig .tc := ⟨.hbm, 103, rfl⟩
abbrev main_v83 : Ref sig .tc := ⟨.hbm, 104, rfl⟩
abbrev main_v84 : Ref sig .tc := ⟨.hbm, 105, rfl⟩
abbrev main_c_14 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_15 : Ref sig .tc := ⟨.hbm, 113, rfl⟩
abbrev main_v91 : Ref sig .tc := ⟨.hbm, 114, rfl⟩
abbrev main_v92 : Ref sig .tc := ⟨.hbm, 115, rfl⟩
abbrev main_c_16 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99_0 : Ref sig .tc := ⟨.hbm, 123, rfl⟩
abbrev main_v99_1 : Ref sig .tc := ⟨.hbm, 124, rfl⟩
abbrev main_v99_2 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x912x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S912x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S912x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x912x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x912x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x912x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![8, 2, 3], ![false, false, false]⟩

@[reducible] def k1_t1_loop : Scf.Loop 32 :=
  let c0_i32 : BitVec 32 := 0#32
  let c16_i32 : BitVec 32 := 16#32
  let v52 : BitVec 32 := Scalar.addi c0_i32 c16_i32
  let c1_i32 : BitVec 32 := 1#32
  ⟨c0_i32, v52, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c512_i32 : BitVec 32 := 512#32
  let v98 : BitVec 32 := Scalar.muli arg7 c512_i32
  v98
def k1_off1 (k1_t1 : Fin k1_t1_loop.trips) : Fin 3 → Nat :=
  let c0_54 : Index := 0#32
  let c0_i32 : BitVec 32 := 0#32
  let c1_i32 : BitVec 32 := 1#32
  let arg7 : BitVec 32 := Scf.iv c0_i32 c1_i32 k1_t1
  let c512_i32 : BitVec 32 := 512#32
  let v98 : BitVec 32 := Scalar.muli arg7 c512_i32
  let v99 : BitVec 32 := v98
  let v100 : Index := Scalar.indexCast v99
  let c0_55 : Index := 0#32
  ![0, v100.toNat, 0]
def k1_off2 (k1_t1 : Fin k1_t1_loop.trips) : Fin 4 → Nat :=
  let c0_56 : Index := 0#32
  let c0_57 : Index := 0#32
  let c0_58 : Index := 0#32
  let c0_i32 : BitVec 32 := 0#32
  let c1_i32 : BitVec 32 := 1#32
  let arg7 : BitVec 32 := Scf.iv c0_i32 c1_i32 k1_t1
  let c512_i32 : BitVec 32 := 512#32
  let v98 : BitVec 32 := Scalar.muli arg7 c512_i32
  let v99 : BitVec 32 := v98
  let v103 : Index := Scalar.indexCast v99
  ![0, 0, 0, v103.toNat]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x2736x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x8208x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x128x8208 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x2736x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]
-- ==== MixerIdeal.lean ====
variable {F : FTy → Type} [FloatOps F] [Named F]
def κ : String → Option EReal := fun
  | "q_scale" => some (((Real.sqrt 128)⁻¹ * (Real.log 2)⁻¹ : ℝ) : EReal)
  | _ => none
-- ==== MixerRefIdeal.lean ====
abbrev S8x8208x1024 : Shape := ⟨3, ![8, 8208, 1024]⟩
abbrev S4x1024 : Shape := ⟨2, ![4, 1024]⟩
abbrev S1024x1536 : Shape := ⟨2, ![1024, 1536]⟩
abbrev S128 : Shape := ⟨1, ![128]⟩
abbrev S32 : Shape := ⟨1, ![32]⟩
abbrev S_ : Shape := ⟨0, ![]⟩
abbrev S128x1 : Shape := ⟨2, ![128, 1]⟩
abbrev S1x32 : Shape := ⟨2, ![1, 32]⟩
abbrev S128x32 : Shape := ⟨2, ![128, 32]⟩
abbrev S64 : Shape := ⟨1, ![64]⟩
abbrev S64x1 : Shape := ⟨2, ![64, 1]⟩
abbrev S64x32 : Shape := ⟨2, ![64, 32]⟩
abbrev S128x1x32 : Shape := ⟨3, ![128, 1, 32]⟩
abbrev S128x64x32 : Shape := ⟨3, ![128, 64, 32]⟩
abbrev S1x64x32 : Shape := ⟨3, ![1, 64, 32]⟩
abbrev S128x64x1x32 : Shape := ⟨4, ![128, 64, 1, 32]⟩
abbrev S128x64x2x32 : Shape := ⟨4, ![128, 64, 2, 32]⟩
abbrev S8192x2x32 : Shape := ⟨3, ![8192, 2, 32]⟩
abbrev S16x2x32 : Shape := ⟨3, ![16, 2, 32]⟩
abbrev S8208x2x32 : Shape := ⟨3, ![8208, 2, 32]⟩
abbrev S1x1024 : Shape := ⟨2, ![1, 1024]⟩
abbrev S1024 : Shape := ⟨1, ![1024]⟩
abbrev S8x8208 : Shape := ⟨2, ![8, 8208]⟩
abbrev S8x8208x1 : Shape := ⟨3, ![8, 8208, 1]⟩
abbrev S1x1x1024 : Shape := ⟨3, ![1, 1, 1024]⟩
abbrev S8x8208x1536 : Shape := ⟨3, ![8, 8208, 1536]⟩
abbrev S8x8208x8x128 : Shape := ⟨4, ![8, 8208, 8, 128]⟩
abbrev S8x8208x256 : Shape := ⟨3, ![8, 8208, 256]⟩
abbrev S8x8208x2x128 : Shape := ⟨4, ![8, 8208, 2, 128]⟩
abbrev S8x8208x8 : Shape := ⟨3, ![8, 8208, 8]⟩
abbrev S8x8208x8x1 : Shape := ⟨4, ![8, 8208, 8, 1]⟩
abbrev S1x1x1x128 : Shape := ⟨4, ![1, 1, 1, 128]⟩
abbrev S8x8208x8x2x2x32 : Shape := ⟨6, ![8, 8208, 8, 2, 2, 32]⟩
abbrev S8x8208x8x2x1x32 : Shape := ⟨6, ![8, 8208, 8, 2, 1, 32]⟩
abbrev S8x8208x8x2x32 : Shape := ⟨5, ![8, 8208, 8, 2, 32]⟩
abbrev S1x8208x1x2x32 : Shape := ⟨5, ![1, 8208, 1, 2, 32]⟩
abbrev S8x8208x2 : Shape := ⟨3, ![8, 8208, 2]⟩
abbrev S8x8208x2x1 : Shape := ⟨4, ![8, 8208, 2, 1]⟩
abbrev S8x8208x2x2x2x32 : Shape := ⟨6, ![8, 8208, 2, 2, 2, 32]⟩
abbrev S8x8208x2x2x1x32 : Shape := ⟨6, ![8, 8208, 2, 2, 1, 32]⟩
abbrev S8x8208x2x2x32 : Shape := ⟨5, ![8, 8208, 2, 2, 32]⟩
abbrev S8x8208x2x4x128 : Shape := ⟨5, ![8, 8208, 2, 4, 128]⟩
abbrev S8x2x8208x8208x4 : Shape := ⟨5, ![8, 2, 8208, 8208, 4]⟩
abbrev S8x2x4x8208x8208 : Shape := ⟨5, ![8, 2, 4, 8208, 8208]⟩
abbrev S8x2x4x8208 : Shape := ⟨4, ![8, 2, 4, 8208]⟩
abbrev S8x2x4x8208x1 : Shape := ⟨5, ![8, 2, 4, 8208, 1]⟩
abbrev S8x2x128x4x8208 : Shape := ⟨5, ![8, 2, 128, 4, 8208]⟩

abbrev nBuf : Space → Nat
  | .hbm => 168
  | .vmem => 0
  | .smem => 0
  | _ => 0

abbrev hbmTy0_0 (i : Nat) : BufTy := match i % 128 with
  | 0 => ⟨S8x8208x1024, .f32⟩
  | 1 => ⟨S4x1024, .f32⟩
  | 2 => ⟨S1024x1536, .f32⟩
  | 3 => ⟨S128, .f32⟩
  | 4 => ⟨S128, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S128, .f32⟩
  | 20 => ⟨S128x1, .f32⟩
  | 21 => ⟨S1x32, .f32⟩
  | 22 => ⟨S128x32, .f32⟩
  | 23 => ⟨S128x32, .f32⟩
  | 24 => ⟨S128x32, .f32⟩
  | 25 => ⟨S64, .f32⟩
  | 26 => ⟨S64x1, .f32⟩
  | 27 => ⟨S1x32, .f32⟩
  | 28 => ⟨S64x32, .f32⟩
  | 29 => ⟨S64x32, .f32⟩
  | 30 => ⟨S64x32, .f32⟩
  | 31 => ⟨S128x1x32, .f32⟩
  | 32 => ⟨S128x64x32, .f32⟩
  | 33 => ⟨S1x64x32, .f32⟩
  | 34 => ⟨S128x64x32, .f32⟩
  | 35 => ⟨S128x64x1x32, .f32⟩
  | 36 => ⟨S128x64x1x32, .f32⟩
  | 37 => ⟨S128x64x2x32, .f32⟩
  | 38 => ⟨S8192x2x32, .f32⟩
  | 39 => ⟨S_, .f32⟩
  | 40 => ⟨S16x2x32, .f32⟩
  | 41 => ⟨S8208x2x32, .f32⟩
  | 42 => ⟨S8208x2x32, .f32⟩
  | 43 => ⟨S8208x2x32, .f32⟩
  | 44 => ⟨S1x1024, .f32⟩
  | 45 => ⟨S1024, .f32⟩
  | 46 => ⟨S8x8208x1024, .f32⟩
  | 47 => ⟨S_, .f32⟩
  | 48 => ⟨S8x8208, .f32⟩
  | 49 => ⟨S8x8208x1, .f32⟩
  | 50 => ⟨S_, .f32⟩
  | 51 => ⟨S8x8208x1, .f32⟩
  | 52 => ⟨S8x8208x1, .f32⟩
  | 53 => ⟨S_, .f32⟩
  | 54 => ⟨S8x8208x1, .f32⟩
  | 55 => ⟨S8x8208x1, .f32⟩
  | 56 => ⟨S8x8208x1, .f32⟩
  | 57 => ⟨S8x8208x1024, .f32⟩
  | 58 => ⟨S8x8208x1024, .f32⟩
  | 59 => ⟨S1x1x1024, .f32⟩
  | 60 => ⟨S8x8208x1024, .f32⟩
  | 61 => ⟨S8x8208x1024, .f32⟩
  | 62 => ⟨S8x8208x1536, .f32⟩
  | 63 => ⟨S8x8208x1024, .f32⟩
  | 64 => ⟨S8x8208x8x128, .f32⟩
  | 65 => ⟨S8x8208x256, .f32⟩
  | 66 => ⟨S8x8208x2x128, .f32⟩
  | 67 => ⟨S8x8208x256, .f32⟩
  | 68 => ⟨S8x8208x2x128, .f32⟩
  | 69 => ⟨S8x8208x8x128, .f32⟩
  | 70 => ⟨S_, .f32⟩
  | 71 => ⟨S8x8208x8, .f32⟩
  | 72 => ⟨S8x8208x8x1, .f32⟩
  | 73 => ⟨S_, .f32⟩
  | 74 => ⟨S8x8208x8x1, .f32⟩
  | 75 => ⟨S8x8208x8x1, .f32⟩
  | 76 => ⟨S_, .f32⟩
  | 77 => ⟨S8x8208x8x1, .f32⟩
  | 78 => ⟨S8x8208x8x1, .f32⟩
  | 79 => ⟨S8x8208x8x1, .f32⟩
  | 80 => ⟨S8x8208x8x128, .f32⟩
  | 81 => ⟨S8x8208x8x128, .f32⟩
  | 82 => ⟨S1x1x1x128, .f32⟩
  | 83 => ⟨S8x8208x8x128, .f32⟩
  | 84 => ⟨S8x8208x8x128, .f32⟩
  | 85 => ⟨S8x8208x8x2x2x32, .f32⟩
  | 86 => ⟨S8x8208x8x2x1x32, .f32⟩
  | 87 => ⟨S8x8208x8x2x32, .f32⟩
  | 88 => ⟨S8x8208x8x2x1x32, .f32⟩
  | 89 => ⟨S8x8208x8x2x32, .f32⟩
  | 90 => ⟨S1x8208x1x2x32, .f32⟩
  | 91 => ⟨S1x8208x1x2x32, .f32⟩
  | 92 => ⟨S8x8208x8x2x32, .f32⟩
  | 93 => ⟨S8x8208x8x2x32, .f32⟩
  | 94 => ⟨S8x8208x8x2x32, .f32⟩
  | 95 => ⟨S8x8208x8x2x32, .f32⟩
  | 96 => ⟨S8x8208x8x2x32, .f32⟩
  | 97 => ⟨S8x8208x8x2x32, .f32⟩
  | 98 => ⟨S8x8208x8x2x32, .f32⟩
  | 99 => ⟨S8x8208x8x2x32, .f32⟩
  | 100 => ⟨S8x8208x8x2x32, .f32⟩
  | 101 => ⟨S8x8208x8x2x32, .f32⟩
  | 102 => ⟨S8x8208x8x2x1x32, .f32⟩
  | 103 => ⟨S8x8208x8x2x1x32, .f32⟩
  | 104 => ⟨S8x8208x8x2x2x32, .f32⟩
  | 105 => ⟨S8x8208x8x128, .f32⟩
  | 106 => ⟨S_, .f32⟩
  | 107 => ⟨S_, .f32⟩
  | 108 => ⟨S8x8208x8x128, .f32⟩
  | 109 => ⟨S8x8208x8x128, .f32⟩
  | 110 => ⟨S8x8208x2x128, .f32⟩
  | 111 => ⟨S_, .f32⟩
  | 112 => ⟨S8x8208x2, .f32⟩
  | 113 => ⟨S8x8208x2x1, .f32⟩
  | 114 => ⟨S_, .f32⟩
  | 115 => ⟨S8x8208x2x1, .f32⟩
  | 116 => ⟨S8x8208x2x1, .f32⟩
  | 117 => ⟨S_, .f32⟩
  | 118 => ⟨S8x8208x2x1, .f32⟩
  | 119 => ⟨S8x8208x2x1, .f32⟩
  | 120 => ⟨S8x8208x2x1, .f32⟩
  | 121 => ⟨S8x8208x2x128, .f32⟩
  | 122 => ⟨S8x8208x2x128, .f32⟩
  | 123 => ⟨S1x1x1x128, .f32⟩
  | 124 => ⟨S8x8208x2x128, .f32⟩
  | 125 => ⟨S8x8208x2x128, .f32⟩
  | 126 => ⟨S8x8208x2x2x2x32, .f32⟩
  | 127 => ⟨S8x8208x2x2x1x32, .f32⟩
  | _ => ⟨S8x8208x1024, .f32⟩

abbrev hbmTy0_1 (i : Nat) : BufTy := match i % 128 with
  | 0 => ⟨S8x8208x2x2x32, .f32⟩
  | 1 => ⟨S8x8208x2x2x1x32, .f32⟩
  | 2 => ⟨S8x8208x2x2x32, .f32⟩
  | 3 => ⟨S1x8208x1x2x32, .f32⟩
  | 4 => ⟨S1x8208x1x2x32, .f32⟩
  | 5 => ⟨S8x8208x2x2x32, .f32⟩
  | 6 => ⟨S8x8208x2x2x32, .f32⟩
  | 7 => ⟨S8x8208x2x2x32, .f32⟩
  | 8 => ⟨S8x8208x2x2x32, .f32⟩
  | 9 => ⟨S8x8208x2x2x32, .f32⟩
  | 10 => ⟨S8x8208x2x2x32, .f32⟩
  | 11 => ⟨S8x8208x2x2x32, .f32⟩
  | 12 => ⟨S8x8208x2x2x32, .f32⟩
  | 13 => ⟨S8x8208x2x2x32, .f32⟩
  | 14 => ⟨S8x8208x2x2x32, .f32⟩
  | 15 => ⟨S8x8208x2x2x1x32, .f32⟩
  | 16 => ⟨S8x8208x2x2x1x32, .f32⟩
  | 17 => ⟨S8x8208x2x2x2x32, .f32⟩
  | 18 => ⟨S8x8208x2x128, .f32⟩
  | 19 => ⟨S8x8208x2x4x128, .f32⟩
  | 20 => ⟨S8x2x8208x8208x4, .f32⟩
  | 21 => ⟨S8x2x4x8208x8208, .f32⟩
  | 22 => ⟨S_, .f32⟩
  | 23 => ⟨S8x2x4x8208, .f32⟩
  | 24 => ⟨S_, .f32⟩
  | 25 => ⟨S8x2x4x8208, .f32⟩
  | 26 => ⟨S8x2x4x8208, .f32⟩
  | 27 => ⟨S8x2x4x8208x1, .f32⟩
  | 28 => ⟨S8x2x4x8208x8208, .f32⟩
  | 29 => ⟨S8x2x4x8208x8208, .f32⟩
  | 30 => ⟨S8x2x4x8208x8208, .f32⟩
  | 31 => ⟨S_, .f32⟩
  | 32 => ⟨S8x2x4x8208, .f32⟩
  | 33 => ⟨S8x2x4x8208x1, .f32⟩
  | 34 => ⟨S8x2x4x8208x8208, .f32⟩
  | 35 => ⟨S8x2x4x8208x8208, .f32⟩
  | 36 => ⟨S8x2x128x4x8208, .f32⟩
  | 37 => ⟨S8x8208x2x4x128, .f32⟩
  | 38 => ⟨S8x8208x1024, .f32⟩
  | 39 => ⟨S8x8208x1024, .bf16⟩
  | _ => ⟨S8x8208x1024, .f32⟩

abbrev hbmTy (i : Nat) : BufTy := match i / 128 with
  | 0 => hbmTy0_0 i
  | 1 => hbmTy0_1 i
  | _ => ⟨S8x8208x1024, .f32⟩

abbrev bufTy : (tb : Table) → Fin (tcTables nBuf tb) → BufTy
  | .hbm, ⟨i, _⟩ => hbmTy i
  | _, _ => ⟨S8x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_10 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_11 : Ref sig .tc := ⟨.hbm, 111, rfl⟩
abbrev main_v94 : Ref sig .tc := ⟨.hbm, 112, rfl⟩
abbrev main_v95 : Ref sig .tc := ⟨.hbm, 113, rfl⟩
abbrev main_cst_12 : Ref sig .tc := ⟨.hbm, 114, rfl⟩
abbrev main_v96 : Ref sig .tc := ⟨.hbm, 115, rfl⟩
abbrev main_v97 : Ref sig .tc := ⟨.hbm, 116, rfl⟩
abbrev main_cst_13 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_cst_14 : Ref sig .tc := ⟨.hbm, 150, rfl⟩
abbrev main_v130 : Ref sig .tc := ⟨.hbm, 151, rfl⟩
abbrev main_cst_15 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_cst_16 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩

abbrev nD : Nat := 1
abbrev τ : Topo := Topo.v7x

variable {F : FTy → Type} [FloatOps F]
-- ==== FfnMid.lean ====
abbrev S8x8208x1024 : Shape := ⟨3, ![8, 8208, 1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S4x1x1024 : Shape := ⟨3, ![4, 1, 1024]⟩
abbrev S1x1x1024 : Shape := ⟨3, ![1, 1, 1024]⟩
abbrev S1x1024 : Shape := ⟨2, ![1, 1024]⟩
abbrev S1x912x1024 : Shape := ⟨3, ![1, 912, 1024]⟩
abbrev S912x1024 : Shape := ⟨2, ![912, 1024]⟩
abbrev S912 : Shape := ⟨1, ![912]⟩
abbrev S912x1 : Shape := ⟨2, ![912, 1]⟩
abbrev S1024x1536 : Shape := ⟨2, ![1024, 1536]⟩
abbrev S912x1536 : Shape := ⟨2, ![912, 1536]⟩
abbrev S1536x1024 : Shape := ⟨2, ![1536, 1024]⟩
abbrev S1024x1280 : Shape := ⟨2, ![1024, 1280]⟩
abbrev S912x1280 : Shape := ⟨2, ![912, 1280]⟩
abbrev S1280x1024 : Shape := ⟨2, ![1280, 1024]⟩

abbrev nBuf : Space → Nat
  | .hbm => 17
  | .vmem => 12
  | .smem => 0
  | _ => 0

abbrev bufTy : (tb : Table) → Fin (tcTables nBuf tb) → BufTy
  | .hbm, ⟨0, _⟩ => ⟨S8x8208x1024, .bf16⟩
  | .hbm, ⟨1, _⟩ => ⟨S8x8208x1024, .f32⟩
  | .hbm, ⟨2, _⟩ => ⟨S4x1024, .f32⟩
  | .hbm, ⟨3, _⟩ => ⟨S1024x1024, .f32⟩
  | .hbm, ⟨4, _⟩ => ⟨S1024x5632, .f32⟩
  | .hbm, ⟨5, _⟩ => ⟨S2816x1024, .f32⟩
  | .hbm, ⟨6, _⟩ => ⟨S4x1x1024, .f32⟩
  | .hbm, ⟨7, _⟩ => ⟨S1024x1024, .bf16⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S1x1x1024, .f32⟩
  | .hbm, ⟨15, _⟩ => ⟨S1x1024, .f32⟩
  | .hbm, ⟨16, _⟩ => ⟨S8x8208x1024, .f32⟩
  | .local _ .vmem, ⟨0, _⟩ => ⟨S1x912x1024, .bf16⟩
  | .local _ .vmem, ⟨1, _⟩ => ⟨S1x912x1024, .bf16⟩
  | .local _ .vmem, ⟨2, _⟩ => ⟨S1024x1024, .bf16⟩
  | .local _ .vmem, ⟨3, _⟩ => ⟨S1x1024, .f32⟩
  | .local _ .vmem, ⟨4, _⟩ => ⟨S1x912x1024, .f32⟩
  | .local _ .vmem, ⟨5, _⟩ => ⟨S1x912x1024, .f32⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1x912x1024, .f32⟩
  | .local _ .vmem, ⟨11, _⟩ => ⟨S1x912x1024, .f32⟩
  | _, _ => ⟨S8x8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x912x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x912x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x912x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnMidRefIdeal.lean ====
abbrev S8x8208x1024 : Shape := ⟨3, ![8, 8208, 1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S8x8208 : Shape := ⟨2, ![8, 8208]⟩
abbrev S8x8208x1 : Shape := ⟨3, ![8, 8208, 1]⟩
abbrev S1x1x1024 : Shape := ⟨3, ![1, 1, 1024]⟩
abbrev S8x8208x5632 : Shape := ⟨3, ![8, 8208, 5632]⟩
abbrev S8x8208x2816 : Shape := ⟨3, ![8, 8208, 2816]⟩

abbrev nBuf : Space → Nat
  | .hbm => 78
  | .vmem => 0
  | .smem => 0
  | _ => 0

abbrev bufTy : (tb : Table) → Fin (tcTables nBuf tb) → BufTy
  | .hbm, ⟨0, _⟩ => ⟨S8x8208x1024, .bf16⟩
  | .hbm, ⟨1, _⟩ => ⟨S8x8208x1024, .f32⟩
  | .hbm, ⟨2, _⟩ => ⟨S4x1024, .f32⟩
  | .hbm, ⟨3, _⟩ => ⟨S1024x1024, .f32⟩
  | .hbm, ⟨4, _⟩ => ⟨S1024x5632, .f32⟩
  | .hbm, ⟨5, _⟩ => ⟨S2816x1024, .f32⟩
  | .hbm, ⟨6, _⟩ => ⟨S8x8208x1024, .f32⟩
  | .hbm, ⟨7, _⟩ => ⟨S8x8208x1024, .f32⟩
  | .hbm, ⟨8, _⟩ => ⟨S1x1024, .f32⟩
  | .hbm, ⟨9, _⟩ => ⟨S1024, .f32⟩
  | .hbm, ⟨10, _⟩ => ⟨S8x8208x1024, .f32⟩
  | .hbm, ⟨11, _⟩ => ⟨S_, .f32⟩
  | .hbm, ⟨12, _⟩ => ⟨S8x8208, .f32⟩
  | .hbm, ⟨13, _⟩ => ⟨S8x8208x1, .f32⟩
  | .hbm, ⟨14, _⟩ => ⟨S_, .f32⟩
  | .hbm, ⟨15, _⟩ => ⟨S8x8208x1, .f32⟩
  | .hbm, ⟨16, _⟩ => ⟨S8x8208x1, .f32⟩
  | .hbm, ⟨17, _⟩ => ⟨S_, .f32⟩
  | .hbm, ⟨18, _⟩ => ⟨S8x8208x1, .f32⟩
  | .hbm, ⟨19, _⟩ => ⟨S8x8208x1, .f32⟩
  | .hbm, ⟨20, _⟩ => ⟨S8x8208x1, .f32⟩
  | .hbm, ⟨21, _⟩ => ⟨S8x8208x1024, .f32⟩
  | .hbm, ⟨22, _⟩ => ⟨S8x8208x1024, .f32⟩
  | .hbm, ⟨23, _⟩ => ⟨S1x1x1024, .f32⟩
  | .hbm, ⟨24, _⟩ => ⟨S8x8208x1024, .f32⟩
  | .hbm, ⟨25, _⟩ => ⟨S8x8208x1024, .f32⟩
  | .hbm, ⟨26, _⟩ => ⟨S8x8208x1024, .f32⟩
  | .hbm, ⟨27, _⟩ => ⟨S1x1024, .f32⟩
  | .hbm, ⟨28, _⟩ => ⟨S1024, .f32⟩
  | .hbm, ⟨29, _⟩ => ⟨S8x8208x1024, .f32⟩
  | .hbm, ⟨30, _⟩ => ⟨S_, .f32⟩
  | .hbm, ⟨31, _⟩ => ⟨S8x8208, .f32⟩
  | .hbm, ⟨32, _⟩ => ⟨S8x8208x1, .f32⟩
  | .hbm, ⟨33, _⟩ => ⟨S_, .f32⟩
  | .hbm, ⟨34, _⟩ => ⟨S8x8208x1, .f32⟩
  | .hbm, ⟨35, _⟩ => ⟨S8x8208x1, .f32⟩
  | .hbm, ⟨36, _⟩ => ⟨S_, .f32⟩
  | .hbm, ⟨37, _⟩ => ⟨S8x8208x1, .f32⟩
  | .hbm, ⟨38, _⟩ => ⟨S8x8208x1, .f32⟩
  | .hbm, ⟨39, _⟩ => ⟨S8x8208x1, .f32⟩
  | .hbm, ⟨40, _⟩ => ⟨S8x8208x1024, .f32⟩
  | .hbm, ⟨41, _⟩ => ⟨S8x8208x1024, .f32⟩
  | .hbm, ⟨42, _⟩ => ⟨S1x1x1024, .f32⟩
  | .hbm, ⟨43, _⟩ => ⟨S8x8208x1024, .f32⟩
  | .hbm, ⟨44, _⟩ => ⟨S8x8208x1024, .f32⟩
  | .hbm, ⟨45, _⟩ => ⟨S8x8208x5632, .f32⟩
  | .hbm, ⟨46, _⟩ => ⟨S8x8208x2816, .f32⟩
  | .hbm, ⟨47, _⟩ => ⟨S8x8208x2816, .f32⟩
  | .hbm, ⟨48, _⟩ => ⟨S8x8208x2816, .f32⟩
  | .hbm, ⟨49, _⟩ => ⟨S_, .f32⟩
  | .hbm, ⟨50, _⟩ => ⟨S8x8208x2816, .f32⟩
  | .hbm, ⟨51, _⟩ => ⟨S8x8208x2816, .f32⟩
  | .hbm, ⟨52, _⟩ => ⟨S_, .f32⟩
  | .hbm, ⟨53, _⟩ => ⟨S8x8208x2816, .f32⟩
  | .hbm, ⟨54, _⟩ => ⟨S8x8208x2816, .f32⟩
  | .hbm, ⟨55, _⟩ => ⟨S8x8208x2816, .f32⟩
  | .hbm, ⟨56, _⟩ => ⟨S8x8208x2816, .f32⟩
  | .hbm, ⟨57, _⟩ => ⟨S8x8208x2816, .f32⟩
  | .hbm, ⟨58, _⟩ => ⟨S8x8208x1024, .f32⟩
  | .hbm, ⟨59, _⟩ => ⟨S1x1024, .f32⟩
  | .hbm, ⟨60, _⟩ => ⟨S1024, .f32⟩
  | .hbm, ⟨61, _⟩ => ⟨S8x8208x1024, .f32⟩
  | .hbm, ⟨62, _⟩ => ⟨S_, .f32⟩
  | .hbm, ⟨63, _⟩ => ⟨S8x8208, .f32⟩
  | .hbm, ⟨64, _⟩ => ⟨S8x8208x1, .f32⟩
  | .hbm, ⟨65, _⟩ => ⟨S_, .f32⟩
  | .hbm, ⟨66, _⟩ => ⟨S8x8208x1, .f32⟩
  | .hbm, ⟨67, _⟩ => ⟨S8x8208x1, .f32⟩
  | .hbm, ⟨68, _⟩ => ⟨S_, .f32⟩
  | .hbm, ⟨69, _⟩ => ⟨S8x8208x1, .f32⟩
  | .hbm, ⟨70, _⟩ => ⟨S8x8208x1, .f32⟩
  | .hbm, ⟨71, _⟩ => ⟨S8x8208x1, .f32⟩
  | .hbm, ⟨72, _⟩ => ⟨S8x8208x1024, .f32⟩
  | .hbm, ⟨73, _⟩ => ⟨S8x8208x1024, .f32⟩
  | .hbm, ⟨74, _⟩ => ⟨S1x1x1024, .f32⟩
  | .hbm, ⟨75, _⟩ => ⟨S8x8208x1024, .f32⟩
  | .hbm, ⟨76, _⟩ => ⟨S8x8208x1024, .f32⟩
  | .hbm, ⟨77, _⟩ => ⟨S8x8208x1024, .f32⟩
  | _, _ => ⟨S8x8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== FfnEven.lean ====
abbrev S8x8208x1024 : Shape := ⟨3, ![8, 8208, 1024]⟩
abbrev S4x1024 : Shape := ⟨2, ![4, 1024]⟩
abbrev S1024x5632 : Shape := ⟨2, ![1024, 5632]⟩
abbrev S2816x1024 : Shape := ⟨2, ![2816, 1024]⟩
abbrev S4x1x1024 : Shape := ⟨3, ![4, 1, 1024]⟩
abbrev S1x1x1024 : Shape := ⟨3, ![1, 1, 1024]⟩
abbrev S1x1024 : Shape := ⟨2, ![1, 1024]⟩
abbrev S1x912x1024 : Shape := ⟨3, ![1, 912, 1024]⟩
abbrev S912x1024 : Shape := ⟨2, ![912, 1024]⟩
abbrev S912 : Shape := ⟨1, ![912]⟩
abbrev S912x1 : Shape := ⟨2, ![912, 1]⟩
abbrev S1024x1536 : Shape := ⟨2, ![1024, 1536]⟩
abbrev S912x1536 : Shape := ⟨2, ![912, 1536]⟩
abbrev S1536x1024 : Shape := ⟨2, ![1536, 1024]⟩
abbrev S1024x1280 : Shape := ⟨2, ![1024, 1280]⟩
abbrev S912x1280 : Shape := ⟨2, ![912, 1280]⟩
abbrev S1280x1024 : Shape := ⟨2, ![1280, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x8208x1024, .f32⟩
  | .hbm, ⟨1, _⟩ => ⟨S4x1024, .f32⟩
  | .hbm, ⟨2, _⟩ => ⟨S1024x5632, .f32⟩
  | .hbm, ⟨3, _⟩ => ⟨S2816x1024, .f32⟩
  | .hbm, ⟨4, _⟩ => ⟨S4x1x1024, .f32⟩
  | .hbm, ⟨5, _⟩ => ⟨S1x1x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1x1024, .f32⟩
  | .hbm, ⟨10, _⟩ => ⟨S1x1024, .f32⟩
  | .hbm, ⟨11, _⟩ => ⟨S8x8208x1024, .f32⟩
  | .local _ .vmem, ⟨0, _⟩ => ⟨S1x912x1024, .f32⟩
  | .local _ .vmem, ⟨1, _⟩ => ⟨S1x912x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x912x1024, .f32⟩
  | .local _ .vmem, ⟨7, _⟩ => ⟨S1x912x1024, .f32⟩
  | _, _ => ⟨S8x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x912x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x912x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnEvenRefIdeal.lean ====
abbrev S8x8208x1024 : Shape := ⟨3, ![8, 8208, 1024]⟩
abbrev S4x1024 : Shape := ⟨2, ![4, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S8x8208 : Shape := ⟨2, ![8, 8208]⟩
abbrev S8x8208x1 : Shape := ⟨3, ![8, 8208, 1]⟩
abbrev S1x1x1024 : Shape := ⟨3, ![1, 1, 1024]⟩
abbrev S8x8208x5632 : Shape := ⟨3, ![8, 8208, 5632]⟩
abbrev S8x8208x2816 : Shape := ⟨3, ![8, 8208, 2816]⟩

abbrev nBuf : Space → Nat
  | .hbm => 55
  | .vmem => 0
  | .smem => 0
  | _ => 0

abbrev bufTy : (tb : Table) → Fin (tcTables nBuf tb) → BufTy
  | .hbm, ⟨0, _⟩ => ⟨S8x8208x1024, .f32⟩
  | .hbm, ⟨1, _⟩ => ⟨S4x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024, .f32⟩
  | .hbm, ⟨6, _⟩ => ⟨S8x8208x1024, .f32⟩
  | .hbm, ⟨7, _⟩ => ⟨S_, .f32⟩
  | .hbm, ⟨8, _⟩ => ⟨S8x8208, .f32⟩
  | .hbm, ⟨9, _⟩ => ⟨S8x8208x1, .f32⟩
  | .hbm, ⟨10, _⟩ => ⟨S_, .f32⟩
  | .hbm, ⟨11, _⟩ => ⟨S8x8208x1, .f32⟩
  | .hbm, ⟨12, _⟩ => ⟨S8x8208x1, .f32⟩
  | .hbm, ⟨13, _⟩ => ⟨S_, .f32⟩
  | .hbm, ⟨14, _⟩ => ⟨S8x8208x1, .f32⟩
  | .hbm, ⟨15, _⟩ => ⟨S8x8208x1, .f32⟩
  | .hbm, ⟨16, _⟩ => ⟨S8x8208x1, .f32⟩
  | .hbm, ⟨17, _⟩ => ⟨S8x8208x1024, .f32⟩
  | .hbm, ⟨18, _⟩ => ⟨S8x8208x1024, .f32⟩
  | .hbm, ⟨19, _⟩ => ⟨S1x1x1024, .f32⟩
  | .hbm, ⟨20, _⟩ => ⟨S8x8208x1024, .f32⟩
  | .hbm, ⟨21, _⟩ => ⟨S8x8208x1024, .f32⟩
  | .hbm, ⟨22, _⟩ => ⟨S8x8208x5632, .f32⟩
  | .hbm, ⟨23, _⟩ => ⟨S8x8208x2816, .f32⟩
  | .hbm, ⟨24, _⟩ => ⟨S8x8208x2816, .f32⟩
  | .hbm, ⟨25, _⟩ => ⟨S8x8208x2816, .f32⟩
  | .hbm, ⟨26, _⟩ => ⟨S_, .f32⟩
  | .hbm, ⟨27, _⟩ => ⟨S8x8208x2816, .f32⟩
  | .hbm, ⟨28, _⟩ => ⟨S8x8208x2816, .f32⟩
  | .hbm, ⟨29, _⟩ => ⟨S_, .f32⟩
  | .hbm, ⟨30, _⟩ => ⟨S8x8208x2816, .f32⟩
  | .hbm, ⟨31, _⟩ => ⟨S8x8208x2816, .f32⟩
  | .hbm, ⟨32, _⟩ => ⟨S8x8208x2816, .f32⟩
  | .hbm, ⟨33, _⟩ => ⟨S8x8208x2816, .f32⟩
  | .hbm, ⟨34, _⟩ => ⟨S8x8208x2816, .f32⟩
  | .hbm, ⟨35, _⟩ => ⟨S8x8208x1024, .f32⟩
  | .hbm, ⟨36, _⟩ => ⟨S1x1024, .f32⟩
  | .hbm, ⟨37, _⟩ => ⟨S1024, .f32⟩
  | .hbm, ⟨38, _⟩ => ⟨S8x8208x1024, .f32⟩
  | .hbm, ⟨39, _⟩ => ⟨S_, .f32⟩
  | .hbm, ⟨40, _⟩ => ⟨S8x8208, .f32⟩
  | .hbm, ⟨41, _⟩ => ⟨S8x8208x1, .f32⟩
  | .hbm, ⟨42, _⟩ => ⟨S_, .f32⟩
  | .hbm, ⟨43, _⟩ => ⟨S8x8208x1, .f32⟩
  | .hbm, ⟨44, _⟩ => ⟨S8x8208x1, .f32⟩
  | .hbm, ⟨45, _⟩ => ⟨S_, .f32⟩
  | .hbm, ⟨46, _⟩ => ⟨S8x8208x1, .f32⟩
  | .hbm, ⟨47, _⟩ => ⟨S8x8208x1, .f32⟩
  | .hbm, ⟨48, _⟩ => ⟨S8x8208x1, .f32⟩
  | .hbm, ⟨49, _⟩ => ⟨S8x8208x1024, .f32⟩
  | .hbm, ⟨50, _⟩ => ⟨S8x8208x1024, .f32⟩
  | .hbm, ⟨51, _⟩ => ⟨S1x1x1024, .f32⟩
  | .hbm, ⟨52, _⟩ => ⟨S8x8208x1024, .f32⟩
  | .hbm, ⟨53, _⟩ => ⟨S8x8208x1024, .f32⟩
  | .hbm, ⟨54, _⟩ => ⟨S8x8208x1024, .f32⟩
  | _, _ => ⟨S8x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== LruFirst.lean ====
abbrev S8x8192x1024 : Shape := ⟨3, ![8, 8192, 1024]⟩
abbrev S16x1024 : Shape := ⟨2, ![16, 1024]⟩
abbrev S4x1024 : Shape := ⟨2, ![4, 1024]⟩
abbrev S1024x2048 : Shape := ⟨2, ![1024, 2048]⟩
abbrev S4x1x1024 : Shape := ⟨3, ![4, 1, 1024]⟩
abbrev S1x1x1024 : Shape := ⟨3, ![1, 1, 1024]⟩
abbrev S1x1024 : Shape := ⟨2, ![1, 1024]⟩
abbrev S65536x1024 : Shape := ⟨2, ![65536, 1024]⟩
abbrev S8x8208x1024 : Shape := ⟨3, ![8, 8208, 1024]⟩
abbrev S912x1024 : Shape := ⟨2, ![912, 1024]⟩
abbrev S1x912x1024 : Shape := ⟨3, ![1, 912, 1024]⟩
abbrev S896x1024 : Shape := ⟨2, ![896, 1024]⟩
abbrev S912 : Shape := ⟨1, ![912]⟩
abbrev S912x1 : Shape := ⟨2, ![912, 1]⟩
abbrev S1024x1024 : Shape := ⟨2, ![1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S16x1024, .f32⟩
  | .hbm, ⟨2, _⟩ => ⟨S4x1024, .f32⟩
  | .hbm, ⟨3, _⟩ => ⟨S1024x2048, .f32⟩
  | .hbm, ⟨4, _⟩ => ⟨S4x1x1024, .f32⟩
  | .hbm, ⟨5, _⟩ => ⟨S1x1x1024, .f32⟩
  | .hbm, ⟨6, _⟩ => ⟨S1x1024, .f32⟩
  | .hbm, ⟨7, _⟩ => ⟨S1024x2048, .bf16⟩
  | .hbm, ⟨8, _⟩ => ⟨S65536x1024, .f32⟩
  | .hbm, ⟨9, _⟩ => ⟨S8x8208x1024, .bf16⟩
  | .hbm, ⟨10, _⟩ => ⟨S8x8208x1024, .bf16⟩
  | .local _ .vmem, ⟨0, _⟩ => ⟨S912x1024, .f32⟩
  | .local _ .vmem, ⟨1, _⟩ => ⟨S912x1024, .f32⟩
  | .local _ .vmem, ⟨2, _⟩ => ⟨S16x1024, .f32⟩
  | .local _ .vmem, ⟨3, _⟩ => ⟨S1x1024, .f32⟩
  | .local _ .vmem, ⟨4, _⟩ => ⟨S1024x2048, .bf16⟩
  | .local _ .vmem, ⟨5, _⟩ => ⟨S1x912x1024, .bf16⟩
  | .local _ .vmem, ⟨6, _⟩ => ⟨S1x912x1024, .bf16⟩
  | .local _ .vmem, ⟨7, _⟩ => ⟨S1x912x1024, .bf16⟩
  | .local _ .vmem, ⟨8, _⟩ => ⟨S1x912x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 9], ![false, false]⟩

def k0_mult1 (i : grid0.Coords) : BitVec 32 :=
  let arg0 : BitVec 32 := BitVec.ofNat 32 (i 0).val
  let c8192_i32 : BitVec 32 := 8192#32
  let v0 : BitVec 32 := Scalar.muli arg0 c8192_i32
  let arg1 : BitVec 32 := BitVec.ofNat 32 (i 1).val
  let c912_i32 : BitVec 32 := 912#32
  let v1 : BitVec 32 := Scalar.muli arg1 c912_i32
  let c16_i32 : BitVec 32 := 16#32
  let v2 : BitVec 32 := Scalar.subi v1 c16_i32
  let c0_i32 : BitVec 32 := 0#32
  let v3 : BitVec 32 := Scalar.maxsi v2 c0_i32
  let v4 : BitVec 32 := Scalar.addi v0 v3
  v4
def cc0_transform_0 (i : grid0.Coords) : Fin 2 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let c912_i32 : BitVec 32 := 912#32
  let v1 : BitVec 32 := Scalar.muli arg1 c912_i32
  let c16_i32 : BitVec 32 := 16#32
  let v2 : BitVec 32 := Scalar.subi v1 c16_i32
  let c0_i32 : BitVec 32 := 0#32
  let v3 : BitVec 32 := Scalar.maxsi v2 c0_i32
  let v4 : BitVec 32 := Scalar.addi v0 v3
  let v5 : BitVec 32 := v4
  let c0_i32_0 : BitVec 32 := 0#32
  let c0_i32_1 : BitVec 32 := 0#32
  ![v5.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S912x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x912x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x912x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LruFirstRefIdeal.lean ====
abbrev S8x8192x1024 : Shape := ⟨3, ![8, 8192, 1024]⟩
abbrev S16x1024 : Shape := ⟨2, ![16, 1024]⟩
abbrev S4x1024 : Shape := ⟨2, ![4, 1024]⟩
abbrev S1024x2048 : Shape := ⟨2, ![1024, 2048]⟩
abbrev S1x16x1024 : Shape := ⟨3, ![1, 16, 1024]⟩
abbrev S8x16x1024 : Shape := ⟨3, ![8, 16, 1024]⟩
abbrev S8x8208x1024 : Shape := ⟨3, ![8, 8208, 1024]⟩
abbrev S1x1024 : Shape := ⟨2, ![1, 1024]⟩
abbrev S1024 : Shape := ⟨1, ![1024]⟩
abbrev S_ : Shape := ⟨0, ![]⟩
abbrev S8x8208 : Shape := ⟨2, ![8, 8208]⟩
abbrev S8x8208x1 : Shape := ⟨3, ![8, 8208, 1]⟩
abbrev S1x1x1024 : Shape := ⟨3, ![1, 1, 1024]⟩
abbrev S8x8208x2048 : Shape := ⟨3, ![8, 8208, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S16x1024, .f32⟩
  | .hbm, ⟨2, _⟩ => ⟨S4x1024, .f32⟩
  | .hbm, ⟨3, _⟩ => ⟨S1024x2048, .f32⟩
  | .hbm, ⟨4, _⟩ => ⟨S1x16x1024, .f32⟩
  | .hbm, ⟨5, _⟩ => ⟨S8x16x1024, .f32⟩
  | .hbm, ⟨6, _⟩ => ⟨S8x8208x1024, .f32⟩
  | .hbm, ⟨7, _⟩ => ⟨S1x1024, .f32⟩
  | .hbm, ⟨8, _⟩ => ⟨S1024, .f32⟩
  | .hbm, ⟨9, _⟩ => ⟨S8x8208x1024, .f32⟩
  | .hbm, ⟨10, _⟩ => ⟨S_, .f32⟩
  | .hbm, ⟨11, _⟩ => ⟨S8x8208, .f32⟩
  | .hbm, ⟨12, _⟩ => ⟨S8x8208x1, .f32⟩
  | .hbm, ⟨13, _⟩ => ⟨S_, .f32⟩
  | .hbm, ⟨14, _⟩ => ⟨S8x8208x1, .f32⟩
  | .hbm, ⟨15, _⟩ => ⟨S8x8208x1, .f32⟩
  | .hbm, ⟨16, _⟩ => ⟨S_, .f32⟩
  | .hbm, ⟨17, _⟩ => ⟨S8x8208x1, .f32⟩
  | .hbm, ⟨18, _⟩ => ⟨S8x8208x1, .f32⟩
  | .hbm, ⟨19, _⟩ => ⟨S8x8208x1, .f32⟩
  | .hbm, ⟨20, _⟩ => ⟨S8x8208x1024, .f32⟩
  | .hbm, ⟨21, _⟩ => ⟨S8x8208x1024, .f32⟩
  | .hbm, ⟨22, _⟩ => ⟨S1x1x1024, .f32⟩
  | .hbm, ⟨23, _⟩ => ⟨S8x8208x1024, .f32⟩
  | .hbm, ⟨24, _⟩ => ⟨S8x8208x1024, .f32⟩
  | .hbm, ⟨25, _⟩ => ⟨S8x8208x2048, .f32⟩
  | .hbm, ⟨26, _⟩ => ⟨S8x8208x1024, .f32⟩
  | .hbm, ⟨27, _⟩ => ⟨S8x8208x1024, .f32⟩
  | .hbm, ⟨28, _⟩ => ⟨S8x8208x1024, .f32⟩
  | .hbm, ⟨29, _⟩ => ⟨S_, .f32⟩
  | .hbm, ⟨30, _⟩ => ⟨S8x8208x1024, .f32⟩
  | .hbm, ⟨31, _⟩ => ⟨S8x8208x1024, .f32⟩
  | .hbm, ⟨32, _⟩ => ⟨S8x8208x1024, .f32⟩
  | .hbm, ⟨33, _⟩ => ⟨S_, .f32⟩
  | .hbm, ⟨34, _⟩ => ⟨S8x8208x1024, .f32⟩
  | .hbm, ⟨35, _⟩ => ⟨S8x8208x1024, .f32⟩
  | .hbm, ⟨36, _⟩ => ⟨S8x8208x1024, .f32⟩
  | .hbm, ⟨37, _⟩ => ⟨S_, .f32⟩
  | .hbm, ⟨38, _⟩ => ⟨S8x8208x1024, .f32⟩
  | .hbm, ⟨39, _⟩ => ⟨S8x8208x1024, .f32⟩
  | .hbm, ⟨40, _⟩ => ⟨S_, .f32⟩
  | .hbm, ⟨41, _⟩ => ⟨S8x8208x1024, .f32⟩
  | .hbm, ⟨42, _⟩ => ⟨S8x8208x1024, .f32⟩
  | .hbm, ⟨43, _⟩ => ⟨S8x8208x1024, .f32⟩
  | .hbm, ⟨44, _⟩ => ⟨S8x8208x1024, .bf16⟩
  | .hbm, ⟨45, _⟩ => ⟨S8x8208x1024, .f32⟩
  | .hbm, ⟨46, _⟩ => ⟨S8x8208x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== LruLater.lean ====
abbrev S8x8208x1024 : Shape := ⟨3, ![8, 8208, 1024]⟩
abbrev S4x1024 : Shape := ⟨2, ![4, 1024]⟩
abbrev S1024x2048 : Shape := ⟨2, ![1024, 2048]⟩
abbrev S4x1x1024 : Shape := ⟨3, ![4, 1, 1024]⟩
abbrev S1x1x1024 : Shape := ⟨3, ![1, 1, 1024]⟩
abbrev S1x1024 : Shape := ⟨2, ![1, 1024]⟩
abbrev S1x912x1024 : Shape := ⟨3, ![1, 912, 1024]⟩
abbrev S912x1024 : Shape := ⟨2, ![912, 1024]⟩
abbrev S912 : Shape := ⟨1, ![912]⟩
abbrev S912x1 : Shape := ⟨2, ![912, 1]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x8208x1024, .f32⟩
  | .hbm, ⟨1, _⟩ => ⟨S4x1024, .f32⟩
  | .hbm, ⟨2, _⟩ => ⟨S1024x2048, .f32⟩
  | .hbm, ⟨3, _⟩ => ⟨S4x1x1024, .f32⟩
  | .hbm, ⟨4, _⟩ => ⟨S1x1x1024, .f32⟩
  | .hbm, ⟨5, _⟩ => ⟨S1x1024, .f32⟩
  | .hbm, ⟨6, _⟩ => ⟨S1024x2048, .bf16⟩
  | .hbm, ⟨7, _⟩ => ⟨S8x8208x1024, .bf16⟩
  | .hbm, ⟨8, _⟩ => ⟨S8x8208x1024, .bf16⟩
  | .local _ .vmem, ⟨0, _⟩ => ⟨S1x912x1024, .f32⟩
  | .local _ .vmem, ⟨1, _⟩ => ⟨S1x912x1024, .f32⟩
  | .local _ .vmem, ⟨2, _⟩ => ⟨S1x1024, .f32⟩
  | .local _ .vmem, ⟨3, _⟩ => ⟨S1024x2048, .bf16⟩
  | .local _ .vmem, ⟨4, _⟩ => ⟨S1x912x1024, .bf16⟩
  | .local _ .vmem, ⟨5, _⟩ => ⟨S1x912x1024, .bf16⟩
  | .local _ .vmem, ⟨6, _⟩ => ⟨S1x912x1024, .bf16⟩
  | .local _ .vmem, ⟨7, _⟩ => ⟨S1x912x1024, .bf16⟩
  | _, _ => ⟨S8x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x912x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x912x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x912x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LruLaterRefIdeal.lean ====
abbrev S8x8208x1024 : Shape := ⟨3, ![8, 8208, 1024]⟩
abbrev S4x1024 : Shape := ⟨2, ![4, 1024]⟩
abbrev S1024x2048 : Shape := ⟨2, ![1024, 2048]⟩
abbrev S1x1024 : Shape := ⟨2, ![1, 1024]⟩
abbrev S1024 : Shape := ⟨1, ![1024]⟩
abbrev S_ : Shape := ⟨0, ![]⟩
abbrev S8x8208 : Shape := ⟨2, ![8, 8208]⟩
abbrev S8x8208x1 : Shape := ⟨3, ![8, 8208, 1]⟩
abbrev S1x1x1024 : Shape := ⟨3, ![1, 1, 1024]⟩
abbrev S8x8208x2048 : Shape := ⟨3, ![8, 8208, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x8208x1024, .f32⟩
  | .hbm, ⟨1, _⟩ => ⟨S4x1024, .f32⟩
  | .hbm, ⟨2, _⟩ => ⟨S1024x2048, .f32⟩
  | .hbm, ⟨3, _⟩ => ⟨S1x1024, .f32⟩
  | .hbm, ⟨4, _⟩ => ⟨S1024, .f32⟩
  | .hbm, ⟨5, _⟩ => ⟨S8x8208x1024, .f32⟩
  | .hbm, ⟨6, _⟩ => ⟨S_, .f32⟩
  | .hbm, ⟨7, _⟩ => ⟨S8x8208, .f32⟩
  | .hbm, ⟨8, _⟩ => ⟨S8x8208x1, .f32⟩
  | .hbm, ⟨9, _⟩ => ⟨S_, .f32⟩
  | .hbm, ⟨10, _⟩ => ⟨S8x8208x1, .f32⟩
  | .hbm, ⟨11, _⟩ => ⟨S8x8208x1, .f32⟩
  | .hbm, ⟨12, _⟩ => ⟨S_, .f32⟩
  | .hbm, ⟨13, _⟩ => ⟨S8x8208x1, .f32⟩
  | .hbm, ⟨14, _⟩ => ⟨S8x8208x1, .f32⟩
  | .hbm, ⟨15, _⟩ => ⟨S8x8208x1, .f32⟩
  | .hbm, ⟨16, _⟩ => ⟨S8x8208x1024, .f32⟩
  | .hbm, ⟨17, _⟩ => ⟨S8x8208x1024, .f32⟩
  | .hbm, ⟨18, _⟩ => ⟨S1x1x1024, .f32⟩
  | .hbm, ⟨19, _⟩ => ⟨S8x8208x1024, .f32⟩
  | .hbm, ⟨20, _⟩ => ⟨S8x8208x1024, .f32⟩
  | .hbm, ⟨21, _⟩ => ⟨S8x8208x2048, .f32⟩
  | .hbm, ⟨22, _⟩ => ⟨S8x8208x1024, .f32⟩
  | .hbm, ⟨23, _⟩ => ⟨S8x8208x1024, .f32⟩
  | .hbm, ⟨24, _⟩ => ⟨S8x8208x1024, .f32⟩
  | .hbm, ⟨25, _⟩ => ⟨S_, .f32⟩
  | .hbm, ⟨26, _⟩ => ⟨S8x8208x1024, .f32⟩
  | .hbm, ⟨27, _⟩ => ⟨S8x8208x1024, .f32⟩
  | .hbm, ⟨28, _⟩ => ⟨S8x8208x1024, .f32⟩
  | .hbm, ⟨29, _⟩ => ⟨S_, .f32⟩
  | .hbm, ⟨30, _⟩ => ⟨S8x8208x1024, .f32⟩
  | .hbm, ⟨31, _⟩ => ⟨S8x8208x1024, .f32⟩
  | .hbm, ⟨32, _⟩ => ⟨S8x8208x1024, .f32⟩
  | .hbm, ⟨33, _⟩ => ⟨S_, .f32⟩
  | .hbm, ⟨34, _⟩ => ⟨S8x8208x1024, .f32⟩
  | .hbm, ⟨35, _⟩ => ⟨S8x8208x1024, .f32⟩
  | .hbm, ⟨36, _⟩ => ⟨S_, .f32⟩
  | .hbm, ⟨37, _⟩ => ⟨S8x8208x1024, .f32⟩
  | .hbm, ⟨38, _⟩ => ⟨S8x8208x1024, .f32⟩
  | .hbm, ⟨39, _⟩ => ⟨S8x8208x1024, .f32⟩
  | .hbm, ⟨40, _⟩ => ⟨S8x8208x1024, .bf16⟩
  | .hbm, ⟨41, _⟩ => ⟨S8x8208x1024, .f32⟩
  | .hbm, ⟨42, _⟩ => ⟨S8x8208x1024, .bf16⟩
  | _, _ => ⟨S8x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== MixerOnline.lean ====
abbrev S8x8208x1024 : Shape := ⟨3, ![8, 8208, 1024]⟩
abbrev S4x1024 : Shape := ⟨2, ![4, 1024]⟩
abbrev S1024x1536 : Shape := ⟨2, ![1024, 1536]⟩
abbrev S128 : Shape := ⟨1, ![128]⟩
abbrev S32 : Shape := ⟨1, ![32]⟩
abbrev S_ : Shape := ⟨0, ![]⟩
abbrev S128x1 : Shape := ⟨2, ![128, 1]⟩
abbrev S1x32 : Shape := ⟨2, ![1, 32]⟩
abbrev S128x32 : Shape := ⟨2, ![128, 32]⟩
abbrev S64 : Shape := ⟨1, ![64]⟩
abbrev S64x1 : Shape := ⟨2, ![64, 1]⟩
abbrev S64x32 : Shape := ⟨2, ![64, 32]⟩
abbrev S128x1x32 : Shape := ⟨3, ![128, 1, 32]⟩
abbrev S128x64x32 : Shape := ⟨3, ![128, 64, 32]⟩
abbrev S8192x32 : Shape := ⟨2, ![8192, 32]⟩
abbrev S1x64x32 : Shape := ⟨3, ![1, 64, 32]⟩
abbrev S8192x128 : Shape := ⟨2, ![8192, 128]⟩
abbrev S16x128 : Shape := ⟨2, ![16, 128]⟩
abbrev S8208x128 : Shape := ⟨2, ![8208, 128]⟩
abbrev S1x128 : Shape := ⟨2, ![1, 128]⟩
abbrev S4x1x1024 : Shape := ⟨3, ![4, 1, 1024]⟩
abbrev S1x1x1024 : Shape := ⟨3, ![1, 1, 1024]⟩
abbrev S1x1024 : Shape := ⟨2, ![1, 1024]⟩
abbrev S1280 : Shape := ⟨1, ![1280]⟩
abbrev S10x128 : Shape := ⟨2, ![10, 128]⟩
abbrev S10x1 : Shape := ⟨2, ![10, 1]⟩
abbrev S1280x1 : Shape := ⟨2, ![1280, 1]⟩
abbrev S1024x1280 : Shape := ⟨2, ![1024, 1280]⟩
abbrev S1024x256 : Shape := ⟨2, ![1024, 256]⟩
abbrev S8x8208x256 : Shape := ⟨3, ![8, 8208, 256]⟩
abbrev S1x912x1024 : Shape := ⟨3, ![1, 912, 1024]⟩
abbrev S912x128 : Shape := ⟨2, ![912, 128]⟩
abbrev S1x912x256 : Shape := ⟨3, ![1, 912, 256]⟩
abbrev S1x304x1024 : Shape := ⟨3, ![1, 304, 1024]⟩
abbrev S304x1024 : Shape := ⟨2, ![304, 1024]⟩
abbrev S304 : Shape := ⟨1, ![304]⟩
abbrev S304x1 : Shape := ⟨2, ![304, 1]⟩
abbrev S304x128 : Shape := ⟨2, ![304, 128]⟩
abbrev S1024x1024 : Shape := ⟨2, ![1024, 1024]⟩
abbrev S1x304x128 : Shape := ⟨3, ![1, 304, 128]⟩
abbrev S1024x512 : Shape := ⟨2, ![1024, 512]⟩
abbrev S304x512 : Shape := ⟨2, ![304, 512]⟩
abbrev S304x256 : Shape := ⟨2, ![304, 256]⟩
abbrev S1x304x256 : Shape := ⟨3, ![1, 304, 256]⟩
abbrev S1x912x512 : Shape := ⟨3, ![1, 912, 512]⟩
abbrev S1x8208x128 : Shape := ⟨3, ![1, 8208, 128]⟩
abbrev S1x912x128 : Shape := ⟨3, ![1, 912, 128]⟩
abbrev S912x1 : Shape := ⟨2, ![912, 1]⟩
abbrev S1x16x128 : Shape := ⟨3, ![1, 16, 128]⟩
abbrev S912x16 : Shape := ⟨2, ![912, 16]⟩
abbrev S912 : Shape := ⟨1, ![912]⟩
abbrev S1x1024x128 : Shape := ⟨3, ![1, 1024, 128]⟩
abbrev S1024x128 : Shape := ⟨2, ![1024, 128]⟩
abbrev S912x1024 : Shape := ⟨2, ![912, 1024]⟩

abbrev nBuf : Space → Nat
  | .hbm => 127
  | .vmem => 24
  | .smem => 0
  | _ => 0

abbrev bufTy : (tb : Table) → Fin (tcTables nBuf tb) → BufTy
  | .hbm, ⟨0, _⟩ => ⟨S8x8208x1024, .f32⟩
  | .hbm, ⟨1, _⟩ => ⟨S4x1024, .f32⟩
  | .hbm, ⟨2, _⟩ => ⟨S1024x1536, .f32⟩
  | .hbm, ⟨3, _⟩ => ⟨S128, .f32⟩
  | .hbm, ⟨4, _⟩ => ⟨S128, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S128, .f32⟩
  | .hbm, ⟨20, _⟩ => ⟨S128x1, .f32⟩
  | .hbm, ⟨21, _⟩ => ⟨S1x32, .f32⟩
  | .hbm, ⟨22, _⟩ => ⟨S128x32, .f32⟩
  | .hbm, ⟨23, _⟩ => ⟨S128x32, .f32⟩
  | .hbm, ⟨24, _⟩ => ⟨S128x32, .f32⟩
  | .hbm, ⟨25, _⟩ => ⟨S64, .f32⟩
  | .hbm, ⟨26, _⟩ => ⟨S64x1, .f32⟩
  | .hbm, ⟨27, _⟩ => ⟨S1x32, .f32⟩
  | .hbm, ⟨28, _⟩ => ⟨S64x32, .f32⟩
  | .hbm, ⟨29, _⟩ => ⟨S64x32, .f32⟩
  | .hbm, ⟨30, _⟩ => ⟨S64x32, .f32⟩
  | .hbm, ⟨31, _⟩ => ⟨S128x1x32, .f32⟩
  | .hbm, ⟨32, _⟩ => ⟨S128x64x32, .f32⟩
  | .hbm, ⟨33, _⟩ => ⟨S8192x32, .f32⟩
  | .hbm, ⟨34, _⟩ => ⟨S1x64x32, .f32⟩
  | .hbm, ⟨35, _⟩ => ⟨S128x64x32, .f32⟩
  | .hbm, ⟨36, _⟩ => ⟨S8192x32, .f32⟩
  | .hbm, ⟨37, _⟩ => ⟨S8192x128, .f32⟩
  | .hbm, ⟨38, _⟩ => ⟨S_, .f32⟩
  | .hbm, ⟨39, _⟩ => ⟨S16x128, .f32⟩
  | .hbm, ⟨40, _⟩ => ⟨S8208x128, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S128, .f32⟩
  | .hbm, ⟨47, _⟩ => ⟨S8208x128, .f32⟩
  | .hbm, ⟨48, _⟩ => ⟨S8208x128, .f32⟩
  | .hbm, ⟨49, _⟩ => ⟨S1x128, .f32⟩
  | .hbm, ⟨50, _⟩ => ⟨S8208x128, .f32⟩
  | .hbm, ⟨51, _⟩ => ⟨S8208x128, .f32⟩
  | .hbm, ⟨52, _⟩ => ⟨S4x1x1024, .f32⟩
  | .hbm, ⟨53, _⟩ => ⟨S32, .i32⟩
  | .hbm, ⟨54, _⟩ => ⟨S32, .i32⟩
  | .hbm, ⟨55, _⟩ => ⟨S_, .i32⟩
  | .hbm, ⟨56, _⟩ => ⟨S32, .i32⟩
  | .hbm, ⟨57, _⟩ => ⟨S32, .i32⟩
  | .hbm, ⟨58, _⟩ => ⟨S32, .i32⟩
  | .hbm, ⟨59, _⟩ => ⟨S_, .i32⟩
  | .hbm, ⟨60, _⟩ => ⟨S32, .i32⟩
  | .hbm, ⟨61, _⟩ => ⟨S32, .i32⟩
  | .hbm, ⟨62, _⟩ => ⟨S32, .i32⟩
  | .hbm, ⟨63, _⟩ => ⟨S_, .i32⟩
  | .hbm, ⟨64, _⟩ => ⟨S32, .i32⟩
  | .hbm, ⟨65, _⟩ => ⟨S32, .i32⟩
  | .hbm, ⟨66, _⟩ => ⟨S128, .i32⟩
  | .hbm, ⟨67, _⟩ => ⟨S1x1x1024, .f32⟩
  | .hbm, ⟨68, _⟩ => ⟨S1x1024, .f32⟩
  | .hbm, ⟨69, _⟩ => ⟨S32, .i32⟩
  | .hbm, ⟨70, _⟩ => ⟨S32, .i32⟩
  | .hbm, ⟨71, _⟩ => ⟨S_, .i32⟩
  | .hbm, ⟨72, _⟩ => ⟨S32, .i32⟩
  | .hbm, ⟨73, _⟩ => ⟨S32, .i32⟩
  | .hbm, ⟨74, _⟩ => ⟨S32, .i32⟩
  | .hbm, ⟨75, _⟩ => ⟨S_, .i32⟩
  | .hbm, ⟨76, _⟩ => ⟨S32, .i32⟩
  | .hbm, ⟨77, _⟩ => ⟨S32, .i32⟩
  | .hbm, ⟨78, _⟩ => ⟨S32, .i32⟩
  | .hbm, ⟨79, _⟩ => ⟨S_, .i32⟩
  | .hbm, ⟨80, _⟩ => ⟨S32, .i32⟩
  | .hbm, ⟨81, _⟩ => ⟨S32, .i32⟩
  | .hbm, ⟨82, _⟩ => ⟨S128, .i32⟩
  | .hbm, ⟨83, _⟩ => ⟨S1280, .i32⟩
  | .hbm, ⟨84, _⟩ => ⟨S10x128, .i32⟩
  | .hbm, ⟨85, _⟩ => ⟨S10x1, .i32⟩
  | .hbm, ⟨86, _⟩ => ⟨S1x128, .i32⟩
  | .hbm, ⟨87, _⟩ => ⟨S10x128, .i32⟩
  | .hbm, ⟨88, _⟩ => ⟨S10x128, .i32⟩
  | .hbm, ⟨89, _⟩ => ⟨S10x128, .i32⟩
  | .hbm, ⟨90, _⟩ => ⟨S1280, .i32⟩
  | .hbm, ⟨91, _⟩ => ⟨S_, .i32⟩
  | .hbm, ⟨92, _⟩ => ⟨S1280, .i32⟩
  | .hbm, ⟨93, _⟩ => ⟨S1280, .i1⟩
  | .hbm, ⟨94, _⟩ => ⟨S_, .i32⟩
  | .hbm, ⟨95, _⟩ => ⟨S1280, .i32⟩
  | .hbm, ⟨96, _⟩ => ⟨S1280, .i32⟩
  | .hbm, ⟨97, _⟩ => ⟨S1280, .i32⟩
  | .hbm, ⟨98, _⟩ => ⟨S1280x1, .i32⟩
  | .hbm, ⟨99, _⟩ => ⟨S1024x1280, .f32⟩
  | .hbm, ⟨100, _⟩ => ⟨S1024x256, .f32⟩
  | .hbm, ⟨101, _⟩ => ⟨S1024x1536, .f32⟩
  | .hbm, ⟨102, _⟩ => ⟨S1024x1536, .bf16⟩
  | .hbm, ⟨103, _⟩ => ⟨S_, .i32⟩
  | .hbm, ⟨104, _⟩ => ⟨S128, .i32⟩
  | .hbm, ⟨105, _⟩ => ⟨S128, .i1⟩
  | .hbm, ⟨106, _⟩ => ⟨S_, .i32⟩
  | .hbm, ⟨107, _⟩ => ⟨S128, .i32⟩
  | .hbm, ⟨108, _⟩ => ⟨S128, .i32⟩
  | .hbm, ⟨109, _⟩ => ⟨S128, .i32⟩
  | .hbm, ⟨110, _⟩ => ⟨S128x1, .i32⟩
  | .hbm, ⟨111, _⟩ => ⟨S128, .f32⟩
  | .hbm, ⟨112, _⟩ => ⟨S1x128, .f32⟩
  | .hbm, ⟨113, _⟩ => ⟨S_, .i32⟩
  | .hbm, ⟨114, _⟩ => ⟨S128, .i32⟩
  | .hbm, ⟨115, _⟩ => ⟨S128, .i1⟩
  | .hbm, ⟨116, _⟩ => ⟨S_, .i32⟩
  | .hbm, ⟨117, _⟩ => ⟨S128, .i32⟩
  | .hbm, ⟨118, _⟩ => ⟨S128, .i32⟩
  | .hbm, ⟨119, _⟩ => ⟨S128, .i32⟩
  | .hbm, ⟨120, _⟩ => ⟨S128x1, .i32⟩
  | .hbm, ⟨121, _⟩ => ⟨S128, .f32⟩
  | .hbm, ⟨122, _⟩ => ⟨S1x128, .f32⟩
  | .hbm, ⟨123, _⟩ => ⟨S8x8208x1024, .bf16⟩
  | .hbm, ⟨124, _⟩ => ⟨S8x8208x256, .bf16⟩
  | .hbm, ⟨125, _⟩ => ⟨S8x8208x256, .bf16⟩
  | .hbm, ⟨126, _⟩ => ⟨S8x8208x1024, .bf16⟩
  | .local _ .vmem, ⟨0, _⟩ => ⟨S1x912x1024, .f32⟩
  | .local _ .vmem, ⟨1, _⟩ => ⟨S1x912x1024, .f32⟩
  | .local _ .vmem, ⟨2, _⟩ => ⟨S1x1024, .f32⟩
  | .local _ .vmem, ⟨3, _⟩ => ⟨S1024x1536, .bf16⟩
  | .local _ .vmem, ⟨4, _⟩ => ⟨S1x128, .f32⟩
  | .local _ .vmem, ⟨5, _⟩ => ⟨S1x128, .f32⟩
  | .local _ .vmem, ⟨6, _⟩ => ⟨S912x128, .f32⟩
  | .local _ .vmem, ⟨7, _⟩ => ⟨S912x128, .f32⟩
  | .local _ .vmem, ⟨8, _⟩ => ⟨S912x128, .f32⟩
  | .local _ .vmem, ⟨9, _⟩ => ⟨S912x128, .f32⟩
  | .local _ .vmem, ⟨10, _⟩ => ⟨S1x912x1024, .bf16⟩
  | .local _ .vmem, ⟨11, _⟩ => ⟨S1x912x1024, .bf16⟩
  | .local _ .vmem, ⟨12, _⟩ => ⟨S1x912x256, .bf16⟩
  | .local _ .vmem, ⟨13, _⟩ => ⟨S1x912x256, .bf16⟩
  | .local _ .vmem, ⟨14, _⟩ => ⟨S1x912x256, .bf16⟩
  | .local _ .vmem, ⟨15, _⟩ => ⟨S1x912x256, .bf16⟩
  | .local _ .vmem, ⟨16, _⟩ => ⟨S1x912x512, .bf16⟩
  | .local _ .vmem, ⟨17, _⟩ => ⟨S1x912x512, .bf16⟩
  | .local _ .vmem, ⟨18, _⟩ => ⟨S1x8208x128, .bf16⟩
  | .local _ .vmem, ⟨19, _⟩ => ⟨S1x8208x128, .bf16⟩
  | .local _ .vmem, ⟨20, _⟩ => ⟨S1x8208x128, .bf16⟩
  | .local _ .vmem, ⟨21, _⟩ => ⟨S1x8208x128, .bf16⟩
  | .local _ .vmem, ⟨22, _⟩ => ⟨S1x912x512, .bf16⟩
  | .local _ .vmem, ⟨23, _⟩ => ⟨S1x912x512, .bf16⟩
  | _, _ => ⟨S8x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_10 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_11 : Ref sig .tc := ⟨.hbm, 91, rfl⟩
abbrev main_v73 : Ref sig .tc := ⟨.hbm, 92, rfl⟩
abbrev main_v74 : Ref sig .tc := ⟨.hbm, 93, rfl⟩
abbrev main_c_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_c_13 : Ref sig .tc := ⟨.hbm, 103, rfl⟩
abbrev main_v83 : Ref sig .tc := ⟨.hbm, 104, rfl⟩
abbrev main_v84 : Ref sig .tc := ⟨.hbm, 105, rfl⟩
abbrev main_c_14 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_15 : Ref sig .tc := ⟨.hbm, 113, rfl⟩
abbrev main_v91 : Ref sig .tc := ⟨.hbm, 114, rfl⟩
abbrev main_v92 : Ref sig .tc := ⟨.hbm, 115, rfl⟩
abbrev main_c_16 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99_0 : Ref sig .tc := ⟨.hbm, 123, rfl⟩
abbrev main_v99_1 : Ref sig .tc := ⟨.hbm, 124, rfl⟩
abbrev main_v99_2 : Ref sig .tc := ⟨.hbm, 125, rfl⟩
abbrev main_v100 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x912x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S912x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S912x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x912x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x912x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x912x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![8, 2, 9], ![false, false, false]⟩

@[reducible] def k1_t1_loop : Scf.Loop 32 :=
  let c0_i32 : BitVec 32 := 0#32
  let c8_i32 : BitVec 32 := 8#32
  let v96 : BitVec 32 := Scalar.addi c0_i32 c8_i32
  let c1_i32 : BitVec 32 := 1#32
  ⟨c0_i32, v96, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c1024_i32 : BitVec 32 := 1024#32
  let v130 : BitVec 32 := Scalar.muli arg7 c1024_i32
  v130
def k1_off1 (k1_t1 : Fin k1_t1_loop.trips) : Fin 3 → Nat :=
  let c0_57 : Index := 0#32
  let c0_i32 : BitVec 32 := 0#32
  let c1_i32 : BitVec 32 := 1#32
  let arg7 : BitVec 32 := Scf.iv c0_i32 c1_i32 k1_t1
  let c1024_i32 : BitVec 32 := 1024#32
  let v130 : BitVec 32 := Scalar.muli arg7 c1024_i32
  let v131 : BitVec 32 := v130
  let v132 : Index := Scalar.indexCast v131
  let c0_58 : Index := 0#32
  ![0, v132.toNat, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x912x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x8208x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x8208x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x912x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]
-- ==== MixerOnlineIdeal.lean ====
variable {F : FTy → Type} [FloatOps F] [Named F]
def κ : String → Option EReal := fun
  | "q_scale" => some (((Real.sqrt 128)⁻¹ * (Real.log 2)⁻¹ : ℝ) : EReal)
  | _ => none
-- ==== Proof.FfnSpec.lean ====
/- The feed-forward half of a layer, as a function of one token's row. -/
module

public import Idealize.ShloMosaic.Lib.IdealHost
public import Idealize.ShloMosaic.Lib.Pointwise
public import Idealize.ShloMosaic.Lib.Pipeline.ValueKit

@[expose] public section

set_option maxRecDepth 16384

noncomputable section

namespace Cert.Ffn

open Idealize.ShloMosaic

/-- RMS normalisation of a row of 1024 features, with a gain per feature. -/
def rms (x g : Fin 1024 → EReal) (j : Fin 1024) : EReal :=
  x j * Ideal.rsqrt (Ideal.div (∑ k, x k * x k) (Ideal.ofBits .f32 0x44800000#32)
    + Ideal.ofBits .f32 0x358637BD#32) * g j

/-- The residual row `h` plus the normalised output projection of the mixer's row `z`. -/
def mixed (z h : Fin 1024 → EReal) (w : Fin 1024 → Fin 1024 → EReal) (g : Fin 1024 → EReal) (j : Fin 1024) : EReal :=
  h j + rms (fun l => ∑ k, z k * w k l) g j

/-- The gated activation from a gate and an up value: `silu gate * up`. -/
def gated (gate up : EReal) : EReal :=
  gate * Ideal.div 1 (1 + Ideal.exp (-gate)) * up

/-- The up projection and its SwiGLU activation: the gate is the first half of the columns of `w`. -/
def swiglu (u : Fin 1024 → EReal) (w : Fin 1024 → Fin 5632 → EReal) (f : Fin 2816) : EReal :=
  gated (∑ k, u k * w k ⟨f.val, by have := f.isLt; omega⟩) (∑ k, u k * w k ⟨2816 + f.val, by have := f.isLt; omega⟩)

/-- The feed-forward block's contribution before its last normalisation. -/
def ffn (h g : Fin 1024 → EReal) (wIn : Fin 1024 → Fin 5632 → EReal) (wOut : Fin 2816 → Fin 1024 → EReal)
    (j : Fin 1024) : EReal :=
  ∑ f, swiglu (rms h g) wIn f * wOut f j

/-- One token's row after the mixer's projection and the feed-forward block, both with residual. -/
def layer (z h : Fin 1024 → EReal) (g : Fin 4 → Fin 1024 → EReal) (wMix : Fin 1024 → Fin 1024 → EReal)
    (wIn : Fin 1024 → Fin 5632 → EReal) (wOut : Fin 2816 → Fin 1024 → EReal) (j : Fin 1024) : EReal :=
  mixed z h wMix (g 1) j + rms (ffn (mixed z h wMix (g 1)) (g 2) wIn wOut) (g 3) j

/-- The result's value: the layer's row function at row `R`, which is token `16 + R % 8192` of batch `R / 8192`. -/
def result (o : FVec Ideal ⟨3, ![8, 8208, 1024]⟩ .bf16) (h : FVec Ideal ⟨3, ![8, 8208, 1024]⟩ .f32) (g : FVec Ideal ⟨2, ![4, 1024]⟩ .f32)
    (wMix : FVec Ideal ⟨2, ![1024, 1024]⟩ .f32) (wIn : FVec Ideal ⟨2, ![1024, 5632]⟩ .f32) (wOut : FVec Ideal ⟨2, ![2816, 1024]⟩ .f32)
    (R : Fin 65536) (j : Fin 1024) : EReal :=
  layer (fun k => o (ix3 ⟨R.val / 8192, by have := R.isLt; omega⟩ ⟨16 + R.val % 8192, by have := R.isLt; omega⟩ k))
    (fun k => h (ix3 ⟨R.val / 8192, by have := R.isLt; omega⟩ ⟨16 + R.val % 8192, by have := R.isLt; omega⟩ k))
    (fun a k => g (ix2 a k)) (fun k l => wMix (ix2 k l)) (fun k f => wIn (ix2 k f)) (fun f l => wOut (ix2 f l)) j

/-- The f32 pattern `0x3F000000` is one half. -/
theorem half_f32 : Ideal.ofBits .f32 0x3F000000#32 = ((1 / 2 : ℝ) : EReal) := by
  simp [Ideal.ofBits, Ideal.ieee, -EReal.coe_mul]; norm_num

/-- Half of `tanh (x/2)` plus one half is the logistic function, on the reals. -/
theorem half_tanh_real (x : ℝ) : 1 / 2 * Real.tanh (1 / 2 * x) + 1 / 2 = (1 + Real.exp (-x))⁻¹ := by
  have e1 : Real.exp (1 / 2 * x) * Real.exp (-(1 / 2 * x)) = 1 := by rw [← Real.exp_add]; simp
  have e2 : Real.exp (-x) = Real.exp (-(1 / 2 * x)) * Real.exp (-(1 / 2 * x)) := by
    rw [← Real.exp_add]; congr 1; ring
  have p := Real.exp_pos (1 / 2 * x)
  have q := Real.exp_pos (-(1 / 2 * x))
  rw [Real.tanh_eq_sinh_div_cosh, Real.sinh_eq, Real.cosh_eq, e2]
  generalize Real.exp (1 / 2 * x) = a at *
  generalize Real.exp (-(1 / 2 * x)) = b at *
  field_simp
  linear_combination (2 * b) * e1

/-- Half of `tanh (x/2)` plus one half is `1 / (1 + exp (-x))`, at the infinities too. -/
theorem half_tanh (x : EReal) :
    Ideal.ofBits .f32 0x3F000000#32 * Ideal.tanh (Ideal.ofBits .f32 0x3F000000#32 * x)
      + Ideal.ofBits .f32 0x3F000000#32 = Ideal.div 1 (1 + Ideal.exp (-x)) := by
  change _ = Ideal.logistic x
  rw [half_f32]
  have hp : (0 : ℝ) < 1 / 2 := by norm_num
  induction x with
  | bot =>
    rw [EReal.coe_mul_bot_of_pos hp, Ideal.tanh_bot, Ideal.logistic_bot,
      show (-1 : EReal) = ((-1 : ℝ) : EReal) by rw [EReal.coe_neg, EReal.coe_one], ← EReal.coe_mul, ← EReal.coe_add]
    norm_num
  | top =>
    rw [EReal.coe_mul_top_of_pos hp, Ideal.tanh_top, Ideal.logistic_top,
      show (1 : EReal) = ((1 : ℝ) : EReal) by norm_cast, ← EReal.coe_mul, ← EReal.coe_add]
    norm_num
  | coe r =>
    rw [← EReal.coe_mul, Ideal.tanh_coe, Ideal.logistic_coe, ← EReal.coe_mul, ← EReal.coe_add, half_tanh_real]

/-- The activation written with `tanh`. -/
theorem gated_tanh (gate up : EReal) :
    gate * (Ideal.ofBits .f32 0x3F000000#32 * Ideal.tanh (Ideal.ofBits .f32 0x3F000000#32 * gate)
      + Ideal.ofBits .f32 0x3F000000#32) * up = gated gate up := by
  rw [half_tanh]; rfl

/-- A sum over the 2816 hidden features as its first 1536 and its last 1280. -/
theorem sum_hidden (f : Fin 2816 → EReal) :
    ∑ k, f k = (∑ k : Fin 1536, f ⟨k.val, by have := k.isLt; omega⟩)
      + ∑ k : Fin 1280, f ⟨1536 + k.val, by have := k.isLt; omega⟩ :=
  Fin.sum_univ_add (a := 1536) (b := 1280) f

end Cert.Ffn

end
-- ==== Proof.FfnKernel.lean ====
/- The value of the kernel's feed-forward call: its result is the layer's row function at every token. -/
module

public import proofs.«01_k».proof.Proof.FfnSpec
public import proofs.«01_k».proof.Proof.Gen.KernelIdeal.Value

@[expose] public section

set_option maxRecDepth 16384

noncomputable section

namespace Cert.Ffn

open Idealize.ShloMosaic Idealize.ShloMosaic.TcCoe Idealize.SL.Sem
open Cert.KernelIdeal Cert.KernelIdeal.Gen
open Idealize.ShloMosaic.Pipeline (Dat)

/-- The residual with the mixer's projection, at a row and a feature. -/
theorem pay2_row (z w : FVec Ideal S1024x1024 .bf16) (h : FVec Ideal S1024x1024 .f32) (g : FVec Ideal S1x1024 .f32)
    (r l : Fin 1024) :
    k0_pay2 (F := Ideal) z w h g (ix2 r l)
      = mixed (fun k => z (ix2 r k)) (fun k => h (ix2 r k)) (fun k j => w (ix2 k j)) (fun j => g (ix2 0 j)) l := by
  pointwise [k0_pay2]
  rfl

/-- Its normalisation, the feed-forward block's input, at a row and a feature. -/
theorem pay3_row (z w : FVec Ideal S1024x1024 .bf16) (h : FVec Ideal S1024x1024 .f32) (g g' : FVec Ideal S1x1024 .f32)
    (r l : Fin 1024) :
    k0_pay3 (F := Ideal) z w h g g' (ix2 r l)
      = rms (mixed (fun k => z (ix2 r k)) (fun k => h (ix2 r k)) (fun k j => w (ix2 k j)) (fun j => g (ix2 0 j)))
          (fun j => g' (ix2 0 j)) l := by
  pointwise [k0_pay3]
  simp only [pay2_row]
  rfl

/-- The two chunks of hidden features, summed, at a row and a feature. -/
theorem pay5_row (u : FVec Ideal S1024x1024 .bf16) (a b : FVec Ideal S1024x1536 .bf16) (c : FVec Ideal S1536x1024 .bf16)
    (d e : FVec Ideal S1024x1280 .bf16) (f : FVec Ideal S1280x1024 .bf16) (r l : Fin 1024) :
    k0_pay5 (F := Ideal) u a b c d e f (ix2 r l)
      = (∑ x, gated (∑ k, u (ix2 r k) * a (ix2 k x)) (∑ k, u (ix2 r k) * b (ix2 k x)) * c (ix2 x l))
        + ∑ x, gated (∑ k, u (ix2 r k) * d (ix2 k x)) (∑ k, u (ix2 r k) * e (ix2 k x)) * f (ix2 x l) := by
  pointwise [k0_pay5]
  congr 1 <;> refine Finset.sum_congr rfl fun x _ => ?_
  · exact congrArg (· * c (ix2 x l)) (gated_tanh _ _)
  · exact congrArg (· * f (ix2 x l)) (gated_tanh _ _)

/-- The last normalisation and residual, at a row and a feature. -/
theorem pay1_row (h acc : FVec Ideal S1024x1024 .f32) (g : FVec Ideal S1x1024 .f32) (r l : Fin 1024) :
    k0_pay1 (F := Ideal) h acc g (ix2 r l)
      = h (ix2 r l) + rms (fun k => acc (ix2 r k)) (fun j => g (ix2 0 j)) l := by
  pointwise [k0_pay1]
  rfl

/-- The `gate0` chunk of the weights, at an element. -/
theorem ld_gate0 (w : FVec Ideal S1024x5632 .bf16) (k : Fin 1024) (x : Fin 1536) :
    View.ld (Val := Elt Ideal) (e' := .bf16) w r0_2 (ix2 k x) = w (ix2 k ⟨x.val, by have := x.isLt; omega⟩) := by
  unfold r0_2
  pointwise

/-- The `up0` chunk of the weights, at an element. -/
theorem ld_up0 (w : FVec Ideal S1024x5632 .bf16) (k : Fin 1024) (x : Fin 1536) :
    View.ld (Val := Elt Ideal) (e' := .bf16) w r0_3 (ix2 k x) = w (ix2 k ⟨2816 + x.val, by have := x.isLt; omega⟩) := by
  unfold r0_3
  pointwise

/-- The `down0` chunk of the weights, at an element. -/
theorem ld_down0 (w : FVec Ideal S2816x1024 .bf16) (k : Fin 1536) (x : Fin 1024) :
    View.ld (Val := Elt Ideal) (e' := .bf16) w r0_4 (ix2 k x) = w (ix2 ⟨k.val, by have := k.isLt; omega⟩ x) := by
  unfold r0_4
  pointwise

/-- The `gate1` chunk of the weights, at an element. -/
theorem ld_gate1 (w : FVec Ideal S1024x5632 .bf16) (k : Fin 1024) (x : Fin 1280) :
    View.ld (Val := Elt Ideal) (e' := .bf16) w r0_5 (ix2 k x) = w (ix2 k ⟨1536 + x.val, by have := x.isLt; omega⟩) := by
  unfold r0_5
  pointwise

/-- The `up1` chunk of the weights, at an element. -/
theorem ld_up1 (w : FVec Ideal S1024x5632 .bf16) (k : Fin 1024) (x : Fin 1280) :
    View.ld (Val := Elt Ideal) (e' := .bf16) w r0_6 (ix2 k x) = w (ix2 k ⟨2816 + (1536 + x.val), by have := x.isLt; omega⟩) := by
  unfold r0_6
  pointwise
  exact congrArg (fun q => w (ix2 k q)) (Fin.ext (by show 4352 + x.val = 2816 + (1536 + x.val); omega))

/-- The `down1` chunk of the weights, at an element. -/
theorem ld_down1 (w : FVec Ideal S2816x1024 .bf16) (k : Fin 1280) (x : Fin 1024) :
    View.ld (Val := Elt Ideal) (e' := .bf16) w r0_7 (ix2 k x) = w (ix2 ⟨1536 + k.val, by have := k.isLt; omega⟩ x) := by
  unfold r0_7
  pointwise

/-- A grid point's output block is the layer's row function of its input blocks. -/
theorem out_row (z w : FVec Ideal S1024x1024 .bf16) (g1 : FVec Ideal S1x1024 .f32) (h : FVec Ideal S1024x1024 .f32)
    (g2 : FVec Ideal S1x1024 .f32) (wi : FVec Ideal S1024x5632 .bf16) (wo : FVec Ideal S2816x1024 .bf16)
    (g3 : FVec Ideal S1x1024 .f32) (r l : Fin 1024) :
    out0_8 (F := Ideal) z w g1 h g2 wi wo g3 (ix2 r l)
      = mixed (fun k => z (ix2 r k)) (fun k => h (ix2 r k)) (fun k j => w (ix2 k j)) (fun j => g1 (ix2 0 j)) l
        + rms (ffn (mixed (fun k => z (ix2 r k)) (fun k => h (ix2 r k)) (fun k j => w (ix2 k j)) (fun j => g1 (ix2 0 j)))
            (fun j => g2 (ix2 0 j)) (fun k f => wi (ix2 k f)) (fun f j => wo (ix2 f j))) (fun j => g3 (ix2 0 j)) l := by
  unfold out0_8
  frame_out
  rw [pay1_row, pay2_row]
  congr 2
  funext j
  rw [pay5_row, ffn, sum_hidden]
  simp only [pay3_row, k0_pay4, shapeCast_self, swiglu]
  refine congrArg₂ (· + ·)
    (Finset.sum_congr rfl fun x _ => congrArg₂ (· * ·) (congrArg₂ gated
      (Finset.sum_congr rfl fun k _ => congrArg _ (ld_gate0 wi k x))
      (Finset.sum_congr rfl fun k _ => congrArg _ (ld_up0 wi k x))) (ld_down0 wo x j))
    (Finset.sum_congr rfl fun x _ => congrArg₂ (· * ·) (congrArg₂ gated
      (Finset.sum_congr rfl fun k _ => congrArg _ (ld_gate1 wi k x))
      (Finset.sum_congr rfl fun k _ => congrArg _ (ld_up1 wi k x))) (ld_down1 wo x j))

/-- The grid's index maps: the element-indexed windows start past the prefix of each batch, the others are whole. -/
theorem idx : ∀ t : Fin cfg0.N,
    win0_0.index t = ![t.val / 8 * 8208 + 16 + t.val % 8 * 1024, 0] ∧ win0_1.index t = ![0, 0]
    ∧ win0_2.index t = ![0, 0] ∧ win0_3.index t = ![t.val / 8 * 8208 + 16 + t.val % 8 * 1024, 0]
    ∧ win0_4.index t = ![0, 0] ∧ win0_5.index t = ![0, 0] ∧ win0_6.index t = ![0, 0] ∧ win0_7.index t = ![0, 0]
    ∧ win0_8.index t = ![t.val, 0] :=
  (by decide +kernel : ∀ t : Fin grid0.N, _)

section Reads

variable (m : (ℓ : Loc nD τ sig) → Buf (Elt Ideal) ℓ) (c : Dev nD) (t : Fin cfg0.N)

/-- The grid has sixty-four points. -/
theorem t_lt : t.val < 64 := t.isLt

/-- Where window 0's block at a grid point lies: its rows start at the index map's element offset. -/
theorem emb0 (x : S1024x1024.Idx) (a : Fin 2) :
    (((View.whole main_v11).slice (win0_0.rect t)).emb x a).val = win0_0.index t a + (x a).val := by
  exact Pipeline.Window.rect_emb_val_off win0_0 t x a

/-- A block of the mixer's output: 1024 tokens of one batch, past its prefix. -/
theorem read0 (r k : Fin 1024) : iblk m c 0 t (ix2 r k)
    = m ((c.tc : Thread nD τ).loc main_arg0) (ix3 ⟨t.val / 8, by have := t_lt t; omega⟩
        ⟨16 + (t.val % 8 * 1024 + r.val), by have := t_lt t; have := r.isLt; omega⟩ k) := by
  have := t_lt t
  have e0 := emb0 t (ix2 r k) 0
  have e1 := emb0 t (ix2 r k) 1
  rw [(idx t).1] at e0 e1
  change _ = t.val / 8 * 8208 + 16 + t.val % 8 * 1024 + r.val at e0
  change _ = 0 + k.val at e1
  blk_ext! [iblk, V, idx t] <;> omega

/-- Where window 3's block at a grid point lies: its rows start at the index map's element offset. -/
theorem emb3 (x : S1024x1024.Idx) (a : Fin 2) :
    (((View.whole main_v10).slice (win0_3.rect t)).emb x a).val = win0_3.index t a + (x a).val := by
  exact Pipeline.Window.rect_emb_val_off win0_3 t x a

/-- A block of the residual stream: the same tokens. -/
theorem read3 (r k : Fin 1024) : iblk m c 3 t (ix2 r k)
    = m ((c.tc : Thread nD τ).loc main_arg1) (ix3 ⟨t.val / 8, by have := t_lt t; omega⟩
        ⟨16 + (t.val % 8 * 1024 + r.val), by have := t_lt t; have := r.isLt; omega⟩ k) := by
  have := t_lt t
  have e0 := emb3 t (ix2 r k) 0
  have e1 := emb3 t (ix2 r k) 1
  rw [(idx t).2.2.2.1] at e0 e1
  change _ = t.val / 8 * 8208 + 16 + t.val % 8 * 1024 + r.val at e0
  change _ = 0 + k.val at e1
  blk_ext! [iblk, V, idx t] <;> omega

/-- The output projection's weights, whole. -/
theorem read1 (k l : Fin 1024) : iblk m c 1 t (ix2 k l) = m ((c.tc : Thread nD τ).loc main_arg3) (ix2 k l) := by
  blk_ext! [iblk, V, idx t]

/-- The gain after the mixer. -/
theorem read2 (l : Fin 1024) : iblk m c 2 t (ix2 0 l) = m ((c.tc : Thread nD τ).loc main_arg2) (ix2 1 l) := by
  blk_ext! [iblk, V, idx t]

/-- The gain before the feed-forward block. -/
theorem read4 (l : Fin 1024) : iblk m c 4 t (ix2 0 l) = m ((c.tc : Thread nD τ).loc main_arg2) (ix2 2 l) := by
  blk_ext! [iblk, V, idx t]

/-- The up projection's weights, whole. -/
theorem read5 (k : Fin 1024) (f : Fin 5632) :
    iblk m c 5 t (ix2 k f) = m ((c.tc : Thread nD τ).loc main_arg4) (ix2 k f) := by
  blk_ext! [iblk, V, idx t]

/-- The down projection's weights, whole. -/
theorem read6 (f : Fin 2816) (l : Fin 1024) :
    iblk m c 6 t (ix2 f l) = m ((c.tc : Thread nD τ).loc main_arg5) (ix2 f l) := by
  blk_ext! [iblk, V, idx t]

/-- The gain after the feed-forward block. -/
theorem read7 (l : Fin 1024) : iblk m c 7 t (ix2 0 l) = m ((c.tc : Thread nD τ).loc main_arg2) (ix2 3 l) := by
  blk_ext! [iblk, V, idx t]

/-- A grid point computes the layer's row function at the rows its output block covers. -/
theorem point (y0 y1 : Fin 1024) (R : Fin 65536) (hR : R.val = t.val * 1024 + y0.val) :
    out0_8 (F := Ideal) (iblk m c 0 t) (iblk m c 1 t) (iblk m c 2 t) (iblk m c 3 t) (iblk m c 4 t) (iblk m c 5 t)
        (iblk m c 6 t) (iblk m c 7 t) (ix2 y0 y1)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) R y1 := by
  have ht := t_lt t
  have hy := y0.isLt
  have q1 : (⟨R.val / 8192, by omega⟩ : Fin 8) = ⟨t.val / 8, by omega⟩ := Fin.ext (by show R.val / 8192 = t.val / 8; omega)
  have q2 : (⟨16 + R.val % 8192, by omega⟩ : Fin 8208) = ⟨16 + (t.val % 8 * 1024 + y0.val), by omega⟩ :=
    Fin.ext (by show 16 + R.val % 8192 = 16 + (t.val % 8 * 1024 + y0.val); omega)
  refine (out_row _ _ _ _ _ _ _ _ y0 y1).trans ?_
  unfold result layer
  rw [q1, q2]
  simp only [read0, read1, read2, read3, read4, read5, read6, read7]

end Reads

/-- The output array after the run: the layer's row function at every row. -/
theorem final (m : (ℓ : Loc nD τ sig) → Buf (Elt Ideal) ℓ) (c : Dev nD) :
    (dats (F := Ideal) m 0 c).arrAt 8 (cfgs 0).N = fun y => result (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (y 0) (y 1) := by
  refine (dats m 0 c).arrAt_eq_of_covers 8 _ (by decide +kernel) fun t _ y => ?_
  blk_simp
  rw [after0_8]
  idx_vars y
  have e0 := Pipeline.Window.rect_emb_val_off win0_8 t (ix2 y0 y1) 0
  have e1 := Pipeline.Window.rect_emb_val_off win0_8 t (ix2 y0 y1) 1
  rw [(idx t).2.2.2.2.2.2.2.2] at e0 e1
  change (((View.whole main_v12).slice (win0_8.rect t)).emb (ix2 y0 y1) 0).val = t.val * 1024 + y0.val at e0
  change (((View.whole main_v12).slice (win0_8.rect t)).emb (ix2 y0 y1) 1).val = 0 * 1024 + y1.val at e1
  refine (point m c t y0 y1 (((View.whole main_v12).slice (win0_8.rect t)).emb (ix2 y0 y1) 0) e0).trans ?_
  exact congrArg (result _ _ _ _ _ _ _) (Fin.ext (by rw [e1]; omega))

end Cert.Ffn

end
-- ==== Proof.FfnRef.lean ====
/- The value of the reference's feed-forward half: its result is the layer's row function at every token. -/
module

public import proofs.«01_k».proof.Proof.FfnSpec
public import proofs.«01_k».proof.Proof.Gen.ReferenceIdeal.Read

@[expose] public section

set_option maxRecDepth 16384

noncomputable section

namespace Cert.Ffn.Ref

open Idealize.ShloMosaic Idealize.ShloMosaic.TcCoe Idealize.SL.Sem
open Cert.ReferenceIdeal Cert.ReferenceIdeal.Gen Cert.ReferenceIdeal.Read

variable (x0 : FVec Ideal S8x8208x1024 .bf16) (x1 : FVec Ideal S8x8208x1024 .f32) (x2 : FVec Ideal S4x1024 .f32)
  (x3 : FVec Ideal S1024x1024 .f32) (x4 : FVec Ideal S1024x5632 .f32) (x5 : FVec Ideal S2816x1024 .f32)

/-- The mixer's output projection. -/
theorem v1_row (b : Fin 8) (p : Fin 8208) (l : Fin 1024) :
    val_main_v1 (F := Ideal) x0 x3 (ix3 b p l) = ∑ k : Fin 1024, x0 (ix3 b p k) * x3 (ix2 k l) := by
  pointwise [val_main_v1, val_main_v0]

/-- The residual with the normalised projection. -/
theorem v17_row (b : Fin 8) (p : Fin 8208) (l : Fin 1024) :
    val_main_v17 (F := Ideal) x0 x1 x2 x3 (ix3 b p l)
      = mixed (fun k => x0 (ix3 b p k)) (fun k => x1 (ix3 b p k)) (fun k l => x3 (ix2 k l)) (fun k => x2 (ix2 1 k)) l := by
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_cst, val_main_cst_0, val_main_cst_1]
  simp only [v1_row]
  rfl

/-- The feed-forward block's input. -/
theorem v32_row (b : Fin 8) (p : Fin 8208) (l : Fin 1024) :
    val_main_v32 (F := Ideal) x0 x1 x2 x3 (ix3 b p l)
      = rms (mixed (fun k => x0 (ix3 b p k)) (fun k => x1 (ix3 b p k)) (fun k l => x3 (ix2 k l)) (fun k => x2 (ix2 1 k)))
          (fun k => x2 (ix2 2 k)) l := by
  pointwise [val_main_v32, val_main_v31, val_main_v30, val_main_v29, val_main_v28, val_main_v27, val_main_v26,
    val_main_v25, val_main_v24, val_main_v23, val_main_v22, val_main_v21, val_main_v20, val_main_v19, val_main_v18,
    val_main_cst_2, val_main_cst_3, val_main_cst_4]
  simp only [v17_row]
  rfl

/-- The up projection. -/
theorem v33_row (b : Fin 8) (p : Fin 8208) (f : Fin 5632) :
    val_main_v33 (F := Ideal) x0 x1 x2 x3 x4 (ix3 b p f)
      = ∑ k : Fin 1024, val_main_v32 (F := Ideal) x0 x1 x2 x3 (ix3 b p k) * x4 (ix2 k f) := by
  pointwise [val_main_v33]

/-- The gated activation. -/
theorem v37_row (b : Fin 8) (p : Fin 8208) (f : Fin 2816) :
    val_main_v37 (F := Ideal) x0 x1 x2 x3 x4 (ix3 b p f)
      = swiglu (fun k => val_main_v32 (F := Ideal) x0 x1 x2 x3 (ix3 b p k)) (fun k f => x4 (ix2 k f)) f := by
  pointwise [val_main_v37, val_main_v36, val_main_v35, val_main_v34, val_main_call0_v5, val_main_call0_v4,
    val_main_call0_v3, val_main_call0_v2, val_main_call0_v1, val_main_call0_v0, val_main_call0_cst, val_main_call0_cst_0]
  simp only [v33_row]
  rfl

/-- The feed-forward block's output. -/
theorem v38_row (b : Fin 8) (p : Fin 8208) (l : Fin 1024) :
    val_main_v38 (F := Ideal) x0 x1 x2 x3 x4 x5 (ix3 b p l)
      = ffn (mixed (fun k => x0 (ix3 b p k)) (fun k => x1 (ix3 b p k)) (fun k l => x3 (ix2 k l)) (fun k => x2 (ix2 1 k)))
          (fun k => x2 (ix2 2 k)) (fun k f => x4 (ix2 k f)) (fun f l => x5 (ix2 f l)) l := by
  pointwise [val_main_v38]
  simp only [v37_row, v32_row]
  rfl

/-- The layer's output, at every token. -/
theorem v54_row (b : Fin 8) (p : Fin 8208) (l : Fin 1024) :
    val_main_v54 (F := Ideal) x0 x1 x2 x3 x4 x5 (ix3 b p l)
      = layer (fun k => x0 (ix3 b p k)) (fun k => x1 (ix3 b p k)) (fun a k => x2 (ix2 a k)) (fun k l => x3 (ix2 k l))
          (fun k f => x4 (ix2 k f)) (fun f l => x5 (ix2 f l)) l := by
  pointwise [val_main_v54, val_main_v53, val_main_v52, val_main_v51, val_main_v50, val_main_v49, val_main_v48,
    val_main_v47, val_main_v46, val_main_v45, val_main_v44, val_main_v43, val_main_v42, val_main_v41, val_main_v40,
    val_main_v39, val_main_cst_5, val_main_cst_6, val_main_cst_7]
  simp only [v38_row, v17_row]
  rfl

/-- The result: the layer's output past each batch's prefix. -/
theorem v56_row (R : Fin 65536) (l : Fin 1024) :
    val_main_v56 (F := Ideal) x0 x1 x2 x3 x4 x5 (ix2 R l) = result x0 x1 x2 x3 x4 x5 R l := by
  pointwise [val_main_v56, val_main_v55]
  simp only [v54_row]
  rfl

/-- The result array. -/
theorem v56_eq : val_main_v56 (F := Ideal) x0 x1 x2 x3 x4 x5 = fun y => result x0 x1 x2 x3 x4 x5 (y 0) (y 1) := by
  funext y
  idx_vars y
  exact v56_row x0 x1 x2 x3 x4 x5 y0 y1

end Cert.Ffn.Ref

end
-- ==== Proof.FfnClaim.lean ====
/- The claims about the feed-forward call and its reference. -/
module

public import proofs.«01_k».proof.Defs
public import proofs.«01_k».proof.Proof.Gen.Kernel.Frame
public import proofs.«01_k».proof.Proof.FfnKernel
public import proofs.«01_k».proof.Proof.FfnRef
public import Idealize.ShloMosaic.Adequacy
public import Idealize.ShloMosaic.Init

@[expose] public section

noncomputable section

namespace Cert.Ffn

open Idealize.ShloMosaic Idealize.SL.Sem

/-- The call as written leaves its arguments and ends with every semaphore at zero. -/
theorem frame_kernel : Cert.quiescent_Kernel (hKernel := Cert.Kernel.Gen.facts) :=
  fun m ρ _ => Cert.Kernel.Gen.frame m ρ

/-- So does its idealised form. -/
theorem frame_kernelIdeal : Cert.quiescent_KernelIdeal (hKernelIdeal := Cert.KernelIdeal.Gen.facts) :=
  fun m ρ _ => Cert.KernelIdeal.Gen.frame m ρ

/-- The reference leaves its arguments; it has no semaphores. -/
theorem frame_reference : Cert.quiescent_ReferenceIdeal (hReferenceIdeal := Cert.ReferenceIdeal.Gen.facts) :=
  fun m ρ _ => (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The call's result is its reference's: both are the layer's row function at every row. -/
theorem value : Cert.algebraic_KernelIdeal_ReferenceIdeal (hKernelIdeal := Cert.KernelIdeal.Gen.facts)
    (hReferenceIdeal := Cert.ReferenceIdeal.Gen.facts) := by
  intro m g m' g' _ hag
  refine ⟨_, (θ_run Cert.KernelIdeal.defs _ _).mono (fun r h c => ⟨(h c).1.trans (final m c), (h c).2⟩)
      (Cert.KernelIdeal.Value.run_blocks (F := Ideal) m g),
    (θ_run Cert.ReferenceIdeal.defs _ _).mono (fun r h c => ⟨(h c).1.trans ?_, (h c).2⟩)
      (Cert.ReferenceIdeal.Value.run (F := Ideal) m' g')⟩
  obtain ⟨h0, h1, h2, h3, h4, h5⟩ := hag c
  rw [Cert.ReferenceIdeal.Read.val_main_v56_eq, h0, h1, h2, h3, h4, h5]
  exact Ref.v56_eq _ _ _ _ _ _

end Cert.Ffn

end
-- ==== Proof.MixRun.lean ====
/- The two calls' run: what the result array holds at the end. -/
module

public import proofs.«01_k».proof.Proof.Gen.MixerIdeal.Frame

@[expose] public section

set_option maxRecDepth 16384

noncomputable section

namespace Cert.Mix

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result array at what the second call's write-backs leave, and the arguments as they were. -/
theorem run : θ_run defs (onTc (τ := τ) (main (F := F))) ⟨m, fun _ => 0, ρ⟩ (fun r => ∀ c : Dev nD,
      r.2.mem ((c.tc : Thread nD τ).loc main_v102) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v102 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Mix

end
-- ==== Proof.MixSpec.lean ====
/- The mixer's row functions over the extended reals, and the identities of sums its proof uses. -/
module

public import Idealize.ShloMosaic.Lib.IdealHost
public import Idealize.ShloMosaic.Lib.Pointwise

@[expose] public section

noncomputable section

namespace Cert.Mix

open Idealize.ShloMosaic

/-- A function of a key as a function of a natural number, zero past the last key. -/
def ext (p : Fin 8208 → EReal) (n : ℕ) : EReal := if h : n < 8208 then p ⟨n, h⟩ else 0

/-- At a key it is the function itself. -/
theorem ext_of (p : Fin 8208 → EReal) (n : ℕ) (h : n < 8208) : ext p n = p ⟨n, h⟩ := dif_pos h

/-- A sum over consecutive chunks of one length is the sum over their union. -/
theorem sum_chunks (f : ℕ → EReal) (m n : ℕ) :
    ∑ i ∈ Finset.range n, ∑ j ∈ Finset.range m, f (m * i + j) = ∑ s ∈ Finset.range (m * n), f s := by
  induction n with
  | zero => simp
  | succ n ih => rw [Finset.sum_range_succ, ih, Nat.mul_succ, Finset.sum_range_add]

/-- The last sixteen keys and the sixteen chunks before them are all the keys. -/
theorem sum_keys (p : Fin 8208 → EReal) :
    (∑ j : Fin 16, ext p (8192 + j.val)) + ∑ i ∈ Finset.range 16, ∑ j : Fin 512, ext p (512 * i + j.val) = ∑ s, p s := by
  have e : ∑ s, p s = ∑ s ∈ Finset.range (512 * 16 + 16), ext p s := by
    rw [Finset.sum_fin_eq_sum_range]; rfl
  rw [e, Finset.sum_range_add, ← sum_chunks, add_comm]
  exact congrArg₂ (· + ·)
    (Finset.sum_congr rfl fun i _ => Fin.sum_univ_eq_sum_range (fun j => ext p (512 * i + j)) 512)
    (Fin.sum_univ_eq_sum_range (fun j => ext p (8192 + j)) 16)

/-- Eight interleaved partial sums add up to the whole. -/
theorem sum_sublanes (f : ℕ → EReal) (n : ℕ) :
    ∑ x : Fin 8, ∑ a : Fin n, f (a.val * 8 + x.val) = ∑ j ∈ Finset.range (8 * n), f j := by
  rw [← sum_chunks, Finset.sum_comm, Fin.sum_univ_eq_sum_range (fun i => ∑ x : Fin 8, f (i * 8 + x.val))]
  refine Finset.sum_congr rfl fun i _ => ?_
  rw [mul_comm 8 i]
  exact Fin.sum_univ_eq_sum_range (fun j => f (i * 8 + j)) 8

/-- The unnormalised weight of a key for a query, in powers of two. -/
def wt (K : Fin 8208 → Fin 128 → EReal) (q : Fin 128 → EReal) (s : Fin 8208) : EReal :=
  Ideal.exp2 (∑ e, K s e * q e)

/-- One feature of a query's attention: the weighted sum of the values over the sum of the weights. -/
def attnRow (K : Fin 8208 → Fin 128 → EReal) (q : Fin 128 → EReal) (v : Fin 8208 → EReal) : EReal :=
  (∑ s, v s * wt K q s) * Ideal.div 1 (∑ s, wt K q s)

/-- A vector over the root of its mean square, `w` the number of its entries as a 32-bit float. -/
def normed {n : ℕ} (w : BitVec 32) (x : Fin n → EReal) (j : Fin n) : EReal :=
  x j * Ideal.rsqrt (Ideal.div (∑ k, x k * x k) (Ideal.ofBits .f32 w) + Ideal.ofBits .f32 0x358637BD#32)

/-- A head's normalised features under a gain, rotated: a lane and the lane half a head away, by the lane's cosine
    and signed sine. -/
def rotRow (n g c s : Fin 128 → EReal) (d : Fin 128) : EReal :=
  n d * g d * c d + n ⟨(d.val + 64) % 128, Nat.mod_lt _ (by decide)⟩ * g ⟨(d.val + 64) % 128, Nat.mod_lt _ (by decide)⟩ * s d

/-- A count as a float. -/
def num (n : ℕ) : EReal := (FloatOps.sitofp (F := Ideal) .f32 (BitVec.ofNat 32 n) : Ideal .f32)

/-- The rotary frequency of a pair: ten thousand to the power of minus twice the pair over sixty-four. -/
def freq (p : ℕ) : EReal :=
  Ideal.pow (Ideal.ofBits .f32 0x461C4000#32) (Ideal.div (-(Ideal.ofBits .f32 0x40000000#32 * num p)) (Ideal.ofBits .f32 0x42800000#32))

/-- The rotary angle of a token, an axis and a pair: none for the sixteen registers, else the patch's row or column
    times the frequency. -/
def angle (l a p : ℕ) : EReal :=
  if l < 16 then 0 else if a < 1 then num ((l - 16) / 64) * freq p else num ((l - 16) % 64) * freq p

/-- A head's features rotated in the layer's own order: for each axis thirty-two first members, then their partners. -/
def rotPair (n : Fin 128 → EReal) (a : Fin 2 → Fin 32 → EReal) (e : Fin 128) : EReal :=
  if e.val / 32 % 2 < 1 then
    n ⟨e.val / 64 * 64 + e.val % 32, by have := e.isLt; omega⟩ * Ideal.cos (a ⟨e.val / 64, by have := e.isLt; omega⟩ ⟨e.val % 32, Nat.mod_lt _ (by decide)⟩)
      - n ⟨e.val / 64 * 64 + 32 + e.val % 32, by have := e.isLt; omega⟩ * Ideal.sin (a ⟨e.val / 64, by have := e.isLt; omega⟩ ⟨e.val % 32, Nat.mod_lt _ (by decide)⟩)
  else
    n ⟨e.val / 64 * 64 + 32 + e.val % 32, by have := e.isLt; omega⟩ * Ideal.cos (a ⟨e.val / 64, by have := e.isLt; omega⟩ ⟨e.val % 32, Nat.mod_lt _ (by decide)⟩)
      + n ⟨e.val / 64 * 64 + e.val % 32, by have := e.isLt; omega⟩ * Ideal.sin (a ⟨e.val / 64, by have := e.isLt; omega⟩ ⟨e.val % 32, Nat.mod_lt _ (by decide)⟩)

/-- A key's weight before normalisation: the exponential of its score under the greatest one. -/
def softNum (s : Fin 8208 → EReal) (x : Fin 8208) : EReal :=
  Ideal.exp (s x - max (Ideal.ofBits .f32 0xFF800000#32) (Finset.univ.fold max (Ideal.ofBits .f32 0xFF800000#32) s))

/-- One feature of a query's attention: its scores' softmax against the values. -/
def softRow (s v : Fin 8208 → EReal) : EReal :=
  ∑ x, v x * Ideal.div (softNum s x) (∑ y, softNum s y)

end Cert.Mix
end
-- ==== Proof.MixHost.lean ====
/- The arrays the host prepares for the projection call: the gain, the weights with every head's columns reordered, the
   heads' gains reordered alike, and the rotary tables. -/
module

public import proofs.«01_k».proof.Proof.MixSpec
public import proofs.«01_k».proof.Proof.Gen.MixerIdeal.Frame
public import Idealize.ShloMosaic.Lib.StableHlo.ReadAt
public import Idealize.ShloMosaic.Lib.StableHlo.Predicate

@[expose] public section

set_option maxRecDepth 16384

noncomputable section

namespace Cert.Mix

open Cert.MixerIdeal Cert.MixerIdeal.Gen
open Idealize.ShloMosaic Idealize.ShloMosaic.TcCoe

variable (m : (ℓ : Loc nD τ sig) → Buf (Elt Ideal) ℓ) (ρ : Dev nD → PrngReg) (c : Dev nD)

/-- The gain's row. -/
theorem host_gain (k : Fin 1024) : V1 (F := Ideal) m ρ c main_v53 (ix2 0 k) = m ((c.tc : Thread nD τ).loc main_arg1) (ix2 0 k) := by
  show StableHlo.after hostOps0 (W0 m ρ c) (Proc.devRef .tc main_v53) (ix2 0 k) = _
  unfold hostOps0
  after_reads_at

/-- The rotary angle a lane carries: two blocks of thirty-two lanes to a half, rows then columns. -/
theorem lane_angle (l d : ℕ) (hd : d < 128) :
    (if h : l < 16 then (0 : EReal) else
      if h : d < 32 then num ((l - 16) / 64) * freq d
      else if h : d - 32 < 32 then num ((l - 16) % 64) * freq (d - 32)
      else if h : d - 32 - 32 < 32 then num ((l - 16) / 64) * freq (d - 32 - 32)
      else num ((l - 16) % 64) * freq (d - 32 - 32 - 32)) = angle l (d / 32 % 2) (d % 32) := by
  unfold angle
  by_cases hl : l < 16
  · rw [dif_pos hl, if_pos hl]
  rw [dif_neg hl, if_neg hl]
  by_cases h1 : d < 32
  · rw [dif_pos h1, if_pos (by omega), Nat.mod_eq_of_lt h1]
  rw [dif_neg h1]
  by_cases h2 : d - 32 < 32
  · rw [dif_pos h2, if_neg (by omega), show d % 32 = d - 32 by omega]
  rw [dif_neg h2]
  by_cases h3 : d - 32 - 32 < 32
  · rw [dif_pos h3, if_pos (by omega), show d % 32 = d - 32 - 32 by omega]
  rw [dif_neg h3, if_neg (by omega), show d % 32 = d - 32 - 32 - 32 by omega]

/-- The rotary cosines, at a token and a lane. -/
theorem host_cos (l : Fin 8208) (d : Fin 128) :
    V1 (F := Ideal) m ρ c main_v35 (ix2 l d) = Ideal.cos (angle l.val (d.val / 32 % 2) (d.val % 32)) := by
  show StableHlo.after hostOps0 (W0 m ρ c) (Proc.devRef .tc main_v35) (ix2 l d) = _
  unfold hostOps0
  repeat after_reads_at
  exact congrArg Ideal.cos (lane_angle l.val d.val d.isLt)

/-- The sign of a lane's sine: the first half takes its partner's feature with a minus. -/
def sgn (d : ℕ) : EReal := if d < 64 then -1 else 1

/-- The signed rotary sines, at a token and a lane. -/
theorem host_sin (l : Fin 8208) (d : Fin 128) :
    V1 (F := Ideal) m ρ c main_v39 (ix2 l d) = (Ideal.sin (angle l.val (d.val / 32 % 2) (d.val % 32)) * sgn d.val : EReal) := by
  show StableHlo.after hostOps0 (W0 m ρ c) (Proc.devRef .tc main_v39) (ix2 l d) = _
  unfold hostOps0
  repeat after_reads_at
  exact congrArg₂ (HMul.hMul : EReal → EReal → EReal) (congrArg Ideal.sin (lane_angle l.val d.val d.isLt)) rfl

/-- The feature a lane carries: the lane counts halves, axes and pairs, the feature axes, halves and pairs. -/
def perm (d : Fin 128) : Fin 128 :=
  ⟨d.val / 32 % 2 * 64 + d.val / 64 * 32 + d.val % 32, by have := d.isLt; omega⟩

/-- The word the host computes for a lane is its feature's number. -/
theorem order_word : ∀ d : Fin 128,
    (if h : d.val < 32 then BitVec.ofNat 32 d.val
      else if h : d.val - 32 < 32 then IntOp.addi (64#32) (BitVec.ofNat 32 (d.val - 32))
      else if h : d.val - 32 - 32 < 32 then IntOp.addi (32#32) (BitVec.ofNat 32 (d.val - 32 - 32))
      else IntOp.addi (96#32) (BitVec.ofNat 32 (d.val - 32 - 32 - 32))) = BitVec.ofNat 32 (perm d).val := by
  decide

/-- A small count is not negative, so the host leaves it as it is. -/
theorem select_word (n k : ℕ) (h : n < 2048) :
    Scalar.select (IntOp.cmpi CmpIPredicate.slt (BitVec.ofNat 32 n) 0#32) (IntOp.addi (BitVec.ofNat 32 n) (BitVec.ofNat 32 k)) (BitVec.ofNat 32 n)
      = BitVec.ofNat 32 n := by
  have e : IntOp.cmpi CmpIPredicate.slt (BitVec.ofNat 32 n) 0#32 = 0#1 := by
    show BitVec.ofBool (decide ((BitVec.ofNat 32 n).toInt < (0#32).toInt)) = 0#1
    rw [BitVec.toInt_eq_toNat_of_lt (by rw [BitVec.toNat_ofNat]; omega), BitVec.toNat_ofNat]
    rw [decide_eq_false (by rw [BitVec.toInt_zero]; exact not_lt.mpr (Int.natCast_nonneg _))]
    rfl
  rw [e]
  rfl

/-- A small count read back from its word. -/
theorem word_toNat (n : ℕ) (h : n < 2048) : (BitVec.ofNat 32 n).toInt.toNat = n := by
  rw [BitVec.toInt_eq_toNat_of_lt (by rw [BitVec.toNat_ofNat]; omega), BitVec.toNat_ofNat]
  omega

/-- A column taken by its number. -/
theorem take_col {α : Type} (x : S1024x1536.Idx → α) (idx : IVec S1280x1 32) (k : Fin 1024) (f : Fin 1280) (n : Fin 1536)
    (h : idx (ix2 f 0) = BitVec.ofNat 32 n.val) :
    Host.gather gather_S1024x1536_S1280x1_S1024x1280_0_1_n_n_1_1_10241 x idx (ix2 k f) = x (ix2 k n) := by
  refine congrArg x (funext fun a => Fin.ext ?_)
  match a with
  | ⟨0, _⟩ => exact (Nat.zero_add _)
  | ⟨1, _⟩ =>
    have e : gather_S1024x1536_S1280x1_S1024x1280_0_1_n_n_1_1_10241.siIdx (ix2 k f) ⟨0, Nat.one_pos⟩ = ix2 f 0 :=
      funext fun b => Fin.ext (match b with | ⟨0, _⟩ => rfl | ⟨1, _⟩ => rfl)
    show min (idx (gather_S1024x1536_S1280x1_S1024x1280_0_1_n_n_1_1_10241.siIdx (ix2 k f) ⟨0, Nat.one_pos⟩)).toInt.toNat 1535 + 0 + 0 = n.val
    have hn := n.isLt
    rw [e, h, word_toNat _ (by omega)]
    omega

/-- An entry taken by its number. -/
theorem take_entry {α : Type} (x : S128.Idx → α) (idx : IVec S128x1 32) (d n : Fin 128)
    (h : idx (ix2 d 0) = BitVec.ofNat 32 n.val) :
    Host.gather gather_S128_S128x1_S128_n_0_n_n_0_1_1 x idx (ix1 d) = x (ix1 n) := by
  refine congrArg x (funext fun a => Fin.ext ?_)
  match a with
  | ⟨0, _⟩ =>
    have e : gather_S128_S128x1_S128_n_0_n_n_0_1_1.siIdx (ix1 d) ⟨0, Nat.one_pos⟩ = ix2 d 0 :=
      funext fun b => Fin.ext (match b with | ⟨0, _⟩ => rfl | ⟨1, _⟩ => rfl)
    show min (idx (gather_S128_S128x1_S128_n_0_n_n_0_1_1.siIdx (ix1 d) ⟨0, Nat.one_pos⟩)).toInt.toNat 127 + 0 + 0 = n.val
    have hn := n.isLt
    rw [e, h, word_toNat _ (by omega)]
    omega

/-- The queries' gain, lane by lane. -/
theorem host_qgain (d : Fin 128) :
    V1 (F := Ideal) m ρ c main_v90 (ix2 0 d) = m ((c.tc : Thread nD τ).loc main_arg3) (ix1 (perm d)) := by
  show StableHlo.after hostOps0 (W0 m ρ c) (Proc.devRef .tc main_v90) (ix2 0 d) = _
  unfold hostOps0
  simp (disch := decide) only [StableHlo.readAfter, StableHlo.reshape_result', StableHlo.unary_result']
  clean_types
  pointwise []
  simp (disch := decide) only [StableHlo.readUpto, StableHlo.binary_result']
  refine (take_entry _ _ d (perm d) ?_).trans ?_
  · repeat after_reads_at
    simp only [order_word]
    exact select_word _ _ (by omega)
  · after_reads_at

/-- The keys' gain, lane by lane. -/
theorem host_kgain (d : Fin 128) :
    V1 (F := Ideal) m ρ c main_v98 (ix2 0 d) = m ((c.tc : Thread nD τ).loc main_arg4) (ix1 (perm d)) := by
  show StableHlo.after hostOps0 (W0 m ρ c) (Proc.devRef .tc main_v98) (ix2 0 d) = _
  unfold hostOps0
  simp (disch := decide) only [StableHlo.readAfter, StableHlo.reshape_result', StableHlo.unary_result']
  clean_types
  pointwise []
  simp (disch := decide) only [StableHlo.readUpto, StableHlo.binary_result']
  refine (take_entry _ _ d (perm d) ?_).trans ?_
  · repeat after_reads_at
    simp only [order_word]
    exact select_word _ _ (by omega)
  · after_reads_at

/-- The number of the column the host puts at a query's or key's column. -/
def colOf (f : Fin 1280) : Fin 1536 :=
  ⟨f.val / 128 * 128 + (perm ⟨f.val % 128, Nat.mod_lt _ (by decide)⟩).val, by have := f.isLt; omega⟩

/-- The queries' and keys' columns of the weights, reordered head by head. -/
theorem host_w_qk (k : Fin 1024) (f : Fin 1280) :
    V1 (F := Ideal) m ρ c main_v82 (ix2 k ⟨f.val, by have := f.isLt; omega⟩) = m ((c.tc : Thread nD τ).loc main_arg2) (ix2 k (colOf f)) := by
  show StableHlo.after hostOps0 (W0 m ρ c) (Proc.devRef .tc main_v82) (ix2 k ⟨f.val, _⟩) = _
  unfold hostOps0
  simp (disch := decide) only [StableHlo.readAfter, StableHlo.unary_result']
  pointwise []
  simp (disch := decide) only [StableHlo.readUpto, StableHlo.binary_result']
  pointwise []
  refine (take_col _ _ k f (colOf f) ?_).trans ?_
  · repeat after_reads_at
    have hw := order_word ⟨f.val % 128, Nat.mod_lt _ (by decide)⟩
    dsimp only at hw
    have hf := f.isLt
    have ha : IntOp.addi (BitVec.ofNat 32 (f.val / 128 * 128)) (BitVec.ofNat 32 (perm ⟨f.val % 128, Nat.mod_lt _ (by decide)⟩).val)
        = BitVec.ofNat 32 (colOf f).val := (BitVec.ofNat_add _ _).symm
    simp only [hw, ha]
    exact select_word _ _ (by have := (colOf f).isLt; omega)
  · after_reads_at

/-- The values' columns of the weights stay. -/
theorem host_w_v (k : Fin 1024) (f : Fin 256) :
    V1 (F := Ideal) m ρ c main_v82 (ix2 k ⟨1280 + f.val, by have := f.isLt; omega⟩)
      = m ((c.tc : Thread nD τ).loc main_arg2) (ix2 k ⟨1280 + f.val, by have := f.isLt; omega⟩) := by
  show StableHlo.after hostOps0 (W0 m ρ c) (Proc.devRef .tc main_v82) (ix2 k ⟨1280 + f.val, _⟩) = _
  unfold hostOps0
  simp (disch := decide) only [StableHlo.readAfter, StableHlo.unary_result']
  pointwise []
  simp (disch := decide) only [StableHlo.readUpto, StableHlo.binary_result']
  pointwise []
  repeat after_reads_at

end Cert.Mix
end
-- ==== Proof.MixReal.lean ====
/- The mixer's row functions where their scores are real numbers: the two layouts of the rotary features give one score,
   and powers of two of scaled scores, summed and divided at the end, are the softmax. -/
module

public import proofs.«01_k».proof.Proof.MixHost

@[expose] public section

set_option maxRecDepth 16384

noncomputable section

namespace Cert.Mix

open Idealize.ShloMosaic

/-- The number is a real one. -/
def IsReal (x : EReal) : Prop := ∃ r : ℝ, x = (r : EReal)

/-- A number is real when it is neither infinity. -/
theorem isReal_of_ne {x : EReal} (h : x ≠ ⊤) (h' : x ≠ ⊥) : IsReal x := ⟨x.toReal, (EReal.coe_toReal h h').symm⟩

/-- A product of reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The float 128. -/
theorem val_128 : Ideal.ofBits .f32 0x43000000#32 = ((128 : ℝ) : EReal) := by
  simp [Ideal.ofBits, Ideal.ieee, -EReal.coe_mul]; norm_num

/-- The float 64. -/
theorem val_64 : Ideal.ofBits .f32 0x42800000#32 = ((64 : ℝ) : EReal) := by
  simp [Ideal.ofBits, Ideal.ieee, -EReal.coe_mul]; norm_num

/-- The float 2. -/
theorem val_2 : Ideal.ofBits .f32 0x40000000#32 = ((2 : ℝ) : EReal) := by
  simp [Ideal.ofBits, Ideal.ieee, -EReal.coe_mul]; norm_num

/-- The float 10000 is real. -/
theorem val_10000 : Ideal.ofBits .f32 0x461C4000#32 = ((10000 : ℝ) : EReal) := by
  simp [Ideal.ofBits, Ideal.ieee, -EReal.coe_mul]; norm_num

/-- The norm's small addend is a positive real. -/
theorem val_eps : ∃ r : ℝ, 0 < r ∧ Ideal.ofBits .f32 0x358637BD#32 = (r : EReal) := by
  refine ⟨_, ?_, by simp [Ideal.ofBits, Ideal.ieee, -EReal.coe_mul]; rfl⟩
  positivity

/-- The float minus infinity. -/
theorem val_bot : Ideal.ofBits .f32 0xFF800000#32 = (⊥ : EReal) := by
  simp [Ideal.ofBits, Ideal.ieee]

/-- A square is not negative. -/
theorem sq_nonneg (x : EReal) : 0 ≤ x * x := by
  induction x with
  | bot => simp
  | top => simp
  | coe r => exact_mod_cast mul_self_nonneg r

/-- The root of a positive number's inverse is real. -/
theorem rsqrt_real {y : EReal} (h : 0 < y) : IsReal (Ideal.rsqrt y) := by
  induction y with
  | bot => simp at h
  | top => exact ⟨0, rfl⟩
  | coe r =>
    have hr : 0 < r := by exact_mod_cast h
    exact ⟨(Real.sqrt r)⁻¹, by rw [Ideal.rsqrt_coe, if_neg (not_lt.mpr hr.le), if_neg hr.ne']⟩

/-- A normalised feature is real, whatever the features: where one is infinite the root's inverse is zero. -/
theorem normed_real (x : Fin 128 → EReal) (j : Fin 128) : IsReal (normed 0x43000000#32 x j) := by
  obtain ⟨e, he, hE⟩ := val_eps
  unfold normed
  rw [val_128, hE, Ideal.div_coe (by norm_num)]
  by_cases h : ∃ k, x k = ⊤ ∨ x k = ⊥
  · obtain ⟨k, hk⟩ := h
    have hs : (⊤ : EReal) ≤ ∑ k, x k * x k := by
      have h1 : x k * x k = ⊤ := by rcases hk with hk | hk <;> rw [hk] <;> rfl
      rw [← h1]
      exact Finset.single_le_sum (f := fun k => x k * x k) (fun i _ => sq_nonneg _) (Finset.mem_univ k)
    rw [top_le_iff.mp hs, EReal.top_mul_coe_of_pos (by norm_num), EReal.top_add_coe, Ideal.rsqrt_top, mul_zero]
    exact ⟨0, rfl⟩
  · push Not at h
    refine IsReal.mul (isReal_of_ne (h j).1 (h j).2) (rsqrt_real ?_)
    have h0 : (0 : EReal) ≤ (∑ k, x k * x k) * ((1 / 128 : ℝ) : EReal) :=
      mul_nonneg (Finset.sum_nonneg fun i _ => sq_nonneg _) (by exact_mod_cast (by norm_num : (0 : ℝ) ≤ 1 / 128))
    exact lt_of_lt_of_le (by exact_mod_cast he) (le_add_of_nonneg_left h0)

/-- The rotary angle is real. -/
theorem angle_real (l a p : ℕ) : IsReal (angle l a p) := by
  have hn (n : ℕ) : IsReal (num n) := ⟨_, rfl⟩
  have hf : IsReal (freq p) := by
    obtain ⟨r, hr⟩ := hn p
    unfold freq
    rw [hr, val_10000, val_2, val_64, Ideal.div_coe (by norm_num), ← EReal.coe_mul, ← EReal.coe_neg, ← EReal.coe_mul]
    exact ⟨_, rfl⟩
  unfold angle
  split
  · exact ⟨0, rfl⟩
  split
  · exact (hn _).mul hf
  · exact (hn _).mul hf

/-- The lane a feature is put at. -/
def unperm (e : Fin 128) : Fin 128 :=
  ⟨e.val / 32 % 2 * 64 + e.val / 64 * 32 + e.val % 32, by have := e.isLt; omega⟩

/-- The order of the lanes is a permutation of the features. -/
def permEquiv : Fin 128 ≃ Fin 128 where
  toFun := perm
  invFun := unperm
  left_inv := by decide
  right_inv := by decide

/-- A sum over the lanes' features is the sum over the features. -/
theorem sum_perm (f : Fin 128 → EReal) : ∑ d, f (perm d) = ∑ e, f e := Equiv.sum_comp permEquiv f

/-- The norm does not see the order. -/
theorem normed_perm (w : BitVec 32) (x : Fin 128 → EReal) (d : Fin 128) :
    normed w (fun e => x (perm e)) d = normed w x (perm d) := by
  unfold normed
  rw [sum_perm fun e => x e * x e]

/-- The rotation in the lanes' order is the layer's, feature for feature, a common factor of the gain kept outside. -/
theorem rot_perm (n g : Fin 128 → EReal) (k : ℝ) (l : ℕ) (hn : ∀ e, IsReal (n e)) (hg : ∀ e, IsReal (g e)) (d : Fin 128) :
    rotRow (fun d => n (perm d)) (fun d => g (perm d) * (k : EReal)) (fun d => Ideal.cos (angle l (d.val / 32 % 2) (d.val % 32)))
        (fun d => Ideal.sin (angle l (d.val / 32 % 2) (d.val % 32)) * sgn d.val) d
      = rotPair (fun e => n e * g e) (fun a p => angle l a.val p.val) (perm d) * (k : EReal) := by
  choose N hN using hn
  choose G hG using hg
  obtain ⟨t, ht⟩ := angle_real l (d.val / 32 % 2) (d.val % 32)
  have hd := d.isLt
  have p0 : (perm d).val = d.val / 32 % 2 * 64 + d.val / 64 * 32 + d.val % 32 := rfl
  have p1 : (perm ⟨(d.val + 64) % 128, Nat.mod_lt _ (by decide)⟩).val
      = (d.val + 64) % 128 / 32 % 2 * 64 + (d.val + 64) % 128 / 64 * 32 + (d.val + 64) % 128 % 32 := rfl
  have a1 : (perm d).val / 64 = d.val / 32 % 2 := by rw [p0]; omega
  have a2 : (perm d).val % 32 = d.val % 32 := by rw [p0]; omega
  have a3 : (perm d).val / 32 % 2 = d.val / 64 := by rw [p0]; omega
  unfold rotRow rotPair
  simp only [a1, a2, a3, ht, hN, hG, Ideal.cos_coe, Ideal.sin_coe]
  by_cases h : d.val < 64
  · have e1 : (⟨d.val / 32 % 2 * 64 + d.val % 32, by omega⟩ : Fin 128) = perm d := Fin.ext (by rw [p0]; simp only []; omega)
    have e2 : (⟨d.val / 32 % 2 * 64 + 32 + d.val % 32, by omega⟩ : Fin 128)
        = perm ⟨(d.val + 64) % 128, Nat.mod_lt _ (by decide)⟩ := Fin.ext (by rw [p1]; simp only []; omega)
    rw [if_pos (by omega), e1, e2]
    simp only [sgn, if_pos h]
    rw [show ((Real.sin t : ℝ) : EReal) * -1 = ((-Real.sin t : ℝ) : EReal) by rw [mul_neg, mul_one, EReal.coe_neg]]
    norm_cast
    ring
  · have e1 : (⟨d.val / 32 % 2 * 64 + 32 + d.val % 32, by omega⟩ : Fin 128) = perm d := Fin.ext (by rw [p0]; simp only []; omega)
    have e2 : (⟨d.val / 32 % 2 * 64 + d.val % 32, by omega⟩ : Fin 128)
        = perm ⟨(d.val + 64) % 128, Nat.mod_lt _ (by decide)⟩ := Fin.ext (by rw [p1]; simp only []; omega)
    rw [if_neg (by omega), e1, e2]
    simp only [sgn, if_neg h]
    norm_cast
    ring

/-- A rotated feature is real. -/
theorem rotPair_real (n : Fin 128 → EReal) (l : ℕ) (hn : ∀ e, IsReal (n e)) (e : Fin 128) :
    IsReal (rotPair n (fun a p => angle l a.val p.val) e) := by
  choose N hN using hn
  obtain ⟨t, ht⟩ := angle_real l (e.val / 64) (e.val % 32)
  unfold rotPair
  simp only [ht, hN, Ideal.cos_coe, Ideal.sin_coe]
  split
  · norm_cast; exact ⟨_, rfl⟩
  · norm_cast; exact ⟨_, rfl⟩

/-- A positive real factor goes into a sum. -/
theorem sum_mul_coe (f : Fin 8208 → EReal) (c : ℝ) (hc : 0 ≤ c) : (∑ s, f s) * (c : EReal) = ∑ s, f s * (c : EReal) := by
  have h (S : Finset (Fin 8208)) : (∑ s ∈ S, f s) * (c : EReal) = ∑ s ∈ S, f s * (c : EReal) := by
    induction S using Finset.induction_on with
    | empty => simp
    | insert a S ha ih =>
      rw [Finset.sum_insert ha, Finset.sum_insert ha, ← ih]
      exact EReal.right_distrib_of_nonneg_of_ne_top (by exact_mod_cast hc) (EReal.coe_ne_top c) _ _
  exact h Finset.univ

/-- A sum of reals. -/
theorem coe_sum {n : ℕ} (f : Fin n → ℝ) : ∑ s, ((f s : ℝ) : EReal) = ((∑ s, f s : ℝ) : EReal) := by
  have h (S : Finset (Fin n)) : ∑ s ∈ S, ((f s : ℝ) : EReal) = ((∑ s ∈ S, f s : ℝ) : EReal) := by
    induction S using Finset.induction_on with
    | empty => simp
    | insert a S ha ih => rw [Finset.sum_insert ha, Finset.sum_insert ha, ih, EReal.coe_add]
  exact h Finset.univ

/-- The greatest of real scores is real. -/
theorem max_real (t : Fin 8208 → ℝ) : IsReal (max (Ideal.ofBits .f32 0xFF800000#32)
    (Finset.univ.fold max (Ideal.ofBits .f32 0xFF800000#32) (fun s => ((t s : ℝ) : EReal)))) := by
  rw [val_bot, max_eq_right bot_le]
  refine isReal_of_ne (ne_of_lt ?_) (ne_of_gt ?_)
  · exact (Finset.fold_max_lt _).mpr ⟨bot_lt_top, fun s _ => EReal.coe_lt_top _⟩
  · exact (Finset.lt_fold_max _).mpr (Or.inr ⟨⟨0, by decide⟩, Finset.mem_univ _, EReal.bot_lt_coe _⟩)

/-- The sum of exponentials is positive. -/
theorem exp_sum_pos {n : ℕ} (t : Fin n → ℝ) (i : Fin n) : 0 < ∑ s, Real.exp (t s) :=
  Finset.sum_pos (fun s _ => Real.exp_pos _) ⟨i, Finset.mem_univ _⟩

/-- Moved scores give the same sum but for a factor. -/
theorem exp_sum_sub {n : ℕ} (t : Fin n → ℝ) (M : ℝ) : ∑ s, Real.exp (t s - M) = (∑ s, Real.exp (t s)) * (Real.exp M)⁻¹ := by
  rw [Finset.sum_mul]
  exact Finset.sum_congr rfl fun s _ => by rw [Real.exp_sub, div_eq_mul_inv]

/-- One term of the quotient. -/
theorem quot_term (v : EReal) (a M Z : ℝ) (hZ : 0 < Z) : v * ((Real.exp a : ℝ) : EReal) * ((1 / Z : ℝ) : EReal)
    = v * Ideal.div ((Real.exp (a - M) : ℝ) : EReal) ((Z * (Real.exp M)⁻¹ : ℝ) : EReal) := by
  have hM' := Real.exp_pos M
  rw [Ideal.div_coe (by positivity), mul_assoc, ← EReal.coe_mul, ← EReal.coe_mul, Real.exp_sub]
  congr 2
  field_simp

/-- With real scores, the exponentials summed with the values and divided at the end are the softmax. -/
theorem soft_of_exp (t : Fin 8208 → ℝ) (v : Fin 8208 → EReal) :
    (∑ s, v s * ((Real.exp (t s) : ℝ) : EReal)) * Ideal.div 1 (∑ s, ((Real.exp (t s) : ℝ) : EReal))
      = softRow (fun s => ((t s : ℝ) : EReal)) v := by
  obtain ⟨M, hM⟩ := max_real t
  have hn (s : Fin 8208) : softNum (fun s => ((t s : ℝ) : EReal)) s = ((Real.exp (t s - M) : ℝ) : EReal) := by
    unfold softNum
    rw [hM, ← EReal.coe_sub, Ideal.exp_coe]
  have hZ := exp_sum_pos t ⟨0, by decide⟩
  have hZ' := exp_sum_sub t M
  unfold softRow
  simp only [hn]
  rw [coe_sum, coe_sum, hZ']
  generalize ∑ s, Real.exp (t s) = Z at hZ ⊢
  rw [Ideal.div_coe hZ.ne', one_mul, sum_mul_coe _ _ (one_div_nonneg.mpr hZ.le)]
  exact Finset.sum_congr rfl fun s _ => quot_term _ _ _ _ hZ

/-- The scale of the queries in the kernel: the root of the head width and the change of base, as one factor. -/
def qScaleReal : ℝ := (Real.sqrt 128)⁻¹ * (Real.log 2)⁻¹

/-- Powers of two of the scaled scores in the lanes' order are the softmax of the scores divided by the root. -/
theorem attn_soft (K : Fin 8208 → Fin 128 → EReal) (q : Fin 128 → EReal) (RK : Fin 8208 → Fin 128 → EReal)
    (RQ : Fin 128 → EReal) (v : Fin 8208 → EReal) (hK : ∀ s d, K s d = RK s (perm d))
    (hq : ∀ d, q d = RQ (perm d) * (qScaleReal : EReal)) (rK : ∀ s e, IsReal (RK s e)) (rQ : ∀ e, IsReal (RQ e)) :
    attnRow K q v
      = softRow (fun s => ∑ e, RK s e * Ideal.div (RQ e) (Ideal.sqrt (Ideal.ofBits .f32 0x43000000#32))) v := by
  choose k hk using rK
  choose r hr using rQ
  have h2 : 0 < Real.sqrt 128 := Real.sqrt_pos.mpr (by norm_num)
  have hs (s : Fin 8208) : ∑ e, RK s e * Ideal.div (RQ e) (Ideal.sqrt (Ideal.ofBits .f32 0x43000000#32))
      = (((∑ e, k s e * r e) * (Real.sqrt 128)⁻¹ : ℝ) : EReal) := by
    rw [val_128, Ideal.sqrt_coe, if_neg (by norm_num), Finset.sum_mul, ← coe_sum]
    refine Finset.sum_congr rfl fun e _ => ?_
    rw [Ideal.div_coe h2.ne', hk, hr, ← EReal.coe_mul, ← EReal.coe_mul, one_div, mul_assoc]
  have hw (s : Fin 8208) : wt K q s = ((Real.exp ((∑ e, k s e * r e) * (Real.sqrt 128)⁻¹) : ℝ) : EReal) := by
    unfold wt
    have h1 : ∑ e, K s e * q e = (((∑ e, k s e * r e) * qScaleReal : ℝ) : EReal) := by
      rw [Finset.sum_mul, ← coe_sum, ← sum_perm fun e => ((k s e * r e * qScaleReal : ℝ) : EReal)]
      refine Finset.sum_congr rfl fun e _ => ?_
      rw [hK, hq, hk, hr, ← EReal.coe_mul, ← EReal.coe_mul, mul_assoc]
    rw [h1, Ideal.exp2_coe]
    have h3 : Real.log 2 ≠ 0 := (Real.log_pos (by norm_num)).ne'
    have h4 : Real.rpow 2 ((∑ e, k s e * r e) * qScaleReal) = Real.exp ((∑ e, k s e * r e) * (Real.sqrt 128)⁻¹) := by
      show (2 : ℝ) ^ ((∑ e, k s e * r e) * qScaleReal) = _
      rw [Real.rpow_def_of_pos (by norm_num)]
      congr 1
      unfold qScaleReal
      field_simp
    rw [h4]
  unfold attnRow
  simp only [hw, hs]
  exact soft_of_exp _ v

end Cert.Mix
end
-- ==== Proof.QkvKernel.lean ====
/- The projection call's block: what the body leaves in its three outputs, element by element. -/
module

public import proofs.«01_k».proof.Proof.MixSpec
public import Idealize.ShloMosaic.Lib.Pipeline.ValueKit
public import proofs.«01_k».proof.Proof.Gen.MixerIdeal.Frame

@[expose] public section

set_option maxRecDepth 16384

noncomputable section

namespace Cert.Mix

open Idealize.ShloMosaic Idealize.ShloMosaic.TcCoe Idealize.SL.Sem
open Cert.MixerIdeal Cert.MixerIdeal.Gen
open Idealize.ShloMosaic.Pipeline (Dat)

/-- One head's block, at a row and a lane: its features normalised, then rotated. -/
theorem head_row (g : FVec Ideal S1x128 .f32) (c s x : FVec Ideal S304x128 .f32) (r : Fin 304) (d : Fin 128) :
    k0_pay62 (F := Ideal) g c s x (ix3 0 r d)
      = rotRow (normed 0x43000000#32 (fun e => x (ix2 r e))) (fun e => g (ix2 0 e)) (fun e => c (ix2 r e)) (fun e => s (ix2 r e)) d := by
  pointwise [k0_pay62, rotRow, normed]
  rfl

/-- The projection to the queries, at a row and a column. -/
theorem pay6_row (A : Vec Ideal S1x304x1024 .f32) (B : Vec Ideal S1x1024 .f32) (W : Vec Ideal S1024x1024 .bf16) (r : Fin 304) (f : Fin 1024) :
    k0_pay6 (F := Ideal) A B W (ix2 r f)
      = ∑ k, normed 0x44800000#32 (fun j => A (ix3 0 r j)) k * B (ix2 0 k) * W (ix2 k f) := by
  pointwise [k0_pay6, k0_pay3, normed]

/-- The projection to the keys and values, at a row and a column. -/
theorem pay21_row (A : Vec Ideal S1x304x1024 .f32) (B : Vec Ideal S1x1024 .f32) (W : Vec Ideal S1024x512 .bf16) (r : Fin 304) (f : Fin 512) :
    k0_pay21 (F := Ideal) (k0_pay3 A B) W (ix2 r f)
      = ∑ k, normed 0x44800000#32 (fun j => A (ix3 0 r j)) k * B (ix2 0 k) * W (ix2 k f) := by
  pointwise [k0_pay21, k0_pay3, normed]

/-- The factor the query gain carries. -/
def qScale : EReal := (Named.named κ "q_scale" 0x3E0293EE#32 : Ideal .f32)

/-- The queries' gain, with its factor. -/
def qGain (G : FVec Ideal S1x128 .f32) (e : Fin 128) : EReal := G (ix2 0 e) * qScale

/-- The keys' gain. -/
def kGain (G : FVec Ideal S1x128 .f32) (e : Fin 128) : EReal := G (ix2 0 e)

/-- The projection of a normalised row of the stream, at a column. -/
def projRow (A : Fin 1024 → EReal) (B : Fin 1024 → EReal) (W : Fin 1024 → EReal) : EReal :=
  ∑ k, normed 0x44800000#32 A k * B k * W k

/-- A head's stored block: its projection, normalised and rotated. -/
def headTile (A : Vec Ideal S1x912x1024 .f32) (B : Vec Ideal S1x1024 .f32) (W : Vec Ideal S1024x1536 .bf16) (g : Fin 128 → EReal)
    (C S : Vec Ideal S912x128 .f32) (r : Fin 912) (o : ℕ) (ho : o + 128 ≤ 1536) (d : Fin 128) : EReal :=
  rotRow (normed 0x43000000#32 (fun e => projRow (fun k => A (ix3 0 r k)) (fun k => B (ix2 0 k)) (fun k => W (ix2 k ⟨o + e.val, by have := e.isLt; omega⟩))))
    g (fun e => C (ix2 r e)) (fun e => S (ix2 r e)) d

/-- A query head's block is its projection, normalised and rotated. -/
theorem q_tile (A : Vec Ideal S1x912x1024 .f32) (B : Vec Ideal S1x1024 .f32) (W : Vec Ideal S1024x1536 .bf16) (G : Vec Ideal S1x128 .f32)
    (C S : Vec Ideal S912x128 .f32) (a o : ℕ) (ha : a + 304 ≤ 912) (ho : S304x1024.Slices ![0, o] S304x128) (ho' : o + 128 ≤ 1024)
    (h0 : ∀ i, (![0, a, 0] : Fin 3 → ℕ) i + S1x304x1024.size i ≤ S1x912x1024.size i)
    (h5 : ∀ i, (![a, 0] : Fin 2 → ℕ) i + S304x128.size i ≤ S912x128.size i) (r : Fin 304) (d : Fin 128) :
    k0_pay62 (F := Ideal) (k0_pay2 (View.ld (Val := Elt Ideal) (e' := .f32) G r0_0))
      (k0_pay4 (View.ld (Val := Elt Ideal) (e' := .f32) C (Rect.unit (s := S912x128) ![a, 0] S304x128.size h5)))
      (k0_pay5 (View.ld (Val := Elt Ideal) (e' := .f32) S (Rect.unit (s := S912x128) ![a, 0] S304x128.size h5)))
      (extractStridedSlice S304x128 ![0, o] (k0_pay6
        (View.ld (Val := Elt Ideal) (e' := .f32) A (Rect.unit (s := S1x912x1024) ![0, a, 0] S1x304x1024.size h0))
        (View.ld (Val := Elt Ideal) (e' := .f32) B r0_2) (View.ld (Val := Elt Ideal) (e' := .bf16) W r0_4)) ho) (ix3 0 r d)
      = headTile A B W (qGain G) C S ⟨a + r.val, by have := r.isLt; omega⟩ o (by omega) d := by
  rw [head_row, headTile]
  refine congrFun (congr (congr (congrArg₂ rotRow (congrArg (normed _) (funext fun e => ?_)) (funext fun e => ?_)) (funext fun e => ?_)) (funext fun e => ?_)) d
  · refine Eq.trans (b := k0_pay6 (F := Ideal)
        (View.ld (Val := Elt Ideal) (e' := .f32) A (Rect.unit (s := S1x912x1024) ![0, a, 0] S1x304x1024.size h0))
        (View.ld (Val := Elt Ideal) (e' := .f32) B r0_2) (View.ld (Val := Elt Ideal) (e' := .bf16) W r0_4) (ix2 r ⟨o + e.val, by have := e.isLt; omega⟩)) ?_ ?_
    · pointwise []
    · rw [pay6_row, projRow]
      pointwise [normed]
  · pointwise [k0_pay2, qScale, qGain]
  · pointwise [k0_pay4]
  · pointwise [k0_pay5]

/-- A key head's block is its projection, normalised and rotated. -/
theorem k_tile (A : Vec Ideal S1x912x1024 .f32) (B : Vec Ideal S1x1024 .f32) (W : Vec Ideal S1024x1536 .bf16) (G : Vec Ideal S1x128 .f32)
    (C S : Vec Ideal S912x128 .f32) (a o : ℕ) (ha : a + 304 ≤ 912) (ho : S304x512.Slices ![0, o] S304x128) (ho' : o + 128 ≤ 512)
    (h0 : ∀ i, (![0, a, 0] : Fin 3 → ℕ) i + S1x304x1024.size i ≤ S1x912x1024.size i)
    (h5 : ∀ i, (![a, 0] : Fin 2 → ℕ) i + S304x128.size i ≤ S912x128.size i) (r : Fin 304) (d : Fin 128) :
    k0_pay62 (F := Ideal) (k0_pay23 (View.ld (Val := Elt Ideal) (e' := .f32) G r0_0))
      (k0_pay4 (View.ld (Val := Elt Ideal) (e' := .f32) C (Rect.unit (s := S912x128) ![a, 0] S304x128.size h5)))
      (k0_pay5 (View.ld (Val := Elt Ideal) (e' := .f32) S (Rect.unit (s := S912x128) ![a, 0] S304x128.size h5)))
      (extractStridedSlice S304x128 ![0, o] (k0_pay21 (k0_pay3
        (View.ld (Val := Elt Ideal) (e' := .f32) A (Rect.unit (s := S1x912x1024) ![0, a, 0] S1x304x1024.size h0))
        (View.ld (Val := Elt Ideal) (e' := .f32) B r0_2)) (View.ld (Val := Elt Ideal) (e' := .bf16) W r0_13)) ho) (ix3 0 r d)
      = headTile A B W (kGain G) C S ⟨a + r.val, by have := r.isLt; omega⟩ (1024 + o) (by omega) d := by
  rw [head_row, headTile]
  refine congrFun (congr (congr (congrArg₂ rotRow (congrArg (normed _) (funext fun e => ?_)) (funext fun e => ?_)) (funext fun e => ?_)) (funext fun e => ?_)) d
  · refine Eq.trans (b := k0_pay21 (F := Ideal) (k0_pay3
        (View.ld (Val := Elt Ideal) (e' := .f32) A (Rect.unit (s := S1x912x1024) ![0, a, 0] S1x304x1024.size h0))
        (View.ld (Val := Elt Ideal) (e' := .f32) B r0_2)) (View.ld (Val := Elt Ideal) (e' := .bf16) W r0_13) (ix2 r ⟨o + e.val, by have := e.isLt; omega⟩)) ?_ ?_
    · pointwise []
    · rw [pay21_row, projRow]
      pointwise [normed]
      simp only [Nat.add_assoc]
  · pointwise [k0_pay23, kGain]
  · pointwise [k0_pay4]
  · pointwise [k0_pay5]

/-- The values' block is their projection. -/
theorem v_tile (A : Vec Ideal S1x912x1024 .f32) (B : Vec Ideal S1x1024 .f32) (W : Vec Ideal S1024x1536 .bf16)
    (a : ℕ) (ha : a + 304 ≤ 912)
    (h0 : ∀ i, (![0, a, 0] : Fin 3 → ℕ) i + S1x304x1024.size i ≤ S1x912x1024.size i) (r : Fin 304) (f : Fin 256) :
    k0_pay28 (F := Ideal) (k0_pay21 (k0_pay3
        (View.ld (Val := Elt Ideal) (e' := .f32) A (Rect.unit (s := S1x912x1024) ![0, a, 0] S1x304x1024.size h0))
        (View.ld (Val := Elt Ideal) (e' := .f32) B r0_2)) (View.ld (Val := Elt Ideal) (e' := .bf16) W r0_13)) (ix3 0 r f)
      = projRow (fun k => A (ix3 0 ⟨a + r.val, by have := r.isLt; omega⟩ k)) (fun k => B (ix2 0 k)) (fun k => W (ix2 k ⟨1280 + f.val, by have := f.isLt; omega⟩)) := by
  refine Eq.trans (b := k0_pay21 (F := Ideal) (k0_pay3
        (View.ld (Val := Elt Ideal) (e' := .f32) A (Rect.unit (s := S1x912x1024) ![0, a, 0] S1x304x1024.size h0))
        (View.ld (Val := Elt Ideal) (e' := .f32) B r0_2)) (View.ld (Val := Elt Ideal) (e' := .bf16) W r0_13) (ix2 r ⟨256 + f.val, by have := f.isLt; omega⟩)) ?_ ?_
  · pointwise [k0_pay28]
  · rw [pay21_row, projRow]
    pointwise [normed]
    simp only [← Nat.add_assoc]

/-- The block function of the queries. -/
def qBlock (A : Vec Ideal S1x912x1024 .f32) (B : Vec Ideal S1x1024 .f32) (W : Vec Ideal S1024x1536 .bf16) (G : Vec Ideal S1x128 .f32)
    (C S : Vec Ideal S912x128 .f32) : FVec Ideal S1x912x1024 .bf16 :=
  fun y => headTile A B W (qGain G) C S (y 1) ((y 2).val / 128 * 128) (by have h : (y 2).val < 1024 := (y 2).isLt; omega)
    ⟨(y 2).val % 128, Nat.mod_lt _ (by decide)⟩

/-- The block function of the keys. -/
def kBlock (A : Vec Ideal S1x912x1024 .f32) (B : Vec Ideal S1x1024 .f32) (W : Vec Ideal S1024x1536 .bf16) (G : Vec Ideal S1x128 .f32)
    (C S : Vec Ideal S912x128 .f32) : FVec Ideal S1x912x256 .bf16 :=
  fun y => headTile A B W (kGain G) C S (y 1) (1024 + (y 2).val / 128 * 128) (by have h : (y 2).val < 256 := (y 2).isLt; omega)
    ⟨(y 2).val % 128, Nat.mod_lt _ (by decide)⟩

/-- The block function of the values. -/
def vBlock (A : Vec Ideal S1x912x1024 .f32) (B : Vec Ideal S1x1024 .f32) (W : Vec Ideal S1024x1536 .bf16) : FVec Ideal S1x912x256 .bf16 :=
  fun y => projRow (fun k => A (ix3 0 (y 1) k)) (fun k => B (ix2 0 k)) (fun k => W (ix2 k ⟨1280 + (y 2).val, by have h : (y 2).val < 256 := (y 2).isLt; omega⟩))

/-- An index of a stored piece. -/
theorem idx_piece {n : ℕ} (x : (⟨3, ![1, 304, n]⟩ : Shape).Idx) : x = ix3 (0 : Fin 1) (x 1 : Fin 304) (x 2 : Fin n) := by
  funext a
  fin_cases a
  · exact Subsingleton.elim (α := Fin 1) _ _
  · rfl
  · rfl

/-- Equal rows, columns and lanes give equal entries of a head's block. -/
theorem headTile_congr (A : Vec Ideal S1x912x1024 .f32) (B : Vec Ideal S1x1024 .f32) (W : Vec Ideal S1024x1536 .bf16) (g : Fin 128 → EReal)
    (C S : Vec Ideal S912x128 .f32) {r r' : Fin 912} {o o' : ℕ} (ho : o + 128 ≤ 1536) (ho' : o' + 128 ≤ 1536) {d d' : Fin 128}
    (hr : r = r') (h : o = o') (hd : d = d') : headTile A B W g C S r o ho d = headTile A B W g C S r' o' ho' d' := by
  subst hr h hd; rfl

/-- A query head's block is the block function where it is stored. -/
theorem q_piece (A : Vec Ideal S1x912x1024 .f32) (B : Vec Ideal S1x1024 .f32) (W : Vec Ideal S1024x1536 .bf16) (G : Vec Ideal S1x128 .f32)
    (C S : Vec Ideal S912x128 .f32) (a o : ℕ) (ha : a + 304 ≤ 912) (hm : o % 128 = 0) (ho : S304x1024.Slices ![0, o] S304x128) (ho' : o + 128 ≤ 1024)
    (h0 : ∀ i, (![0, a, 0] : Fin 3 → ℕ) i + S1x304x1024.size i ≤ S1x912x1024.size i)
    (h5 : ∀ i, (![a, 0] : Fin 2 → ℕ) i + S304x128.size i ≤ S912x128.size i)
    (h7 : ∀ i, (![0, a, o] : Fin 3 → ℕ) i + S1x304x128.size i ≤ S1x912x1024.size i)
    (w : FVec Ideal S1x304x128 .bf16)
    (hw : w = k0_pay62 (F := Ideal) (k0_pay2 (View.ld (Val := Elt Ideal) (e' := .f32) G r0_0))
      (k0_pay4 (View.ld (Val := Elt Ideal) (e' := .f32) C (Rect.unit (s := S912x128) ![a, 0] S304x128.size h5)))
      (k0_pay5 (View.ld (Val := Elt Ideal) (e' := .f32) S (Rect.unit (s := S912x128) ![a, 0] S304x128.size h5)))
      (extractStridedSlice S304x128 ![0, o] (k0_pay6
        (View.ld (Val := Elt Ideal) (e' := .f32) A (Rect.unit (s := S1x912x1024) ![0, a, 0] S1x304x1024.size h0))
        (View.ld (Val := Elt Ideal) (e' := .f32) B r0_2) (View.ld (Val := Elt Ideal) (e' := .bf16) W r0_4)) ho))
    (x : (Rect.unit (s := S1x912x1024) ![0, a, o] S1x304x128.size h7).shape.Idx) :
    w x = qBlock A B W G C S ((Rect.unit (s := S1x912x1024) ![0, a, o] S1x304x128.size h7).emb x) := by
  rw [idx_piece x]
  refine (congrFun hw _).trans ((q_tile A B W G C S a o ha ho ho' h0 h5 (x 1) (x 2)).trans ?_)
  rw [qBlock]
  have hx : (x 2).val < 128 := (x 2).isLt
  refine headTile_congr A B W _ C S _ _ (Fin.ext ?_) ?_ (Fin.ext ?_)
  · show a + (x 1).val = a + 1 * (x 1).val
    omega
  · show o = (o + 1 * (x 2).val) / 128 * 128
    omega
  · show (x 2).val = (o + 1 * (x 2).val) % 128
    omega

/-- A key head's block is the block function where it is stored. -/
theorem k_piece (A : Vec Ideal S1x912x1024 .f32) (B : Vec Ideal S1x1024 .f32) (W : Vec Ideal S1024x1536 .bf16) (G : Vec Ideal S1x128 .f32)
    (C S : Vec Ideal S912x128 .f32) (a o : ℕ) (ha : a + 304 ≤ 912) (hm : o % 128 = 0) (ho : S304x512.Slices ![0, o] S304x128) (ho' : o + 128 ≤ 256)
    (h0 : ∀ i, (![0, a, 0] : Fin 3 → ℕ) i + S1x304x1024.size i ≤ S1x912x1024.size i)
    (h5 : ∀ i, (![a, 0] : Fin 2 → ℕ) i + S304x128.size i ≤ S912x128.size i)
    (h7 : ∀ i, (![0, a, o] : Fin 3 → ℕ) i + S1x304x128.size i ≤ S1x912x256.size i)
    (w : FVec Ideal S1x304x128 .bf16)
    (hw : w = k0_pay62 (F := Ideal) (k0_pay23 (View.ld (Val := Elt Ideal) (e' := .f32) G r0_0))
      (k0_pay4 (View.ld (Val := Elt Ideal) (e' := .f32) C (Rect.unit (s := S912x128) ![a, 0] S304x128.size h5)))
      (k0_pay5 (View.ld (Val := Elt Ideal) (e' := .f32) S (Rect.unit (s := S912x128) ![a, 0] S304x128.size h5)))
      (extractStridedSlice S304x128 ![0, o] (k0_pay21 (k0_pay3
        (View.ld (Val := Elt Ideal) (e' := .f32) A (Rect.unit (s := S1x912x1024) ![0, a, 0] S1x304x1024.size h0))
        (View.ld (Val := Elt Ideal) (e' := .f32) B r0_2)) (View.ld (Val := Elt Ideal) (e' := .bf16) W r0_13)) ho))
    (x : (Rect.unit (s := S1x912x256) ![0, a, o] S1x304x128.size h7).shape.Idx) :
    w x = kBlock A B W G C S ((Rect.unit (s := S1x912x256) ![0, a, o] S1x304x128.size h7).emb x) := by
  rw [idx_piece x]
  refine (congrFun hw _).trans ((k_tile A B W G C S a o ha ho (by omega) h0 h5 (x 1) (x 2)).trans ?_)
  rw [kBlock]
  have hx : (x 2).val < 128 := (x 2).isLt
  refine headTile_congr A B W _ C S _ _ (Fin.ext ?_) ?_ (Fin.ext ?_)
  · show a + (x 1).val = a + 1 * (x 1).val
    omega
  · show 1024 + o = 1024 + (o + 1 * (x 2).val) / 128 * 128
    omega
  · show (x 2).val = (o + 1 * (x 2).val) % 128
    omega

/-- The values' block is the block function where it is stored. -/
theorem v_piece (A : Vec Ideal S1x912x1024 .f32) (B : Vec Ideal S1x1024 .f32) (W : Vec Ideal S1024x1536 .bf16)
    (a : ℕ) (ha : a + 304 ≤ 912)
    (h0 : ∀ i, (![0, a, 0] : Fin 3 → ℕ) i + S1x304x1024.size i ≤ S1x912x1024.size i)
    (h7 : ∀ i, (![0, a, 0] : Fin 3 → ℕ) i + S1x304x256.size i ≤ S1x912x256.size i)
    (w : FVec Ideal S1x304x256 .bf16)
    (hw : w = k0_pay28 (F := Ideal) (k0_pay21 (k0_pay3
        (View.ld (Val := Elt Ideal) (e' := .f32) A (Rect.unit (s := S1x912x1024) ![0, a, 0] S1x304x1024.size h0))
        (View.ld (Val := Elt Ideal) (e' := .f32) B r0_2)) (View.ld (Val := Elt Ideal) (e' := .bf16) W r0_13)))
    (x : (Rect.unit (s := S1x912x256) ![0, a, 0] S1x304x256.size h7).shape.Idx) :
    w x = vBlock A B W ((Rect.unit (s := S1x912x256) ![0, a, 0] S1x304x256.size h7).emb x) := by
  rw [idx_piece x]
  refine (congrFun hw _).trans ((v_tile A B W a ha h0 (x 1) (x 2)).trans ?_)
  rw [vBlock]
  refine congr (congrArg (fun z => projRow z _) (funext fun k => congrArg A (congrArg (fun z => ix3 0 z k) (Fin.ext ?_)))) (funext fun k => congrArg W (congrArg (ix2 k) (Fin.ext ?_)))
  · show a + (x 1).val = a + 1 * (x 1).val
    omega
  · show 1280 + (x 2).val = 1280 + (0 + 1 * (x 2).val)
    omega

/-- What the body leaves in the queries' block. -/
theorem out7 (A : Vec Ideal S1x912x1024 .f32) (B : Vec Ideal S1x1024 .f32) (W : Vec Ideal S1024x1536 .bf16) (G G' : Vec Ideal S1x128 .f32)
    (C S : Vec Ideal S912x128 .f32) (y : S1x912x1024.Idx) : out0_7 (F := Ideal) A B W G G' C S y = qBlock A B W G C S y := by
  unfold_out out0_7
  refine View.canon_apply_of_pieces (Val := Elt Ideal) (e := .bf16) (S := S1x912x1024) (qBlock A B W G C S) _ ?_ y ?_
  · refine List.forall_mem_cons.mpr ⟨q_piece A B W G C S 608 896 (by decide) (by decide) slices_S304x1024_o0_896_S304x128 (by decide) inb_S1x912x1024_S1x304x1024_0_608_0 inb_S912x128_S304x128_608_0 inb_S1x912x1024_S1x304x128_0_608_896 _ rfl, ?_⟩
    refine List.forall_mem_cons.mpr ⟨q_piece A B W G C S 608 768 (by decide) (by decide) slices_S304x1024_o0_768_S304x128 (by decide) inb_S1x912x1024_S1x304x1024_0_608_0 inb_S912x128_S304x128_608_0 inb_S1x912x1024_S1x304x128_0_608_768 _ rfl, ?_⟩
    refine List.forall_mem_cons.mpr ⟨q_piece A B W G C S 608 640 (by decide) (by decide) slices_S304x1024_o0_640_S304x128 (by decide) inb_S1x912x1024_S1x304x1024_0_608_0 inb_S912x128_S304x128_608_0 inb_S1x912x1024_S1x304x128_0_608_640 _ rfl, ?_⟩
    refine List.forall_mem_cons.mpr ⟨q_piece A B W G C S 608 512 (by decide) (by decide) slices_S304x1024_o0_512_S304x128 (by decide) inb_S1x912x1024_S1x304x1024_0_608_0 inb_S912x128_S304x128_608_0 inb_S1x912x1024_S1x304x128_0_608_512 _ rfl, ?_⟩
    refine List.forall_mem_cons.mpr ⟨q_piece A B W G C S 608 384 (by decide) (by decide) slices_S304x1024_o0_384_S304x128 (by decide) inb_S1x912x1024_S1x304x1024_0_608_0 inb_S912x128_S304x128_608_0 inb_S1x912x1024_S1x304x128_0_608_384 _ rfl, ?_⟩
    refine List.forall_mem_cons.mpr ⟨q_piece A B W G C S 608 256 (by decide) (by decide) slices_S304x1024_o0_256_S304x128 (by decide) inb_S1x912x1024_S1x304x1024_0_608_0 inb_S912x128_S304x128_608_0 inb_S1x912x1024_S1x304x128_0_608_256 _ rfl, ?_⟩
    refine List.forall_mem_cons.mpr ⟨q_piece A B W G C S 608 128 (by decide) (by decide) slices_S304x1024_o0_128_S304x128 (by decide) inb_S1x912x1024_S1x304x1024_0_608_0 inb_S912x128_S304x128_608_0 inb_S1x912x1024_S1x304x128_0_608_128 _ rfl, ?_⟩
    refine List.forall_mem_cons.mpr ⟨q_piece A B W G C S 608 0 (by decide) (by decide) slices_S304x1024_o0_0_S304x128 (by decide) inb_S1x912x1024_S1x304x1024_0_608_0 inb_S912x128_S304x128_608_0 inb_S1x912x1024_S1x304x128_0_608_0 _ rfl, ?_⟩
    refine List.forall_mem_cons.mpr ⟨q_piece A B W G C S 304 896 (by decide) (by decide) slices_S304x1024_o0_896_S304x128 (by decide) inb_S1x912x1024_S1x304x1024_0_304_0 inb_S912x128_S304x128_304_0 inb_S1x912x1024_S1x304x128_0_304_896 _ rfl, ?_⟩
    refine List.forall_mem_cons.mpr ⟨q_piece A B W G C S 304 768 (by decide) (by decide) slices_S304x1024_o0_768_S304x128 (by decide) inb_S1x912x1024_S1x304x1024_0_304_0 inb_S912x128_S304x128_304_0 inb_S1x912x1024_S1x304x128_0_304_768 _ rfl, ?_⟩
    refine List.forall_mem_cons.mpr ⟨q_piece A B W G C S 304 640 (by decide) (by decide) slices_S304x1024_o0_640_S304x128 (by decide) inb_S1x912x1024_S1x304x1024_0_304_0 inb_S912x128_S304x128_304_0 inb_S1x912x1024_S1x304x128_0_304_640 _ rfl, ?_⟩
    refine List.forall_mem_cons.mpr ⟨q_piece A B W G C S 304 512 (by decide) (by decide) slices_S304x1024_o0_512_S304x128 (by decide) inb_S1x912x1024_S1x304x1024_0_304_0 inb_S912x128_S304x128_304_0 inb_S1x912x1024_S1x304x128_0_304_512 _ rfl, ?_⟩
    refine List.forall_mem_cons.mpr ⟨q_piece A B W G C S 304 384 (by decide) (by decide) slices_S304x1024_o0_384_S304x128 (by decide) inb_S1x912x1024_S1x304x1024_0_304_0 inb_S912x128_S304x128_304_0 inb_S1x912x1024_S1x304x128_0_304_384 _ rfl, ?_⟩
    refine List.forall_mem_cons.mpr ⟨q_piece A B W G C S 304 256 (by decide) (by decide) slices_S304x1024_o0_256_S304x128 (by decide) inb_S1x912x1024_S1x304x1024_0_304_0 inb_S912x128_S304x128_304_0 inb_S1x912x1024_S1x304x128_0_304_256 _ rfl, ?_⟩
    refine List.forall_mem_cons.mpr ⟨q_piece A B W G C S 304 128 (by decide) (by decide) slices_S304x1024_o0_128_S304x128 (by decide) inb_S1x912x1024_S1x304x1024_0_304_0 inb_S912x128_S304x128_304_0 inb_S1x912x1024_S1x304x128_0_304_128 _ rfl, ?_⟩
    refine List.forall_mem_cons.mpr ⟨q_piece A B W G C S 304 0 (by decide) (by decide) slices_S304x1024_o0_0_S304x128 (by decide) inb_S1x912x1024_S1x304x1024_0_304_0 inb_S912x128_S304x128_304_0 inb_S1x912x1024_S1x304x128_0_304_0 _ rfl, ?_⟩
    refine List.forall_mem_cons.mpr ⟨q_piece A B W G C S 0 896 (by decide) (by decide) slices_S304x1024_o0_896_S304x128 (by decide) inb_S1x912x1024_S1x304x1024_0_0_0 inb_S912x128_S304x128_0_0 inb_S1x912x1024_S1x304x128_0_0_896 _ rfl, ?_⟩
    refine List.forall_mem_cons.mpr ⟨q_piece A B W G C S 0 768 (by decide) (by decide) slices_S304x1024_o0_768_S304x128 (by decide) inb_S1x912x1024_S1x304x1024_0_0_0 inb_S912x128_S304x128_0_0 inb_S1x912x1024_S1x304x128_0_0_768 _ rfl, ?_⟩
    refine List.forall_mem_cons.mpr ⟨q_piece A B W G C S 0 640 (by decide) (by decide) slices_S304x1024_o0_640_S304x128 (by decide) inb_S1x912x1024_S1x304x1024_0_0_0 inb_S912x128_S304x128_0_0 inb_S1x912x1024_S1x304x128_0_0_640 _ rfl, ?_⟩
    refine List.forall_mem_cons.mpr ⟨q_piece A B W G C S 0 512 (by decide) (by decide) slices_S304x1024_o0_512_S304x128 (by decide) inb_S1x912x1024_S1x304x1024_0_0_0 inb_S912x128_S304x128_0_0 inb_S1x912x1024_S1x304x128_0_0_512 _ rfl, ?_⟩
    refine List.forall_mem_cons.mpr ⟨q_piece A B W G C S 0 384 (by decide) (by decide) slices_S304x1024_o0_384_S304x128 (by decide) inb_S1x912x1024_S1x304x1024_0_0_0 inb_S912x128_S304x128_0_0 inb_S1x912x1024_S1x304x128_0_0_384 _ rfl, ?_⟩
    refine List.forall_mem_cons.mpr ⟨q_piece A B W G C S 0 256 (by decide) (by decide) slices_S304x1024_o0_256_S304x128 (by decide) inb_S1x912x1024_S1x304x1024_0_0_0 inb_S912x128_S304x128_0_0 inb_S1x912x1024_S1x304x128_0_0_256 _ rfl, ?_⟩
    refine List.forall_mem_cons.mpr ⟨q_piece A B W G C S 0 128 (by decide) (by decide) slices_S304x1024_o0_128_S304x128 (by decide) inb_S1x912x1024_S1x304x1024_0_0_0 inb_S912x128_S304x128_0_0 inb_S1x912x1024_S1x304x128_0_0_128 _ rfl, ?_⟩
    refine List.forall_mem_cons.mpr ⟨q_piece A B W G C S 0 0 (by decide) (by decide) slices_S304x1024_o0_0_S304x128 (by decide) inb_S1x912x1024_S1x304x1024_0_0_0 inb_S912x128_S304x128_0_0 inb_S1x912x1024_S1x304x128_0_0_0 _ rfl, ?_⟩
    exact fun p hp => absurd hp List.not_mem_nil
  · exact View.cover_of_tiled_head _ _ _ rfl y

/-- What the body leaves in the keys' block. -/
theorem out8 (A : Vec Ideal S1x912x1024 .f32) (B : Vec Ideal S1x1024 .f32) (W : Vec Ideal S1024x1536 .bf16) (G G' : Vec Ideal S1x128 .f32)
    (C S : Vec Ideal S912x128 .f32) (y : S1x912x256.Idx) : out0_8 (F := Ideal) A B W G G' C S y = kBlock A B W G' C S y := by
  unfold_out out0_8
  refine View.canon_apply_of_pieces (Val := Elt Ideal) (e := .bf16) (S := S1x912x256) (kBlock A B W G' C S) _ ?_ y ?_
  · refine List.forall_mem_cons.mpr ⟨k_piece A B W G' C S 608 128 (by decide) (by decide) slices_S304x512_o0_128_S304x128 (by decide) inb_S1x912x1024_S1x304x1024_0_608_0 inb_S912x128_S304x128_608_0 inb_S1x912x256_S1x304x128_0_608_128 _ rfl, ?_⟩
    refine List.forall_mem_cons.mpr ⟨k_piece A B W G' C S 608 0 (by decide) (by decide) slices_S304x512_o0_0_S304x128 (by decide) inb_S1x912x1024_S1x304x1024_0_608_0 inb_S912x128_S304x128_608_0 inb_S1x912x256_S1x304x128_0_608_0 _ rfl, ?_⟩
    refine List.forall_mem_cons.mpr ⟨k_piece A B W G' C S 304 128 (by decide) (by decide) slices_S304x512_o0_128_S304x128 (by decide) inb_S1x912x1024_S1x304x1024_0_304_0 inb_S912x128_S304x128_304_0 inb_S1x912x256_S1x304x128_0_304_128 _ rfl, ?_⟩
    refine List.forall_mem_cons.mpr ⟨k_piece A B W G' C S 304 0 (by decide) (by decide) slices_S304x512_o0_0_S304x128 (by decide) inb_S1x912x1024_S1x304x1024_0_304_0 inb_S912x128_S304x128_304_0 inb_S1x912x256_S1x304x128_0_304_0 _ rfl, ?_⟩
    refine List.forall_mem_cons.mpr ⟨k_piece A B W G' C S 0 128 (by decide) (by decide) slices_S304x512_o0_128_S304x128 (by decide) inb_S1x912x1024_S1x304x1024_0_0_0 inb_S912x128_S304x128_0_0 inb_S1x912x256_S1x304x128_0_0_128 _ rfl, ?_⟩
    refine List.forall_mem_cons.mpr ⟨k_piece A B W G' C S 0 0 (by decide) (by decide) slices_S304x512_o0_0_S304x128 (by decide) inb_S1x912x1024_S1x304x1024_0_0_0 inb_S912x128_S304x128_0_0 inb_S1x912x256_S1x304x128_0_0_0 _ rfl, ?_⟩
    exact fun p hp => absurd hp List.not_mem_nil
  · exact View.cover_of_tiled_head _ _ _ rfl y

/-- What the body leaves in the values' block. -/
theorem out9 (A : Vec Ideal S1x912x1024 .f32) (B : Vec Ideal S1x1024 .f32) (W : Vec Ideal S1024x1536 .bf16) (G G' : Vec Ideal S1x128 .f32)
    (C S : Vec Ideal S912x128 .f32) (y : S1x912x256.Idx) : out0_9 (F := Ideal) A B W G G' C S y = vBlock A B W y := by
  unfold_out out0_9
  refine View.canon_apply_of_pieces (Val := Elt Ideal) (e := .bf16) (S := S1x912x256) (vBlock A B W) _ ?_ y ?_
  · refine List.forall_mem_cons.mpr ⟨v_piece A B W 608 (by decide) inb_S1x912x1024_S1x304x1024_0_608_0 inb_S1x912x256_S1x304x256_0_608_0 _ rfl, ?_⟩
    refine List.forall_mem_cons.mpr ⟨v_piece A B W 304 (by decide) inb_S1x912x1024_S1x304x1024_0_304_0 inb_S1x912x256_S1x304x256_0_304_0 _ rfl, ?_⟩
    refine List.forall_mem_cons.mpr ⟨v_piece A B W 0 (by decide) inb_S1x912x1024_S1x304x1024_0_0_0 inb_S1x912x256_S1x304x256_0_0_0 _ rfl, ?_⟩
    exact fun p hp => absurd hp List.not_mem_nil
  · exact View.cover_of_tiled_head _ _ _ rfl y

end Cert.Mix
end
-- ==== Proof.MixRef.lean ====
/- The value of the mixer's reference: its result is the softmax of the rotated heads' products, at every token and feature. -/
module

public import proofs.«01_k».proof.Proof.QkvKernel
public import proofs.«01_k».proof.Proof.Gen.MixerRefIdeal.Read

@[expose] public section

set_option maxRecDepth 16384

noncomputable section

namespace Cert.Mix.Ref

open Idealize.ShloMosaic Idealize.ShloMosaic.TcCoe
open Cert.MixerRefIdeal Cert.MixerRefIdeal.Gen Cert.MixerRefIdeal.Read

variable (x0 : FVec Ideal S8x8208x1024 .f32) (x1 : FVec Ideal S4x1024 .f32) (x2 : FVec Ideal S1024x1536 .f32) (x3 x4 : FVec Ideal S128 .f32)

/-- The rotary angles. -/
theorem v31_row (l : Fin 8208) (a : Fin 2) (p : Fin 32) : val_main_v31 (F := Ideal) (ix3 l a p) = angle l.val a.val p.val := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0,  val_main_cst, val_main_cst_0, val_main_cst_1, val_main_cst_2, val_main_cst_3, angle, freq, num]
  rfl

/-- One token's projection, at a column. -/
def proj (b : Fin 8) (l : Fin 8208) (f : Fin 1536) : EReal :=
  projRow (fun k => x0 (ix3 b l k)) (fun k => x1 (ix2 0 k)) (fun k => x2 (ix2 k f))

/-- The projection of the normalised stream. -/
theorem v49_row (b : Fin 8) (l : Fin 8208) (f : Fin 1536) : val_main_v49 (F := Ideal) x0 x1 x2 (ix3 b l f) = proj x0 x1 x2 b l f := by
  pointwise [val_main_v49, val_main_v48, val_main_v47, val_main_v46, val_main_v45, val_main_v44, val_main_v43, val_main_v42, val_main_v41, val_main_v40, val_main_v39, val_main_v38, val_main_v37, val_main_v36, val_main_v35, val_main_v34,  val_main_cst_4, val_main_cst_5, val_main_cst_6, proj, projRow, normed]

/-- A query head's features, normalised, under the gain. -/
theorem v68_row (b : Fin 8) (l : Fin 8208) (h : Fin 8) (e : Fin 128) :
    val_main_v68 (F := Ideal) x0 x1 x2 x3 (ix4 b l h e)
      = normed 0x43000000#32 (fun e => proj x0 x1 x2 b l ⟨h.val * 128 + e.val, by have := h.isLt; have := e.isLt; omega⟩) e * x3 (ix1 e) := by
  pointwise [val_main_v68, val_main_v67, val_main_v66, val_main_v65, val_main_v64, val_main_v63, val_main_v62, val_main_v61, val_main_v60, val_main_v59, val_main_v58, val_main_v57, val_main_v56,  val_main_v51, val_main_v50,  val_main_cst_7, val_main_cst_8, val_main_cst_9, normed]
  simp only [v49_row]

/-- A query head rotated, over the root of its length. -/
theorem v92_row (b : Fin 8) (l : Fin 8208) (h : Fin 8) (e : Fin 128) :
    val_main_v92 (F := Ideal) x0 x1 x2 x3 (ix4 b l h e)
      = Ideal.div (rotPair (fun e => val_main_v68 (F := Ideal) x0 x1 x2 x3 (ix4 b l h e)) (fun a p => angle l.val a.val p.val) e)
          (Ideal.sqrt (Ideal.ofBits .f32 0x43000000#32)) := by
  pointwise [val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69,  val_main_v32, val_main_v33, val_main_cst_10]
  simp only [v31_row]
  rfl

/-- A key head's features, normalised, under the gain. -/
theorem v105_row (b : Fin 8) (l : Fin 8208) (h : Fin 2) (e : Fin 128) :
    val_main_v105 (F := Ideal) x0 x1 x2 x4 (ix4 b l h e)
      = normed 0x43000000#32 (fun e => proj x0 x1 x2 b l ⟨1024 + (h.val * 128 + e.val), by have := h.isLt; have := e.isLt; omega⟩) e * x4 (ix1 e) := by
  pointwise [val_main_v105, val_main_v104, val_main_v103, val_main_v102, val_main_v101, val_main_v100, val_main_v99, val_main_v98, val_main_v97, val_main_v96, val_main_v95, val_main_v94, val_main_v93,  val_main_v53, val_main_v52,  val_main_cst_11, val_main_cst_12, val_main_cst_13, normed]
  simp only [v49_row]

/-- A key head rotated. -/
theorem v126_row (b : Fin 8) (l : Fin 8208) (h : Fin 2) (e : Fin 128) :
    val_main_v126 (F := Ideal) x0 x1 x2 x4 (ix4 b l h e)
      = rotPair (fun e => val_main_v105 (F := Ideal) x0 x1 x2 x4 (ix4 b l h e)) (fun a p => angle l.val a.val p.val) e := by
  pointwise [val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106,  val_main_v32, val_main_v33]
  simp only [v31_row]
  rfl

/-- A score: a key's product with a query. -/
theorem v129_row (b : Fin 8) (h : Fin 2) (g : Fin 4) (l s : Fin 8208) :
    val_main_v129 (F := Ideal) x0 x1 x2 x3 x4 (ix5 b h g l s)
      = ∑ e : Fin 128, val_main_v126 (F := Ideal) x0 x1 x2 x4 (ix4 b s h e)
          * val_main_v92 (F := Ideal) x0 x1 x2 x3 (ix4 b l ⟨h.val * 4 + g.val, by have := h.isLt; have := g.isLt; omega⟩ e) := by
  pointwise [val_main_v129, val_main_v128, val_main_v127]

/-- The greatest score of a query. -/
theorem v130_row (b : Fin 8) (h : Fin 2) (g : Fin 4) (l : Fin 8208) :
    val_main_v130 (F := Ideal) x0 x1 x2 x3 x4 (ix4 b h g l)
      = Finset.univ.fold max (Ideal.ofBits .f32 0xFF800000#32) (fun s => val_main_v129 (F := Ideal) x0 x1 x2 x3 x4 (ix5 b h g l s)) := by
  pointwise [val_main_v130, val_main_cst_14]

/-- The greatest score again, no less than minus infinity. -/
theorem v132_row (i : S8x2x4x8208.Idx) :
    val_main_v132 (F := Ideal) x0 x1 x2 x3 x4 i
      = max (Ideal.ofBits .f32 0xFF800000#32) (val_main_v130 (F := Ideal) x0 x1 x2 x3 x4 i) := by
  rw [val_main_v132_apply, val_main_v131_apply]
  generalize val_main_v130 (F := Ideal) x0 x1 x2 x3 x4 i = y
  rfl

/-- It is one number for all keys of a query. -/
theorem v134_row (b : Fin 8) (h : Fin 2) (g : Fin 4) (l s : Fin 8208) :
    val_main_v134 (F := Ideal) x0 x1 x2 x3 x4 (ix5 b h g l s) = val_main_v132 (F := Ideal) x0 x1 x2 x3 x4 (ix4 b h g l) := by
  unfold val_main_v134 val_main_v133
  generalize val_main_v132 (F := Ideal) x0 x1 x2 x3 x4 = y
  pointwise []

/-- The exponential of the difference, at any index. -/
theorem v136_at (i : S8x2x4x8208x8208.Idx) :
    val_main_v136 (F := Ideal) x0 x1 x2 x3 x4 i
      = Ideal.exp (val_main_v129 (F := Ideal) x0 x1 x2 x3 x4 i - val_main_v134 (F := Ideal) x0 x1 x2 x3 x4 i) := by
  rw [val_main_v136_apply, val_main_v135_apply]
  generalize val_main_v129 (F := Ideal) x0 x1 x2 x3 x4 i = y
  generalize val_main_v134 (F := Ideal) x0 x1 x2 x3 x4 i = z
  rfl

/-- A score's exponential under the greatest one. -/
theorem v136_row (b : Fin 8) (h : Fin 2) (g : Fin 4) (l s : Fin 8208) :
    val_main_v136 (F := Ideal) x0 x1 x2 x3 x4 (ix5 b h g l s)
      = softNum (fun s => val_main_v129 (F := Ideal) x0 x1 x2 x3 x4 (ix5 b h g l s)) s := by
  rw [v136_at, v134_row, v132_row, v130_row]
  rfl

/-- A key's softmax weight. -/
theorem v140_row (b : Fin 8) (h : Fin 2) (g : Fin 4) (l s : Fin 8208) :
    val_main_v140 (F := Ideal) x0 x1 x2 x3 x4 (ix5 b h g l s)
      = Ideal.div (softNum (fun s => val_main_v129 (F := Ideal) x0 x1 x2 x3 x4 (ix5 b h g l s)) s)
          (∑ y, softNum (fun s => val_main_v129 (F := Ideal) x0 x1 x2 x3 x4 (ix5 b h g l s)) y) := by
  pointwise [val_main_v140, val_main_v139, val_main_v138, val_main_v137,  val_main_cst_16]
  simp only [v136_row]

/-- The result, at a token and a feature. -/
theorem v144_row (b : Fin 8) (l : Fin 8208) (f : Fin 1024) :
    val_main_v144 (F := Ideal) x0 x1 x2 x3 x4 (ix3 b l f)
      = softRow (fun s => val_main_v129 (F := Ideal) x0 x1 x2 x3 x4 (ix5 b ⟨f.val / 512, by have := f.isLt; omega⟩
            ⟨f.val / 128 % 4, Nat.mod_lt _ (by decide)⟩ l s))
          (fun s => proj x0 x1 x2 b s ⟨1280 + (f.val / 512 * 128 + f.val % 128), by have := f.isLt; omega⟩) := by
  pointwise [val_main_v144, val_main_v143, val_main_v142, val_main_v141,  val_main_v55, val_main_v54]
  simp only [v140_row, v49_row]
  rfl

end Cert.Mix.Ref
end
-- ==== Proof.QkvArray.lean ====
/- The projection call's result arrays, as functions of the arrays it reads. -/
module

public import proofs.«01_k».proof.Proof.QkvKernel

@[expose] public section

set_option maxRecDepth 16384

noncomputable section

namespace Cert.Mix

open Idealize.ShloMosaic Idealize.ShloMosaic.TcCoe Idealize.SL.Sem
open Cert.MixerIdeal Cert.MixerIdeal.Gen
open Idealize.ShloMosaic.Pipeline (Dat)

/-- The grid's index maps: a batch and a block of tokens. -/
theorem idx0 : ∀ t : Fin cfg0.N,
    win0_0.index t = ![t.val / 9, t.val % 9, 0] ∧ win0_1.index t = ![0, 0] ∧ win0_2.index t = ![0, 0]
    ∧ win0_3.index t = ![0, 0] ∧ win0_4.index t = ![0, 0] ∧ win0_5.index t = ![t.val % 9, 0] ∧ win0_6.index t = ![t.val % 9, 0]
    ∧ win0_7.index t = ![t.val / 9, t.val % 9, 0] ∧ win0_8.index t = ![t.val / 9, t.val % 9, 0] ∧ win0_9.index t = ![t.val / 9, t.val % 9, 0] :=
  (by decide +kernel : ∀ t : Fin grid0.N, _)

/-- A head's features at a token, projected, normalised and rotated. -/
def headArr (H : FVec Ideal S8x8208x1024 .f32) (B : FVec Ideal S1x1024 .f32) (W : FVec Ideal S1024x1536 .bf16) (g : Fin 128 → EReal)
    (C S : FVec Ideal S8208x128 .f32) (b : Fin 8) (l : Fin 8208) (o : ℕ) (ho : o + 128 ≤ 1536) (d : Fin 128) : EReal :=
  rotRow (normed 0x43000000#32 (fun e => projRow (fun k => H (ix3 b l k)) (fun k => B (ix2 0 k)) (fun k => W (ix2 k ⟨o + e.val, by have := e.isLt; omega⟩))))
    g (fun e => C (ix2 l e)) (fun e => S (ix2 l e)) d

/-- A value at a token. -/
def valArr (H : FVec Ideal S8x8208x1024 .f32) (B : FVec Ideal S1x1024 .f32) (W : FVec Ideal S1024x1536 .bf16) (b : Fin 8) (l : Fin 8208) (f : Fin 256) : EReal :=
  projRow (fun k => H (ix3 b l k)) (fun k => B (ix2 0 k)) (fun k => W (ix2 k ⟨1280 + f.val, by have := f.isLt; omega⟩))

/-- The array of queries: head after head. -/
def qArr (H : FVec Ideal S8x8208x1024 .f32) (B : FVec Ideal S1x1024 .f32) (W : FVec Ideal S1024x1536 .bf16) (G : FVec Ideal S1x128 .f32)
    (C S : FVec Ideal S8208x128 .f32) (b : Fin 8) (l : Fin 8208) (f : Fin 1024) : EReal :=
  headArr H B W (qGain G) C S b l (f.val / 128 * 128) (by have := f.isLt; omega) ⟨f.val % 128, Nat.mod_lt _ (by decide)⟩

/-- The array of keys: head after head. -/
def kArr (H : FVec Ideal S8x8208x1024 .f32) (B : FVec Ideal S1x1024 .f32) (W : FVec Ideal S1024x1536 .bf16) (G : FVec Ideal S1x128 .f32)
    (C S : FVec Ideal S8208x128 .f32) (b : Fin 8) (l : Fin 8208) (f : Fin 256) : EReal :=
  headArr H B W (kGain G) C S b l (1024 + f.val / 128 * 128) (by have := f.isLt; omega) ⟨f.val % 128, Nat.mod_lt _ (by decide)⟩

/-- Equal tokens, columns and lanes give equal entries. -/
theorem headArr_congr (H : FVec Ideal S8x8208x1024 .f32) (B : FVec Ideal S1x1024 .f32) (W : FVec Ideal S1024x1536 .bf16) (g : Fin 128 → EReal)
    (C S : FVec Ideal S8208x128 .f32) {b b' : Fin 8} {l l' : Fin 8208} {o o' : ℕ} (ho : o + 128 ≤ 1536) (ho' : o' + 128 ≤ 1536) {d d' : Fin 128}
    (hb : b = b') (hl : l = l') (h : o = o') (hd : d = d') : headArr H B W g C S b l o ho d = headArr H B W g C S b' l' o' ho' d' := by
  subst hb hl h hd; rfl

section

variable (V : (c : Dev nD) → (b : Ref sig .tc) → Buf (Elt Ideal) ((c : Thread nD τ).loc b)) (c : Dev nD) (t : Fin cfg0.N)

/-- The grid has seventy-two points. -/
theorem t0_lt : t.val < 72 := t.isLt

/-- A block of the stream. -/
theorem read0_0 (r : Fin 912) (k : Fin 1024) : iblk0 V c 0 t (ix3 0 r k)
    = V c main_arg0 (ix3 ⟨t.val / 9, by have := t0_lt t; omega⟩ ⟨t.val % 9 * 912 + r.val, by have := r.isLt; omega⟩ k) := by
  blk_ext! [iblk0, idx0 t]

/-- The gain. -/
theorem read0_1 (k : Fin 1024) : iblk0 V c 1 t (ix2 0 k) = V c main_v53 (ix2 0 k) := by
  blk_ext! [iblk0, idx0 t]

/-- The weights. -/
theorem read0_2 (k : Fin 1024) (f : Fin 1536) : iblk0 V c 2 t (ix2 k f) = V c main_v82 (ix2 k f) := by
  blk_ext! [iblk0, idx0 t]

/-- The query gain. -/
theorem read0_3 (e : Fin 128) : iblk0 V c 3 t (ix2 0 e) = V c main_v90 (ix2 0 e) := by
  blk_ext! [iblk0, idx0 t]

/-- The key gain. -/
theorem read0_4 (e : Fin 128) : iblk0 V c 4 t (ix2 0 e) = V c main_v98 (ix2 0 e) := by
  blk_ext! [iblk0, idx0 t]

/-- A block of the cosines. -/
theorem read0_5 (r : Fin 912) (e : Fin 128) : iblk0 V c 5 t (ix2 r e) = V c main_v35 (ix2 ⟨t.val % 9 * 912 + r.val, by have := r.isLt; omega⟩ e) := by
  blk_ext! [iblk0, idx0 t]

/-- A block of the signed sines. -/
theorem read0_6 (r : Fin 912) (e : Fin 128) : iblk0 V c 6 t (ix2 r e) = V c main_v39 (ix2 ⟨t.val % 9 * 912 + r.val, by have := r.isLt; omega⟩ e) := by
  blk_ext! [iblk0, idx0 t]

/-- A head's block, read from the arrays. -/
theorem tile_arr (g : Fin 128 → EReal) (r : Fin 912) (o : ℕ) (ho : o + 128 ≤ 1536) (d : Fin 128) :
    headTile (iblk0 V c 0 t) (iblk0 V c 1 t) (iblk0 V c 2 t) g (iblk0 V c 5 t) (iblk0 V c 6 t) r o ho d
      = headArr (V c main_arg0) (V c main_v53) (V c main_v82) g (V c main_v35) (V c main_v39) ⟨t.val / 9, by have := t0_lt t; omega⟩
          ⟨t.val % 9 * 912 + r.val, by have := r.isLt; omega⟩ o ho d := by
  unfold headTile headArr
  refine congrFun (congr (congrArg₂ (fun n => rotRow n g) (congrArg (normed _) (funext fun e => ?_)) (funext fun e => read0_5 V c t r e)) (funext fun e => read0_6 V c t r e)) d
  exact congr (congrArg₂ projRow (funext fun k => read0_0 V c t r k) (funext fun k => read0_1 V c t k)) (funext fun k => read0_2 V c t k _)

/-- A grid point computes the queries of its tokens. -/
theorem point0_7 (r : Fin 912) (k : Fin 1024) (b : Fin 8) (l : Fin 8208) (f : Fin 1024) (hb : b.val = t.val / 9)
    (hl : l.val = t.val % 9 * 912 + r.val) (hf : f.val = 0 * 1024 + k.val) :
    out0_7 (iblk0 V c 0 t) (iblk0 V c 1 t) (iblk0 V c 2 t) (iblk0 V c 3 t) (iblk0 V c 4 t) (iblk0 V c 5 t) (iblk0 V c 6 t) (ix3 0 r k)
      = qArr (V c main_arg0) (V c main_v53) (V c main_v82) (V c main_v90) (V c main_v35) (V c main_v39) b l f := by
  rw [out7]
  unfold qBlock qArr
  have hg : qGain (iblk0 V c 3 t) = qGain (V c main_v90) := funext fun e => congrArg (· * qScale) (read0_3 V c t e)
  refine (tile_arr V c t _ _ _ _ _).trans ?_
  rw [hg]
  refine headArr_congr _ _ _ _ _ _ _ _ (Fin.ext hb.symm) (Fin.ext hl.symm) ?_ (Fin.ext ?_)
  · show k.val / 128 * 128 = f.val / 128 * 128; omega
  · show k.val % 128 = f.val % 128; omega

/-- A grid point computes the keys of its tokens. -/
theorem point0_8 (r : Fin 912) (k : Fin 256) (b : Fin 8) (l : Fin 8208) (f : Fin 256) (hb : b.val = t.val / 9)
    (hl : l.val = t.val % 9 * 912 + r.val) (hf : f.val = 0 * 256 + k.val) :
    out0_8 (iblk0 V c 0 t) (iblk0 V c 1 t) (iblk0 V c 2 t) (iblk0 V c 3 t) (iblk0 V c 4 t) (iblk0 V c 5 t) (iblk0 V c 6 t) (ix3 0 r k)
      = kArr (V c main_arg0) (V c main_v53) (V c main_v82) (V c main_v98) (V c main_v35) (V c main_v39) b l f := by
  rw [out8]
  unfold kBlock kArr
  have hg : kGain (iblk0 V c 4 t) = kGain (V c main_v98) := funext fun e => read0_4 V c t e
  refine (tile_arr V c t _ _ _ _ _).trans ?_
  rw [hg]
  refine headArr_congr _ _ _ _ _ _ _ _ (Fin.ext hb.symm) (Fin.ext hl.symm) ?_ (Fin.ext ?_)
  · show 1024 + k.val / 128 * 128 = 1024 + f.val / 128 * 128; omega
  · show k.val % 128 = f.val % 128; omega

/-- A grid point computes the values of its tokens. -/
theorem point0_9 (r : Fin 912) (k : Fin 256) (b : Fin 8) (l : Fin 8208) (f : Fin 256) (hb : b.val = t.val / 9)
    (hl : l.val = t.val % 9 * 912 + r.val) (hf : f.val = 0 * 256 + k.val) :
    out0_9 (iblk0 V c 0 t) (iblk0 V c 1 t) (iblk0 V c 2 t) (iblk0 V c 3 t) (iblk0 V c 4 t) (iblk0 V c 5 t) (iblk0 V c 6 t) (ix3 0 r k)
      = valArr (V c main_arg0) (V c main_v53) (V c main_v82) b l f := by
  obtain rfl : k = f := Fin.ext (by omega)
  rw [out9]
  unfold vBlock valArr
  refine congr (congrArg₂ projRow (funext fun j => ?_) (funext fun j => read0_1 V c t j)) (funext fun j => read0_2 V c t j _)
  exact (read0_0 V c t r j).trans (congrArg (V c main_arg0) (congrFun (congrArg₂ ix3 (Fin.ext hb.symm) (Fin.ext hl.symm)) j))

end

variable (V : (c : Dev nD) → (b : Ref sig .tc) → Buf (Elt Ideal) ((c : Thread nD τ).loc b)) (c : Dev nD)

/-- The array of queries after the run. -/
theorem final0_7 : (dat0 (F := Ideal) V c).arrAt 7 cfg0.N = fun y => qArr (V c main_arg0) (V c main_v53) (V c main_v82) (V c main_v90) (V c main_v35) (V c main_v39) (y 0) (y 1) (y 2) := by
  refine (dat0 V c).arrAt_eq_of_covers 7 _ (by decide +kernel) fun t _ y => ?_
  blk_simp
  rw [after0_7]
  idx_vars y
  obtain rfl : y0 = 0 := Subsingleton.elim _ _
  have e0 := Pipeline.Window.rect_emb_val_off win0_7 t (ix3 0 y1 y2) 0
  have e1 := Pipeline.Window.rect_emb_val_off win0_7 t (ix3 0 y1 y2) 1
  have e2 := Pipeline.Window.rect_emb_val_off win0_7 t (ix3 0 y1 y2) 2
  rw [(idx0 t).2.2.2.2.2.2.2.1] at e0 e1 e2
  change (((View.whole main_v99_0).slice (win0_7.rect t)).emb (ix3 0 y1 y2) 0).val = t.val / 9 * 1 + 0 at e0
  change (((View.whole main_v99_0).slice (win0_7.rect t)).emb (ix3 0 y1 y2) 1).val = t.val % 9 * 912 + y1.val at e1
  change (((View.whole main_v99_0).slice (win0_7.rect t)).emb (ix3 0 y1 y2) 2).val = 0 * 1024 + y2.val at e2
  exact point0_7 V c t _ _ _ _ _ (by rw [e0, Nat.mul_one, Nat.add_zero]) e1 e2

/-- The array of keys after the run. -/
theorem final0_8 : (dat0 (F := Ideal) V c).arrAt 8 cfg0.N = fun y => kArr (V c main_arg0) (V c main_v53) (V c main_v82) (V c main_v98) (V c main_v35) (V c main_v39) (y 0) (y 1) (y 2) := by
  refine (dat0 V c).arrAt_eq_of_covers 8 _ (by decide +kernel) fun t _ y => ?_
  blk_simp
  rw [after0_8]
  idx_vars y
  obtain rfl : y0 = 0 := Subsingleton.elim _ _
  have e0 := Pipeline.Window.rect_emb_val_off win0_8 t (ix3 0 y1 y2) 0
  have e1 := Pipeline.Window.rect_emb_val_off win0_8 t (ix3 0 y1 y2) 1
  have e2 := Pipeline.Window.rect_emb_val_off win0_8 t (ix3 0 y1 y2) 2
  rw [(idx0 t).2.2.2.2.2.2.2.2.1] at e0 e1 e2
  change (((View.whole main_v99_1).slice (win0_8.rect t)).emb (ix3 0 y1 y2) 0).val = t.val / 9 * 1 + 0 at e0
  change (((View.whole main_v99_1).slice (win0_8.rect t)).emb (ix3 0 y1 y2) 1).val = t.val % 9 * 912 + y1.val at e1
  change (((View.whole main_v99_1).slice (win0_8.rect t)).emb (ix3 0 y1 y2) 2).val = 0 * 256 + y2.val at e2
  exact point0_8 V c t _ _ _ _ _ (by rw [e0, Nat.mul_one, Nat.add_zero]) e1 e2

/-- The array of values after the run. -/
theorem final0_9 : (dat0 (F := Ideal) V c).arrAt 9 cfg0.N = fun y => valArr (V c main_arg0) (V c main_v53) (V c main_v82) (y 0) (y 1) (y 2) := by
  refine (dat0 V c).arrAt_eq_of_covers 9 _ (by decide +kernel) fun t _ y => ?_
  blk_simp
  rw [after0_9]
  idx_vars y
  obtain rfl : y0 = 0 := Subsingleton.elim _ _
  have e0 := Pipeline.Window.rect_emb_val_off win0_9 t (ix3 0 y1 y2) 0
  have e1 := Pipeline.Window.rect_emb_val_off win0_9 t (ix3 0 y1 y2) 1
  have e2 := Pipeline.Window.rect_emb_val_off win0_9 t (ix3 0 y1 y2) 2
  rw [(idx0 t).2.2.2.2.2.2.2.2.2] at e0 e1 e2
  change (((View.whole main_v99_2).slice (win0_9.rect t)).emb (ix3 0 y1 y2) 0).val = t.val / 9 * 1 + 0 at e0
  change (((View.whole main_v99_2).slice (win0_9.rect t)).emb (ix3 0 y1 y2) 1).val = t.val % 9 * 912 + y1.val at e1
  change (((View.whole main_v99_2).slice (win0_9.rect t)).emb (ix3 0 y1 y2) 2).val = 0 * 256 + y2.val at e2
  exact point0_9 V c t _ _ _ _ _ (by rw [e0, Nat.mul_one, Nat.add_zero]) e1 e2

end Cert.Mix
end
-- ==== Proof.AttnKernel.lean ====
/- The attention call's block: what the body leaves in its output, element by element. -/
module

public import proofs.«01_k».proof.Proof.MixSpec
public import Idealize.ShloMosaic.Lib.Pipeline.ValueKit
public import proofs.«01_k».proof.Proof.Gen.MixerIdeal.Frame

@[expose] public section

set_option maxRecDepth 16384

noncomputable section

namespace Cert.Mix

open Idealize.ShloMosaic Idealize.ShloMosaic.TcCoe Idealize.SL.Sem
open Cert.MixerIdeal Cert.MixerIdeal.Gen
open Idealize.ShloMosaic.Pipeline (Dat)

/-- The weights of the last sixteen keys, at a key and a query. -/
theorem pay17_row (q : Vec Ideal S1x2736x128 .bf16) (k : Vec Ideal S1x16x128 .bf16) (j : Fin 16) (r : Fin 2736) :
    k1_pay17 (F := Ideal) q k (ix2 j r) = Ideal.exp2 (∑ e, k (ix3 0 j e) * q (ix3 0 r e)) := by
  pointwise [k1_pay17, k1_pay15, k1_pay4]
  rfl

/-- The partial sums of the weights of the last sixteen keys. -/
theorem pay18_row (q : Vec Ideal S1x2736x128 .bf16) (k : Vec Ideal S1x16x128 .bf16) (x : Fin 8) (r : Fin 2736) :
    k1_pay18 (F := Ideal) q k (ix2 x r) = ∑ a : Fin 2, k1_pay17 (F := Ideal) q k (ix2 ⟨a.val * 8 + x.val, by have := x.isLt; have := a.isLt; omega⟩ r) := by
  pointwise [k1_pay18]

/-- The weighted values of the last sixteen keys. -/
theorem pay19_row (q : Vec Ideal S1x2736x128 .bf16) (k : Vec Ideal S1x16x128 .bf16) (v : Vec Ideal S1x1x128x16 .bf16) (d : Fin 128) (r : Fin 2736) :
    k1_pay19 (F := Ideal) q k v (ix2 d r) = ∑ j, v (ix4 0 0 d j) * k1_pay17 (F := Ideal) q k (ix2 j r) := by
  pointwise [k1_pay19, k1_pay16]

/-- The weights of a chunk's keys, at a key and a query. -/
theorem pay32_row (q : FVec Ideal S2736x128 .bf16) (k : Vec Ideal S1x512x128 .bf16) (j : Fin 512) (r : Fin 2736) :
    k1_pay32 (F := Ideal) q k (ix2 j r) = Ideal.exp2 (∑ e, k (ix3 0 j e) * q (ix2 r e)) := by
  pointwise [k1_pay32, k1_pay30]
  rfl

/-- A chunk's step of the partial sums of the weights. -/
theorem pay33_row (q : FVec Ideal S2736x128 .bf16) (den : FVec Ideal S8x2736 .f32) (k : Vec Ideal S1x512x128 .bf16) (x : Fin 8) (r : Fin 2736) :
    k1_pay33 (F := Ideal) q den k (ix2 x r)
      = den (ix2 x r) + ∑ a : Fin 64, k1_pay32 (F := Ideal) q k (ix2 ⟨a.val * 8 + x.val, by have := x.isLt; have := a.isLt; omega⟩ r) := by
  pointwise [k1_pay33]

/-- A chunk's step of the weighted values. -/
theorem pay34_row (q : FVec Ideal S2736x128 .bf16) (acc : FVec Ideal S128x2736 .f32) (k : Vec Ideal S1x512x128 .bf16)
    (v : Vec Ideal S1x1x128x512 .bf16) (d : Fin 128) (r : Fin 2736) :
    k1_pay34 (F := Ideal) q acc k v (ix2 d r)
      = acc (ix2 d r) + ∑ j, v (ix4 0 0 d j) * k1_pay32 (F := Ideal) q k (ix2 j r) := by
  pointwise [k1_pay34, k1_pay31]

/-- The normalised block of one head, at a query and a feature. -/
theorem pay44_row (acc : FVec Ideal S128x2736 .f32) (den : FVec Ideal S8x2736 .f32) (r : Fin 2736) (d : Fin 128) :
    k1_pay44 (F := Ideal) acc den (ix3 0 r d) = acc (ix2 d r) * Ideal.div 1 (∑ x : Fin 8, den (ix2 x r)) := by
  pointwise [k1_pay44]

/-- Another head's step of the weighted values is the first's. -/
theorem same37 : k1_pay37 (F := Ideal) = k1_pay34 := rfl
/-- Another head's step of the sums is the first's. -/
theorem same36 : k1_pay36 (F := Ideal) = k1_pay33 := rfl
/-- Another head's step of the weighted values is the first's. -/
theorem same40 : k1_pay40 (F := Ideal) = k1_pay34 := rfl
/-- Another head's step of the sums is the first's. -/
theorem same39 : k1_pay39 (F := Ideal) = k1_pay33 := rfl
/-- Another head's step of the weighted values is the first's. -/
theorem same43 : k1_pay43 (F := Ideal) = k1_pay34 := rfl
/-- Another head's step of the sums is the first's. -/
theorem same42 : k1_pay42 (F := Ideal) = k1_pay33 := rfl
/-- The first head's block is written as the others are. -/
theorem same1 (a d) : k1_pay1 (F := Ideal) a (k1_pay45 d) = k1_pay44 a d := rfl
/-- Another head's block is written as the first's. -/
theorem same2 : k1_pay2 (F := Ideal) = k1_pay44 := rfl
/-- Another head's block is written as the first's. -/
theorem same3 : k1_pay3 (F := Ideal) = k1_pay44 := rfl

/-- A chunk of the keys. -/
theorem ld_keys (K : FVec Ideal S1x8208x128 .bf16) (k : Fin k1_t1_loop.trips) (j : Fin 512) (e : Fin 128)
    (h : ∀ a, (k1_off1 k) a + S1x512x128.size a ≤ S1x8208x128.size a) :
    View.ld (Val := Elt Ideal) (e' := .bf16) K (Rect.unit (s := S1x8208x128) (k1_off1 k) ![1, 512, 128] h) (ix3 0 j e)
      = K (ix3 0 ⟨512 * k.val + j.val, by have := j.isLt; have h : k.val < 16 := k.isLt; omega⟩ e) := by
  have he := k1_off1_eq k
  generalize k1_off1 k = off at h he
  subst he
  pointwise

/-- A chunk of the values. -/
theorem ld_vals (Y : FVec Ideal S1x1x128x8208 .bf16) (k : Fin k1_t1_loop.trips) (d : Fin 128) (j : Fin 512)
    (h : ∀ a, (k1_off2 k) a + S1x1x128x512.size a ≤ S1x1x128x8208.size a) :
    View.ld (Val := Elt Ideal) (e' := .bf16) Y (Rect.unit (s := S1x1x128x8208) (k1_off2 k) ![1, 1, 128, 512] h) (ix4 0 0 d j)
      = Y (ix4 0 0 d ⟨512 * k.val + j.val, by have := j.isLt; have h : k.val < 16 := k.isLt; omega⟩) := by
  have he := k1_off2_eq k
  generalize k1_off2 k = off at h he
  subst he
  pointwise

/-- The weighted values of one head after some chunks. -/
def accN (q : FVec Ideal S2736x128 .bf16) (K : FVec Ideal S1x8208x128 .bf16) (Y : FVec Ideal S1x1x128x8208 .bf16)
    (a : FVec Ideal S128x2736 .f32) : ℕ → FVec Ideal S128x2736 .f32
  | 0 => a
  | n + 1 => if h : n < k1_t1_loop.trips then
      k1_pay34 (F := Ideal) q (accN q K Y a n) (View.ld (Val := Elt Ideal) (e' := .bf16) K (Rect.unit (s := S1x8208x128) (k1_off1 ⟨n, h⟩) ![1, 512, 128] (k1_off1_inb ⟨n, h⟩)))
        (View.ld (Val := Elt Ideal) (e' := .bf16) Y (Rect.unit (s := S1x1x128x8208) (k1_off2 ⟨n, h⟩) ![1, 1, 128, 512] (k1_off2_inb ⟨n, h⟩)))
    else accN q K Y a n

/-- The partial sums of the weights of one head after some chunks. -/
def denN (q : FVec Ideal S2736x128 .bf16) (K : FVec Ideal S1x8208x128 .bf16) (a : FVec Ideal S8x2736 .f32) : ℕ → FVec Ideal S8x2736 .f32
  | 0 => a
  | n + 1 => if h : n < k1_t1_loop.trips then
      k1_pay33 (F := Ideal) q (denN q K a n) (View.ld (Val := Elt Ideal) (e' := .bf16) K (Rect.unit (s := S1x8208x128) (k1_off1 ⟨n, h⟩) ![1, 512, 128] (k1_off1_inb ⟨n, h⟩)))
    else denN q K a n

/-- The loop's carried values are the four heads' own recursions. -/
theorem st_eq (𝒱 c bd i a3 h3 a4 h4 a5 h5 a6 h6 v1 v3 v5 v7 v8 v10 v11 v12 v13 v14 v15 v17 v19 v24 v26 X4 X5 b0 b1 b2 b3 b4 b5 b6 b7)
    (K : FVec Ideal S1x8208x128 .bf16) (Y : FVec Ideal S1x1x128x8208 .bf16)
    (hK : View.read (Elt Ideal) a4.view X4 = K) (hY : View.read (Elt Ideal) a5.view X5 = Y) :
    ∀ n, n ≤ 16 → st_k1_t1 (F := Ideal) 𝒱 c bd i a3 h3 a4 h4 a5 h5 a6 h6 v1 v3 v5 v7 v8 v10 v11 v12 v13 v14 v15 v17 v19 v24 v26 X4 X5 (b0, b1, b2, b3, b4, b5, b6, b7) n
      = (accN v1 K Y b0 n, denN v1 K b1 n, accN v3 K Y b2 n, denN v3 K b3 n, accN v5 K Y b4 n, denN v5 K b5 n, accN v7 K Y b6 n, denN v7 K b7 n) := by
  intro n
  induction n with
  | zero => intro _; rfl
  | succ n ih =>
    intro hn
    have h : n < k1_t1_loop.trips := by show n < 16; omega
    refine (st_k1_t1_succ 𝒱 c bd i a3 h3 a4 h4 a5 h5 a6 h6 v1 v3 v5 v7 v8 v10 v11 v12 v13 v14 v15 v17 v19 v24 v26 X4 X5 (b0, b1, b2, b3, b4, b5, b6, b7) ⟨n, h⟩).trans ?_
    dsimp only
    rw [ih (by omega)]
    unfold tripR_k1_t1 trip_k1_t1
    dsimp only
    simp only [accN, denN, dif_pos h, View.readAt_eq_ld, same37, same36, same40, same39, same43, same42, hK, hY]

/-- The weights of a chunk are the weights of its keys. -/
theorem chunk_wt (q : FVec Ideal S2736x128 .bf16) (K : FVec Ideal S1x8208x128 .bf16) (k : Fin k1_t1_loop.trips) (j : Fin 512) (r : Fin 2736) :
    k1_pay32 (F := Ideal) q (View.ld (Val := Elt Ideal) (e' := .bf16) K (Rect.unit (s := S1x8208x128) (k1_off1 k) ![1, 512, 128] (k1_off1_inb k))) (ix2 j r)
      = wt (fun s e => K (ix3 0 s e)) (fun e => q (ix2 r e)) ⟨512 * k.val + j.val, by have := j.isLt; have h : k.val < 16 := k.isLt; omega⟩ := by
  rw [pay32_row]
  exact congrArg Ideal.exp2 (Finset.sum_congr rfl fun e _ => congrArg (· * _) (ld_keys K k j e _))

/-- The weighted values after some chunks: the initial ones and the chunks' sums. -/
theorem accN_val (q : FVec Ideal S2736x128 .bf16) (K : FVec Ideal S1x8208x128 .bf16) (Y : FVec Ideal S1x1x128x8208 .bf16)
    (a : FVec Ideal S128x2736 .f32) (d : Fin 128) (r : Fin 2736) : ∀ n, n ≤ 16 →
    accN q K Y a n (ix2 d r) = a (ix2 d r) + ∑ i ∈ Finset.range n, ∑ j : Fin 512,
      ext (fun s => Y (ix4 0 0 d s) * wt (fun s e => K (ix3 0 s e)) (fun e => q (ix2 r e)) s) (512 * i + j.val) := by
  intro n
  induction n with
  | zero => intro _; simp [accN]
  | succ n ih =>
    intro hn
    have h : n < k1_t1_loop.trips := by show n < 16; omega
    rw [accN, dif_pos h, pay34_row, ih (by omega), Finset.sum_range_succ, add_assoc]
    refine congrArg _ (congrArg _ (Finset.sum_congr rfl fun j _ => ?_))
    rw [ext_of _ _ (by have := j.isLt; omega)]
    exact congrArg₂ (· * ·) (ld_vals Y ⟨n, h⟩ d j _) (chunk_wt q K ⟨n, h⟩ j r)

/-- The partial sums of the weights after some chunks. -/
theorem denN_val (q : FVec Ideal S2736x128 .bf16) (K : FVec Ideal S1x8208x128 .bf16)
    (a : FVec Ideal S8x2736 .f32) (x : Fin 8) (r : Fin 2736) : ∀ n, n ≤ 16 →
    denN q K a n (ix2 x r) = a (ix2 x r) + ∑ i ∈ Finset.range n, ∑ b : Fin 64,
      ext (wt (fun s e => K (ix3 0 s e)) (fun e => q (ix2 r e))) (512 * i + (b.val * 8 + x.val)) := by
  intro n
  induction n with
  | zero => intro _; simp [denN]
  | succ n ih =>
    intro hn
    have h : n < k1_t1_loop.trips := by show n < 16; omega
    rw [denN, dif_pos h, pay33_row, ih (by omega), Finset.sum_range_succ, add_assoc]
    refine congrArg _ (congrArg _ (Finset.sum_congr rfl fun b _ => ?_))
    rw [ext_of _ _ (by have := x.isLt; have := b.isLt; omega)]
    exact chunk_wt q K ⟨n, h⟩ ⟨b.val * 8 + x.val, _⟩ r

/-- One head's finished block is the attention of its queries over all the keys, given what the last sixteen keys start it with. -/
theorem head_val (q : FVec Ideal S2736x128 .bf16) (K : FVec Ideal S1x8208x128 .bf16) (Y : FVec Ideal S1x1x128x8208 .bf16)
    (a : FVec Ideal S128x2736 .f32) (b : FVec Ideal S8x2736 .f32) (r : Fin 2736) (d : Fin 128)
    (ha : a (ix2 d r) = ∑ j : Fin 16, ext (fun s => Y (ix4 0 0 d s) * wt (fun s e => K (ix3 0 s e)) (fun e => q (ix2 r e)) s) (8192 + j.val))
    (hb : ∀ x : Fin 8, b (ix2 x r) = ∑ i : Fin 2, ext (wt (fun s e => K (ix3 0 s e)) (fun e => q (ix2 r e))) (8192 + (i.val * 8 + x.val))) :
    k1_pay44 (F := Ideal) (accN q K Y a 16) (denN q K b 16) (ix3 0 r d)
      = attnRow (fun s e => K (ix3 0 s e)) (fun e => q (ix2 r e)) (fun s => Y (ix4 0 0 d s)) := by
  rw [pay44_row, accN_val q K Y a d r 16 le_rfl, ha, sum_keys, attnRow]
  refine congrArg (fun z => _ * Ideal.div 1 z) ?_
  rw [← sum_keys (wt _ _)]
  simp only [denN_val q K b _ r 16 le_rfl, hb]
  rw [Finset.sum_add_distrib, sum_sublanes (fun n => ext _ (8192 + n)) 2, Finset.sum_comm]
  refine congrArg₂ (· + ·) (Fin.sum_univ_eq_sum_range (fun n => ext _ (8192 + n)) 16).symm
    (Finset.sum_congr rfl fun i _ => ?_)
  rw [sum_sublanes (fun n => ext _ (512 * i + n)) 64]
  exact (Fin.sum_univ_eq_sum_range (fun n => ext _ (512 * i + n)) 512).symm

/-- What the last sixteen keys start a head's weighted values with. -/
theorem tail_acc (q : Vec Ideal S1x2736x128 .bf16) (K : FVec Ideal S1x8208x128 .bf16) (Y : FVec Ideal S1x1x128x8208 .bf16) (d : Fin 128) (r : Fin 2736) :
    k1_pay20 (F := Ideal) k1_pay8 (k1_pay19 (F := Ideal) q (View.ld (Val := Elt Ideal) (e' := .bf16) K (Rect.unit (s := S1x8208x128) ![0, 8192, 0] ![1, 16, 128] inb_S1x8208x128_S1x16x128_0_8192_0))
        (View.ld (Val := Elt Ideal) (e' := .bf16) Y (Rect.unit (s := S1x1x128x8208) ![0, 0, 0, 8192] ![1, 1, 128, 16] inb_S1x1x128x8208_S1x1x128x16_0_0_0_8192))) (ix2 d r)
      = ∑ j : Fin 16, ext (fun s => Y (ix4 0 0 d s) * wt (fun s e => K (ix3 0 s e)) (fun e => k1_pay4 (F := Ideal) q (ix2 r e)) s) (8192 + j.val) := by
  pointwise [k1_pay20, k1_pay8]
  rw [pay19_row]
  simp only [pay17_row]
  refine Finset.sum_congr rfl fun j _ => ?_
  rw [ext_of _ _ (by have := j.isLt; omega)]
  refine congrArg₂ (· * ·) ?_ (congrArg Ideal.exp2 (Finset.sum_congr rfl fun e _ => congrArg₂ (· * ·) ?_ ?_))
  · pointwise
  · pointwise
  · pointwise [k1_pay4]

/-- What they start its partial sums of weights with. -/
theorem tail_den (q : Vec Ideal S1x2736x128 .bf16) (K : FVec Ideal S1x8208x128 .bf16) (x : Fin 8) (r : Fin 2736) :
    k1_pay18 (F := Ideal) q (View.ld (Val := Elt Ideal) (e' := .bf16) K (Rect.unit (s := S1x8208x128) ![0, 8192, 0] ![1, 16, 128] inb_S1x8208x128_S1x16x128_0_8192_0)) (ix2 x r)
      = ∑ i : Fin 2, ext (wt (fun s e => K (ix3 0 s e)) (fun e => k1_pay4 (F := Ideal) q (ix2 r e))) (8192 + (i.val * 8 + x.val)) := by
  rw [pay18_row]
  simp only [pay17_row]
  refine Finset.sum_congr rfl fun j _ => ?_
  rw [ext_of _ _ (by have := j.isLt; have := x.isLt; omega)]
  refine congrArg Ideal.exp2 (Finset.sum_congr rfl fun e _ => congrArg₂ (· * ·) ?_ ?_)
  · pointwise
  · pointwise [k1_pay4]

/-- Another head starts its weighted values as the first does. -/
theorem same23 (q k v) : k1_pay23 (F := Ideal) (k1_pay4 q) k1_pay9 (k1_pay15 k) (k1_pay16 v) = k1_pay20 k1_pay8 (k1_pay19 q k v) := rfl
/-- Another head starts its sums as the first does. -/
theorem same22 (q k) : k1_pay22 (F := Ideal) (k1_pay4 q) k1_pay10 (k1_pay15 k) = k1_pay18 q k := rfl
/-- Another head starts its weighted values as the first does. -/
theorem same26 (q k v) : k1_pay26 (F := Ideal) (k1_pay4 q) k1_pay11 (k1_pay15 k) (k1_pay16 v) = k1_pay20 k1_pay8 (k1_pay19 q k v) := rfl
/-- Another head starts its sums as the first does. -/
theorem same25 (q k) : k1_pay25 (F := Ideal) (k1_pay4 q) k1_pay12 (k1_pay15 k) = k1_pay18 q k := rfl
/-- Another head starts its weighted values as the first does. -/
theorem same29 (q k v) : k1_pay29 (F := Ideal) (k1_pay4 q) k1_pay13 (k1_pay15 k) (k1_pay16 v) = k1_pay20 k1_pay8 (k1_pay19 q k v) := rfl
/-- Another head starts its sums as the first does. -/
theorem same28 (q k) : k1_pay28 (F := Ideal) (k1_pay4 q) k1_pay14 (k1_pay15 k) = k1_pay18 q k := rfl
/-- Another head's queries are read as the first's. -/
theorem same5 : k1_pay5 (F := Ideal) = k1_pay4 := rfl
/-- Another head's queries are read as the first's. -/
theorem same6 : k1_pay6 (F := Ideal) = k1_pay4 := rfl
/-- Another head's queries are read as the first's. -/
theorem same7 : k1_pay7 (F := Ideal) = k1_pay4 := rfl

/-- The same of buffers holding given blocks. -/
theorem st_blocks (𝒱 c bd i a3 h3 a4) (h4 : Memref.IsWhole a4) (a5) (h5 : Memref.IsWhole a5) (a6 h6 v1 v3 v5 v7 v8 v10 v11 v12 v13 v14 v15 v17 v19 v24 v26 b0 b1 b2 b3 b4 b5 b6 b7)
    (K : FVec Ideal S1x8208x128 .bf16) (Y : FVec Ideal S1x1x128x8208 .bf16) :
    st_k1_t1 (F := Ideal) 𝒱 c bd i a3 h3 a4 h4 a5 h5 a6 h6 v1 v3 v5 v7 v8 v10 v11 v12 v13 v14 v15 v17 v19 v24 v26 (h4.unread K) (h5.unread Y) (b0, b1, b2, b3, b4, b5, b6, b7)
        (Scf.trips (0#32) (Scalar.addi 0#32 16#32) 1#32)
      = (accN v1 K Y b0 16, denN v1 K b1 16, accN v3 K Y b2 16, denN v3 K b3 16, accN v5 K Y b4 16, denN v5 K b5 16, accN v7 K Y b6 16, denN v7 K b7 16) :=
  st_eq 𝒱 c bd i a3 h3 a4 h4 a5 h5 a6 h6 v1 v3 v5 v7 v8 v10 v11 v12 v13 v14 v15 v17 v19 v24 v26 _ _ b0 b1 b2 b3 b4 b5 b6 b7 K Y (Memref.IsWhole.read_unread (Val := Elt Ideal) h4 K) (Memref.IsWhole.read_unread (Val := Elt Ideal) h5 Y) 16 le_rfl

/-- One head's finished block, from the blocks the body reads. -/
theorem head_block (Q : FVec Ideal S1x2736x512 .bf16) (K : FVec Ideal S1x8208x128 .bf16) (Y : FVec Ideal S1x1x128x8208 .bf16)
    (o : ℕ) (h : ∀ a, (![0, 0, o] : Fin 3 → ℕ) a + (![1, 2736, 128] : Fin 3 → ℕ) a ≤ S1x2736x512.size a) (r : Fin 2736) (d : Fin 128) (ho : o ≤ 384) :
    k1_pay44 (F := Ideal)
      (accN (k1_pay4 (F := Ideal) (View.ld (Val := Elt Ideal) (e' := .bf16) Q (Rect.unit (s := S1x2736x512) ![0, 0, o] ![1, 2736, 128] h))) K Y
        (k1_pay20 (F := Ideal) k1_pay8 (k1_pay19 (F := Ideal) (View.ld (Val := Elt Ideal) (e' := .bf16) Q (Rect.unit (s := S1x2736x512) ![0, 0, o] ![1, 2736, 128] h))
          (View.ld (Val := Elt Ideal) (e' := .bf16) K (Rect.unit (s := S1x8208x128) ![0, 8192, 0] ![1, 16, 128] inb_S1x8208x128_S1x16x128_0_8192_0))
          (View.ld (Val := Elt Ideal) (e' := .bf16) Y (Rect.unit (s := S1x1x128x8208) ![0, 0, 0, 8192] ![1, 1, 128, 16] inb_S1x1x128x8208_S1x1x128x16_0_0_0_8192)))) 16)
      (denN (k1_pay4 (F := Ideal) (View.ld (Val := Elt Ideal) (e' := .bf16) Q (Rect.unit (s := S1x2736x512) ![0, 0, o] ![1, 2736, 128] h))) K
        (k1_pay18 (F := Ideal) (View.ld (Val := Elt Ideal) (e' := .bf16) Q (Rect.unit (s := S1x2736x512) ![0, 0, o] ![1, 2736, 128] h))
          (View.ld (Val := Elt Ideal) (e' := .bf16) K (Rect.unit (s := S1x8208x128) ![0, 8192, 0] ![1, 16, 128] inb_S1x8208x128_S1x16x128_0_8192_0))) 16)
      (ix3 0 r d)
      = attnRow (fun s e => K (ix3 0 s e)) (fun e => Q (ix3 0 r ⟨o + e.val, by have := e.isLt; omega⟩)) (fun s => Y (ix4 0 0 d s)) := by
  rw [head_val _ K Y _ _ r d (tail_acc _ K Y d r) (fun x => tail_den _ K x r)]
  refine congrArg (fun q => attnRow _ q _) (funext fun e => ?_)
  pointwise [k1_pay4]

/-- The block function of the attention call: at a row and a column, the attention of the column's head. -/
def attnBlock (Q : FVec Ideal S1x2736x512 .bf16) (K : FVec Ideal S1x8208x128 .bf16) (Y : FVec Ideal S1x1x128x8208 .bf16) : FVec Ideal S1x2736x512 .bf16 :=
  fun y => attnRow (fun s e => K (ix3 0 s e))
    (fun e => Q (ix3 0 (y 1) ⟨(y 2).val / 128 * 128 + e.val, by have := e.isLt; have h : (y 2).val < 512 := (y 2).isLt; omega⟩))
    (fun s => Y (ix4 0 0 ⟨(y 2).val % 128, Nat.mod_lt _ (by decide)⟩ s))

/-- A piece of the block: where head `g` is stored, its value is the block function. -/
theorem piece (Q : FVec Ideal S1x2736x512 .bf16) (K : FVec Ideal S1x8208x128 .bf16) (Y : FVec Ideal S1x1x128x8208 .bf16)
    (o : ℕ) (h : ∀ a, (![0, 0, o] : Fin 3 → ℕ) a + (![1, 2736, 128] : Fin 3 → ℕ) a ≤ S1x2736x512.size a) (g : ℕ) (ho : o = 128 * g) (hg : g < 4)
    (r : Fin 2736) (d : Fin 128) (w : FVec Ideal S1x2736x128 .bf16)
    (hw : w (ix3 0 r d) = attnRow (fun s e => K (ix3 0 s e)) (fun e => Q (ix3 0 r ⟨o + e.val, by have := e.isLt; omega⟩)) (fun s => Y (ix4 0 0 d s))) :
    w (ix3 0 r d) = attnBlock Q K Y ((Rect.unit (s := S1x2736x512) ![0, 0, o] ![1, 2736, 128] h).emb (ix3 0 r d)) := by
  rw [hw, attnBlock]
  have e2 : (((Rect.unit (s := S1x2736x512) ![0, 0, o] ![1, 2736, 128] h).emb (ix3 0 r d)) 2).val = o + d.val := by
    show o + 1 * d.val = _
    omega
  have e1 : ((Rect.unit (s := S1x2736x512) ![0, 0, o] ![1, 2736, 128] h).emb (ix3 0 r d)) 1 = r := by
    refine Fin.ext ?_
    show 0 + 1 * r.val = _
    omega
  have hd := d.isLt
  refine congrArg₂ (attnRow _) (funext fun e => congrArg Q ?_) (funext fun s => congrArg Y ?_)
  · exact congrArg₂ (ix3 0) e1.symm (Fin.ext (by simp only [e2]; omega))
  · exact congrArg (fun z => ix4 0 0 z s) (Fin.ext (by simp only [e2]; omega))

/-- A head's finished block is the block function where it is stored. -/
theorem head_piece (Q : FVec Ideal S1x2736x512 .bf16) (K : FVec Ideal S1x8208x128 .bf16) (Y : FVec Ideal S1x1x128x8208 .bf16)
    (o : ℕ) (h : ∀ a, (![0, 0, o] : Fin 3 → ℕ) a + (![1, 2736, 128] : Fin 3 → ℕ) a ≤ S1x2736x512.size a) (g : ℕ) (ho : o = 128 * g) (hg : g < 4)
    (x : (Rect.unit (s := S1x2736x512) ![0, 0, o] ![1, 2736, 128] h).shape.Idx) :
    k1_pay44 (F := Ideal)
      (accN (k1_pay4 (F := Ideal) (View.ld (Val := Elt Ideal) (e' := .bf16) Q (Rect.unit (s := S1x2736x512) ![0, 0, o] ![1, 2736, 128] h))) K Y
        (k1_pay20 (F := Ideal) k1_pay8 (k1_pay19 (F := Ideal) (View.ld (Val := Elt Ideal) (e' := .bf16) Q (Rect.unit (s := S1x2736x512) ![0, 0, o] ![1, 2736, 128] h))
          (View.ld (Val := Elt Ideal) (e' := .bf16) K (Rect.unit (s := S1x8208x128) ![0, 8192, 0] ![1, 16, 128] inb_S1x8208x128_S1x16x128_0_8192_0))
          (View.ld (Val := Elt Ideal) (e' := .bf16) Y (Rect.unit (s := S1x1x128x8208) ![0, 0, 0, 8192] ![1, 1, 128, 16] inb_S1x1x128x8208_S1x1x128x16_0_0_0_8192)))) 16)
      (denN (k1_pay4 (F := Ideal) (View.ld (Val := Elt Ideal) (e' := .bf16) Q (Rect.unit (s := S1x2736x512) ![0, 0, o] ![1, 2736, 128] h))) K
        (k1_pay18 (F := Ideal) (View.ld (Val := Elt Ideal) (e' := .bf16) Q (Rect.unit (s := S1x2736x512) ![0, 0, o] ![1, 2736, 128] h))
          (View.ld (Val := Elt Ideal) (e' := .bf16) K (Rect.unit (s := S1x8208x128) ![0, 8192, 0] ![1, 16, 128] inb_S1x8208x128_S1x16x128_0_8192_0))) 16)
      x = attnBlock Q K Y ((Rect.unit (s := S1x2736x512) ![0, 0, o] ![1, 2736, 128] h).emb x) := by
  have hx : x = ix3 (0 : Fin 1) (x 1 : Fin 2736) (x 2 : Fin 128) := by
    funext a
    fin_cases a
    · exact Subsingleton.elim (α := Fin 1) _ _
    · rfl
    · rfl
  rw [hx]
  exact piece Q K Y o h g ho hg (x 1) (x 2) _ (head_block Q K Y o h (x 1) (x 2) (by omega))

/-- The attention call's block is the block function of the blocks it reads. -/
theorem outs1 (V : (c : Dev nD) → (b : Ref sig .tc) → Buf (Elt Ideal) ((c : Thread nD τ).loc b)) (c : Dev nD) (t : Fin cfg1.N) (y : S1x2736x512.Idx) :
    outsAt1 V c t y = attnBlock (iblk1 V c 0 t) (iblk1 V c 1 t) (iblk1 V c 2 t) y := by
  unfold outsAt1
  frame_out
  rw [st_blocks]
  simp only [same1, same2, same3, same5, same6, same7, same22, same23, same25, same26, same28, same29]
  refine View.canon_apply_of_pieces (Val := Elt Ideal) (e := .bf16) (S := S1x2736x512) (attnBlock (iblk1 V c 0 t) (iblk1 V c 1 t) (iblk1 V c 2 t)) _ ?_ y ?_
  · refine List.forall_mem_cons.mpr ⟨head_piece _ _ _ 384 _ 3 rfl (by decide), ?_⟩
    refine List.forall_mem_cons.mpr ⟨head_piece _ _ _ 256 _ 2 rfl (by decide), ?_⟩
    refine List.forall_mem_cons.mpr ⟨head_piece _ _ _ 128 _ 1 rfl (by decide), ?_⟩
    refine List.forall_mem_cons.mpr ⟨head_piece _ _ _ 0 _ 0 rfl (by decide), ?_⟩
    exact fun p hp => absurd hp List.not_mem_nil
  · exact View.cover_of_tiled_head _ _ _ rfl y

end Cert.Mix
end
-- ==== Proof.AttnArray.lean ====
/- The attention call's result array, as a function of the arrays it reads. -/
module

public import proofs.«01_k».proof.Proof.AttnKernel

@[expose] public section

set_option maxRecDepth 16384

noncomputable section

namespace Cert.Mix

open Idealize.ShloMosaic Idealize.ShloMosaic.TcCoe Idealize.SL.Sem
open Cert.MixerIdeal Cert.MixerIdeal.Gen
open Idealize.ShloMosaic.Pipeline (Dat)

/-- The grid's index maps: a batch, a key head and a third of the queries. -/
theorem idx1 : ∀ t : Fin cfg1.N,
    win1_0.index t = ![t.val / 6, t.val % 3, t.val / 3 % 2] ∧ win1_1.index t = ![t.val / 6, 0, t.val / 3 % 2]
    ∧ win1_2.index t = ![t.val / 6, t.val / 3 % 2, 0, 0] ∧ win1_3.index t = ![t.val / 6, t.val % 3, t.val / 3 % 2] :=
  (by decide +kernel : ∀ t : Fin grid1.N, _)

/-- The attention of every query head, from the arrays of queries, keys and transposed values. -/
def attnArr (Q : FVec Ideal S8x8208x1024 .bf16) (K : FVec Ideal S8x8208x256 .bf16) (Y : FVec Ideal S8x2x128x8208 .bf16)
    (b : Fin 8) (l : Fin 8208) (f : Fin 1024) : EReal :=
  attnRow (fun s e => K (ix3 b s ⟨f.val / 512 * 128 + e.val, by have := e.isLt; have := f.isLt; omega⟩))
    (fun e => Q (ix3 b l ⟨f.val / 128 * 128 + e.val, by have := e.isLt; have := f.isLt; omega⟩))
    (fun s => Y (ix4 b ⟨f.val / 512, by have := f.isLt; omega⟩ ⟨f.val % 128, Nat.mod_lt _ (by decide)⟩ s))

section

variable (V : (c : Dev nD) → (b : Ref sig .tc) → Buf (Elt Ideal) ((c : Thread nD τ).loc b)) (c : Dev nD) (t : Fin cfg1.N)

/-- The grid has forty-eight points. -/
theorem t1_lt : t.val < 48 := t.isLt

/-- A block of queries. -/
theorem read1_0 (r : Fin 2736) (k : Fin 512) : iblk1 V c 0 t (ix3 0 r k)
    = V c main_v99_0 (ix3 ⟨t.val / 6, by have := t1_lt t; omega⟩ ⟨t.val % 3 * 2736 + r.val, by have := r.isLt; omega⟩
        ⟨t.val / 3 % 2 * 512 + k.val, by have := k.isLt; omega⟩) := by
  blk_ext! [iblk1, idx1 t]

/-- A head's keys. -/
theorem read1_1 (s : Fin 8208) (e : Fin 128) : iblk1 V c 1 t (ix3 0 s e)
    = V c main_v99_1 (ix3 ⟨t.val / 6, by have := t1_lt t; omega⟩ s ⟨t.val / 3 % 2 * 128 + e.val, by have := e.isLt; omega⟩) := by
  blk_ext! [iblk1, idx1 t]

/-- A head's values. -/
theorem read1_2 (d : Fin 128) (s : Fin 8208) : iblk1 V c 2 t (ix4 0 0 d s)
    = V c main_v101 (ix4 ⟨t.val / 6, by have := t1_lt t; omega⟩ ⟨t.val / 3 % 2, by omega⟩ d s) := by
  blk_ext! [iblk1, idx1 t]

/-- A grid point computes the attention at the queries and heads its output block covers. -/
theorem point1 (r : Fin 2736) (k : Fin 512) (b : Fin 8) (l : Fin 8208) (f : Fin 1024) (hb : b.val = t.val / 6)
    (hl : l.val = t.val % 3 * 2736 + r.val) (hf : f.val = t.val / 3 % 2 * 512 + k.val) :
    outsAt1 V c t (ix3 0 r k) = attnArr (V c main_v99_0) (V c main_v99_1) (V c main_v101) b l f := by
  have hk := k.isLt
  rw [outs1, attnBlock, attnArr]
  refine congr (congrArg₂ attnRow (funext fun s => funext fun e => ?_) (funext fun e => ?_)) (funext fun s => ?_)
  · rw [read1_1]
    exact congrArg (V c main_v99_1) (congr (congrArg (fun z => ix3 z s) (Fin.ext hb.symm)) (Fin.ext (by show t.val / 3 % 2 * 128 + e.val = f.val / 512 * 128 + e.val; omega)))
  · refine (read1_0 V c t _ _).trans (congrArg (V c main_v99_0) ?_)
    refine congr (congrArg₂ ix3 (Fin.ext hb.symm) (Fin.ext hl.symm)) (Fin.ext ?_)
    show t.val / 3 % 2 * 512 + (k.val / 128 * 128 + e.val) = f.val / 128 * 128 + e.val
    omega
  · rw [read1_2]
    refine congrArg (V c main_v101) (congrArg (fun z => z s) (congr (congrArg₂ ix4 (Fin.ext hb.symm) (Fin.ext ?_)) (Fin.ext ?_)))
    · show t.val / 3 % 2 = f.val / 512; omega
    · show k.val % 128 = f.val % 128; omega

end

/-- The result array after the run. -/
theorem final1 (V : (c : Dev nD) → (b : Ref sig .tc) → Buf (Elt Ideal) ((c : Thread nD τ).loc b)) (c : Dev nD) :
    (dat1 (F := Ideal) V c).arrAt 3 cfg1.N = fun y => attnArr (V c main_v99_0) (V c main_v99_1) (V c main_v101) (y 0) (y 1) (y 2) := by
  refine (dat1 V c).arrAt_eq_of_covers 3 _ (by decide +kernel) fun t _ y => ?_
  blk_simp
  rw [after1_3]
  idx_vars y
  obtain rfl : y0 = 0 := Subsingleton.elim _ _
  have e0 := Pipeline.Window.rect_emb_val_off win1_3 t (ix3 0 y1 y2) 0
  have e1 := Pipeline.Window.rect_emb_val_off win1_3 t (ix3 0 y1 y2) 1
  have e2 := Pipeline.Window.rect_emb_val_off win1_3 t (ix3 0 y1 y2) 2
  rw [(idx1 t).2.2.2] at e0 e1 e2
  change (((View.whole main_v102).slice (win1_3.rect t)).emb (ix3 0 y1 y2) 0).val = t.val / 6 * 1 + 0 at e0
  change (((View.whole main_v102).slice (win1_3.rect t)).emb (ix3 0 y1 y2) 1).val = t.val % 3 * 2736 + y1.val at e1
  change (((View.whole main_v102).slice (win1_3.rect t)).emb (ix3 0 y1 y2) 2).val = t.val / 3 % 2 * 512 + y2.val at e2
  exact point1 V c t _ _ _ _ _ (by rw [e0, Nat.mul_one, Nat.add_zero]) e1 e2

end Cert.Mix
end
-- ==== Proof.MixValue.lean ====
/- The mixer's value: the two calls one after the other leave, at every token and feature, what the plain mixer computes. -/
module

public import proofs.«01_k».proof.Proof.MixReal
public import proofs.«01_k».proof.Proof.MixRef
public import proofs.«01_k».proof.Proof.QkvArray
public import proofs.«01_k».proof.Proof.AttnArray

@[expose] public section

set_option maxRecDepth 16384

noncomputable section

namespace Cert.Mix

open Cert.MixerIdeal Cert.MixerIdeal.Gen
open Idealize.ShloMosaic Idealize.ShloMosaic.TcCoe

variable (m : (ℓ : Loc nD τ sig) → Buf (Elt Ideal) ℓ) (ρ : Dev nD → PrngReg) (c : Dev nD)

/-- The stream. -/
abbrev stream : FVec Ideal S8x8208x1024 .f32 := m ((c.tc : Thread nD τ).loc main_arg0)
/-- The gains of the layers' norms. -/
abbrev gains : FVec Ideal S4x1024 .f32 := m ((c.tc : Thread nD τ).loc main_arg1)
/-- The projection's weights. -/
abbrev weights : FVec Ideal S1024x1536 .f32 := m ((c.tc : Thread nD τ).loc main_arg2)
/-- The query heads' gain. -/
abbrev gainQ : FVec Ideal S128 .f32 := m ((c.tc : Thread nD τ).loc main_arg3)
/-- The key heads' gain. -/
abbrev gainK : FVec Ideal S128 .f32 := m ((c.tc : Thread nD τ).loc main_arg4)

/-- The stream as the first call finds it. -/
theorem host_stream : V1 (F := Ideal) m ρ c main_arg0 = stream m c := W1_args m ρ c main_arg0 (by decide)

/-- A head's projected features as the layer has them. -/
def headOf (b : Fin 8) (l : Fin 8208) (h : Fin 10) (e : Fin 128) : EReal :=
  Ref.proj (stream m c) (gains m c) (weights m c) b l ⟨h.val * 128 + e.val, by have := h.isLt; have := e.isLt; omega⟩

/-- A head's features in the kernel: the layer's normalised ones, in the lanes' order, rotated. -/
theorem head_args (g : Fin 128 → EReal) (b : Fin 8) (l : Fin 8208) (h : Fin 10) (d : Fin 128) :
    headArr (V1 (F := Ideal) m ρ c main_arg0) (V1 (F := Ideal) m ρ c main_v53) (V1 (F := Ideal) m ρ c main_v82) g
        (V1 (F := Ideal) m ρ c main_v35) (V1 (F := Ideal) m ρ c main_v39) b l (h.val * 128) (by have := h.isLt; omega) d
      = rotRow (fun d => normed 0x43000000#32 (headOf m c b l h) (perm d)) g
          (fun d => Ideal.cos (angle l.val (d.val / 32 % 2) (d.val % 32)))
          (fun d => Ideal.sin (angle l.val (d.val / 32 % 2) (d.val % 32)) * sgn d.val) d := by
  unfold headArr
  have hn : (normed 0x43000000#32 (fun e : Fin 128 => projRow (fun k => V1 (F := Ideal) m ρ c main_arg0 (ix3 b l k))
        (fun k => V1 (F := Ideal) m ρ c main_v53 (ix2 0 k))
        (fun k => V1 (F := Ideal) m ρ c main_v82 (ix2 k ⟨h.val * 128 + e.val, by have := h.isLt; have := e.isLt; omega⟩))))
      = fun d => normed 0x43000000#32 (headOf m c b l h) (perm d) := by
    funext d
    rw [← normed_perm]
    refine congrFun (congrArg (normed _) (funext fun e => ?_)) d
    unfold headOf Ref.proj
    refine congr (congrArg₂ projRow (funext fun k => ?_) (funext fun k => host_gain m ρ c k)) (funext fun k => ?_)
    · rw [host_stream]
    · refine (host_w_qk m ρ c k ⟨h.val * 128 + e.val, by have := h.isLt; have := e.isLt; omega⟩).trans ?_
      refine congrArg (fun f => weights m c (ix2 k f)) (Fin.ext ?_)
      unfold colOf
      have he := e.isLt
      have h2 : (⟨(h.val * 128 + e.val) % 128, Nat.mod_lt _ (by decide)⟩ : Fin 128) = e := Fin.ext (by simp only []; omega)
      have h1 : (h.val * 128 + e.val) / 128 = h.val := by omega
      simp only [h1, h2]
  rw [hn]
  refine congrFun (congr (congrArg (rotRow _ _) (funext fun d => ?_)) (funext fun d => ?_)) d
  · exact host_cos m ρ c l d
  · exact host_sin m ρ c l d

/-- The named scale is the real one. -/
theorem qScale_real : qScale = (qScaleReal : EReal) := IdealRules.named_const.ideal_named_scalar _ _ _ _ rfl

/-- A query head in the kernel. -/
theorem query_args (hq : ∀ e, IsReal (gainQ m c (ix1 e))) (b : Fin 8) (l : Fin 8208) (h : Fin 8) (d : Fin 128) :
    headArr (V1 (F := Ideal) m ρ c main_arg0) (V1 (F := Ideal) m ρ c main_v53) (V1 (F := Ideal) m ρ c main_v82) (qGain (V1 (F := Ideal) m ρ c main_v90))
        (V1 (F := Ideal) m ρ c main_v35) (V1 (F := Ideal) m ρ c main_v39) b l (h.val * 128) (by have := h.isLt; omega) d
      = rotPair (fun e => Cert.MixerRefIdeal.Read.val_main_v68 (F := Ideal) (stream m c) (gains m c) (weights m c) (gainQ m c) (ix4 b l h e))
          (fun a p => angle l.val a.val p.val) (perm d) * (qScaleReal : EReal) := by
  have hg : qGain (V1 (F := Ideal) m ρ c main_v90) = fun d => gainQ m c (ix1 (perm d)) * (qScaleReal : EReal) := by
    funext d
    unfold qGain
    rw [qScale_real, host_qgain]
  refine (head_args m ρ c _ b l ⟨h.val, by have := h.isLt; omega⟩ d).trans ?_
  rw [hg]
  refine (rot_perm (normed 0x43000000#32 (headOf m c b l ⟨h.val, by have := h.isLt; omega⟩)) (fun e => gainQ m c (ix1 e)) qScaleReal l.val
    (normed_real _) hq d).trans ?_
  simp only [Ref.v68_row]
  rfl

/-- A key head in the kernel. -/
theorem key_args (hk : ∀ e, IsReal (gainK m c (ix1 e))) (b : Fin 8) (l : Fin 8208) (h : Fin 2) (d : Fin 128) :
    headArr (V1 (F := Ideal) m ρ c main_arg0) (V1 (F := Ideal) m ρ c main_v53) (V1 (F := Ideal) m ρ c main_v82) (kGain (V1 (F := Ideal) m ρ c main_v98))
        (V1 (F := Ideal) m ρ c main_v35) (V1 (F := Ideal) m ρ c main_v39) b l (1024 + h.val * 128) (by have := h.isLt; omega) d
      = Cert.MixerRefIdeal.Read.val_main_v126 (F := Ideal) (stream m c) (gains m c) (weights m c) (gainK m c) (ix4 b l h (perm d)) := by
  have hg : kGain (V1 (F := Ideal) m ρ c main_v98) = fun d => gainK m c (ix1 (perm d)) * ((1 : ℝ) : EReal) := by
    funext d
    unfold kGain
    rw [host_kgain, EReal.coe_one, mul_one]
  rw [Ref.v126_row]
  refine (headArr_congr _ _ _ _ _ _ _ (o' := (8 + h.val) * 128) (by have := h.isLt; omega) rfl rfl (by omega) rfl).trans ?_
  refine (head_args m ρ c _ b l ⟨8 + h.val, by have := h.isLt; omega⟩ d).trans ?_
  rw [hg]
  refine (rot_perm (normed 0x43000000#32 (headOf m c b l ⟨8 + h.val, by have := h.isLt; omega⟩)) (fun e => gainK m c (ix1 e)) 1 l.val
    (normed_real _) hk d).trans ?_
  have hp : headOf m c b l ⟨8 + h.val, by have := h.isLt; omega⟩ = fun e : Fin 128 => Ref.proj (stream m c) (gains m c) (weights m c) b l
      ⟨1024 + (h.val * 128 + e.val), by have := h.isLt; have := e.isLt; omega⟩ := by
    funext e
    unfold headOf
    exact congrArg (Ref.proj (stream m c) (gains m c) (weights m c) b l) (Fin.ext (by simp only []; omega))
  simp only [Ref.v105_row, EReal.coe_one, mul_one, hp]

/-- A value in the kernel. -/
theorem value_args (b : Fin 8) (l : Fin 8208) (f : Fin 256) :
    valArr (V1 (F := Ideal) m ρ c main_arg0) (V1 (F := Ideal) m ρ c main_v53) (V1 (F := Ideal) m ρ c main_v82) b l f
      = Ref.proj (stream m c) (gains m c) (weights m c) b l ⟨1280 + f.val, by have := f.isLt; omega⟩ := by
  unfold valArr Ref.proj
  refine congr (congrArg₂ projRow (funext fun k => ?_) (funext fun k => host_gain m ρ c k)) (funext fun k => host_w_v m ρ c k f)
  rw [host_stream]

/-- The queries as the second call finds them. -/
theorem read_q (b : Fin 8) (l : Fin 8208) (f : Fin 1024) : V3 (F := Ideal) m ρ c main_v99_0 (ix3 b l f)
    = qArr (V1 (F := Ideal) m ρ c main_arg0) (V1 (F := Ideal) m ρ c main_v53) (V1 (F := Ideal) m ρ c main_v82) (V1 (F := Ideal) m ρ c main_v90)
        (V1 (F := Ideal) m ρ c main_v35) (V1 (F := Ideal) m ρ c main_v39) b l f := by
  refine (congrFun ((W3_of m ρ c main_v99_0 (by decide)).trans ((W2_arr m ρ c 7).trans (final0_7 (V1 m ρ) c))) _).trans ?_
  rfl

/-- The keys as the second call finds them. -/
theorem read_k (b : Fin 8) (l : Fin 8208) (f : Fin 256) : V3 (F := Ideal) m ρ c main_v99_1 (ix3 b l f)
    = kArr (V1 (F := Ideal) m ρ c main_arg0) (V1 (F := Ideal) m ρ c main_v53) (V1 (F := Ideal) m ρ c main_v82) (V1 (F := Ideal) m ρ c main_v98)
        (V1 (F := Ideal) m ρ c main_v35) (V1 (F := Ideal) m ρ c main_v39) b l f := by
  refine (congrFun ((W3_of m ρ c main_v99_1 (by decide)).trans ((W2_arr m ρ c 8).trans (final0_8 (V1 m ρ) c))) _).trans ?_
  rfl

/-- The values as the second call finds them: one column to a key. -/
theorem read_v (b : Fin 8) (h : Fin 2) (d : Fin 128) (s : Fin 8208) : V3 (F := Ideal) m ρ c main_v101 (ix4 b h d s)
    = valArr (V1 (F := Ideal) m ρ c main_arg0) (V1 (F := Ideal) m ρ c main_v53) (V1 (F := Ideal) m ρ c main_v82) b s
        ⟨h.val * 128 + d.val, by have := h.isLt; have := d.isLt; omega⟩ := by
  have h0 : StableHlo.after hostOps1 (W2 (F := Ideal) m ρ c) (Proc.devRef .tc main_v101) (ix4 b h d s)
      = W2 (F := Ideal) m ρ c (Proc.devRef .tc main_v99_2) (ix3 b s ⟨h.val * 128 + d.val, by have := h.isLt; have := d.isLt; omega⟩) := by
    unfold hostOps1
    repeat after_reads_at
  refine h0.trans ((congrFun ((W2_arr m ρ c 9).trans (final0_9 (V1 m ρ) c)) _).trans ?_)
  rfl

/-- A rotated query of the layer. -/
def rotQ (b : Fin 8) (l : Fin 8208) (h : Fin 8) (e : Fin 128) : EReal :=
  rotPair (fun e => Cert.MixerRefIdeal.Read.val_main_v68 (F := Ideal) (stream m c) (gains m c) (weights m c) (gainQ m c) (ix4 b l h e))
    (fun a p => angle l.val a.val p.val) e

/-- The rotated queries are real. -/
theorem rotQ_real (hq : ∀ e, IsReal (gainQ m c (ix1 e))) (b : Fin 8) (l : Fin 8208) (h : Fin 8) (e : Fin 128) : IsReal (rotQ m c b l h e) := by
  refine rotPair_real _ _ (fun e => ?_) e
  rw [Ref.v68_row]
  exact (normed_real _ _).mul (hq e)

/-- The rotated keys are real. -/
theorem rotK_real (hk : ∀ e, IsReal (gainK m c (ix1 e))) (b : Fin 8) (l : Fin 8208) (h : Fin 2) (e : Fin 128) :
    IsReal (Cert.MixerRefIdeal.Read.val_main_v126 (F := Ideal) (stream m c) (gains m c) (weights m c) (gainK m c) (ix4 b l h e)) := by
  rw [Ref.v126_row]
  refine rotPair_real _ _ (fun e => ?_) e
  rw [Ref.v105_row]
  exact (normed_real _ _).mul (hk e)

/-- The two calls leave the mixer's value at every token and feature. -/
theorem attn_args (hq : ∀ e, IsReal (gainQ m c (ix1 e))) (hk : ∀ e, IsReal (gainK m c (ix1 e))) (b : Fin 8) (l : Fin 8208) (f : Fin 1024) :
    attnArr (V3 (F := Ideal) m ρ c main_v99_0) (V3 (F := Ideal) m ρ c main_v99_1) (V3 (F := Ideal) m ρ c main_v101) b l f
      = Cert.MixerRefIdeal.Read.val_main_v144 (F := Ideal) (stream m c) (gains m c) (weights m c) (gainQ m c) (gainK m c) (ix3 b l f) := by
  have hf := f.isLt
  rw [Ref.v144_row]
  unfold attnArr
  refine (attn_soft _ _ (fun s e => Cert.MixerRefIdeal.Read.val_main_v126 (F := Ideal) (stream m c) (gains m c) (weights m c) (gainK m c)
      (ix4 b s ⟨f.val / 512, by omega⟩ e)) (rotQ m c b l ⟨f.val / 128, by omega⟩) _ (fun s d => ?_) (fun d => ?_)
      (fun s e => rotK_real m c hk b s _ e) (fun e => rotQ_real m c hq b l _ e)).trans ?_
  · refine (read_k m ρ c b s _).trans (Eq.trans ?_ (key_args m ρ c hk b s ⟨f.val / 512, by omega⟩ d))
    unfold kArr
    have hd := d.isLt
    exact headArr_congr _ _ _ _ _ _ _ _ rfl rfl (by simp only []; omega) (Fin.ext (by simp only []; omega))
  · refine (read_q m ρ c b l _).trans (Eq.trans ?_ (query_args m ρ c hq b l ⟨f.val / 128, by omega⟩ d))
    unfold qArr
    have hd := d.isLt
    exact headArr_congr _ _ _ _ _ _ _ _ rfl rfl (by simp only []; omega) (Fin.ext (by simp only []; omega))
  · refine congrArg₂ softRow (funext fun s => ?_) (funext fun s => ?_)
    · rw [Ref.v129_row]
      refine Finset.sum_congr rfl fun e _ => ?_
      rw [Ref.v92_row]
      have hh : (⟨f.val / 128, by omega⟩ : Fin 8) = ⟨f.val / 512 * 4 + f.val / 128 % 4, by omega⟩ := Fin.ext (by simp only []; omega)
      rw [hh]
      rfl
    · exact (read_v m ρ c b _ _ s).trans (value_args m ρ c b s ⟨f.val / 512 * 128 + f.val % 128, by omega⟩)

/-- The result array after the run, where the heads' gains are real. -/
theorem final (hq : ∀ e, IsReal (gainQ m c (ix1 e))) (hk : ∀ e, IsReal (gainK m c (ix1 e))) :
    (dat1 (V3 (F := Ideal) m ρ) c).arrAt 3 cfg1.N
      = Cert.MixerRefIdeal.Read.val_main_v144 (F := Ideal) (stream m c) (gains m c) (weights m c) (gainQ m c) (gainK m c) := by
  rw [final1]
  funext y
  idx_vars y
  exact attn_args m ρ c hq hk _ _ _

end Cert.Mix
end
-- ==== Proof.MixClaim.lean ====
/- The claims about the mixer's two calls and their reference. -/
module

public import proofs.«01_k».proof.Defs
public import proofs.«01_k».proof.Proof.Gen.Mixer.Frame
public import proofs.«01_k».proof.Proof.Gen.MixerIdeal.Frame
public import proofs.«01_k».proof.Proof.Gen.MixerRefIdeal.Run
public import proofs.«01_k».proof.Proof.MixRun
public import proofs.«01_k».proof.Proof.MixValue
public import Idealize.ShloMosaic.Adequacy
public import Idealize.ShloMosaic.Init

@[expose] public section

noncomputable section

namespace Cert.Mix

open Idealize.ShloMosaic Idealize.SL.Sem

/-- A scalar spreads over a head's features. -/
theorem preFacts : Cert.Pre_finite_gains.Facts := ⟨by decide⟩

/-- The two calls as written leave their arguments and end with every semaphore at zero. -/
theorem frame_mixer : Cert.quiescent_Mixer (hMixer := Cert.Mixer.Gen.facts) := fun m ρ _ => Cert.Mixer.Gen.frame m ρ

/-- So does their idealised form. -/
theorem frame_ideal : Cert.quiescent_MixerIdeal (hMixerIdeal := Cert.MixerIdeal.Gen.facts) := fun m ρ _ => Cert.MixerIdeal.Gen.frame m ρ

/-- So it does with finite gains. -/
theorem frame_ideal_pre : Cert.quiescent_MixerIdeal_pre_finite_gains (hMixerIdeal := Cert.MixerIdeal.Gen.facts) (hPre_finite_gains := preFacts) :=
  fun m ρ _ => Cert.MixerIdeal.Gen.frame m ρ

/-- The reference leaves its arguments; it has no semaphores. -/
theorem frame_ref : Cert.quiescent_MixerRefIdeal (hMixerRefIdeal := Cert.MixerRefIdeal.Gen.facts) :=
  fun m ρ _ => (θ_run Cert.MixerRefIdeal.defs _ _).mono (fun r h => ⟨fun c => (h c).2,
      Idealize.ShloMosaic.sem_eq_zero_of_no_sems (by decide) r.2⟩)
    (Cert.MixerRefIdeal.Value.run (F := Ideal) m ρ)

/-- So it does with finite gains. -/
theorem frame_ref_pre : Cert.quiescent_MixerRefIdeal_pre_finite_gains (hMixerRefIdeal := Cert.MixerRefIdeal.Gen.facts)
    (hPre_finite_gains := preFacts) :=
  fun m ρ _ => frame_ref m ρ trivial

/-- The idealised form names the scale of the queries. -/
theorem preserves : Cert.preserves_Mixer_MixerIdeal :=
  IdealRules.named_const.statement Cert.MixerIdeal.κ "q_scale" .f32 0x3E0293EE#32 (((Real.sqrt 128)⁻¹ * (Real.log 2)⁻¹ : ℝ) : EReal) rfl

/-- A number whose absolute value is below infinity is real. -/
theorem real_of_abs {x : EReal} (h : BitVec.ofBool (decide (max x (-x) < Ideal.ofBits .f32 0x7F800000#32)) = 1#1) : IsReal x := by
  have ht : Ideal.ofBits .f32 0x7F800000#32 = (⊤ : EReal) := by simp [Ideal.ofBits, Ideal.ieee]
  rw [ht] at h
  induction x with
  | bot => simp at h
  | top => simp at h
  | coe r => exact ⟨r, rfl⟩

/-- What the precondition says of the query heads' gain. -/
theorem pre_q (m : (ℓ : Loc Cert.MixerIdeal.nD Cert.MixerIdeal.τ Cert.MixerIdeal.sig) → Buf (Elt Ideal) ℓ)
    (h : Cert.Pre_MixerIdeal_finite_gains (hPre_finite_gains := preFacts) m) (c : Dev Cert.MixerIdeal.nD) (e : Fin 128) : IsReal (gainQ m c (ix1 e)) :=
  real_of_abs (congrFun (h c).1 (ix1 e))

/-- What the precondition says of the key heads' gain. -/
theorem pre_k (m : (ℓ : Loc Cert.MixerIdeal.nD Cert.MixerIdeal.τ Cert.MixerIdeal.sig) → Buf (Elt Ideal) ℓ)
    (h : Cert.Pre_MixerIdeal_finite_gains (hPre_finite_gains := preFacts) m) (c : Dev Cert.MixerIdeal.nD) (e : Fin 128) : IsReal (gainK m c (ix1 e)) :=
  real_of_abs (congrFun (h c).2 (ix1 e))

/-- With finite head gains the two calls and the plain mixer give equal results. -/
theorem value : Cert.algebraic_MixerIdeal_MixerRefIdeal_pre_finite_gains (hMixerIdeal := Cert.MixerIdeal.Gen.facts)
    (hMixerRefIdeal := Cert.MixerRefIdeal.Gen.facts) (hPre_finite_gains := preFacts) := by
  intro m g m' g' hp hag
  refine ⟨_, (θ_run Cert.MixerIdeal.defs _ _).mono
      (fun r h c => ⟨(h c).1.trans (final m g c (pre_q m hp c) (pre_k m hp c)), (h c).2⟩)
      (run (F := Ideal) m g),
    (θ_run Cert.MixerRefIdeal.defs _ _).mono (fun r h c => ⟨(h c).1.trans ?_, (h c).2⟩)
      (Cert.MixerRefIdeal.Value.run (F := Ideal) m' g')⟩
  obtain ⟨h0, h1, h2, h3, h4⟩ := hag c
  rw [Cert.MixerRefIdeal.Read.val_main_v144_eq]
  show Cert.MixerRefIdeal.Read.val_main_v144 (F := Ideal) (m' ((c.tc : Thread Cert.MixerRefIdeal.nD Cert.MixerRefIdeal.τ).loc Cert.MixerRefIdeal.main_arg0))
    (m' ((c.tc : Thread Cert.MixerRefIdeal.nD Cert.MixerRefIdeal.τ).loc Cert.MixerRefIdeal.main_arg1))
    (m' ((c.tc : Thread Cert.MixerRefIdeal.nD Cert.MixerRefIdeal.τ).loc Cert.MixerRefIdeal.main_arg2))
    (m' ((c.tc : Thread Cert.MixerRefIdeal.nD Cert.MixerRefIdeal.τ).loc Cert.MixerRefIdeal.main_arg3))
    (m' ((c.tc : Thread Cert.MixerRefIdeal.nD Cert.MixerRefIdeal.τ).loc Cert.MixerRefIdeal.main_arg4)) = _
  rw [h0, h1, h2, h3, h4]

end Cert.Mix
end
-- ==== Proof.OnlineRun.lean ====
/- The run of the mixer with the online attention: what the result array holds at the end. -/
module

public import proofs.«01_k».proof.Proof.Gen.MixerOnlineIdeal.Frame

@[expose] public section

set_option maxRecDepth 16384

noncomputable section

namespace Cert.Mix.Online

open Cert.MixerOnlineIdeal Cert.MixerOnlineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result array at what the second call's write-backs leave, and the arguments as they were. -/
theorem run : θ_run defs (onTc (τ := τ) (main (F := F))) ⟨m, fun _ => 0, ρ⟩ (fun r => ∀ c : Dev nD,
      r.2.mem ((c.tc : Thread nD τ).loc main_v100) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v100 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.Mix.Online

end
-- ==== Proof.OnlineHost.lean ====
/- What the host leaves the projection call of the mixer with the online attention. -/
module

public import proofs.«01_k».proof.Proof.MixHost
public import proofs.«01_k».proof.Proof.Gen.MixerOnlineIdeal.Frame
public import Idealize.ShloMosaic.Lib.StableHlo.ReadAt
public import Idealize.ShloMosaic.Lib.StableHlo.Predicate

@[expose] public section

set_option maxRecDepth 16384

noncomputable section

namespace Cert.Mix.Online

open Cert.MixerOnlineIdeal Cert.MixerOnlineIdeal.Gen
open Idealize.ShloMosaic Idealize.ShloMosaic.TcCoe

variable (m : (ℓ : Loc nD τ sig) → Buf (Elt Ideal) ℓ) (ρ : Dev nD → PrngReg) (c : Dev nD)

/-- The gain's row. -/
theorem host_gain (k : Fin 1024) : V1 (F := Ideal) m ρ c main_v53 (ix2 0 k) = m ((c.tc : Thread nD τ).loc main_arg1) (ix2 0 k) := by
  show StableHlo.after hostOps0 (W0 m ρ c) (Proc.devRef .tc main_v53) (ix2 0 k) = _
  unfold hostOps0
  after_reads_at

/-- The rotary cosines, at a token and a lane. -/
theorem host_cos (l : Fin 8208) (d : Fin 128) :
    V1 (F := Ideal) m ρ c main_v35 (ix2 l d) = Ideal.cos (angle l.val (d.val / 32 % 2) (d.val % 32)) := by
  show StableHlo.after hostOps0 (W0 m ρ c) (Proc.devRef .tc main_v35) (ix2 l d) = _
  unfold hostOps0
  repeat after_reads_at
  exact congrArg Ideal.cos (lane_angle l.val d.val d.isLt)

/-- The signed rotary sines, at a token and a lane. -/
theorem host_sin (l : Fin 8208) (d : Fin 128) :
    V1 (F := Ideal) m ρ c main_v39 (ix2 l d) = (Ideal.sin (angle l.val (d.val / 32 % 2) (d.val % 32)) * sgn d.val : EReal) := by
  show StableHlo.after hostOps0 (W0 m ρ c) (Proc.devRef .tc main_v39) (ix2 l d) = _
  unfold hostOps0
  repeat after_reads_at
  exact congrArg₂ (HMul.hMul : EReal → EReal → EReal) (congrArg Ideal.sin (lane_angle l.val d.val d.isLt)) rfl

/-- The queries' gain, lane by lane. -/
theorem host_qgain (d : Fin 128) :
    V1 (F := Ideal) m ρ c main_v90 (ix2 0 d) = m ((c.tc : Thread nD τ).loc main_arg3) (ix1 (perm d)) := by
  show StableHlo.after hostOps0 (W0 m ρ c) (Proc.devRef .tc main_v90) (ix2 0 d) = _
  unfold hostOps0
  simp (disch := decide) only [StableHlo.readAfter, StableHlo.reshape_result', StableHlo.unary_result']
  clean_types
  pointwise []
  simp (disch := decide) only [StableHlo.readUpto, StableHlo.binary_result']
  refine (take_entry _ _ d (perm d) ?_).trans ?_
  · repeat after_reads_at
    simp only [order_word]
    exact select_word _ _ (by omega)
  · after_reads_at

/-- The keys' gain, lane by lane. -/
theorem host_kgain (d : Fin 128) :
    V1 (F := Ideal) m ρ c main_v98 (ix2 0 d) = m ((c.tc : Thread nD τ).loc main_arg4) (ix1 (perm d)) := by
  show StableHlo.after hostOps0 (W0 m ρ c) (Proc.devRef .tc main_v98) (ix2 0 d) = _
  unfold hostOps0
  simp (disch := decide) only [StableHlo.readAfter, StableHlo.reshape_result', StableHlo.unary_result']
  clean_types
  pointwise []
  simp (disch := decide) only [StableHlo.readUpto, StableHlo.binary_result']
  refine (take_entry _ _ d (perm d) ?_).trans ?_
  · repeat after_reads_at
    simp only [order_word]
    exact select_word _ _ (by omega)
  · after_reads_at

/-- The queries' and keys' columns of the weights, reordered head by head. -/
theorem host_w_qk (k : Fin 1024) (f : Fin 1280) :
    V1 (F := Ideal) m ρ c main_v82 (ix2 k ⟨f.val, by have := f.isLt; omega⟩) = m ((c.tc : Thread nD τ).loc main_arg2) (ix2 k (colOf f)) := by
  show StableHlo.after hostOps0 (W0 m ρ c) (Proc.devRef .tc main_v82) (ix2 k ⟨f.val, _⟩) = _
  unfold hostOps0
  simp (disch := decide) only [StableHlo.readAfter, StableHlo.unary_result']
  pointwise []
  simp (disch := decide) only [StableHlo.readUpto, StableHlo.binary_result']
  pointwise []
  refine (take_col _ _ k f (colOf f) ?_).trans ?_
  · repeat after_reads_at
    have hw := order_word ⟨f.val % 128, Nat.mod_lt _ (by decide)⟩
    dsimp only at hw
    have hf := f.isLt
    have ha : IntOp.addi (BitVec.ofNat 32 (f.val / 128 * 128)) (BitVec.ofNat 32 (perm ⟨f.val % 128, Nat.mod_lt _ (by decide)⟩).val)
        = BitVec.ofNat 32 (colOf f).val := (BitVec.ofNat_add _ _).symm
    simp only [hw, ha]
    exact select_word _ _ (by have := (colOf f).isLt; omega)
  · after_reads_at

/-- The values' columns of the weights stay. -/
theorem host_w_v (k : Fin 1024) (f : Fin 256) :
    V1 (F := Ideal) m ρ c main_v82 (ix2 k ⟨1280 + f.val, by have := f.isLt; omega⟩)
      = m ((c.tc : Thread nD τ).loc main_arg2) (ix2 k ⟨1280 + f.val, by have := f.isLt; omega⟩) := by
  show StableHlo.after hostOps0 (W0 m ρ c) (Proc.devRef .tc main_v82) (ix2 k ⟨1280 + f.val, _⟩) = _
  unfold hostOps0
  simp (disch := decide) only [StableHlo.readAfter, StableHlo.unary_result']
  pointwise []
  simp (disch := decide) only [StableHlo.readUpto, StableHlo.binary_result']
  pointwise []
  repeat after_reads_at

end Cert.Mix.Online
end
-- ==== Proof.OnlineQkvKernel.lean ====
/- The projection call of the mixer with the online attention: what its body leaves in its three outputs, element by element. -/
module

public import proofs.«01_k».proof.Proof.QkvKernel
public import Idealize.ShloMosaic.Lib.Pipeline.ValueKit
public import proofs.«01_k».proof.Proof.Gen.MixerOnlineIdeal.Frame

@[expose] public section

set_option maxRecDepth 16384

noncomputable section

namespace Cert.Mix.Online

open Idealize.ShloMosaic Idealize.ShloMosaic.TcCoe Idealize.SL.Sem
open Cert.MixerOnlineIdeal Cert.MixerOnlineIdeal.Gen
open Idealize.ShloMosaic.Pipeline (Dat)

/-- One head's block, at a row and a lane: its features normalised, then rotated. -/
theorem head_row (g : FVec Ideal S1x128 .f32) (c s x : FVec Ideal S304x128 .f32) (r : Fin 304) (d : Fin 128) :
    k0_pay62 (F := Ideal) g c s x (ix3 0 r d)
      = rotRow (normed 0x43000000#32 (fun e => x (ix2 r e))) (fun e => g (ix2 0 e)) (fun e => c (ix2 r e)) (fun e => s (ix2 r e)) d := by
  pointwise [k0_pay62, rotRow, normed]
  rfl

/-- The projection to the queries, at a row and a column. -/
theorem pay6_row (A : Vec Ideal S1x304x1024 .f32) (B : Vec Ideal S1x1024 .f32) (W : Vec Ideal S1024x1024 .bf16) (r : Fin 304) (f : Fin 1024) :
    k0_pay6 (F := Ideal) A B W (ix2 r f)
      = ∑ k, normed 0x44800000#32 (fun j => A (ix3 0 r j)) k * B (ix2 0 k) * W (ix2 k f) := by
  pointwise [k0_pay6, k0_pay3, normed]

/-- The projection to the keys and values, at a row and a column. -/
theorem pay21_row (A : Vec Ideal S1x304x1024 .f32) (B : Vec Ideal S1x1024 .f32) (W : Vec Ideal S1024x512 .bf16) (r : Fin 304) (f : Fin 512) :
    k0_pay21 (F := Ideal) (k0_pay3 A B) W (ix2 r f)
      = ∑ k, normed 0x44800000#32 (fun j => A (ix3 0 r j)) k * B (ix2 0 k) * W (ix2 k f) := by
  pointwise [k0_pay21, k0_pay3, normed]

/-- The factor the query gain carries. -/
def qScale : EReal := (Named.named κ "q_scale" 0x3E0293EE#32 : Ideal .f32)

/-- The queries' gain, with its factor. -/
def qGain (G : FVec Ideal S1x128 .f32) (e : Fin 128) : EReal := G (ix2 0 e) * qScale

/-- A query head's block is its projection, normalised and rotated. -/
theorem q_tile (A : Vec Ideal S1x912x1024 .f32) (B : Vec Ideal S1x1024 .f32) (W : Vec Ideal S1024x1536 .bf16) (G : Vec Ideal S1x128 .f32)
    (C S : Vec Ideal S912x128 .f32) (a o : ℕ) (ha : a + 304 ≤ 912) (ho : S304x1024.Slices ![0, o] S304x128) (ho' : o + 128 ≤ 1024)
    (h0 : ∀ i, (![0, a, 0] : Fin 3 → ℕ) i + S1x304x1024.size i ≤ S1x912x1024.size i)
    (h5 : ∀ i, (![a, 0] : Fin 2 → ℕ) i + S304x128.size i ≤ S912x128.size i) (r : Fin 304) (d : Fin 128) :
    k0_pay62 (F := Ideal) (k0_pay2 (View.ld (Val := Elt Ideal) (e' := .f32) G r0_0))
      (k0_pay4 (View.ld (Val := Elt Ideal) (e' := .f32) C (Rect.unit (s := S912x128) ![a, 0] S304x128.size h5)))
      (k0_pay5 (View.ld (Val := Elt Ideal) (e' := .f32) S (Rect.unit (s := S912x128) ![a, 0] S304x128.size h5)))
      (extractStridedSlice S304x128 ![0, o] (k0_pay6
        (View.ld (Val := Elt Ideal) (e' := .f32) A (Rect.unit (s := S1x912x1024) ![0, a, 0] S1x304x1024.size h0))
        (View.ld (Val := Elt Ideal) (e' := .f32) B r0_2) (View.ld (Val := Elt Ideal) (e' := .bf16) W r0_4)) ho) (ix3 0 r d)
      = headTile A B W (qGain G) C S ⟨a + r.val, by have := r.isLt; omega⟩ o (by omega) d := by
  rw [head_row, headTile]
  refine congrFun (congr (congr (congrArg₂ rotRow (congrArg (normed _) (funext fun e => ?_)) (funext fun e => ?_)) (funext fun e => ?_)) (funext fun e => ?_)) d
  · refine Eq.trans (b := k0_pay6 (F := Ideal)
        (View.ld (Val := Elt Ideal) (e' := .f32) A (Rect.unit (s := S1x912x1024) ![0, a, 0] S1x304x1024.size h0))
        (View.ld (Val := Elt Ideal) (e' := .f32) B r0_2) (View.ld (Val := Elt Ideal) (e' := .bf16) W r0_4) (ix2 r ⟨o + e.val, by have := e.isLt; omega⟩)) ?_ ?_
    · pointwise []
    · rw [pay6_row, projRow]
      pointwise [normed]
  · pointwise [k0_pay2, qScale, qGain]
  · pointwise [k0_pay4]
  · pointwise [k0_pay5]

/-- A key head's block is its projection, normalised and rotated. -/
theorem k_tile (A : Vec Ideal S1x912x1024 .f32) (B : Vec Ideal S1x1024 .f32) (W : Vec Ideal S1024x1536 .bf16) (G : Vec Ideal S1x128 .f32)
    (C S : Vec Ideal S912x128 .f32) (a o : ℕ) (ha : a + 304 ≤ 912) (ho : S304x512.Slices ![0, o] S304x128) (ho' : o + 128 ≤ 512)
    (h0 : ∀ i, (![0, a, 0] : Fin 3 → ℕ) i + S1x304x1024.size i ≤ S1x912x1024.size i)
    (h5 : ∀ i, (![a, 0] : Fin 2 → ℕ) i + S304x128.size i ≤ S912x128.size i) (r : Fin 304) (d : Fin 128) :
    k0_pay62 (F := Ideal) (k0_pay23 (View.ld (Val := Elt Ideal) (e' := .f32) G r0_0))
      (k0_pay4 (View.ld (Val := Elt Ideal) (e' := .f32) C (Rect.unit (s := S912x128) ![a, 0] S304x128.size h5)))
      (k0_pay5 (View.ld (Val := Elt Ideal) (e' := .f32) S (Rect.unit (s := S912x128) ![a, 0] S304x128.size h5)))
      (extractStridedSlice S304x128 ![0, o] (k0_pay21 (k0_pay3
        (View.ld (Val := Elt Ideal) (e' := .f32) A (Rect.unit (s := S1x912x1024) ![0, a, 0] S1x304x1024.size h0))
        (View.ld (Val := Elt Ideal) (e' := .f32) B r0_2)) (View.ld (Val := Elt Ideal) (e' := .bf16) W r0_13)) ho) (ix3 0 r d)
      = headTile A B W (kGain G) C S ⟨a + r.val, by have := r.isLt; omega⟩ (1024 + o) (by omega) d := by
  rw [head_row, headTile]
  refine congrFun (congr (congr (congrArg₂ rotRow (congrArg (normed _) (funext fun e => ?_)) (funext fun e => ?_)) (funext fun e => ?_)) (funext fun e => ?_)) d
  · refine Eq.trans (b := k0_pay21 (F := Ideal) (k0_pay3
        (View.ld (Val := Elt Ideal) (e' := .f32) A (Rect.unit (s := S1x912x1024) ![0, a, 0] S1x304x1024.size h0))
        (View.ld (Val := Elt Ideal) (e' := .f32) B r0_2)) (View.ld (Val := Elt Ideal) (e' := .bf16) W r0_13) (ix2 r ⟨o + e.val, by have := e.isLt; omega⟩)) ?_ ?_
    · pointwise []
    · rw [pay21_row, projRow]
      pointwise [normed]
      simp only [Nat.add_assoc]
  · pointwise [k0_pay23, kGain]
  · pointwise [k0_pay4]
  · pointwise [k0_pay5]

/-- The values' block is their projection. -/
theorem v_tile (A : Vec Ideal S1x912x1024 .f32) (B : Vec Ideal S1x1024 .f32) (W : Vec Ideal S1024x1536 .bf16)
    (a : ℕ) (ha : a + 304 ≤ 912)
    (h0 : ∀ i, (![0, a, 0] : Fin 3 → ℕ) i + S1x304x1024.size i ≤ S1x912x1024.size i) (r : Fin 304) (f : Fin 256) :
    k0_pay28 (F := Ideal) (k0_pay21 (k0_pay3
        (View.ld (Val := Elt Ideal) (e' := .f32) A (Rect.unit (s := S1x912x1024) ![0, a, 0] S1x304x1024.size h0))
        (View.ld (Val := Elt Ideal) (e' := .f32) B r0_2)) (View.ld (Val := Elt Ideal) (e' := .bf16) W r0_13)) (ix3 0 r f)
      = projRow (fun k => A (ix3 0 ⟨a + r.val, by have := r.isLt; omega⟩ k)) (fun k => B (ix2 0 k)) (fun k => W (ix2 k ⟨1280 + f.val, by have := f.isLt; omega⟩)) := by
  refine Eq.trans (b := k0_pay21 (F := Ideal) (k0_pay3
        (View.ld (Val := Elt Ideal) (e' := .f32) A (Rect.unit (s := S1x912x1024) ![0, a, 0] S1x304x1024.size h0))
        (View.ld (Val := Elt Ideal) (e' := .f32) B r0_2)) (View.ld (Val := Elt Ideal) (e' := .bf16) W r0_13) (ix2 r ⟨256 + f.val, by have := f.isLt; omega⟩)) ?_ ?_
  · pointwise [k0_pay28]
  · rw [pay21_row, projRow]
    pointwise [normed]
    simp only [← Nat.add_assoc]

/-- The block function of the queries. -/
def qBlock (A : Vec Ideal S1x912x1024 .f32) (B : Vec Ideal S1x1024 .f32) (W : Vec Ideal S1024x1536 .bf16) (G : Vec Ideal S1x128 .f32)
    (C S : Vec Ideal S912x128 .f32) : FVec Ideal S1x912x1024 .bf16 :=
  fun y => headTile A B W (qGain G) C S (y 1) ((y 2).val / 128 * 128) (by have h : (y 2).val < 1024 := (y 2).isLt; omega)
    ⟨(y 2).val % 128, Nat.mod_lt _ (by decide)⟩

/-- The block function of the keys. -/
def kBlock (A : Vec Ideal S1x912x1024 .f32) (B : Vec Ideal S1x1024 .f32) (W : Vec Ideal S1024x1536 .bf16) (G : Vec Ideal S1x128 .f32)
    (C S : Vec Ideal S912x128 .f32) : FVec Ideal S1x912x256 .bf16 :=
  fun y => headTile A B W (kGain G) C S (y 1) (1024 + (y 2).val / 128 * 128) (by have h : (y 2).val < 256 := (y 2).isLt; omega)
    ⟨(y 2).val % 128, Nat.mod_lt _ (by decide)⟩

/-- A query head's block is the block function where it is stored. -/
theorem q_piece (A : Vec Ideal S1x912x1024 .f32) (B : Vec Ideal S1x1024 .f32) (W : Vec Ideal S1024x1536 .bf16) (G : Vec Ideal S1x128 .f32)
    (C S : Vec Ideal S912x128 .f32) (a o : ℕ) (ha : a + 304 ≤ 912) (hm : o % 128 = 0) (ho : S304x1024.Slices ![0, o] S304x128) (ho' : o + 128 ≤ 1024)
    (h0 : ∀ i, (![0, a, 0] : Fin 3 → ℕ) i + S1x304x1024.size i ≤ S1x912x1024.size i)
    (h5 : ∀ i, (![a, 0] : Fin 2 → ℕ) i + S304x128.size i ≤ S912x128.size i)
    (h7 : ∀ i, (![0, a, o] : Fin 3 → ℕ) i + S1x304x128.size i ≤ S1x912x1024.size i)
    (w : FVec Ideal S1x304x128 .bf16)
    (hw : w = k0_pay62 (F := Ideal) (k0_pay2 (View.ld (Val := Elt Ideal) (e' := .f32) G r0_0))
      (k0_pay4 (View.ld (Val := Elt Ideal) (e' := .f32) C (Rect.unit (s := S912x128) ![a, 0] S304x128.size h5)))
      (k0_pay5 (View.ld (Val := Elt Ideal) (e' := .f32) S (Rect.unit (s := S912x128) ![a, 0] S304x128.size h5)))
      (extractStridedSlice S304x128 ![0, o] (k0_pay6
        (View.ld (Val := Elt Ideal) (e' := .f32) A (Rect.unit (s := S1x912x1024) ![0, a, 0] S1x304x1024.size h0))
        (View.ld (Val := Elt Ideal) (e' := .f32) B r0_2) (View.ld (Val := Elt Ideal) (e' := .bf16) W r0_4)) ho))
    (x : (Rect.unit (s := S1x912x1024) ![0, a, o] S1x304x128.size h7).shape.Idx) :
    w x = qBlock A B W G C S ((Rect.unit (s := S1x912x1024) ![0, a, o] S1x304x128.size h7).emb x) := by
  rw [idx_piece x]
  refine (congrFun hw _).trans ((q_tile A B W G C S a o ha ho ho' h0 h5 (x 1) (x 2)).trans ?_)
  rw [qBlock]
  have hx : (x 2).val < 128 := (x 2).isLt
  refine headTile_congr A B W _ C S _ _ (Fin.ext ?_) ?_ (Fin.ext ?_)
  · show a + (x 1).val = a + 1 * (x 1).val
    omega
  · show o = (o + 1 * (x 2).val) / 128 * 128
    omega
  · show (x 2).val = (o + 1 * (x 2).val) % 128
    omega

/-- A key head's block is the block function where it is stored. -/
theorem k_piece (A : Vec Ideal S1x912x1024 .f32) (B : Vec Ideal S1x1024 .f32) (W : Vec Ideal S1024x1536 .bf16) (G : Vec Ideal S1x128 .f32)
    (C S : Vec Ideal S912x128 .f32) (a o : ℕ) (ha : a + 304 ≤ 912) (hm : o % 128 = 0) (ho : S304x512.Slices ![0, o] S304x128) (ho' : o + 128 ≤ 256)
    (h0 : ∀ i, (![0, a, 0] : Fin 3 → ℕ) i + S1x304x1024.size i ≤ S1x912x1024.size i)
    (h5 : ∀ i, (![a, 0] : Fin 2 → ℕ) i + S304x128.size i ≤ S912x128.size i)
    (h7 : ∀ i, (![0, a, o] : Fin 3 → ℕ) i + S1x304x128.size i ≤ S1x912x256.size i)
    (w : FVec Ideal S1x304x128 .bf16)
    (hw : w = k0_pay62 (F := Ideal) (k0_pay23 (View.ld (Val := Elt Ideal) (e' := .f32) G r0_0))
      (k0_pay4 (View.ld (Val := Elt Ideal) (e' := .f32) C (Rect.unit (s := S912x128) ![a, 0] S304x128.size h5)))
      (k0_pay5 (View.ld (Val := Elt Ideal) (e' := .f32) S (Rect.unit (s := S912x128) ![a, 0] S304x128.size h5)))
      (extractStridedSlice S304x128 ![0, o] (k0_pay21 (k0_pay3
        (View.ld (Val := Elt Ideal) (e' := .f32) A (Rect.unit (s := S1x912x1024) ![0, a, 0] S1x304x1024.size h0))
        (View.ld (Val := Elt Ideal) (e' := .f32) B r0_2)) (View.ld (Val := Elt Ideal) (e' := .bf16) W r0_13)) ho))
    (x : (Rect.unit (s := S1x912x256) ![0, a, o] S1x304x128.size h7).shape.Idx) :
    w x = kBlock A B W G C S ((Rect.unit (s := S1x912x256) ![0, a, o] S1x304x128.size h7).emb x) := by
  rw [idx_piece x]
  refine (congrFun hw _).trans ((k_tile A B W G C S a o ha ho (by omega) h0 h5 (x 1) (x 2)).trans ?_)
  rw [kBlock]
  have hx : (x 2).val < 128 := (x 2).isLt
  refine headTile_congr A B W _ C S _ _ (Fin.ext ?_) ?_ (Fin.ext ?_)
  · show a + (x 1).val = a + 1 * (x 1).val
    omega
  · show 1024 + o = 1024 + (o + 1 * (x 2).val) / 128 * 128
    omega
  · show (x 2).val = (o + 1 * (x 2).val) % 128
    omega

/-- The values' block is the block function where it is stored. -/
theorem v_piece (A : Vec Ideal S1x912x1024 .f32) (B : Vec Ideal S1x1024 .f32) (W : Vec Ideal S1024x1536 .bf16)
    (a : ℕ) (ha : a + 304 ≤ 912)
    (h0 : ∀ i, (![0, a, 0] : Fin 3 → ℕ) i + S1x304x1024.size i ≤ S1x912x1024.size i)
    (h7 : ∀ i, (![0, a, 0] : Fin 3 → ℕ) i + S1x304x256.size i ≤ S1x912x256.size i)
    (w : FVec Ideal S1x304x256 .bf16)
    (hw : w = k0_pay28 (F := Ideal) (k0_pay21 (k0_pay3
        (View.ld (Val := Elt Ideal) (e' := .f32) A (Rect.unit (s := S1x912x1024) ![0, a, 0] S1x304x1024.size h0))
        (View.ld (Val := Elt Ideal) (e' := .f32) B r0_2)) (View.ld (Val := Elt Ideal) (e' := .bf16) W r0_13)))
    (x : (Rect.unit (s := S1x912x256) ![0, a, 0] S1x304x256.size h7).shape.Idx) :
    w x = vBlock A B W ((Rect.unit (s := S1x912x256) ![0, a, 0] S1x304x256.size h7).emb x) := by
  rw [idx_piece x]
  refine (congrFun hw _).trans ((v_tile A B W a ha h0 (x 1) (x 2)).trans ?_)
  rw [vBlock]
  refine congr (congrArg (fun z => projRow z _) (funext fun k => congrArg A (congrArg (fun z => ix3 0 z k) (Fin.ext ?_)))) (funext fun k => congrArg W (congrArg (ix2 k) (Fin.ext ?_)))
  · show a + (x 1).val = a + 1 * (x 1).val
    omega
  · show 1280 + (x 2).val = 1280 + (0 + 1 * (x 2).val)
    omega

/-- What the body leaves in the queries' block. -/
theorem out7 (A : Vec Ideal S1x912x1024 .f32) (B : Vec Ideal S1x1024 .f32) (W : Vec Ideal S1024x1536 .bf16) (G G' : Vec Ideal S1x128 .f32)
    (C S : Vec Ideal S912x128 .f32) (y : S1x912x1024.Idx) : out0_7 (F := Ideal) A B W G G' C S y = qBlock A B W G C S y := by
  unfold_out out0_7
  refine View.canon_apply_of_pieces (Val := Elt Ideal) (e := .bf16) (S := S1x912x1024) (qBlock A B W G C S) _ ?_ y ?_
  · refine List.forall_mem_cons.mpr ⟨q_piece A B W G C S 608 896 (by decide) (by decide) slices_S304x1024_o0_896_S304x128 (by decide) inb_S1x912x1024_S1x304x1024_0_608_0 inb_S912x128_S304x128_608_0 inb_S1x912x1024_S1x304x128_0_608_896 _ rfl, ?_⟩
    refine List.forall_mem_cons.mpr ⟨q_piece A B W G C S 608 768 (by decide) (by decide) slices_S304x1024_o0_768_S304x128 (by decide) inb_S1x912x1024_S1x304x1024_0_608_0 inb_S912x128_S304x128_608_0 inb_S1x912x1024_S1x304x128_0_608_768 _ rfl, ?_⟩
    refine List.forall_mem_cons.mpr ⟨q_piece A B W G C S 608 640 (by decide) (by decide) slices_S304x1024_o0_640_S304x128 (by decide) inb_S1x912x1024_S1x304x1024_0_608_0 inb_S912x128_S304x128_608_0 inb_S1x912x1024_S1x304x128_0_608_640 _ rfl, ?_⟩
    refine List.forall_mem_cons.mpr ⟨q_piece A B W G C S 608 512 (by decide) (by decide) slices_S304x1024_o0_512_S304x128 (by decide) inb_S1x912x1024_S1x304x1024_0_608_0 inb_S912x128_S304x128_608_0 inb_S1x912x1024_S1x304x128_0_608_512 _ rfl, ?_⟩
    refine List.forall_mem_cons.mpr ⟨q_piece A B W G C S 608 384 (by decide) (by decide) slices_S304x1024_o0_384_S304x128 (by decide) inb_S1x912x1024_S1x304x1024_0_608_0 inb_S912x128_S304x128_608_0 inb_S1x912x1024_S1x304x128_0_608_384 _ rfl, ?_⟩
    refine List.forall_mem_cons.mpr ⟨q_piece A B W G C S 608 256 (by decide) (by decide) slices_S304x1024_o0_256_S304x128 (by decide) inb_S1x912x1024_S1x304x1024_0_608_0 inb_S912x128_S304x128_608_0 inb_S1x912x1024_S1x304x128_0_608_256 _ rfl, ?_⟩
    refine List.forall_mem_cons.mpr ⟨q_piece A B W G C S 608 128 (by decide) (by decide) slices_S304x1024_o0_128_S304x128 (by decide) inb_S1x912x1024_S1x304x1024_0_608_0 inb_S912x128_S304x128_608_0 inb_S1x912x1024_S1x304x128_0_608_128 _ rfl, ?_⟩
    refine List.forall_mem_cons.mpr ⟨q_piece A B W G C S 608 0 (by decide) (by decide) slices_S304x1024_o0_0_S304x128 (by decide) inb_S1x912x1024_S1x304x1024_0_608_0 inb_S912x128_S304x128_608_0 inb_S1x912x1024_S1x304x128_0_608_0 _ rfl, ?_⟩
    refine List.forall_mem_cons.mpr ⟨q_piece A B W G C S 304 896 (by decide) (by decide) slices_S304x1024_o0_896_S304x128 (by decide) inb_S1x912x1024_S1x304x1024_0_304_0 inb_S912x128_S304x128_304_0 inb_S1x912x1024_S1x304x128_0_304_896 _ rfl, ?_⟩
    refine List.forall_mem_cons.mpr ⟨q_piece A B W G C S 304 768 (by decide) (by decide) slices_S304x1024_o0_768_S304x128 (by decide) inb_S1x912x1024_S1x304x1024_0_304_0 inb_S912x128_S304x128_304_0 inb_S1x912x1024_S1x304x128_0_304_768 _ rfl, ?_⟩
    refine List.forall_mem_cons.mpr ⟨q_piece A B W G C S 304 640 (by decide) (by decide) slices_S304x1024_o0_640_S304x128 (by decide) inb_S1x912x1024_S1x304x1024_0_304_0 inb_S912x128_S304x128_304_0 inb_S1x912x1024_S1x304x128_0_304_640 _ rfl, ?_⟩
    refine List.forall_mem_cons.mpr ⟨q_piece A B W G C S 304 512 (by decide) (by decide) slices_S304x1024_o0_512_S304x128 (by decide) inb_S1x912x1024_S1x304x1024_0_304_0 inb_S912x128_S304x128_304_0 inb_S1x912x1024_S1x304x128_0_304_512 _ rfl, ?_⟩
    refine List.forall_mem_cons.mpr ⟨q_piece A B W G C S 304 384 (by decide) (by decide) slices_S304x1024_o0_384_S304x128 (by decide) inb_S1x912x1024_S1x304x1024_0_304_0 inb_S912x128_S304x128_304_0 inb_S1x912x1024_S1x304x128_0_304_384 _ rfl, ?_⟩
    refine List.forall_mem_cons.mpr ⟨q_piece A B W G C S 304 256 (by decide) (by decide) slices_S304x1024_o0_256_S304x128 (by decide) inb_S1x912x1024_S1x304x1024_0_304_0 inb_S912x128_S304x128_304_0 inb_S1x912x1024_S1x304x128_0_304_256 _ rfl, ?_⟩
    refine List.forall_mem_cons.mpr ⟨q_piece A B W G C S 304 128 (by decide) (by decide) slices_S304x1024_o0_128_S304x128 (by decide) inb_S1x912x1024_S1x304x1024_0_304_0 inb_S912x128_S304x128_304_0 inb_S1x912x1024_S1x304x128_0_304_128 _ rfl, ?_⟩
    refine List.forall_mem_cons.mpr ⟨q_piece A B W G C S 304 0 (by decide) (by decide) slices_S304x1024_o0_0_S304x128 (by decide) inb_S1x912x1024_S1x304x1024_0_304_0 inb_S912x128_S304x128_304_0 inb_S1x912x1024_S1x304x128_0_304_0 _ rfl, ?_⟩
    refine List.forall_mem_cons.mpr ⟨q_piece A B W G C S 0 896 (by decide) (by decide) slices_S304x1024_o0_896_S304x128 (by decide) inb_S1x912x1024_S1x304x1024_0_0_0 inb_S912x128_S304x128_0_0 inb_S1x912x1024_S1x304x128_0_0_896 _ rfl, ?_⟩
    refine List.forall_mem_cons.mpr ⟨q_piece A B W G C S 0 768 (by decide) (by decide) slices_S304x1024_o0_768_S304x128 (by decide) inb_S1x912x1024_S1x304x1024_0_0_0 inb_S912x128_S304x128_0_0 inb_S1x912x1024_S1x304x128_0_0_768 _ rfl, ?_⟩
    refine List.forall_mem_cons.mpr ⟨q_piece A B W G C S 0 640 (by decide) (by decide) slices_S304x1024_o0_640_S304x128 (by decide) inb_S1x912x1024_S1x304x1024_0_0_0 inb_S912x128_S304x128_0_0 inb_S1x912x1024_S1x304x128_0_0_640 _ rfl, ?_⟩
    refine List.forall_mem_cons.mpr ⟨q_piece A B W G C S 0 512 (by decide) (by decide) slices_S304x1024_o0_512_S304x128 (by decide) inb_S1x912x1024_S1x304x1024_0_0_0 inb_S912x128_S304x128_0_0 inb_S1x912x1024_S1x304x128_0_0_512 _ rfl, ?_⟩
    refine List.forall_mem_cons.mpr ⟨q_piece A B W G C S 0 384 (by decide) (by decide) slices_S304x1024_o0_384_S304x128 (by decide) inb_S1x912x1024_S1x304x1024_0_0_0 inb_S912x128_S304x128_0_0 inb_S1x912x1024_S1x304x128_0_0_384 _ rfl, ?_⟩
    refine List.forall_mem_cons.mpr ⟨q_piece A B W G C S 0 256 (by decide) (by decide) slices_S304x1024_o0_256_S304x128 (by decide) inb_S1x912x1024_S1x304x1024_0_0_0 inb_S912x128_S304x128_0_0 inb_S1x912x1024_S1x304x128_0_0_256 _ rfl, ?_⟩
    refine List.forall_mem_cons.mpr ⟨q_piece A B W G C S 0 128 (by decide) (by decide) slices_S304x1024_o0_128_S304x128 (by decide) inb_S1x912x1024_S1x304x1024_0_0_0 inb_S912x128_S304x128_0_0 inb_S1x912x1024_S1x304x128_0_0_128 _ rfl, ?_⟩
    refine List.forall_mem_cons.mpr ⟨q_piece A B W G C S 0 0 (by decide) (by decide) slices_S304x1024_o0_0_S304x128 (by decide) inb_S1x912x1024_S1x304x1024_0_0_0 inb_S912x128_S304x128_0_0 inb_S1x912x1024_S1x304x128_0_0_0 _ rfl, ?_⟩
    exact fun p hp => absurd hp List.not_mem_nil
  · exact View.cover_of_tiled_head _ _ _ rfl y

/-- What the body leaves in the keys' block. -/
theorem out8 (A : Vec Ideal S1x912x1024 .f32) (B : Vec Ideal S1x1024 .f32) (W : Vec Ideal S1024x1536 .bf16) (G G' : Vec Ideal S1x128 .f32)
    (C S : Vec Ideal S912x128 .f32) (y : S1x912x256.Idx) : out0_8 (F := Ideal) A B W G G' C S y = kBlock A B W G' C S y := by
  unfold_out out0_8
  refine View.canon_apply_of_pieces (Val := Elt Ideal) (e := .bf16) (S := S1x912x256) (kBlock A B W G' C S) _ ?_ y ?_
  · refine List.forall_mem_cons.mpr ⟨k_piece A B W G' C S 608 128 (by decide) (by decide) slices_S304x512_o0_128_S304x128 (by decide) inb_S1x912x1024_S1x304x1024_0_608_0 inb_S912x128_S304x128_608_0 inb_S1x912x256_S1x304x128_0_608_128 _ rfl, ?_⟩
    refine List.forall_mem_cons.mpr ⟨k_piece A B W G' C S 608 0 (by decide) (by decide) slices_S304x512_o0_0_S304x128 (by decide) inb_S1x912x1024_S1x304x1024_0_608_0 inb_S912x128_S304x128_608_0 inb_S1x912x256_S1x304x128_0_608_0 _ rfl, ?_⟩
    refine List.forall_mem_cons.mpr ⟨k_piece A B W G' C S 304 128 (by decide) (by decide) slices_S304x512_o0_128_S304x128 (by decide) inb_S1x912x1024_S1x304x1024_0_304_0 inb_S912x128_S304x128_304_0 inb_S1x912x256_S1x304x128_0_304_128 _ rfl, ?_⟩
    refine List.forall_mem_cons.mpr ⟨k_piece A B W G' C S 304 0 (by decide) (by decide) slices_S304x512_o0_0_S304x128 (by decide) inb_S1x912x1024_S1x304x1024_0_304_0 inb_S912x128_S304x128_304_0 inb_S1x912x256_S1x304x128_0_304_0 _ rfl, ?_⟩
    refine List.forall_mem_cons.mpr ⟨k_piece A B W G' C S 0 128 (by decide) (by decide) slices_S304x512_o0_128_S304x128 (by decide) inb_S1x912x1024_S1x304x1024_0_0_0 inb_S912x128_S304x128_0_0 inb_S1x912x256_S1x304x128_0_0_128 _ rfl, ?_⟩
    refine List.forall_mem_cons.mpr ⟨k_piece A B W G' C S 0 0 (by decide) (by decide) slices_S304x512_o0_0_S304x128 (by decide) inb_S1x912x1024_S1x304x1024_0_0_0 inb_S912x128_S304x128_0_0 inb_S1x912x256_S1x304x128_0_0_0 _ rfl, ?_⟩
    exact fun p hp => absurd hp List.not_mem_nil
  · exact View.cover_of_tiled_head _ _ _ rfl y

/-- What the body leaves in the values' block. -/
theorem out9 (A : Vec Ideal S1x912x1024 .f32) (B : Vec Ideal S1x1024 .f32) (W : Vec Ideal S1024x1536 .bf16) (G G' : Vec Ideal S1x128 .f32)
    (C S : Vec Ideal S912x128 .f32) (y : S1x912x256.Idx) : out0_9 (F := Ideal) A B W G G' C S y = vBlock A B W y := by
  unfold_out out0_9
  refine View.canon_apply_of_pieces (Val := Elt Ideal) (e := .bf16) (S := S1x912x256) (vBlock A B W) _ ?_ y ?_
  · refine List.forall_mem_cons.mpr ⟨v_piece A B W 608 (by decide) inb_S1x912x1024_S1x304x1024_0_608_0 inb_S1x912x256_S1x304x256_0_608_0 _ rfl, ?_⟩
    refine List.forall_mem_cons.mpr ⟨v_piece A B W 304 (by decide) inb_S1x912x1024_S1x304x1024_0_304_0 inb_S1x912x256_S1x304x256_0_304_0 _ rfl, ?_⟩
    refine List.forall_mem_cons.mpr ⟨v_piece A B W 0 (by decide) inb_S1x912x1024_S1x304x1024_0_0_0 inb_S1x912x256_S1x304x256_0_0_0 _ rfl, ?_⟩
    exact fun p hp => absurd hp List.not_mem_nil
  · exact View.cover_of_tiled_head _ _ _ rfl y

end Cert.Mix.Online
end
-- ==== Proof.OnlineQkvArray.lean ====
/- The projection call's result arrays in the mixer with the online attention, as functions of the arrays it reads. -/
module

public import proofs.«01_k».proof.Proof.QkvArray
public import proofs.«01_k».proof.Proof.OnlineQkvKernel

@[expose] public section

set_option maxRecDepth 16384

noncomputable section

namespace Cert.Mix.Online

open Idealize.ShloMosaic Idealize.ShloMosaic.TcCoe Idealize.SL.Sem
open Cert.MixerOnlineIdeal Cert.MixerOnlineIdeal.Gen
open Idealize.ShloMosaic.Pipeline (Dat)

/-- The grid's index maps: a batch and a block of tokens. -/
theorem idx0 : ∀ t : Fin cfg0.N,
    win0_0.index t = ![t.val / 9, t.val % 9, 0] ∧ win0_1.index t = ![0, 0] ∧ win0_2.index t = ![0, 0]
    ∧ win0_3.index t = ![0, 0] ∧ win0_4.index t = ![0, 0] ∧ win0_5.index t = ![t.val % 9, 0] ∧ win0_6.index t = ![t.val % 9, 0]
    ∧ win0_7.index t = ![t.val / 9, t.val % 9, 0] ∧ win0_8.index t = ![t.val / 9, t.val % 9, 0] ∧ win0_9.index t = ![t.val / 9, t.val % 9, 0] :=
  (by decide +kernel : ∀ t : Fin grid0.N, _)

/-- The array of queries: head after head. -/
def qArr (H : FVec Ideal S8x8208x1024 .f32) (B : FVec Ideal S1x1024 .f32) (W : FVec Ideal S1024x1536 .bf16) (G : FVec Ideal S1x128 .f32)
    (C S : FVec Ideal S8208x128 .f32) (b : Fin 8) (l : Fin 8208) (f : Fin 1024) : EReal :=
  headArr H B W (qGain G) C S b l (f.val / 128 * 128) (by have := f.isLt; omega) ⟨f.val % 128, Nat.mod_lt _ (by decide)⟩

section

variable (V : (c : Dev nD) → (b : Ref sig .tc) → Buf (Elt Ideal) ((c : Thread nD τ).loc b)) (c : Dev nD) (t : Fin cfg0.N)

/-- The grid has seventy-two points. -/
theorem t0_lt : t.val < 72 := t.isLt

/-- A block of the stream. -/
theorem read0_0 (r : Fin 912) (k : Fin 1024) : iblk0 V c 0 t (ix3 0 r k)
    = V c main_arg0 (ix3 ⟨t.val / 9, by have := t0_lt t; omega⟩ ⟨t.val % 9 * 912 + r.val, by have := r.isLt; omega⟩ k) := by
  blk_ext! [iblk0, idx0 t]

/-- The gain. -/
theorem read0_1 (k : Fin 1024) : iblk0 V c 1 t (ix2 0 k) = V c main_v53 (ix2 0 k) := by
  blk_ext! [iblk0, idx0 t]

/-- The weights. -/
theorem read0_2 (k : Fin 1024) (f : Fin 1536) : iblk0 V c 2 t (ix2 k f) = V c main_v82 (ix2 k f) := by
  blk_ext! [iblk0, idx0 t]

/-- The query gain. -/
theorem read0_3 (e : Fin 128) : iblk0 V c 3 t (ix2 0 e) = V c main_v90 (ix2 0 e) := by
  blk_ext! [iblk0, idx0 t]

/-- The key gain. -/
theorem read0_4 (e : Fin 128) : iblk0 V c 4 t (ix2 0 e) = V c main_v98 (ix2 0 e) := by
  blk_ext! [iblk0, idx0 t]

/-- A block of the cosines. -/
theorem read0_5 (r : Fin 912) (e : Fin 128) : iblk0 V c 5 t (ix2 r e) = V c main_v35 (ix2 ⟨t.val % 9 * 912 + r.val, by have := r.isLt; omega⟩ e) := by
  blk_ext! [iblk0, idx0 t]

/-- A block of the signed sines. -/
theorem read0_6 (r : Fin 912) (e : Fin 128) : iblk0 V c 6 t (ix2 r e) = V c main_v39 (ix2 ⟨t.val % 9 * 912 + r.val, by have := r.isLt; omega⟩ e) := by
  blk_ext! [iblk0, idx0 t]

/-- A head's block, read from the arrays. -/
theorem tile_arr (g : Fin 128 → EReal) (r : Fin 912) (o : ℕ) (ho : o + 128 ≤ 1536) (d : Fin 128) :
    headTile (iblk0 V c 0 t) (iblk0 V c 1 t) (iblk0 V c 2 t) g (iblk0 V c 5 t) (iblk0 V c 6 t) r o ho d
      = headArr (V c main_arg0) (V c main_v53) (V c main_v82) g (V c main_v35) (V c main_v39) ⟨t.val / 9, by have := t0_lt t; omega⟩
          ⟨t.val % 9 * 912 + r.val, by have := r.isLt; omega⟩ o ho d := by
  unfold headTile headArr
  refine congrFun (congr (congrArg₂ (fun n => rotRow n g) (congrArg (normed _) (funext fun e => ?_)) (funext fun e => read0_5 V c t r e)) (funext fun e => read0_6 V c t r e)) d
  exact congr (congrArg₂ projRow (funext fun k => read0_0 V c t r k) (funext fun k => read0_1 V c t k)) (funext fun k => read0_2 V c t k _)

/-- A grid point computes the queries of its tokens. -/
theorem point0_7 (r : Fin 912) (k : Fin 1024) (b : Fin 8) (l : Fin 8208) (f : Fin 1024) (hb : b.val = t.val / 9)
    (hl : l.val = t.val % 9 * 912 + r.val) (hf : f.val = 0 * 1024 + k.val) :
    out0_7 (iblk0 V c 0 t) (iblk0 V c 1 t) (iblk0 V c 2 t) (iblk0 V c 3 t) (iblk0 V c 4 t) (iblk0 V c 5 t) (iblk0 V c 6 t) (ix3 0 r k)
      = qArr (V c main_arg0) (V c main_v53) (V c main_v82) (V c main_v90) (V c main_v35) (V c main_v39) b l f := by
  rw [out7]
  unfold qBlock qArr
  have hg : qGain (iblk0 V c 3 t) = qGain (V c main_v90) := funext fun e => congrArg (· * qScale) (read0_3 V c t e)
  refine (tile_arr V c t _ _ _ _ _).trans ?_
  rw [hg]
  refine headArr_congr _ _ _ _ _ _ _ _ (Fin.ext hb.symm) (Fin.ext hl.symm) ?_ (Fin.ext ?_)
  · show k.val / 128 * 128 = f.val / 128 * 128; omega
  · show k.val % 128 = f.val % 128; omega

/-- A grid point computes the keys of its tokens. -/
theorem point0_8 (r : Fin 912) (k : Fin 256) (b : Fin 8) (l : Fin 8208) (f : Fin 256) (hb : b.val = t.val / 9)
    (hl : l.val = t.val % 9 * 912 + r.val) (hf : f.val = 0 * 256 + k.val) :
    out0_8 (iblk0 V c 0 t) (iblk0 V c 1 t) (iblk0 V c 2 t) (iblk0 V c 3 t) (iblk0 V c 4 t) (iblk0 V c 5 t) (iblk0 V c 6 t) (ix3 0 r k)
      = kArr (V c main_arg0) (V c main_v53) (V c main_v82) (V c main_v98) (V c main_v35) (V c main_v39) b l f := by
  rw [out8]
  unfold kBlock kArr
  have hg : kGain (iblk0 V c 4 t) = kGain (V c main_v98) := funext fun e => read0_4 V c t e
  refine (tile_arr V c t _ _ _ _ _).trans ?_
  rw [hg]
  refine headArr_congr _ _ _ _ _ _ _ _ (Fin.ext hb.symm) (Fin.ext hl.symm) ?_ (Fin.ext ?_)
  · show 1024 + k.val / 128 * 128 = 1024 + f.val / 128 * 128; omega
  · show k.val % 128 = f.val % 128; omega

/-- A grid point computes the values of its tokens. -/
theorem point0_9 (r : Fin 912) (k : Fin 256) (b : Fin 8) (l : Fin 8208) (f : Fin 256) (hb : b.val = t.val / 9)
    (hl : l.val = t.val % 9 * 912 + r.val) (hf : f.val = 0 * 256 + k.val) :
    out0_9 (iblk0 V c 0 t) (iblk0 V c 1 t) (iblk0 V c 2 t) (iblk0 V c 3 t) (iblk0 V c 4 t) (iblk0 V c 5 t) (iblk0 V c 6 t) (ix3 0 r k)
      = valArr (V c main_arg0) (V c main_v53) (V c main_v82) b l f := by
  obtain rfl : k = f := Fin.ext (by omega)
  rw [out9]
  unfold vBlock valArr
  refine congr (congrArg₂ projRow (funext fun j => ?_) (funext fun j => read0_1 V c t j)) (funext fun j => read0_2 V c t j _)
  exact (read0_0 V c t r j).trans (congrArg (V c main_arg0) (congrFun (congrArg₂ ix3 (Fin.ext hb.symm) (Fin.ext hl.symm)) j))

end

variable (V : (c : Dev nD) → (b : Ref sig .tc) → Buf (Elt Ideal) ((c : Thread nD τ).loc b)) (c : Dev nD)

/-- The array of queries after the run. -/
theorem final0_7 : (dat0 (F := Ideal) V c).arrAt 7 cfg0.N = fun y => qArr (V c main_arg0) (V c main_v53) (V c main_v82) (V c main_v90) (V c main_v35) (V c main_v39) (y 0) (y 1) (y 2) := by
  refine (dat0 V c).arrAt_eq_of_covers 7 _ (by decide +kernel) fun t _ y => ?_
  blk_simp
  rw [after0_7]
  idx_vars y
  obtain rfl : y0 = 0 := Subsingleton.elim _ _
  have e0 := Pipeline.Window.rect_emb_val_off win0_7 t (ix3 0 y1 y2) 0
  have e1 := Pipeline.Window.rect_emb_val_off win0_7 t (ix3 0 y1 y2) 1
  have e2 := Pipeline.Window.rect_emb_val_off win0_7 t (ix3 0 y1 y2) 2
  rw [(idx0 t).2.2.2.2.2.2.2.1] at e0 e1 e2
  change (((View.whole main_v99_0).slice (win0_7.rect t)).emb (ix3 0 y1 y2) 0).val = t.val / 9 * 1 + 0 at e0
  change (((View.whole main_v99_0).slice (win0_7.rect t)).emb (ix3 0 y1 y2) 1).val = t.val % 9 * 912 + y1.val at e1
  change (((View.whole main_v99_0).slice (win0_7.rect t)).emb (ix3 0 y1 y2) 2).val = 0 * 1024 + y2.val at e2
  exact point0_7 V c t _ _ _ _ _ (e0.trans (by omega)) e1 e2

/-- The array of keys after the run. -/
theorem final0_8 : (dat0 (F := Ideal) V c).arrAt 8 cfg0.N = fun y => kArr (V c main_arg0) (V c main_v53) (V c main_v82) (V c main_v98) (V c main_v35) (V c main_v39) (y 0) (y 1) (y 2) := by
  refine (dat0 V c).arrAt_eq_of_covers 8 _ (by decide +kernel) fun t _ y => ?_
  blk_simp
  rw [after0_8]
  idx_vars y
  obtain rfl : y0 = 0 := Subsingleton.elim _ _
  have e0 := Pipeline.Window.rect_emb_val_off win0_8 t (ix3 0 y1 y2) 0
  have e1 := Pipeline.Window.rect_emb_val_off win0_8 t (ix3 0 y1 y2) 1
  have e2 := Pipeline.Window.rect_emb_val_off win0_8 t (ix3 0 y1 y2) 2
  rw [(idx0 t).2.2.2.2.2.2.2.2.1] at e0 e1 e2
  change (((View.whole main_v99_1).slice (win0_8.rect t)).emb (ix3 0 y1 y2) 0).val = t.val / 9 * 1 + 0 at e0
  change (((View.whole main_v99_1).slice (win0_8.rect t)).emb (ix3 0 y1 y2) 1).val = t.val % 9 * 912 + y1.val at e1
  change (((View.whole main_v99_1).slice (win0_8.rect t)).emb (ix3 0 y1 y2) 2).val = 0 * 256 + y2.val at e2
  exact point0_8 V c t _ _ _ _ _ (e0.trans (by omega)) e1 e2

/-- The array of values after the run. -/
theorem final0_9 : (dat0 (F := Ideal) V c).arrAt 9 cfg0.N = fun y => valArr (V c main_arg0) (V c main_v53) (V c main_v82) (y 0) (y 1) (y 2) := by
  refine (dat0 V c).arrAt_eq_of_covers 9 _ (by decide +kernel) fun t _ y => ?_
  blk_simp
  rw [after0_9]
  idx_vars y
  obtain rfl : y0 = 0 := Subsingleton.elim _ _
  have e0 := Pipeline.Window.rect_emb_val_off win0_9 t (ix3 0 y1 y2) 0
  have e1 := Pipeline.Window.rect_emb_val_off win0_9 t (ix3 0 y1 y2) 1
  have e2 := Pipeline.Window.rect_emb_val_off win0_9 t (ix3 0 y1 y2) 2
  rw [(idx0 t).2.2.2.2.2.2.2.2.2] at e0 e1 e2
  change (((View.whole main_v99_2).slice (win0_9.rect t)).emb (ix3 0 y1 y2) 0).val = t.val / 9 * 1 + 0 at e0
  change (((View.whole main_v99_2).slice (win0_9.rect t)).emb (ix3 0 y1 y2) 1).val = t.val % 9 * 912 + y1.val at e1
  change (((View.whole main_v99_2).slice (win0_9.rect t)).emb (ix3 0 y1 y2) 2).val = 0 * 256 + y2.val at e2
  exact point0_9 V c t _ _ _ _ _ (e0.trans (by omega)) e1 e2

end Cert.Mix.Online
end
-- ==== Proof.OnlineSpec.lean ====
/- The online form of the attention over the extended reals: a running maximum, and sums kept under it, give the same
   quotient as sums of powers of two, where the scores are real. -/
module

public import proofs.«01_k».proof.Proof.MixReal

@[expose] public section

noncomputable section

namespace Cert.Mix

open Idealize.ShloMosaic

/-- A key's weight under a maximum. -/
def under (σ : Fin 8208 → ℝ) (M : ℝ) (s : Fin 8208) : EReal := ((Real.rpow 2 (σ s - M) : ℝ) : EReal)

/-- The weighted sum of the last sixteen keys and of some chunks before them, under a maximum. -/
def onlSum (σ : Fin 8208 → ℝ) (v : Fin 8208 → EReal) (M : ℝ) (n : ℕ) : EReal :=
  (∑ j : Fin 16, ext (fun s => under σ M s * v s) (8192 + j.val))
    + ∑ i ∈ Finset.range n, ∑ j : Fin 1024, ext (fun s => under σ M s * v s) (1024 * i + j.val)

/-- A factor that is real and not negative goes into a finite sum. -/
theorem coe_mul_sum {ι : Type} (S : Finset ι) (f : ι → EReal) (c : ℝ) (hc : 0 ≤ c) : (c : EReal) * ∑ s ∈ S, f s = ∑ s ∈ S, (c : EReal) * f s := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top c) _ _

/-- It goes into a function of a key. -/
theorem coe_mul_ext (p : Fin 8208 → EReal) (c : EReal) (n : ℕ) : c * ext p n = ext (fun s => c * p s) n := by
  unfold ext
  split
  · rfl
  · exact mul_zero c

/-- Another maximum changes a weight by a factor. -/
theorem under_scale (σ : Fin 8208 → ℝ) (M M' : ℝ) (s : Fin 8208) : Ideal.exp2 ((M : EReal) - (M' : EReal)) * under σ M s = under σ M' s := by
  unfold under
  rw [← EReal.coe_sub, Ideal.exp2_coe, ← EReal.coe_mul]
  refine congrArg _ ?_
  show (2 : ℝ) ^ (M - M') * (2 : ℝ) ^ (σ s - M) = (2 : ℝ) ^ (σ s - M')
  rw [← Real.rpow_add (by norm_num)]
  congr 1
  ring

/-- Another maximum changes a sum by the same factor. -/
theorem onlSum_scale (σ : Fin 8208 → ℝ) (v : Fin 8208 → EReal) (M M' : ℝ) (n : ℕ) :
    Ideal.exp2 ((M : EReal) - (M' : EReal)) * onlSum σ v M n = onlSum σ v M' n := by
  have hs (k : ℕ) : Ideal.exp2 ((M : EReal) - (M' : EReal)) * ext (fun s => under σ M s * v s) k = ext (fun s => under σ M' s * v s) k := by
    rw [coe_mul_ext]
    simp only [← mul_assoc, under_scale]
  have hc : Ideal.exp2 ((M : EReal) - (M' : EReal)) = ((Real.rpow 2 (M - M') : ℝ) : EReal) := by
    rw [← EReal.coe_sub, Ideal.exp2_coe]
  have h0 : 0 ≤ Real.rpow 2 (M - M') := Real.rpow_nonneg (by norm_num) _
  rw [hc] at hs ⊢
  unfold onlSum
  rw [EReal.left_distrib_of_nonneg_of_ne_top (by exact_mod_cast h0) (EReal.coe_ne_top _), coe_mul_sum _ _ _ h0, coe_mul_sum _ _ _ h0]
  simp only [coe_mul_sum _ _ _ h0, hs]

/-- The first step: the last sixteen keys, from nothing. -/
theorem onl_first (σ : Fin 8208 → ℝ) (v : Fin 8208 → EReal) (a : EReal) (M : ℝ) :
    a * 0 + (∑ j : Fin 16, Ideal.exp2 ((σ ⟨8192 + j.val, by have := j.isLt; omega⟩ : EReal) - (M : EReal)) * v ⟨8192 + j.val, by have := j.isLt; omega⟩)
      = onlSum σ v M 0 := by
  unfold onlSum
  rw [mul_zero, zero_add, Finset.sum_range_zero, add_zero]
  refine Finset.sum_congr rfl fun j _ => ?_
  rw [ext_of _ _ (by have := j.isLt; omega), under, ← EReal.coe_sub, Ideal.exp2_coe]

/-- A step: the sums under the new maximum and a chunk's keys. -/
theorem onl_step (σ : Fin 8208 → ℝ) (v : Fin 8208 → EReal) (M M' : ℝ) (n : ℕ) (hn : n < 8) :
    Ideal.exp2 ((M : EReal) - (M' : EReal)) * onlSum σ v M n
        + (∑ j : Fin 1024, Ideal.exp2 ((σ ⟨1024 * n + j.val, by have := j.isLt; omega⟩ : EReal) - (M' : EReal)) * v ⟨1024 * n + j.val, by have := j.isLt; omega⟩)
      = onlSum σ v M' (n + 1) := by
  rw [onlSum_scale]
  unfold onlSum
  rw [Finset.sum_range_succ, ← add_assoc]
  refine congrArg _ (Finset.sum_congr rfl fun j _ => ?_)
  rw [ext_of _ _ (by have := j.isLt; omega), under, ← EReal.coe_sub, Ideal.exp2_coe]

/-- The last sixteen keys and the eight chunks before them are all the keys. -/
theorem onl_all (σ : Fin 8208 → ℝ) (v : Fin 8208 → EReal) (M : ℝ) : onlSum σ v M 8 = ∑ s, under σ M s * v s := by
  have e : ∑ s, under σ M s * v s = ∑ s ∈ Finset.range (1024 * 8 + 16), ext (fun s => under σ M s * v s) s := by
    rw [Finset.sum_fin_eq_sum_range]; rfl
  unfold onlSum
  rw [e, Finset.sum_range_add, ← sum_chunks, add_comm]
  exact congrArg₂ (· + ·)
    (Finset.sum_congr rfl fun i _ => Fin.sum_univ_eq_sum_range (fun j => ext (fun s => under σ M s * v s) (1024 * i + j)) 1024)
    (Fin.sum_univ_eq_sum_range (fun j => ext (fun s => under σ M s * v s) (8192 + j)) 16)

/-- The quotient of the sums under any maximum is the attention. -/
theorem onl_quot (K : Fin 8208 → Fin 128 → EReal) (q : Fin 128 → EReal) (σ : Fin 8208 → ℝ) (v : Fin 8208 → EReal) (M : ℝ)
    (hσ : ∀ s, ∑ e, q e * K s e = (σ s : EReal)) :
    onlSum σ v M 8 * Ideal.div 1 (onlSum σ (fun _ => 1) M 8) = attnRow K q v := by
  have hw (s : Fin 8208) : wt K q s = ((Real.rpow 2 (σ s) : ℝ) : EReal) := by
    unfold wt
    rw [← Ideal.exp2_coe, ← hσ]
    exact congrArg Ideal.exp2 (Finset.sum_congr rfl fun e _ => mul_comm _ _)
  have hc : 0 < Real.rpow 2 (-M) := Real.rpow_pos_of_pos (by norm_num) _
  have hu (s : Fin 8208) : under σ M s = ((Real.rpow 2 (-M) : ℝ) : EReal) * wt K q s := by
    rw [hw, ← EReal.coe_mul]
    refine congrArg (fun x : ℝ => (x : EReal)) ?_
    show (2 : ℝ) ^ (σ s - M) = (2 : ℝ) ^ (-M) * (2 : ℝ) ^ σ s
    rw [← Real.rpow_add (by norm_num)]
    congr 1
    ring
  have hZ : 0 < ∑ s : Fin 8208, Real.rpow 2 (σ s) :=
    Finset.sum_pos (fun s _ => Real.rpow_pos_of_pos (by norm_num) _) ⟨⟨0, by decide⟩, Finset.mem_univ _⟩
  have hd : ∑ s, wt K q s = ((∑ s, Real.rpow 2 (σ s) : ℝ) : EReal) := by
    simp only [hw]
    exact coe_sum _
  have hn : ∑ s, under σ M s * v s = ((Real.rpow 2 (-M) : ℝ) : EReal) * ∑ s, v s * wt K q s := by
    rw [coe_mul_sum _ _ _ hc.le]
    refine Finset.sum_congr rfl fun s _ => ?_
    rw [hu, mul_assoc, mul_comm (wt K q s)]
  have hl : ∑ s, under σ M s * (fun _ => (1 : EReal)) s = ((Real.rpow 2 (-M) * ∑ s, Real.rpow 2 (σ s) : ℝ) : EReal) := by
    rw [EReal.coe_mul, ← hd, coe_mul_sum _ _ _ hc.le]
    exact Finset.sum_congr rfl fun s _ => by rw [hu]; exact mul_one _
  unfold attnRow
  rw [onl_all, onl_all, hn, hl, hd]
  generalize ∑ s, Real.rpow 2 (σ s) = Z at hZ ⊢
  generalize Real.rpow 2 (-M) = c at hc ⊢
  rw [Ideal.div_coe (mul_pos hc hZ).ne', Ideal.div_coe hZ.ne', mul_comm (c : EReal), mul_assoc]
  refine congrArg _ ?_
  rw [one_mul, one_mul, ← EReal.coe_mul]
  refine congrArg _ ?_
  field_simp

/-- A new maximum, of a real one or none and of a real chunk, is real. -/
theorem fold_max_real {n : ℕ} (i : Fin n) (m : EReal) (hm : m ≠ ⊤) (t : Fin n → ℝ) : IsReal (max m
    (Finset.univ.fold max (Ideal.ofBits .f32 0xFF800000#32) (fun s => ((t s : ℝ) : EReal)))) := by
  rw [val_bot]
  refine isReal_of_ne (ne_of_lt (max_lt (lt_top_iff_ne_top.mpr hm) ?_)) (ne_of_gt (lt_max_of_lt_right ?_))
  · exact (Finset.fold_max_lt _).mpr ⟨bot_lt_top, fun s _ => EReal.coe_lt_top _⟩
  · exact (Finset.lt_fold_max _).mpr (Or.inr ⟨i, Finset.mem_univ _, EReal.bot_lt_coe _⟩)

end Cert.Mix
end
-- ==== Proof.OnlineRows.lean ====
/- The online attention call's steps: what a chunk of keys does to the maximum and the sums, element by element. -/
module

public import proofs.«01_k».proof.Proof.OnlineSpec
public import Idealize.ShloMosaic.Lib.Pipeline.ValueKit
public import proofs.«01_k».proof.Proof.Gen.MixerOnlineIdeal.Frame

@[expose] public section

set_option maxRecDepth 16384

noncomputable section

namespace Cert.Mix.Online

open Idealize.ShloMosaic Idealize.ShloMosaic.TcCoe Idealize.SL.Sem
open Cert.MixerOnlineIdeal Cert.MixerOnlineIdeal.Gen
open Idealize.ShloMosaic.Pipeline (Dat)

/-- A chunk's scores, at a query and a key. -/
theorem pay5_row (q : FVec Ideal S912x128 .bf16) (k : Vec Ideal S1x1024x128 .bf16) (r : Fin 912) (j : Fin 1024) :
    k1_pay5 (F := Ideal) q k (ix2 r j) = ∑ e, q (ix2 r e) * k (ix3 0 j e) := by
  pointwise [k1_pay5, k1_pay3]

/-- The maximum after a chunk. -/
theorem step6_row (q : FVec Ideal S912x128 .bf16) (m : FVec Ideal S912x1 .f32) (k : Vec Ideal S1x1024x128 .bf16) (r : Fin 912) :
    k1_pay6 (F := Ideal) q m k (ix2 r 0)
      = max (m (ix2 r 0)) (Finset.univ.fold max (Ideal.ofBits .f32 0xFF800000#32) (fun j => ∑ e, q (ix2 r e) * k (ix3 0 j e))) := by
  pointwise [k1_pay6]
  simp only [pay5_row]

/-- The sum of weights after a chunk. -/
theorem pay9_row (q : FVec Ideal S912x128 .bf16) (m l : FVec Ideal S912x1 .f32) (k : Vec Ideal S1x1024x128 .bf16) (r : Fin 912) :
    k1_pay9 (F := Ideal) q m l k (ix2 r 0)
      = Ideal.exp2 (m (ix2 r 0) - k1_pay6 (F := Ideal) q m k (ix2 r 0)) * l (ix2 r 0)
        + ∑ j, Ideal.exp2 ((∑ e, q (ix2 r e) * k (ix3 0 j e)) - k1_pay6 (F := Ideal) q m k (ix2 r 0)) := by
  pointwise [k1_pay9, k1_pay7, k1_pay8]
  simp only [pay5_row]
  rfl

/-- The weighted values after a chunk. -/
theorem pay10_row (q : FVec Ideal S912x128 .bf16) (m : FVec Ideal S912x1 .f32) (a : FVec Ideal S912x128 .f32) (k v : Vec Ideal S1x1024x128 .bf16) (r : Fin 912) (d : Fin 128) :
    k1_pay10 (F := Ideal) q m a k v (ix2 r d)
      = Ideal.exp2 (m (ix2 r 0) - k1_pay6 (F := Ideal) q m k (ix2 r 0)) * a (ix2 r d)
        + ∑ j, Ideal.exp2 ((∑ e, q (ix2 r e) * k (ix3 0 j e)) - k1_pay6 (F := Ideal) q m k (ix2 r 0)) * v (ix3 0 j d) := by
  pointwise [k1_pay10, k1_pay7, k1_pay8, k1_pay4]
  simp only [pay5_row]
  rfl

/-- The maximum after the last sixteen keys. -/
theorem pay43_row (q : FVec Ideal S912x128 .bf16) (m : FVec Ideal S912x1 .f32) (k : Vec Ideal S1x16x128 .bf16) (r : Fin 912) :
    k1_pay43 (F := Ideal) q m (k1_pay34 k) (ix2 r 0)
      = max (m (ix2 r 0)) (Finset.univ.fold max (Ideal.ofBits .f32 0xFF800000#32) (fun j => ∑ e, q (ix2 r e) * k (ix3 0 j e))) := by
  pointwise [k1_pay43, k1_pay42, k1_pay34]

/-- The sum of weights after the last sixteen keys. -/
theorem pay46_row (q : FVec Ideal S912x128 .bf16) (m l : FVec Ideal S912x1 .f32) (k : Vec Ideal S1x16x128 .bf16) (r : Fin 912) :
    k1_pay46 (F := Ideal) q m l (k1_pay34 k) (ix2 r 0)
      = Ideal.exp2 (m (ix2 r 0) - k1_pay43 (F := Ideal) q m (k1_pay34 k) (ix2 r 0)) * l (ix2 r 0)
        + ∑ j, Ideal.exp2 ((∑ e, q (ix2 r e) * k (ix3 0 j e)) - k1_pay43 (F := Ideal) q m (k1_pay34 k) (ix2 r 0)) := by
  pointwise [k1_pay46, k1_pay44, k1_pay45, k1_pay42, k1_pay34]
  rfl

/-- The weighted values after the last sixteen keys. -/
theorem pay47_row (q : FVec Ideal S912x128 .bf16) (m : FVec Ideal S912x1 .f32) (a : FVec Ideal S912x128 .f32) (k v : Vec Ideal S1x16x128 .bf16) (r : Fin 912) (d : Fin 128) :
    k1_pay47 (F := Ideal) q m a (k1_pay34 k) (k1_pay35 v) (ix2 r d)
      = Ideal.exp2 (m (ix2 r 0) - k1_pay43 (F := Ideal) q m (k1_pay34 k) (ix2 r 0)) * a (ix2 r d)
        + ∑ j, Ideal.exp2 ((∑ e, q (ix2 r e) * k (ix3 0 j e)) - k1_pay43 (F := Ideal) q m (k1_pay34 k) (ix2 r 0)) * v (ix3 0 j d) := by
  pointwise [k1_pay47, k1_pay44, k1_pay45, k1_pay42, k1_pay34, k1_pay35]
  rfl

/-- The normalised block of one head, at a query and a feature. -/
theorem pay73_row (l : FVec Ideal S912x1 .f32) (a : FVec Ideal S912x128 .f32) (r : Fin 912) (d : Fin 128) :
    k1_pay73 (F := Ideal) l a (ix3 0 r d) = a (ix2 r d) * Ideal.div 1 (l (ix2 r 0)) := by
  pointwise [k1_pay73]

/-- Before the first keys there is no maximum. -/
theorem pay22_row (r : Fin 912) : k1_pay22 (F := Ideal) (ix2 r 0) = Ideal.ofBits .f32 0xFF800000#32 := by
  pointwise [k1_pay22]

/-- Before the first keys the sum of weights is zero. -/
theorem pay23_row (r : Fin 912) : k1_pay23 (F := Ideal) (ix2 r 0) = 0 := by
  pointwise [k1_pay23]

/-- Before the first keys the weighted values are zero. -/
theorem pay24_row (r : Fin 912) (d : Fin 128) : k1_pay24 (F := Ideal) (ix2 r d) = 0 := by
  pointwise [k1_pay24]

end Cert.Mix.Online
end
-- ==== Proof.OnlineAttn.lean ====
/- The online attention call's block: what the body leaves in its output, element by element, where the scores are real. -/
module

public import proofs.«01_k».proof.Proof.OnlineRows

@[expose] public section

set_option maxRecDepth 16384

noncomputable section

namespace Cert.Mix.Online

open Idealize.ShloMosaic Idealize.ShloMosaic.TcCoe Idealize.SL.Sem
open Cert.MixerOnlineIdeal Cert.MixerOnlineIdeal.Gen
open Idealize.ShloMosaic.Pipeline (Dat)

/-- One head's carried values: the maximum, the sum of weights and the weighted values. -/
abbrev Head := FVec Ideal S912x1 .f32 × FVec Ideal S912x1 .f32 × FVec Ideal S912x128 .f32

/-- A chunk of the keys or of the values. -/
def chunkOf (K : FVec Ideal S1x8208x128 .bf16) (k : Fin k1_t1_loop.trips) : FVec Ideal S1x1024x128 .bf16 :=
  View.ld (Val := Elt Ideal) (e' := .bf16) K (Rect.unit (s := S1x8208x128) (k1_off1 k) ![1, 1024, 128] (k1_off1_inb k))

/-- The last sixteen keys or values. -/
def lastOf (K : FVec Ideal S1x8208x128 .bf16) : FVec Ideal S1x16x128 .bf16 :=
  View.ld (Val := Elt Ideal) (e' := .bf16) K (Rect.unit (s := S1x8208x128) ![0, 8192, 0] ![1, 16, 128] inb_S1x8208x128_S1x16x128_0_8192_0)

/-- A chunk's entries, wherever its bounds come from. -/
theorem ld_chunk (K : FVec Ideal S1x8208x128 .bf16) (k : Fin k1_t1_loop.trips) (j : Fin 1024) (e : Fin 128)
    (h : ∀ a, (k1_off1 k) a + S1x1024x128.size a ≤ S1x8208x128.size a) :
    View.ld (Val := Elt Ideal) (e' := .bf16) K (Rect.unit (s := S1x8208x128) (k1_off1 k) ![1, 1024, 128] h) (ix3 0 j e)
      = K (ix3 0 ⟨1024 * k.val + j.val, by have := j.isLt; have h : k.val < 8 := k.isLt; omega⟩ e) := by
  have he := k1_off1_eq k
  generalize k1_off1 k = off at h he
  subst he
  pointwise

/-- A chunk's entries. -/
theorem chunk_at (K : FVec Ideal S1x8208x128 .bf16) (k : Fin k1_t1_loop.trips) (j : Fin 1024) (e : Fin 128) :
    chunkOf K k (ix3 0 j e) = K (ix3 0 ⟨1024 * k.val + j.val, by have := j.isLt; have h : k.val < 8 := k.isLt; omega⟩ e) :=
  ld_chunk K k j e _

/-- The last sixteen's entries. -/
theorem last_at (K : FVec Ideal S1x8208x128 .bf16) (j : Fin 16) (e : Fin 128) :
    lastOf K (ix3 0 j e) = K (ix3 0 ⟨8192 + j.val, by have := j.isLt; omega⟩ e) := by
  unfold lastOf
  pointwise

/-- One head's carried values after some chunks. -/
def headN (q : FVec Ideal S912x128 .bf16) (K Y : FVec Ideal S1x8208x128 .bf16) (b : Head) : ℕ → Head
  | 0 => b
  | n + 1 => if h : n < k1_t1_loop.trips then
      (k1_pay6 (F := Ideal) q (headN q K Y b n).1 (chunkOf K ⟨n, h⟩),
       k1_pay9 (F := Ideal) q (headN q K Y b n).1 (headN q K Y b n).2.1 (chunkOf K ⟨n, h⟩),
       k1_pay10 (F := Ideal) q (headN q K Y b n).1 (headN q K Y b n).2.2 (chunkOf K ⟨n, h⟩) (chunkOf Y ⟨n, h⟩))
    else headN q K Y b n

/-- One head's carried values after the last sixteen keys. -/
def head0 (q : FVec Ideal S912x128 .bf16) (K Y : FVec Ideal S1x8208x128 .bf16) : Head :=
  (k1_pay43 (F := Ideal) q k1_pay22 (k1_pay34 (lastOf K)), k1_pay46 (F := Ideal) q k1_pay22 k1_pay23 (k1_pay34 (lastOf K)),
    k1_pay47 (F := Ideal) q k1_pay22 k1_pay24 (k1_pay34 (lastOf K)) (k1_pay35 (lastOf Y)))

/-- A query's carried values are its sums under some real maximum. -/
def Under (σ : Fin 8208 → ℝ) (Y : FVec Ideal S1x8208x128 .bf16) (r : Fin 912) (b : Head) (n : ℕ) : Prop :=
  ∃ M : ℝ, b.1 (ix2 r 0) = (M : EReal) ∧ b.2.1 (ix2 r 0) = onlSum σ (fun _ => 1) M n
    ∧ ∀ d, b.2.2 (ix2 r d) = onlSum σ (fun s => Y (ix3 0 s d)) M n

/-- So they are after the last sixteen keys. -/
theorem head0_under (q : FVec Ideal S912x128 .bf16) (K Y : FVec Ideal S1x8208x128 .bf16) (r : Fin 912) (σ : Fin 8208 → ℝ)
    (hσ : ∀ s, ∑ e, q (ix2 r e) * K (ix3 0 s e) = (σ s : EReal)) : Under σ Y r (head0 q K Y) 0 := by
  have hs (j : Fin 16) : ∑ e, q (ix2 r e) * lastOf K (ix3 0 j e) = (σ ⟨8192 + j.val, by have := j.isLt; omega⟩ : EReal) := by
    rw [← hσ]
    exact Finset.sum_congr rfl fun e _ => by rw [last_at]
  obtain ⟨M, hM⟩ := fold_max_real (⟨0, by decide⟩ : Fin 16) (Ideal.ofBits .f32 0xFF800000#32) (by rw [val_bot]; exact bot_ne_top)
    fun j => σ ⟨8192 + j.val, by have := j.isLt; omega⟩
  have h1 : k1_pay43 (F := Ideal) q k1_pay22 (k1_pay34 (lastOf K)) (ix2 r 0) = (M : EReal) := by
    rw [pay43_row, pay22_row]
    simp only [hs]
    exact hM
  refine ⟨M, h1, ?_, fun d => ?_⟩
  · show k1_pay46 (F := Ideal) q k1_pay22 k1_pay23 (k1_pay34 (lastOf K)) (ix2 r 0) = _
    rw [pay46_row, h1, pay23_row, ← onl_first σ _ (Ideal.exp2 (k1_pay22 (F := Ideal) (ix2 r 0) - (M : EReal)))]
    simp only [hs, mul_one]
  · show k1_pay47 (F := Ideal) q k1_pay22 k1_pay24 (k1_pay34 (lastOf K)) (k1_pay35 (lastOf Y)) (ix2 r d) = _
    rw [pay47_row, h1, pay24_row, ← onl_first σ _ (Ideal.exp2 (k1_pay22 (F := Ideal) (ix2 r 0) - (M : EReal)))]
    simp only [hs]
    simp only [last_at]

/-- So they are after some chunks. -/
theorem headN_under (q : FVec Ideal S912x128 .bf16) (K Y : FVec Ideal S1x8208x128 .bf16) (r : Fin 912) (σ : Fin 8208 → ℝ)
    (hσ : ∀ s, ∑ e, q (ix2 r e) * K (ix3 0 s e) = (σ s : EReal)) (b : Head) (hb : Under σ Y r b 0) :
    ∀ n, n ≤ 8 → Under σ Y r (headN q K Y b n) n := by
  intro n
  induction n with
  | zero => intro _; exact hb
  | succ n ih =>
    intro hn
    have h : n < k1_t1_loop.trips := by show n < 8; omega
    obtain ⟨M, e0, e1, e2⟩ := ih (by omega)
    rw [headN, dif_pos h]
    have hs (j : Fin 1024) : ∑ e, q (ix2 r e) * chunkOf K ⟨n, h⟩ (ix3 0 j e) = (σ ⟨1024 * n + j.val, by have := j.isLt; omega⟩ : EReal) := by
      rw [← hσ]
      exact Finset.sum_congr rfl fun e _ => by rw [chunk_at]
    obtain ⟨M', hM⟩ := fold_max_real (⟨0, by decide⟩ : Fin 1024) (M : EReal) (EReal.coe_ne_top M)
      fun j => σ ⟨1024 * n + j.val, by have := j.isLt; omega⟩
    have h1 : k1_pay6 (F := Ideal) q (headN q K Y b n).1 (chunkOf K ⟨n, h⟩) (ix2 r 0) = (M' : EReal) := by
      rw [step6_row, e0]
      simp only [hs]
      exact hM
    refine ⟨M', h1, ?_, fun d => ?_⟩
    · show k1_pay9 (F := Ideal) q (headN q K Y b n).1 (headN q K Y b n).2.1 (chunkOf K ⟨n, h⟩) (ix2 r 0) = _
      rw [pay9_row, h1, e0, e1, ← onl_step σ _ M M' n (by omega)]
      simp only [hs, mul_one]
    · show k1_pay10 (F := Ideal) q (headN q K Y b n).1 (headN q K Y b n).2.2 (chunkOf K ⟨n, h⟩) (chunkOf Y ⟨n, h⟩) (ix2 r d) = _
      rw [pay10_row, h1, e0, e2, ← onl_step σ _ M M' n (by omega)]
      simp only [hs]
      simp only [chunk_at]

/-- One head's finished block is the attention of its queries over all the keys, where the scores are real. -/
theorem head_val (q : FVec Ideal S912x128 .bf16) (K Y : FVec Ideal S1x8208x128 .bf16) (r : Fin 912) (d : Fin 128)
    (hr : ∀ s, IsReal (∑ e, q (ix2 r e) * K (ix3 0 s e))) :
    k1_pay73 (F := Ideal) (headN q K Y (head0 q K Y) 8).2.1 (headN q K Y (head0 q K Y) 8).2.2 (ix3 0 r d)
      = attnRow (fun s e => K (ix3 0 s e)) (fun e => q (ix2 r e)) (fun s => Y (ix3 0 s d)) := by
  choose σ hσ using hr
  obtain ⟨M, -, e1, e2⟩ := headN_under q K Y r σ hσ _ (head0_under q K Y r σ hσ) 8 le_rfl
  rw [pay73_row, e1, e2]
  exact onl_quot _ _ σ _ M hσ

/-- Another head's step is the first's. -/
theorem same12 : k1_pay12 (F := Ideal) = k1_pay6 := rfl
/-- Another head's step is the first's. -/
theorem same15 : k1_pay15 (F := Ideal) = k1_pay9 := rfl
/-- Another head's step is the first's. -/
theorem same16 : k1_pay16 (F := Ideal) = k1_pay10 := rfl
/-- Another head's step is the first's. -/
theorem same62 (q m k) : k1_pay62 (F := Ideal) m (k1_pay17 q k) = k1_pay6 q m k := rfl
/-- Another head's step is the first's. -/
theorem same65 (q m l k) : k1_pay65 (F := Ideal) m l (k1_pay17 q k) = k1_pay9 q m l k := rfl
/-- Another head's step is the first's. -/
theorem same66 (q m a k v) : k1_pay66 (F := Ideal) m a (k1_pay4 v) (k1_pay17 q k) = k1_pay10 q m a k v := rfl
/-- Another head's step is the first's. -/
theorem same68 (q m k) : k1_pay68 (F := Ideal) q m (k1_pay3 k) = k1_pay6 q m k := rfl
/-- Another head's step is the first's. -/
theorem same71 (q m l k) : k1_pay71 (F := Ideal) q m l (k1_pay3 k) = k1_pay9 q m l k := rfl
/-- Another head's step is the first's. -/
theorem same72 (q m a k v) : k1_pay72 (F := Ideal) q m a (k1_pay3 k) (k1_pay4 v) = k1_pay10 q m a k v := rfl

/-- The loop's carried values are the four heads' own. -/
theorem st_eq (𝒱 c bd i a3 h3 a4 h4 a5 h5 a6 h6 v1 v3 v5 v7 v17 v18 v19 v21 v23 v27 v36 v41 v45 v54 v59 v63 v72 v74 v75 X4 X5 b0 b1 b2 b3 b4 b5 b6 b7 b8 b9 b10 b11)
    (K Y : FVec Ideal S1x8208x128 .bf16)
    (hK : View.read (Elt Ideal) a4.view X4 = K) (hY : View.read (Elt Ideal) a5.view X5 = Y) :
    ∀ n, n ≤ 8 → st_k1_t1 (F := Ideal) 𝒱 c bd i a3 h3 a4 h4 a5 h5 a6 h6 v1 v3 v5 v7 v17 v18 v19 v21 v23 v27 v36 v41 v45 v54 v59 v63 v72 v74 v75 X4 X5 (b0, b1, b2, b3, b4, b5, b6, b7, b8, b9, b10, b11) n
      = ((headN v1 K Y (b0, b1, b2) n).1, (headN v1 K Y (b0, b1, b2) n).2.1, (headN v1 K Y (b0, b1, b2) n).2.2,
         (headN v3 K Y (b3, b4, b5) n).1, (headN v3 K Y (b3, b4, b5) n).2.1, (headN v3 K Y (b3, b4, b5) n).2.2,
         (headN v5 K Y (b6, b7, b8) n).1, (headN v5 K Y (b6, b7, b8) n).2.1, (headN v5 K Y (b6, b7, b8) n).2.2,
         (headN v7 K Y (b9, b10, b11) n).1, (headN v7 K Y (b9, b10, b11) n).2.1, (headN v7 K Y (b9, b10, b11) n).2.2) := by
  intro n
  induction n with
  | zero => intro _; rfl
  | succ n ih =>
    intro hn
    have h : n < k1_t1_loop.trips := by show n < 8; omega
    refine (st_k1_t1_succ 𝒱 c bd i a3 h3 a4 h4 a5 h5 a6 h6 v1 v3 v5 v7 v17 v18 v19 v21 v23 v27 v36 v41 v45 v54 v59 v63 v72 v74 v75 X4 X5 (b0, b1, b2, b3, b4, b5, b6, b7, b8, b9, b10, b11) ⟨n, h⟩).trans ?_
    dsimp only
    rw [ih (by omega)]
    unfold tripR_k1_t1 trip_k1_t1
    dsimp only
    subst hK hY
    simp only [headN, dif_pos h, chunkOf, same12, same15, same16, same62, same65, same66, same68, same71, same72, ← View.readAt_eq_ld]
    generalize headN v1 _ _ _ n = A
    generalize headN v3 _ _ _ n = B
    generalize headN v5 _ _ _ n = C
    generalize headN v7 _ _ _ n = D
    obtain ⟨A1, A2, A3⟩ := A
    obtain ⟨B1, B2, B3⟩ := B
    obtain ⟨C1, C2, C3⟩ := C
    obtain ⟨D1, D2, D3⟩ := D
    dsimp only
    refine Prod.ext ?_ (Prod.ext ?_ (Prod.ext ?_ (Prod.ext ?_ (Prod.ext ?_ (Prod.ext ?_ (Prod.ext ?_ (Prod.ext ?_ (Prod.ext ?_ (Prod.ext ?_ (Prod.ext ?_ ?_))))))))))
    all_goals rfl

/-- The same of buffers holding given blocks. -/
theorem st_blocks (𝒱 c bd i a3 h3 a4) (h4 : Memref.IsWhole a4) (a5) (h5 : Memref.IsWhole a5) (a6 h6 v1 v3 v5 v7 v17 v18 v19 v21 v23 v27 v36 v41 v45 v54 v59 v63 v72 v74 v75 b0 b1 b2 b3 b4 b5 b6 b7 b8 b9 b10 b11)
    (K Y : FVec Ideal S1x8208x128 .bf16) :
    st_k1_t1 (F := Ideal) 𝒱 c bd i a3 h3 a4 h4 a5 h5 a6 h6 v1 v3 v5 v7 v17 v18 v19 v21 v23 v27 v36 v41 v45 v54 v59 v63 v72 v74 v75 (h4.unread K) (h5.unread Y) (b0, b1, b2, b3, b4, b5, b6, b7, b8, b9, b10, b11)
        (Scf.trips (0#32) (Scalar.addi 0#32 8#32) 1#32)
      = ((headN v1 K Y (b0, b1, b2) 8).1, (headN v1 K Y (b0, b1, b2) 8).2.1, (headN v1 K Y (b0, b1, b2) 8).2.2,
         (headN v3 K Y (b3, b4, b5) 8).1, (headN v3 K Y (b3, b4, b5) 8).2.1, (headN v3 K Y (b3, b4, b5) 8).2.2,
         (headN v5 K Y (b6, b7, b8) 8).1, (headN v5 K Y (b6, b7, b8) 8).2.1, (headN v5 K Y (b6, b7, b8) 8).2.2,
         (headN v7 K Y (b9, b10, b11) 8).1, (headN v7 K Y (b9, b10, b11) 8).2.1, (headN v7 K Y (b9, b10, b11) 8).2.2) :=
  st_eq 𝒱 c bd i a3 h3 a4 h4 a5 h5 a6 h6 v1 v3 v5 v7 v17 v18 v19 v21 v23 v27 v36 v41 v45 v54 v59 v63 v72 v74 v75 _ _ b0 b1 b2 b3 b4 b5 b6 b7 b8 b9 b10 b11 K Y (Memref.IsWhole.read_unread (Val := Elt Ideal) h4 K) (Memref.IsWhole.read_unread (Val := Elt Ideal) h5 Y) 8 le_rfl

/-- The block function of the attention call: at a row and a column, the attention of the column's head. -/
def attnBlock (Q : FVec Ideal S1x912x512 .bf16) (K Y : FVec Ideal S1x8208x128 .bf16) : FVec Ideal S1x912x512 .bf16 :=
  fun y => attnRow (fun s e => K (ix3 0 s e))
    (fun e => Q (ix3 0 (y 1) ⟨(y 2).val / 128 * 128 + e.val, by have := e.isLt; have h : (y 2).val < 512 := (y 2).isLt; omega⟩))
    (fun s => Y (ix3 0 s ⟨(y 2).val % 128, Nat.mod_lt _ (by decide)⟩))

/-- The scores of every head in the block are real. -/
def Scores (Q : FVec Ideal S1x912x512 .bf16) (K : FVec Ideal S1x8208x128 .bf16) : Prop :=
  ∀ (r : Fin 912) (g : Fin 4) (s : Fin 8208), IsReal (∑ e : Fin 128, Q (ix3 0 r ⟨128 * g.val + e.val, by have := e.isLt; have := g.isLt; omega⟩) * K (ix3 0 s e))

/-- Another head's block is written as the first's. -/
theorem same1 (l a) : k1_pay1 (F := Ideal) a (k1_pay75 l) = k1_pay73 l a := rfl
/-- Another head's block is written as the first's. -/
theorem same2 : k1_pay2 (F := Ideal) = k1_pay73 := rfl
/-- Another head's block is written as the first's. -/
theorem same74 : k1_pay74 (F := Ideal) = k1_pay73 := rfl
/-- Another head's queries are read as the first's. -/
theorem same19 : k1_pay19 (F := Ideal) = k1_pay18 := rfl
/-- Another head's queries are read as the first's. -/
theorem same20 : k1_pay20 (F := Ideal) = k1_pay18 := rfl
/-- Another head's queries are read as the first's. -/
theorem same21 : k1_pay21 (F := Ideal) = k1_pay18 := rfl
/-- Another head starts as the first does. -/
theorem same25 : k1_pay25 (F := Ideal) = k1_pay22 := rfl
/-- Another head starts as the first does. -/
theorem same26 : k1_pay26 (F := Ideal) = k1_pay23 := rfl
/-- Another head starts as the first does. -/
theorem same27 : k1_pay27 (F := Ideal) = k1_pay24 := rfl
/-- Another head starts as the first does. -/
theorem same28 : k1_pay28 (F := Ideal) = k1_pay22 := rfl
/-- Another head starts as the first does. -/
theorem same29 : k1_pay29 (F := Ideal) = k1_pay23 := rfl
/-- Another head starts as the first does. -/
theorem same30 : k1_pay30 (F := Ideal) = k1_pay24 := rfl
/-- Another head starts as the first does. -/
theorem same31 : k1_pay31 (F := Ideal) = k1_pay22 := rfl
/-- Another head starts as the first does. -/
theorem same32 : k1_pay32 (F := Ideal) = k1_pay23 := rfl
/-- Another head starts as the first does. -/
theorem same33 : k1_pay33 (F := Ideal) = k1_pay24 := rfl
/-- The first head's first maximum is the second's. -/
theorem same37 (q k m) : k1_pay37 (F := Ideal) m (k1_pay36 q k) = k1_pay43 (k1_pay18 q) m (k1_pay34 k) := rfl
/-- The first head's first sum is the second's. -/
theorem same40 (q k m l) : k1_pay40 (F := Ideal) m l (k1_pay36 q k) = k1_pay46 (k1_pay18 q) m l (k1_pay34 k) := rfl
/-- The first head's first weighted values are the second's. -/
theorem same41 (q k m a v) : k1_pay41 (F := Ideal) m a v (k1_pay36 q k) = k1_pay47 (k1_pay18 q) m a (k1_pay34 k) v := rfl
/-- Another head's first maximum is the second's. -/
theorem same49 : k1_pay49 (F := Ideal) = k1_pay43 := rfl
/-- Another head's first sum is the second's. -/
theorem same52 : k1_pay52 (F := Ideal) = k1_pay46 := rfl
/-- Another head's first weighted values are the second's. -/
theorem same55 (q k m a v) : k1_pay55 (F := Ideal) v (k1_pay53 q m a k) (k1_pay54 q m k) = k1_pay47 q m a k v := rfl
/-- Another head's first maximum is the second's. -/
theorem same57 : k1_pay57 (F := Ideal) = k1_pay43 := rfl
/-- Another head's first sum is the second's. -/
theorem same60 : k1_pay60 (F := Ideal) = k1_pay46 := rfl
/-- Another head's first weighted values are the second's. -/
theorem same61 : k1_pay61 (F := Ideal) = k1_pay47 := rfl

/-- A head's finished block is the block function where it is stored, at a query and a feature. -/
theorem head_at (Q : FVec Ideal S1x912x512 .bf16) (K Y : FVec Ideal S1x8208x128 .bf16) (hs : Scores Q K)
    (o : ℕ) (h : ∀ a, (![0, 0, o] : Fin 3 → ℕ) a + (![1, 912, 128] : Fin 3 → ℕ) a ≤ S1x912x512.size a) (g : ℕ) (ho : o = 128 * g) (hg : g < 4)
    (r : Fin 912) (d : Fin 128) :
    k1_pay73 (F := Ideal)
      (headN (k1_pay18 (F := Ideal) (View.ld (Val := Elt Ideal) (e' := .bf16) Q (Rect.unit (s := S1x912x512) ![0, 0, o] ![1, 912, 128] h))) K Y
        (head0 (k1_pay18 (F := Ideal) (View.ld (Val := Elt Ideal) (e' := .bf16) Q (Rect.unit (s := S1x912x512) ![0, 0, o] ![1, 912, 128] h))) K Y) 8).2.1
      (headN (k1_pay18 (F := Ideal) (View.ld (Val := Elt Ideal) (e' := .bf16) Q (Rect.unit (s := S1x912x512) ![0, 0, o] ![1, 912, 128] h))) K Y
        (head0 (k1_pay18 (F := Ideal) (View.ld (Val := Elt Ideal) (e' := .bf16) Q (Rect.unit (s := S1x912x512) ![0, 0, o] ![1, 912, 128] h))) K Y) 8).2.2
      (ix3 0 r d) = attnBlock Q K Y ((Rect.unit (s := S1x912x512) ![0, 0, o] ![1, 912, 128] h).emb (ix3 0 r d)) := by
  have hq (r : Fin 912) (e : Fin 128) : (k1_pay18 (F := Ideal) (View.ld (Val := Elt Ideal) (e' := .bf16) Q (Rect.unit (s := S1x912x512) ![0, 0, o] ![1, 912, 128] h))) (ix2 r e)
      = Q (ix3 0 r ⟨o + e.val, by have := e.isLt; omega⟩) := by
    pointwise [k1_pay18]
  rw [head_val _ K Y r d (fun s => by
    simp only [hq]
    subst ho
    exact hs r ⟨g, hg⟩ s), attnBlock]
  have e2 : (((Rect.unit (s := S1x912x512) ![0, 0, o] ![1, 912, 128] h).emb (ix3 0 r d)) 2).val = o + d.val := by
    show o + 1 * d.val = _
    omega
  have e1 : ((Rect.unit (s := S1x912x512) ![0, 0, o] ![1, 912, 128] h).emb (ix3 0 r d)) 1 = r := by
    refine Fin.ext ?_
    show 0 + 1 * r.val = _
    omega
  have hd := d.isLt
  refine congrArg₂ (attnRow _) (funext fun e => (hq r e).trans (congrArg Q ?_)) (funext fun s => congrArg Y ?_)
  · exact congrArg₂ (ix3 0) e1.symm (Fin.ext (by simp only [e2]; omega))
  · exact congrArg (fun z => ix3 0 s z) (Fin.ext (by simp only [e2]; omega))

/-- A head's finished block is the block function where it is stored. -/
theorem head_piece (Q : FVec Ideal S1x912x512 .bf16) (K Y : FVec Ideal S1x8208x128 .bf16) (hs : Scores Q K)
    (o : ℕ) (h : ∀ a, (![0, 0, o] : Fin 3 → ℕ) a + (![1, 912, 128] : Fin 3 → ℕ) a ≤ S1x912x512.size a) (g : ℕ) (ho : o = 128 * g) (hg : g < 4)
    (x : (Rect.unit (s := S1x912x512) ![0, 0, o] ![1, 912, 128] h).shape.Idx) :
    k1_pay73 (F := Ideal)
      (headN (k1_pay18 (F := Ideal) (View.ld (Val := Elt Ideal) (e' := .bf16) Q (Rect.unit (s := S1x912x512) ![0, 0, o] ![1, 912, 128] h))) K Y
        (head0 (k1_pay18 (F := Ideal) (View.ld (Val := Elt Ideal) (e' := .bf16) Q (Rect.unit (s := S1x912x512) ![0, 0, o] ![1, 912, 128] h))) K Y) 8).2.1
      (headN (k1_pay18 (F := Ideal) (View.ld (Val := Elt Ideal) (e' := .bf16) Q (Rect.unit (s := S1x912x512) ![0, 0, o] ![1, 912, 128] h))) K Y
        (head0 (k1_pay18 (F := Ideal) (View.ld (Val := Elt Ideal) (e' := .bf16) Q (Rect.unit (s := S1x912x512) ![0, 0, o] ![1, 912, 128] h))) K Y) 8).2.2
      x = attnBlock Q K Y ((Rect.unit (s := S1x912x512) ![0, 0, o] ![1, 912, 128] h).emb x) := by
  have hx : x = ix3 (0 : Fin 1) (x 1 : Fin 912) (x 2 : Fin 128) := by
    funext a
    fin_cases a
    · exact Subsingleton.elim (α := Fin 1) _ _
    · rfl
    · rfl
  rw [hx]
  exact head_at Q K Y hs o h g ho hg (x 1) (x 2)

/-- The attention call's block is the block function of the blocks it reads, where the scores are real. -/
theorem outs1 (V : (c : Dev nD) → (b : Ref sig .tc) → Buf (Elt Ideal) ((c : Thread nD τ).loc b)) (c : Dev nD) (t : Fin cfg1.N)
    (hs : Scores (iblk1 V c 0 t) (iblk1 V c 1 t)) (y : S1x912x512.Idx) :
    outsAt1 V c t y = attnBlock (iblk1 V c 0 t) (iblk1 V c 1 t) (iblk1 V c 2 t) y := by
  unfold outsAt1
  frame_out
  rw [st_blocks]
  simp only [same1, same2, same74, same19, same20, same21, same25, same26, same27, same28, same29, same30, same31, same32, same33, same37, same40, same41, same49, same52, same55, same57, same60, same61]
  refine View.canon_apply_of_pieces (Val := Elt Ideal) (e := .bf16) (S := S1x912x512) (attnBlock (iblk1 V c 0 t) (iblk1 V c 1 t) (iblk1 V c 2 t)) _ ?_ y ?_
  · refine List.forall_mem_cons.mpr ⟨head_piece _ _ _ hs 384 _ 3 rfl (by decide), ?_⟩
    refine List.forall_mem_cons.mpr ⟨head_piece _ _ _ hs 256 _ 2 rfl (by decide), ?_⟩
    refine List.forall_mem_cons.mpr ⟨head_piece _ _ _ hs 128 _ 1 rfl (by decide), ?_⟩
    refine List.forall_mem_cons.mpr ⟨head_piece _ _ _ hs 0 _ 0 rfl (by decide), ?_⟩
    exact fun p hp => absurd hp List.not_mem_nil
  · exact View.cover_of_tiled_head _ _ _ rfl y

end Cert.Mix.Online
end
-- ==== Proof.OnlineAttnArray.lean ====
/- The online attention call's result array where the scores are real, as a function of the arrays it reads. -/
module

public import proofs.«01_k».proof.Proof.OnlineAttn

@[expose] public section

set_option maxRecDepth 16384

noncomputable section

namespace Cert.Mix.Online

open Idealize.ShloMosaic Idealize.ShloMosaic.TcCoe Idealize.SL.Sem
open Cert.MixerOnlineIdeal Cert.MixerOnlineIdeal.Gen
open Idealize.ShloMosaic.Pipeline (Dat)

/-- The grid's index maps: a batch, a key head and a ninth of the queries. -/
theorem idx1 : ∀ t : Fin cfg1.N,
    win1_0.index t = ![t.val / 18, t.val % 9, t.val / 9 % 2] ∧ win1_1.index t = ![t.val / 18, 0, t.val / 9 % 2]
    ∧ win1_2.index t = ![t.val / 18, 0, t.val / 9 % 2] ∧ win1_3.index t = ![t.val / 18, t.val % 9, t.val / 9 % 2] :=
  (by decide +kernel : ∀ t : Fin grid1.N, _)

/-- The attention of every query head, from the arrays of queries, keys and values. -/
def attnArr (Q : FVec Ideal S8x8208x1024 .bf16) (K Y : FVec Ideal S8x8208x256 .bf16)
    (b : Fin 8) (l : Fin 8208) (f : Fin 1024) : EReal :=
  attnRow (fun s e => K (ix3 b s ⟨f.val / 512 * 128 + e.val, by have := e.isLt; have := f.isLt; omega⟩))
    (fun e => Q (ix3 b l ⟨f.val / 128 * 128 + e.val, by have := e.isLt; have := f.isLt; omega⟩))
    (fun s => Y (ix3 b s ⟨f.val / 512 * 128 + f.val % 128, by have := f.isLt; omega⟩))

/-- Every score of the arrays is real. -/
def AllScores (Q : FVec Ideal S8x8208x1024 .bf16) (K : FVec Ideal S8x8208x256 .bf16) : Prop :=
  ∀ (b : Fin 8) (l : Fin 8208) (h : Fin 8) (s : Fin 8208),
    IsReal (∑ e : Fin 128, Q (ix3 b l ⟨h.val * 128 + e.val, by have := e.isLt; have := h.isLt; omega⟩)
      * K (ix3 b s ⟨h.val / 4 * 128 + e.val, by have := e.isLt; have := h.isLt; omega⟩))

section

variable (V : (c : Dev nD) → (b : Ref sig .tc) → Buf (Elt Ideal) ((c : Thread nD τ).loc b)) (c : Dev nD) (t : Fin cfg1.N)

/-- The grid has a hundred and forty-four points. -/
theorem t1_lt : t.val < 144 := t.isLt

/-- A block of queries. -/
theorem read1_0 (r : Fin 912) (k : Fin 512) : iblk1 V c 0 t (ix3 0 r k)
    = V c main_v99_0 (ix3 ⟨t.val / 18, by have := t1_lt t; omega⟩ ⟨t.val % 9 * 912 + r.val, by have := r.isLt; omega⟩
        ⟨t.val / 9 % 2 * 512 + k.val, by have := k.isLt; omega⟩) := by
  blk_ext! [iblk1, idx1 t]

/-- A head's keys. -/
theorem read1_1 (s : Fin 8208) (e : Fin 128) : iblk1 V c 1 t (ix3 0 s e)
    = V c main_v99_1 (ix3 ⟨t.val / 18, by have := t1_lt t; omega⟩ s ⟨t.val / 9 % 2 * 128 + e.val, by have := e.isLt; omega⟩) := by
  blk_ext! [iblk1, idx1 t]

/-- A head's values. -/
theorem read1_2 (s : Fin 8208) (d : Fin 128) : iblk1 V c 2 t (ix3 0 s d)
    = V c main_v99_2 (ix3 ⟨t.val / 18, by have := t1_lt t; omega⟩ s ⟨t.val / 9 % 2 * 128 + d.val, by have := d.isLt; omega⟩) := by
  blk_ext! [iblk1, idx1 t]

/-- Real scores of the arrays are real scores of the blocks. -/
theorem blk_scores (hs : AllScores (V c main_v99_0) (V c main_v99_1)) : Scores (iblk1 V c 0 t) (iblk1 V c 1 t) := by
  intro r g s
  have ht := t1_lt t
  have hg := g.isLt
  have hr := r.isLt
  refine (congrArg IsReal (Finset.sum_congr rfl fun e _ => ?_)).mp
    (hs ⟨t.val / 18, by omega⟩ ⟨t.val % 9 * 912 + r.val, by omega⟩ ⟨t.val / 9 % 2 * 4 + g.val, by omega⟩ s)
  have he := e.isLt
  rw [read1_0, read1_1]
  refine congrArg₂ (HMul.hMul : EReal → EReal → EReal) (congrArg (V c main_v99_0) (congrArg (ix3 _ _) (Fin.ext ?_)))
    (congrArg (V c main_v99_1) (congrArg (ix3 _ _) (Fin.ext ?_)))
  · show (t.val / 9 % 2 * 4 + g.val) * 128 + e.val = t.val / 9 % 2 * 512 + (128 * g.val + e.val); omega
  · show (t.val / 9 % 2 * 4 + g.val) / 4 * 128 + e.val = t.val / 9 % 2 * 128 + e.val; omega

/-- A grid point computes the attention at the queries and heads its output block covers. -/
theorem point1 (hs : AllScores (V c main_v99_0) (V c main_v99_1)) (r : Fin 912) (k : Fin 512) (b : Fin 8) (l : Fin 8208) (f : Fin 1024) (hb : b.val = t.val / 18)
    (hl : l.val = t.val % 9 * 912 + r.val) (hf : f.val = t.val / 9 % 2 * 512 + k.val) :
    outsAt1 V c t (ix3 0 r k) = attnArr (V c main_v99_0) (V c main_v99_1) (V c main_v99_2) b l f := by
  have hk := k.isLt
  rw [outs1 V c t (blk_scores V c t hs), attnBlock, attnArr]
  refine congr (congrArg₂ attnRow (funext fun s => funext fun e => ?_) (funext fun e => ?_)) (funext fun s => ?_)
  · rw [read1_1]
    exact congrArg (V c main_v99_1) (congr (congrArg (fun z => ix3 z s) (Fin.ext hb.symm)) (Fin.ext (by show t.val / 9 % 2 * 128 + e.val = f.val / 512 * 128 + e.val; omega)))
  · refine (read1_0 V c t _ _).trans (congrArg (V c main_v99_0) ?_)
    refine congr (congrArg₂ ix3 (Fin.ext hb.symm) (Fin.ext hl.symm)) (Fin.ext ?_)
    show t.val / 9 % 2 * 512 + (k.val / 128 * 128 + e.val) = f.val / 128 * 128 + e.val
    omega
  · rw [read1_2]
    refine congrArg (V c main_v99_2) (congr (congrArg (fun z => ix3 z s) (Fin.ext hb.symm)) (Fin.ext ?_))
    show t.val / 9 % 2 * 128 + k.val % 128 = f.val / 512 * 128 + f.val % 128
    omega

end

/-- The result array after the run, where the scores are real. -/
theorem final1 (V : (c : Dev nD) → (b : Ref sig .tc) → Buf (Elt Ideal) ((c : Thread nD τ).loc b)) (c : Dev nD)
    (hs : AllScores (V c main_v99_0) (V c main_v99_1)) :
    (dat1 (F := Ideal) V c).arrAt 3 cfg1.N = fun y => attnArr (V c main_v99_0) (V c main_v99_1) (V c main_v99_2) (y 0) (y 1) (y 2) := by
  refine (dat1 V c).arrAt_eq_of_covers 3 _ (by decide +kernel) fun t _ y => ?_
  blk_simp
  rw [after1_3]
  idx_vars y
  obtain rfl : y0 = 0 := Subsingleton.elim _ _
  have e0 := Pipeline.Window.rect_emb_val_off win1_3 t (ix3 0 y1 y2) 0
  have e1 := Pipeline.Window.rect_emb_val_off win1_3 t (ix3 0 y1 y2) 1
  have e2 := Pipeline.Window.rect_emb_val_off win1_3 t (ix3 0 y1 y2) 2
  rw [(idx1 t).2.2.2] at e0 e1 e2
  change (((View.whole main_v100).slice (win1_3.rect t)).emb (ix3 0 y1 y2) 0).val = t.val / 18 * 1 + 0 at e0
  change (((View.whole main_v100).slice (win1_3.rect t)).emb (ix3 0 y1 y2) 1).val = t.val % 9 * 912 + y1.val at e1
  change (((View.whole main_v100).slice (win1_3.rect t)).emb (ix3 0 y1 y2) 2).val = t.val / 9 % 2 * 512 + y2.val at e2
  exact point1 V c t hs _ _ _ _ _ (e0.trans (by omega)) e1 e2

end Cert.Mix.Online
end
-- ==== Proof.OnlineValue.lean ====
/- The value of the mixer with the online attention: the two calls leave, at every token and feature, what the plain mixer computes. -/
module

public import proofs.«01_k».proof.Proof.MixReal
public import proofs.«01_k».proof.Proof.MixRef
public import proofs.«01_k».proof.Proof.OnlineHost
public import proofs.«01_k».proof.Proof.OnlineQkvArray
public import proofs.«01_k».proof.Proof.OnlineAttnArray

@[expose] public section

set_option maxRecDepth 16384

noncomputable section

namespace Cert.Mix.Online

open Cert.MixerOnlineIdeal Cert.MixerOnlineIdeal.Gen
open Idealize.ShloMosaic Idealize.ShloMosaic.TcCoe

variable (m : (ℓ : Loc nD τ sig) → Buf (Elt Ideal) ℓ) (ρ : Dev nD → PrngReg) (c : Dev nD)

/-- The stream. -/
abbrev stream : FVec Ideal S8x8208x1024 .f32 := m ((c.tc : Thread nD τ).loc main_arg0)
/-- The gains of the layers' norms. -/
abbrev gains : FVec Ideal S4x1024 .f32 := m ((c.tc : Thread nD τ).loc main_arg1)
/-- The projection's weights. -/
abbrev weights : FVec Ideal S1024x1536 .f32 := m ((c.tc : Thread nD τ).loc main_arg2)
/-- The query heads' gain. -/
abbrev gainQ : FVec Ideal S128 .f32 := m ((c.tc : Thread nD τ).loc main_arg3)
/-- The key heads' gain. -/
abbrev gainK : FVec Ideal S128 .f32 := m ((c.tc : Thread nD τ).loc main_arg4)

/-- The stream as the first call finds it. -/
theorem host_stream : V1 (F := Ideal) m ρ c main_arg0 = stream m c := W1_args m ρ c main_arg0 (by decide)

/-- A head's projected features as the layer has them. -/
def headOf (b : Fin 8) (l : Fin 8208) (h : Fin 10) (e : Fin 128) : EReal :=
  Ref.proj (stream m c) (gains m c) (weights m c) b l ⟨h.val * 128 + e.val, by have := h.isLt; have := e.isLt; omega⟩

/-- A head's features in the kernel: the layer's normalised ones, in the lanes' order, rotated. -/
theorem head_args (g : Fin 128 → EReal) (b : Fin 8) (l : Fin 8208) (h : Fin 10) (d : Fin 128) :
    headArr (V1 (F := Ideal) m ρ c main_arg0) (V1 (F := Ideal) m ρ c main_v53) (V1 (F := Ideal) m ρ c main_v82) g
        (V1 (F := Ideal) m ρ c main_v35) (V1 (F := Ideal) m ρ c main_v39) b l (h.val * 128) (by have := h.isLt; omega) d
      = rotRow (fun d => normed 0x43000000#32 (headOf m c b l h) (perm d)) g
          (fun d => Ideal.cos (angle l.val (d.val / 32 % 2) (d.val % 32)))
          (fun d => Ideal.sin (angle l.val (d.val / 32 % 2) (d.val % 32)) * sgn d.val) d := by
  unfold headArr
  have hn : (normed 0x43000000#32 (fun e : Fin 128 => projRow (fun k => V1 (F := Ideal) m ρ c main_arg0 (ix3 b l k))
        (fun k => V1 (F := Ideal) m ρ c main_v53 (ix2 0 k))
        (fun k => V1 (F := Ideal) m ρ c main_v82 (ix2 k ⟨h.val * 128 + e.val, by have := h.isLt; have := e.isLt; omega⟩))))
      = fun d => normed 0x43000000#32 (headOf m c b l h) (perm d) := by
    funext d
    rw [← normed_perm]
    refine congrFun (congrArg (normed _) (funext fun e => ?_)) d
    unfold headOf Ref.proj
    refine congr (congrArg₂ projRow (funext fun k => ?_) (funext fun k => host_gain m ρ c k)) (funext fun k => ?_)
    · rw [host_stream]
    · refine (host_w_qk m ρ c k ⟨h.val * 128 + e.val, by have := h.isLt; have := e.isLt; omega⟩).trans ?_
      refine congrArg (fun f => weights m c (ix2 k f)) (Fin.ext ?_)
      unfold colOf
      have he := e.isLt
      have h2 : (⟨(h.val * 128 + e.val) % 128, Nat.mod_lt _ (by decide)⟩ : Fin 128) = e := Fin.ext (by simp only []; omega)
      have h1 : (h.val * 128 + e.val) / 128 = h.val := by omega
      simp only [h1, h2]
  rw [hn]
  refine congrFun (congr (congrArg (rotRow _ _) (funext fun d => ?_)) (funext fun d => ?_)) d
  · exact host_cos m ρ c l d
  · exact host_sin m ρ c l d

/-- The named scale is the real one. -/
theorem qScale_real : qScale = (qScaleReal : EReal) := IdealRules.named_const.ideal_named_scalar _ _ _ _ rfl

/-- A query head in the kernel. -/
theorem query_args (hq : ∀ e, IsReal (gainQ m c (ix1 e))) (b : Fin 8) (l : Fin 8208) (h : Fin 8) (d : Fin 128) :
    headArr (V1 (F := Ideal) m ρ c main_arg0) (V1 (F := Ideal) m ρ c main_v53) (V1 (F := Ideal) m ρ c main_v82) (qGain (V1 (F := Ideal) m ρ c main_v90))
        (V1 (F := Ideal) m ρ c main_v35) (V1 (F := Ideal) m ρ c main_v39) b l (h.val * 128) (by have := h.isLt; omega) d
      = rotPair (fun e => Cert.MixerRefIdeal.Read.val_main_v68 (F := Ideal) (stream m c) (gains m c) (weights m c) (gainQ m c) (ix4 b l h e))
          (fun a p => angle l.val a.val p.val) (perm d) * (qScaleReal : EReal) := by
  have hg : qGain (V1 (F := Ideal) m ρ c main_v90) = fun d => gainQ m c (ix1 (perm d)) * (qScaleReal : EReal) := by
    funext d
    unfold qGain
    rw [qScale_real, host_qgain]
  refine (head_args m ρ c _ b l ⟨h.val, by have := h.isLt; omega⟩ d).trans ?_
  rw [hg]
  refine (rot_perm (normed 0x43000000#32 (headOf m c b l ⟨h.val, by have := h.isLt; omega⟩)) (fun e => gainQ m c (ix1 e)) qScaleReal l.val
    (normed_real _) hq d).trans ?_
  simp only [Ref.v68_row]
  rfl

/-- A key head in the kernel. -/
theorem key_args (hk : ∀ e, IsReal (gainK m c (ix1 e))) (b : Fin 8) (l : Fin 8208) (h : Fin 2) (d : Fin 128) :
    headArr (V1 (F := Ideal) m ρ c main_arg0) (V1 (F := Ideal) m ρ c main_v53) (V1 (F := Ideal) m ρ c main_v82) (kGain (V1 (F := Ideal) m ρ c main_v98))
        (V1 (F := Ideal) m ρ c main_v35) (V1 (F := Ideal) m ρ c main_v39) b l (1024 + h.val * 128) (by have := h.isLt; omega) d
      = Cert.MixerRefIdeal.Read.val_main_v126 (F := Ideal) (stream m c) (gains m c) (weights m c) (gainK m c) (ix4 b l h (perm d)) := by
  have hg : kGain (V1 (F := Ideal) m ρ c main_v98) = fun d => gainK m c (ix1 (perm d)) * ((1 : ℝ) : EReal) := by
    funext d
    unfold kGain
    rw [host_kgain, EReal.coe_one, mul_one]
  rw [Ref.v126_row]
  refine (headArr_congr _ _ _ _ _ _ _ (o' := (8 + h.val) * 128) (by have := h.isLt; omega) rfl rfl (by omega) rfl).trans ?_
  refine (head_args m ρ c _ b l ⟨8 + h.val, by have := h.isLt; omega⟩ d).trans ?_
  rw [hg]
  refine (rot_perm (normed 0x43000000#32 (headOf m c b l ⟨8 + h.val, by have := h.isLt; omega⟩)) (fun e => gainK m c (ix1 e)) 1 l.val
    (normed_real _) hk d).trans ?_
  have hp : headOf m c b l ⟨8 + h.val, by have := h.isLt; omega⟩ = fun e : Fin 128 => Ref.proj (stream m c) (gains m c) (weights m c) b l
      ⟨1024 + (h.val * 128 + e.val), by have := h.isLt; have := e.isLt; omega⟩ := by
    funext e
    unfold headOf
    exact congrArg (Ref.proj (stream m c) (gains m c) (weights m c) b l) (Fin.ext (by simp only []; omega))
  simp only [Ref.v105_row, EReal.coe_one, mul_one, hp]

/-- A value in the kernel. -/
theorem value_args (b : Fin 8) (l : Fin 8208) (f : Fin 256) :
    valArr (V1 (F := Ideal) m ρ c main_arg0) (V1 (F := Ideal) m ρ c main_v53) (V1 (F := Ideal) m ρ c main_v82) b l f
      = Ref.proj (stream m c) (gains m c) (weights m c) b l ⟨1280 + f.val, by have := f.isLt; omega⟩ := by
  unfold valArr Ref.proj
  refine congr (congrArg₂ projRow (funext fun k => ?_) (funext fun k => host_gain m ρ c k)) (funext fun k => host_w_v m ρ c k f)
  rw [host_stream]

/-- The queries as the second call finds them. -/
theorem read_q (b : Fin 8) (l : Fin 8208) (f : Fin 1024) : V2 (F := Ideal) m ρ c main_v99_0 (ix3 b l f)
    = qArr (V1 (F := Ideal) m ρ c main_arg0) (V1 (F := Ideal) m ρ c main_v53) (V1 (F := Ideal) m ρ c main_v82) (V1 (F := Ideal) m ρ c main_v90)
        (V1 (F := Ideal) m ρ c main_v35) (V1 (F := Ideal) m ρ c main_v39) b l f := by
  refine (congrFun ((W2_arr m ρ c 7).trans (final0_7 (V1 m ρ) c)) _).trans ?_
  rfl

/-- The keys as the second call finds them. -/
theorem read_k (b : Fin 8) (l : Fin 8208) (f : Fin 256) : V2 (F := Ideal) m ρ c main_v99_1 (ix3 b l f)
    = kArr (V1 (F := Ideal) m ρ c main_arg0) (V1 (F := Ideal) m ρ c main_v53) (V1 (F := Ideal) m ρ c main_v82) (V1 (F := Ideal) m ρ c main_v98)
        (V1 (F := Ideal) m ρ c main_v35) (V1 (F := Ideal) m ρ c main_v39) b l f := by
  refine (congrFun ((W2_arr m ρ c 8).trans (final0_8 (V1 m ρ) c)) _).trans ?_
  rfl

/-- The values as the second call finds them. -/
theorem read_v (b : Fin 8) (s : Fin 8208) (f : Fin 256) : V2 (F := Ideal) m ρ c main_v99_2 (ix3 b s f)
    = valArr (V1 (F := Ideal) m ρ c main_arg0) (V1 (F := Ideal) m ρ c main_v53) (V1 (F := Ideal) m ρ c main_v82) b s f := by
  refine (congrFun ((W2_arr m ρ c 9).trans (final0_9 (V1 m ρ) c)) _).trans ?_
  rfl

/-- A rotated query of the layer. -/
def rotQ (b : Fin 8) (l : Fin 8208) (h : Fin 8) (e : Fin 128) : EReal :=
  rotPair (fun e => Cert.MixerRefIdeal.Read.val_main_v68 (F := Ideal) (stream m c) (gains m c) (weights m c) (gainQ m c) (ix4 b l h e))
    (fun a p => angle l.val a.val p.val) e

/-- The rotated queries are real. -/
theorem rotQ_real (hq : ∀ e, IsReal (gainQ m c (ix1 e))) (b : Fin 8) (l : Fin 8208) (h : Fin 8) (e : Fin 128) : IsReal (rotQ m c b l h e) := by
  refine rotPair_real _ _ (fun e => ?_) e
  rw [Ref.v68_row]
  exact (normed_real _ _).mul (hq e)

/-- The rotated keys are real. -/
theorem rotK_real (hk : ∀ e, IsReal (gainK m c (ix1 e))) (b : Fin 8) (l : Fin 8208) (h : Fin 2) (e : Fin 128) :
    IsReal (Cert.MixerRefIdeal.Read.val_main_v126 (F := Ideal) (stream m c) (gains m c) (weights m c) (gainK m c) (ix4 b l h e)) := by
  rw [Ref.v126_row]
  refine rotPair_real _ _ (fun e => ?_) e
  rw [Ref.v105_row]
  exact (normed_real _ _).mul (hk e)

/-- A query head as the second call finds it: the layer's, in the lanes' order, scaled. -/
theorem arr_q (hq : ∀ e, IsReal (gainQ m c (ix1 e))) (b : Fin 8) (l : Fin 8208) (h : Fin 8) (d : Fin 128) :
    V2 (F := Ideal) m ρ c main_v99_0 (ix3 b l ⟨h.val * 128 + d.val, by have := h.isLt; have := d.isLt; omega⟩)
      = rotQ m c b l h (perm d) * (qScaleReal : EReal) := by
  refine (read_q m ρ c b l _).trans (Eq.trans ?_ (query_args m ρ c hq b l h d))
  unfold qArr
  have hd := d.isLt
  have hh := h.isLt
  exact headArr_congr _ _ _ _ _ _ _ _ rfl rfl (by simp only []; omega) (Fin.ext (by simp only []; omega))

/-- A key head as the second call finds it: the layer's, in the lanes' order. -/
theorem arr_k (hk : ∀ e, IsReal (gainK m c (ix1 e))) (b : Fin 8) (l : Fin 8208) (h : Fin 2) (d : Fin 128) :
    V2 (F := Ideal) m ρ c main_v99_1 (ix3 b l ⟨h.val * 128 + d.val, by have := h.isLt; have := d.isLt; omega⟩)
      = Cert.MixerRefIdeal.Read.val_main_v126 (F := Ideal) (stream m c) (gains m c) (weights m c) (gainK m c) (ix4 b l h (perm d)) := by
  refine (read_k m ρ c b l _).trans (Eq.trans ?_ (key_args m ρ c hk b l h d))
  unfold kArr
  have hd := d.isLt
  have hh := h.isLt
  exact headArr_congr _ _ _ _ _ _ _ _ rfl rfl (by simp only []; omega) (Fin.ext (by simp only []; omega))

/-- Every score the second call forms is real. -/
theorem scores (hq : ∀ e, IsReal (gainQ m c (ix1 e))) (hk : ∀ e, IsReal (gainK m c (ix1 e))) :
    AllScores (V2 (F := Ideal) m ρ c main_v99_0) (V2 (F := Ideal) m ρ c main_v99_1) := by
  intro b l h s
  have hh := h.isLt
  choose x hx using fun e : Fin 128 => rotQ_real m c hq b l h e
  choose y hy using fun e : Fin 128 => rotK_real m c hk b s ⟨h.val / 4, by omega⟩ e
  refine ⟨∑ e : Fin 128, x (perm e) * qScaleReal * y (perm e), ?_⟩
  have hc : ∀ (S : Finset (Fin 128)) (g : Fin 128 → ℝ), ((∑ e ∈ S, g e : ℝ) : EReal) = ∑ e ∈ S, (g e : EReal) := fun S g => by
    classical
    induction S using Finset.induction_on with
    | empty => simp
    | insert a S ha ih => rw [Finset.sum_insert ha, Finset.sum_insert ha, EReal.coe_add, ih]
  rw [hc]
  refine Finset.sum_congr rfl fun e _ => ?_
  rw [EReal.coe_mul, EReal.coe_mul, ← hx, ← hy]
  exact congrArg₂ (HMul.hMul : EReal → EReal → EReal) (arr_q m ρ c hq b l h e) (arr_k m ρ c hk b s ⟨h.val / 4, by omega⟩ e)

/-- The two calls leave the mixer's value at every token and feature. -/
theorem attn_args (hq : ∀ e, IsReal (gainQ m c (ix1 e))) (hk : ∀ e, IsReal (gainK m c (ix1 e))) (b : Fin 8) (l : Fin 8208) (f : Fin 1024) :
    attnArr (V2 (F := Ideal) m ρ c main_v99_0) (V2 (F := Ideal) m ρ c main_v99_1) (V2 (F := Ideal) m ρ c main_v99_2) b l f
      = Cert.MixerRefIdeal.Read.val_main_v144 (F := Ideal) (stream m c) (gains m c) (weights m c) (gainQ m c) (gainK m c) (ix3 b l f) := by
  have hf := f.isLt
  rw [Ref.v144_row]
  unfold attnArr
  refine (attn_soft _ _ (fun s e => Cert.MixerRefIdeal.Read.val_main_v126 (F := Ideal) (stream m c) (gains m c) (weights m c) (gainK m c)
      (ix4 b s ⟨f.val / 512, by omega⟩ e)) (rotQ m c b l ⟨f.val / 128, by omega⟩) _ (fun s d => ?_) (fun d => ?_)
      (fun s e => rotK_real m c hk b s _ e) (fun e => rotQ_real m c hq b l _ e)).trans ?_
  · exact (arr_k m ρ c hk b s ⟨f.val / 512, by omega⟩ d)
  · exact (arr_q m ρ c hq b l ⟨f.val / 128, by omega⟩ d)
  · refine congrArg₂ softRow (funext fun s => ?_) (funext fun s => ?_)
    · rw [Ref.v129_row]
      refine Finset.sum_congr rfl fun e _ => ?_
      rw [Ref.v92_row]
      have hh : (⟨f.val / 128, by omega⟩ : Fin 8) = ⟨f.val / 512 * 4 + f.val / 128 % 4, by omega⟩ := Fin.ext (by simp only []; omega)
      rw [hh]
      rfl
    · exact (read_v m ρ c b s _).trans (value_args m ρ c b s ⟨f.val / 512 * 128 + f.val % 128, by omega⟩)

/-- The result array after the run, where the heads' gains are real. -/
theorem final (hq : ∀ e, IsReal (gainQ m c (ix1 e))) (hk : ∀ e, IsReal (gainK m c (ix1 e))) :
    (dat1 (V2 (F := Ideal) m ρ) c).arrAt 3 cfg1.N
      = Cert.MixerRefIdeal.Read.val_main_v144 (F := Ideal) (stream m c) (gains m c) (weights m c) (gainQ m c) (gainK m c) := by
  rw [final1 _ _ (scores m ρ c hq hk)]
  funext y
  idx_vars y
  exact attn_args m ρ c hq hk _ _ _

end Cert.Mix.Online
end
-- ==== Proof.OnlineClaim.lean ====
/- The claims about the mixer's two calls with the online attention. -/
module

public import proofs.«01_k».proof.Defs
public import proofs.«01_k».proof.Proof.Gen.MixerOnline.Frame
public import proofs.«01_k».proof.Proof.Gen.MixerOnlineIdeal.Frame
public import proofs.«01_k».proof.Proof.Gen.MixerRefIdeal.Run
public import proofs.«01_k».proof.Proof.MixClaim
public import proofs.«01_k».proof.Proof.OnlineRun
public import proofs.«01_k».proof.Proof.OnlineValue
public import Idealize.ShloMosaic.Adequacy
public import Idealize.ShloMosaic.Init

@[expose] public section

noncomputable section

namespace Cert.Mix.Online

open Idealize.ShloMosaic Idealize.SL.Sem

/-- The two calls as written leave their arguments and end with every semaphore at zero. -/
theorem frame_mixer : Cert.quiescent_MixerOnline (hMixerOnline := Cert.MixerOnline.Gen.facts) := fun m ρ _ => Cert.MixerOnline.Gen.frame m ρ

/-- So does their idealised form. -/
theorem frame_ideal : Cert.quiescent_MixerOnlineIdeal (hMixerOnlineIdeal := Cert.MixerOnlineIdeal.Gen.facts) := fun m ρ _ => Cert.MixerOnlineIdeal.Gen.frame m ρ

/-- So it does with finite gains. -/
theorem frame_ideal_pre : Cert.quiescent_MixerOnlineIdeal_pre_finite_gains (hMixerOnlineIdeal := Cert.MixerOnlineIdeal.Gen.facts) (hPre_finite_gains := preFacts) :=
  fun m ρ _ => Cert.MixerOnlineIdeal.Gen.frame m ρ

/-- The idealised form names the scale of the queries. -/
theorem preserves : Cert.preserves_MixerOnline_MixerOnlineIdeal :=
  IdealRules.named_const.statement Cert.MixerOnlineIdeal.κ "q_scale" .f32 0x3E0293EE#32 (((Real.sqrt 128)⁻¹ * (Real.log 2)⁻¹ : ℝ) : EReal) rfl

/-- What the precondition says of the query heads' gain. -/
theorem pre_q (m : (ℓ : Loc Cert.MixerOnlineIdeal.nD Cert.MixerOnlineIdeal.τ Cert.MixerOnlineIdeal.sig) → Buf (Elt Ideal) ℓ)
    (h : Cert.Pre_MixerOnlineIdeal_finite_gains (hPre_finite_gains := preFacts) m) (c : Dev Cert.MixerOnlineIdeal.nD) (e : Fin 128) : IsReal (gainQ m c (ix1 e)) :=
  real_of_abs (congrFun (h c).1 (ix1 e))

/-- What the precondition says of the key heads' gain. -/
theorem pre_k (m : (ℓ : Loc Cert.MixerOnlineIdeal.nD Cert.MixerOnlineIdeal.τ Cert.MixerOnlineIdeal.sig) → Buf (Elt Ideal) ℓ)
    (h : Cert.Pre_MixerOnlineIdeal_finite_gains (hPre_finite_gains := preFacts) m) (c : Dev Cert.MixerOnlineIdeal.nD) (e : Fin 128) : IsReal (gainK m c (ix1 e)) :=
  real_of_abs (congrFun (h c).2 (ix1 e))

/-- With finite head gains the two calls and the plain mixer give equal results. -/
theorem value : Cert.algebraic_MixerOnlineIdeal_MixerRefIdeal_pre_finite_gains (hMixerOnlineIdeal := Cert.MixerOnlineIdeal.Gen.facts)
    (hMixerRefIdeal := Cert.MixerRefIdeal.Gen.facts) (hPre_finite_gains := preFacts) := by
  intro m g m' g' hp hag
  refine ⟨_, (θ_run Cert.MixerOnlineIdeal.defs _ _).mono
      (fun r h c => ⟨(h c).1.trans (final m g c (pre_q m hp c) (pre_k m hp c)), (h c).2⟩)
      (run (F := Ideal) m g),
    (θ_run Cert.MixerRefIdeal.defs _ _).mono (fun r h c => ⟨(h c).1.trans ?_, (h c).2⟩)
      (Cert.MixerRefIdeal.Value.run (F := Ideal) m' g')⟩
  obtain ⟨h0, h1, h2, h3, h4⟩ := hag c
  rw [Cert.MixerRefIdeal.Read.val_main_v144_eq]
  show Cert.MixerRefIdeal.Read.val_main_v144 (F := Ideal) (m' ((c.tc : Thread Cert.MixerRefIdeal.nD Cert.MixerRefIdeal.τ).loc Cert.MixerRefIdeal.main_arg0))
    (m' ((c.tc : Thread Cert.MixerRefIdeal.nD Cert.MixerRefIdeal.τ).loc Cert.MixerRefIdeal.main_arg1))
    (m' ((c.tc : Thread Cert.MixerRefIdeal.nD Cert.MixerRefIdeal.τ).loc Cert.MixerRefIdeal.main_arg2))
    (m' ((c.tc : Thread Cert.MixerRefIdeal.nD Cert.MixerRefIdeal.τ).loc Cert.MixerRefIdeal.main_arg3))
    (m' ((c.tc : Thread Cert.MixerRefIdeal.nD Cert.MixerRefIdeal.τ).loc Cert.MixerRefIdeal.main_arg4)) = _
  rw [h0, h1, h2, h3, h4]

end Cert.Mix.Online
end
-- ==== Proof.FfnMidKernel.lean ====
/- The value of the feed-forward call of a middle layer: the row function at every token. -/
module

public import proofs.«01_k».proof.Proof.FfnSpec
public import proofs.«01_k».proof.Proof.Gen.FfnMidIdeal.Value

@[expose] public section

set_option maxRecDepth 16384

noncomputable section

namespace Cert.Ffn.Mid

open Idealize.ShloMosaic

/-- The result's value: the layer's row function at a token of a batch. -/
def result (o : FVec Ideal ⟨3, ![8, 8208, 1024]⟩ .bf16) (h : FVec Ideal ⟨3, ![8, 8208, 1024]⟩ .f32) (g : FVec Ideal ⟨2, ![4, 1024]⟩ .f32)
    (wMix : FVec Ideal ⟨2, ![1024, 1024]⟩ .f32) (wIn : FVec Ideal ⟨2, ![1024, 5632]⟩ .f32) (wOut : FVec Ideal ⟨2, ![2816, 1024]⟩ .f32)
    (b : Fin 8) (p : Fin 8208) (j : Fin 1024) : EReal :=
  layer (fun k => o (ix3 b p k)) (fun k => h (ix3 b p k)) (fun a k => g (ix2 a k)) (fun k l => wMix (ix2 k l))
    (fun k f => wIn (ix2 k f)) (fun f l => wOut (ix2 f l)) j

open Idealize.ShloMosaic Idealize.ShloMosaic.TcCoe Idealize.SL.Sem
open Cert.FfnMidIdeal Cert.FfnMidIdeal.Gen
open Idealize.ShloMosaic.Pipeline (Dat)

/-- The residual with the mixer's projection, at a row and a feature. -/
theorem pay2_row (z : FVec Ideal S1x912x1024 .bf16) (w : FVec Ideal S1024x1024 .bf16) (h : FVec Ideal S1x912x1024 .f32) (g : FVec Ideal S1x1024 .f32)
    (r : Fin 912) (l : Fin 1024) :
    k0_pay2 (F := Ideal) z w h g (ix2 r l)
      = mixed (fun k => z (ix3 0 r k)) (fun k => h (ix3 0 r k)) (fun k j => w (ix2 k j)) (fun j => g (ix2 0 j)) l := by
  pointwise [k0_pay2]
  rfl

/-- Its normalisation, the feed-forward block's input, at a row and a feature. -/
theorem pay3_row (z : FVec Ideal S1x912x1024 .bf16) (w : FVec Ideal S1024x1024 .bf16) (h : FVec Ideal S1x912x1024 .f32) (g g' : FVec Ideal S1x1024 .f32)
    (r : Fin 912) (l : Fin 1024) :
    k0_pay3 (F := Ideal) z w h g g' (ix2 r l)
      = rms (mixed (fun k => z (ix3 0 r k)) (fun k => h (ix3 0 r k)) (fun k j => w (ix2 k j)) (fun j => g (ix2 0 j)))
          (fun j => g' (ix2 0 j)) l := by
  pointwise [k0_pay3]
  simp only [pay2_row]
  rfl

/-- The first chunk of hidden features, summed, at a row and a feature. -/
theorem pay4_row (u : FVec Ideal S912x1024 .bf16) (a b : FVec Ideal S1024x1536 .bf16) (c : FVec Ideal S1536x1024 .bf16)
    (r : Fin 912) (l : Fin 1024) :
    k0_pay4 (F := Ideal) u a b c (ix2 r l)
      = ∑ x, gated (∑ k, u (ix2 r k) * a (ix2 k x)) (∑ k, u (ix2 r k) * b (ix2 k x)) * c (ix2 x l) := by
  pointwise [k0_pay4]
  exact Finset.sum_congr rfl fun x _ => congrArg (· * c (ix2 x l)) (gated_tanh _ _)

/-- The second chunk of hidden features, summed, at a row and a feature. -/
theorem pay5_row (u : FVec Ideal S912x1024 .bf16) (a b : FVec Ideal S1024x1280 .bf16) (c : FVec Ideal S1280x1024 .bf16)
    (r : Fin 912) (l : Fin 1024) :
    k0_pay5 (F := Ideal) u a b c (ix2 r l)
      = ∑ x, gated (∑ k, u (ix2 r k) * a (ix2 k x)) (∑ k, u (ix2 r k) * b (ix2 k x)) * c (ix2 x l) := by
  pointwise [k0_pay5]
  exact Finset.sum_congr rfl fun x _ => congrArg (· * c (ix2 x l)) (gated_tanh _ _)

/-- The last normalisation and residual, at a row and a feature. -/
theorem pay1_row (h a b : FVec Ideal S912x1024 .f32) (g : FVec Ideal S1x1024 .f32) (r : Fin 912) (l : Fin 1024) :
    k0_pay1 (F := Ideal) h a b g (ix3 0 r l)
      = h (ix2 r l) + rms (fun k => a (ix2 r k) + b (ix2 r k)) (fun j => g (ix2 0 j)) l := by
  pointwise [k0_pay1]
  rfl

/-- The `gate0` chunk of the weights, at an element. -/
theorem ld_gate0 (w : FVec Ideal S1024x5632 .bf16) (k : Fin 1024) (x : Fin 1536) :
    View.ld (Val := Elt Ideal) (e' := .bf16) w r0_3 (ix2 k x) = w (ix2 k ⟨x.val, by have := x.isLt; omega⟩) := by
  unfold r0_3
  pointwise

/-- The `up0` chunk of the weights, at an element. -/
theorem ld_up0 (w : FVec Ideal S1024x5632 .bf16) (k : Fin 1024) (x : Fin 1536) :
    View.ld (Val := Elt Ideal) (e' := .bf16) w r0_4 (ix2 k x) = w (ix2 k ⟨2816 + x.val, by have := x.isLt; omega⟩) := by
  unfold r0_4
  pointwise

/-- The `down0` chunk of the weights, at an element. -/
theorem ld_down0 (w : FVec Ideal S2816x1024 .bf16) (k : Fin 1536) (x : Fin 1024) :
    View.ld (Val := Elt Ideal) (e' := .bf16) w r0_5 (ix2 k x) = w (ix2 ⟨k.val, by have := k.isLt; omega⟩ x) := by
  unfold r0_5
  pointwise

/-- The `gate1` chunk of the weights, at an element. -/
theorem ld_gate1 (w : FVec Ideal S1024x5632 .bf16) (k : Fin 1024) (x : Fin 1280) :
    View.ld (Val := Elt Ideal) (e' := .bf16) w r0_6 (ix2 k x) = w (ix2 k ⟨1536 + x.val, by have := x.isLt; omega⟩) := by
  unfold r0_6
  pointwise

/-- The `up1` chunk of the weights, at an element. -/
theorem ld_up1 (w : FVec Ideal S1024x5632 .bf16) (k : Fin 1024) (x : Fin 1280) :
    View.ld (Val := Elt Ideal) (e' := .bf16) w r0_7 (ix2 k x) = w (ix2 k ⟨2816 + (1536 + x.val), by have := x.isLt; omega⟩) := by
  unfold r0_7
  pointwise
  exact congrArg (fun q => w (ix2 k q)) (Fin.ext (by show 4352 + x.val = 2816 + (1536 + x.val); omega))

/-- The `down1` chunk of the weights, at an element. -/
theorem ld_down1 (w : FVec Ideal S2816x1024 .bf16) (k : Fin 1280) (x : Fin 1024) :
    View.ld (Val := Elt Ideal) (e' := .bf16) w r0_8 (ix2 k x) = w (ix2 ⟨1536 + k.val, by have := k.isLt; omega⟩ x) := by
  unfold r0_8
  pointwise

/-- A grid point's output block is the layer's row function of its input blocks. -/
theorem out_row (z : FVec Ideal S1x912x1024 .bf16) (w : FVec Ideal S1024x1024 .bf16) (g1 : FVec Ideal S1x1024 .f32) (h : FVec Ideal S1x912x1024 .f32)
    (g2 : FVec Ideal S1x1024 .f32) (wi : FVec Ideal S1024x5632 .bf16) (wo : FVec Ideal S2816x1024 .bf16)
    (g3 : FVec Ideal S1x1024 .f32) (r : Fin 912) (l : Fin 1024) :
    out0_8 (F := Ideal) z w g1 h g2 wi wo g3 (ix3 0 r l)
      = mixed (fun k => z (ix3 0 r k)) (fun k => h (ix3 0 r k)) (fun k j => w (ix2 k j)) (fun j => g1 (ix2 0 j)) l
        + rms (ffn (mixed (fun k => z (ix3 0 r k)) (fun k => h (ix3 0 r k)) (fun k j => w (ix2 k j)) (fun j => g1 (ix2 0 j)))
            (fun j => g2 (ix2 0 j)) (fun k f => wi (ix2 k f)) (fun f j => wo (ix2 f j))) (fun j => g3 (ix2 0 j)) l := by
  unfold out0_8 k0_pay6
  frame_out
  rw [pay1_row, pay2_row]
  congr 2
  funext j
  rw [pay4_row, pay5_row, ffn, sum_hidden]
  simp only [pay3_row, swiglu]
  refine congrArg₂ (· + ·)
    (Finset.sum_congr rfl fun x _ => congrArg₂ (· * ·) (congrArg₂ gated
      (Finset.sum_congr rfl fun k _ => congrArg _ (ld_gate0 wi k x))
      (Finset.sum_congr rfl fun k _ => congrArg _ (ld_up0 wi k x))) (ld_down0 wo x j))
    (Finset.sum_congr rfl fun x _ => congrArg₂ (· * ·) (congrArg₂ gated
      (Finset.sum_congr rfl fun k _ => congrArg _ (ld_gate1 wi k x))
      (Finset.sum_congr rfl fun k _ => congrArg _ (ld_up1 wi k x))) (ld_down1 wo x j))

/-- The grid's index maps: a batch and a block of tokens, or the whole array. -/
theorem idx : ∀ t : Fin cfg0.N,
    win0_0.index t = ![t.val / 9, t.val % 9, 0] ∧ win0_1.index t = ![0, 0] ∧ win0_2.index t = ![0, 0] ∧ win0_3.index t = ![t.val / 9, t.val % 9, 0]
    ∧ win0_4.index t = ![0, 0] ∧ win0_5.index t = ![0, 0] ∧ win0_6.index t = ![0, 0] ∧ win0_7.index t = ![0, 0]
    ∧ win0_8.index t = ![t.val / 9, t.val % 9, 0] :=
  (by decide +kernel : ∀ t : Fin grid0.N, _)

section Reads

variable (m : (ℓ : Loc nD τ sig) → Buf (Elt Ideal) ℓ) (c : Dev nD) (t : Fin cfg0.N)

/-- The grid has seventy-two points. -/
theorem t_lt : t.val < 72 := t.isLt

/-- A block of the mixer's output. -/
theorem read0 (r : Fin 912) (k : Fin 1024) : iblk m c 0 t (ix3 0 r k)
    = m ((c.tc : Thread nD τ).loc main_arg0) (ix3 ⟨t.val / 9, by have := t_lt t; omega⟩
        ⟨t.val % 9 * 912 + r.val, by have := r.isLt; omega⟩ k) := by
  blk_ext! [iblk, V, idx t]

/-- The output projection's weights, whole. -/
theorem read1 (k : Fin 1024) (f : Fin 1024) :
    iblk m c 1 t (ix2 k f) = m ((c.tc : Thread nD τ).loc main_arg3) (ix2 k f) := by
  blk_ext! [iblk, V, idx t]

/-- The gain after the mixer. -/
theorem read2 (l : Fin 1024) : iblk m c 2 t (ix2 0 l) = m ((c.tc : Thread nD τ).loc main_arg2) (ix2 1 l) := by
  blk_ext! [iblk, V, idx t]

/-- A block of the residual stream. -/
theorem read3 (r : Fin 912) (k : Fin 1024) : iblk m c 3 t (ix3 0 r k)
    = m ((c.tc : Thread nD τ).loc main_arg1) (ix3 ⟨t.val / 9, by have := t_lt t; omega⟩
        ⟨t.val % 9 * 912 + r.val, by have := r.isLt; omega⟩ k) := by
  blk_ext! [iblk, V, idx t]

/-- The gain before the feed-forward block. -/
theorem read4 (l : Fin 1024) : iblk m c 4 t (ix2 0 l) = m ((c.tc : Thread nD τ).loc main_arg2) (ix2 2 l) := by
  blk_ext! [iblk, V, idx t]

/-- The up projection's weights, whole. -/
theorem read5 (k : Fin 1024) (f : Fin 5632) :
    iblk m c 5 t (ix2 k f) = m ((c.tc : Thread nD τ).loc main_arg4) (ix2 k f) := by
  blk_ext! [iblk, V, idx t]

/-- The down projection's weights, whole. -/
theorem read6 (k : Fin 2816) (f : Fin 1024) :
    iblk m c 6 t (ix2 k f) = m ((c.tc : Thread nD τ).loc main_arg5) (ix2 k f) := by
  blk_ext! [iblk, V, idx t]

/-- The gain after the feed-forward block. -/
theorem read7 (l : Fin 1024) : iblk m c 7 t (ix2 0 l) = m ((c.tc : Thread nD τ).loc main_arg2) (ix2 3 l) := by
  blk_ext! [iblk, V, idx t]

/-- A grid point computes the row function at the tokens its output block covers. -/
theorem point (r : Fin 912) (l : Fin 1024) (b : Fin 8) (p : Fin 8208) (hb : b.val = t.val / 9) (hp : p.val = t.val % 9 * 912 + r.val) :
    out0_8 (F := Ideal) (iblk m c 0 t) (iblk m c 1 t) (iblk m c 2 t) (iblk m c 3 t) (iblk m c 4 t) (iblk m c 5 t) (iblk m c 6 t) (iblk m c 7 t) (ix3 0 r l)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b p l := by
  have ht := t_lt t
  have q1 : b = ⟨t.val / 9, by omega⟩ := Fin.ext hb
  have q2 : p = ⟨t.val % 9 * 912 + r.val, by omega⟩ := Fin.ext hp
  rw [q1, q2]
  refine (out_row _ _ _ _ _ _ _ _ r l).trans ?_
  unfold result layer
  simp only [read0, read1, read2, read3, read4, read5, read6, read7]

end Reads

/-- The output array after the run: the row function at every token. -/
theorem final (m : (ℓ : Loc nD τ sig) → Buf (Elt Ideal) ℓ) (c : Dev nD) :
    (dats (F := Ideal) m 0 c).arrAt 8 (cfgs 0).N = fun y => result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) (y 1) (y 2) := by
  refine (dats m 0 c).arrAt_eq_of_covers 8 _ (by decide +kernel) fun t _ y => ?_
  blk_simp
  rw [after0_8]
  idx_vars y
  obtain rfl : y0 = 0 := Subsingleton.elim _ _
  have e0 := Pipeline.Window.rect_emb_val_off win0_8 t (ix3 0 y1 y2) 0
  have e1 := Pipeline.Window.rect_emb_val_off win0_8 t (ix3 0 y1 y2) 1
  have e2 := Pipeline.Window.rect_emb_val_off win0_8 t (ix3 0 y1 y2) 2
  rw [(idx t).2.2.2.2.2.2.2.2] at e0 e1 e2
  change (((View.whole main_v10).slice (win0_8.rect t)).emb (ix3 0 y1 y2) 0).val = t.val / 9 * 1 + 0 at e0
  change (((View.whole main_v10).slice (win0_8.rect t)).emb (ix3 0 y1 y2) 1).val = t.val % 9 * 912 + y1.val at e1
  change (((View.whole main_v10).slice (win0_8.rect t)).emb (ix3 0 y1 y2) 2).val = 0 * 1024 + y2.val at e2
  refine (point m c t y1 y2 (((View.whole main_v10).slice (win0_8.rect t)).emb (ix3 0 y1 y2) 0)
    (((View.whole main_v10).slice (win0_8.rect t)).emb (ix3 0 y1 y2) 1) (e0.trans (by omega)) e1).trans ?_
  exact congrArg (result _ _ _ _ _ _ _ _) (Fin.ext (by rw [e2]; omega))

end Cert.Ffn.Mid

end
-- ==== Proof.FfnMidRef.lean ====
/- The value of the middle layer's reference: its result is the row function at every token. -/
module

public import proofs.«01_k».proof.Proof.FfnMidKernel
public import proofs.«01_k».proof.Proof.Gen.FfnMidRefIdeal.Read

@[expose] public section

set_option maxRecDepth 16384

noncomputable section

namespace Cert.Ffn.Mid.Ref

open Idealize.ShloMosaic Idealize.ShloMosaic.TcCoe Idealize.SL.Sem
open Cert.FfnMidRefIdeal Cert.FfnMidRefIdeal.Gen Cert.FfnMidRefIdeal.Read

variable (x0 : FVec Ideal S8x8208x1024 .bf16) (x1 : FVec Ideal S8x8208x1024 .f32) (x2 : FVec Ideal S4x1024 .f32)
  (x3 : FVec Ideal S1024x1024 .f32) (x4 : FVec Ideal S1024x5632 .f32) (x5 : FVec Ideal S2816x1024 .f32)

/-- The mixer's output projection. -/
theorem v1_row (b : Fin 8) (p : Fin 8208) (l : Fin 1024) :
    val_main_v1 (F := Ideal) x0 x3 (ix3 b p l) = ∑ k : Fin 1024, x0 (ix3 b p k) * x3 (ix2 k l) := by
  pointwise [val_main_v1, val_main_v0]

/-- The residual with the normalised projection. -/
theorem v17_row (b : Fin 8) (p : Fin 8208) (l : Fin 1024) :
    val_main_v17 (F := Ideal) x0 x1 x2 x3 (ix3 b p l)
      = mixed (fun k => x0 (ix3 b p k)) (fun k => x1 (ix3 b p k)) (fun k l => x3 (ix2 k l)) (fun k => x2 (ix2 1 k)) l := by
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_cst, val_main_cst_0, val_main_cst_1]
  simp only [v1_row]
  rfl

/-- The feed-forward block's input. -/
theorem v32_row (b : Fin 8) (p : Fin 8208) (l : Fin 1024) :
    val_main_v32 (F := Ideal) x0 x1 x2 x3 (ix3 b p l)
      = rms (mixed (fun k => x0 (ix3 b p k)) (fun k => x1 (ix3 b p k)) (fun k l => x3 (ix2 k l)) (fun k => x2 (ix2 1 k)))
          (fun k => x2 (ix2 2 k)) l := by
  pointwise [val_main_v32, val_main_v31, val_main_v30, val_main_v29, val_main_v28, val_main_v27, val_main_v26,
    val_main_v25, val_main_v24, val_main_v23, val_main_v22, val_main_v21, val_main_v20, val_main_v19, val_main_v18,
    val_main_cst_2, val_main_cst_3, val_main_cst_4]
  simp only [v17_row]
  rfl

/-- The up projection. -/
theorem v33_row (b : Fin 8) (p : Fin 8208) (f : Fin 5632) :
    val_main_v33 (F := Ideal) x0 x1 x2 x3 x4 (ix3 b p f)
      = ∑ k : Fin 1024, val_main_v32 (F := Ideal) x0 x1 x2 x3 (ix3 b p k) * x4 (ix2 k f) := by
  pointwise [val_main_v33]

/-- The gated activation. -/
theorem v37_row (b : Fin 8) (p : Fin 8208) (f : Fin 2816) :
    val_main_v37 (F := Ideal) x0 x1 x2 x3 x4 (ix3 b p f)
      = swiglu (fun k => val_main_v32 (F := Ideal) x0 x1 x2 x3 (ix3 b p k)) (fun k f => x4 (ix2 k f)) f := by
  pointwise [val_main_v37, val_main_v36, val_main_v35, val_main_v34, val_main_call0_v5, val_main_call0_v4,
    val_main_call0_v3, val_main_call0_v2, val_main_call0_v1, val_main_call0_v0, val_main_call0_cst, val_main_call0_cst_0]
  simp only [v33_row]
  rfl

/-- The feed-forward block's output. -/
theorem v38_row (b : Fin 8) (p : Fin 8208) (l : Fin 1024) :
    val_main_v38 (F := Ideal) x0 x1 x2 x3 x4 x5 (ix3 b p l)
      = ffn (mixed (fun k => x0 (ix3 b p k)) (fun k => x1 (ix3 b p k)) (fun k l => x3 (ix2 k l)) (fun k => x2 (ix2 1 k)))
          (fun k => x2 (ix2 2 k)) (fun k f => x4 (ix2 k f)) (fun f l => x5 (ix2 f l)) l := by
  pointwise [val_main_v38]
  simp only [v37_row, v32_row]
  rfl

/-- The layer's output, at every token. -/
theorem v54_row (b : Fin 8) (p : Fin 8208) (l : Fin 1024) :
    val_main_v54 (F := Ideal) x0 x1 x2 x3 x4 x5 (ix3 b p l)
      = layer (fun k => x0 (ix3 b p k)) (fun k => x1 (ix3 b p k)) (fun a k => x2 (ix2 a k)) (fun k l => x3 (ix2 k l))
          (fun k f => x4 (ix2 k f)) (fun f l => x5 (ix2 f l)) l := by
  pointwise [val_main_v54, val_main_v53, val_main_v52, val_main_v51, val_main_v50, val_main_v49, val_main_v48,
    val_main_v47, val_main_v46, val_main_v45, val_main_v44, val_main_v43, val_main_v42, val_main_v41, val_main_v40,
    val_main_v39, val_main_cst_5, val_main_cst_6, val_main_cst_7]
  simp only [v38_row, v17_row]
  rfl

/-- The result array. -/
theorem v54_eq : val_main_v54 (F := Ideal) x0 x1 x2 x3 x4 x5 = fun y => result x0 x1 x2 x3 x4 x5 (y 0) (y 1) (y 2) := by
  funext y
  idx_vars y
  exact v54_row x0 x1 x2 x3 x4 x5 y0 y1 y2

end Cert.Ffn.Mid.Ref

end
-- ==== Proof.FfnMidClaim.lean ====
/- The claims about the middle layer's feed-forward call and its reference. -/
module

public import proofs.«01_k».proof.Defs
public import proofs.«01_k».proof.Proof.Gen.FfnMid.Frame
public import proofs.«01_k».proof.Proof.FfnMidKernel
public import proofs.«01_k».proof.Proof.FfnMidRef
public import Idealize.ShloMosaic.Adequacy
public import Idealize.ShloMosaic.Init

@[expose] public section

noncomputable section

namespace Cert.Ffn.Mid

open Idealize.ShloMosaic Idealize.SL.Sem

/-- The call as written leaves its arguments and ends with every semaphore at zero. -/
theorem frame_kernel : Cert.quiescent_FfnMid (hFfnMid := Cert.FfnMid.Gen.facts) :=
  fun m ρ _ => Cert.FfnMid.Gen.frame m ρ

/-- So does its idealised form. -/
theorem frame_kernelIdeal : Cert.quiescent_FfnMidIdeal (hFfnMidIdeal := Cert.FfnMidIdeal.Gen.facts) :=
  fun m ρ _ => Cert.FfnMidIdeal.Gen.frame m ρ

/-- The reference leaves its arguments; it has no semaphores. -/
theorem frame_reference : Cert.quiescent_FfnMidRefIdeal (hFfnMidRefIdeal := Cert.FfnMidRefIdeal.Gen.facts) :=
  fun m ρ _ => (θ_run Cert.FfnMidRefIdeal.defs _ _).mono (fun r h => ⟨fun c => (h c).2,
      Idealize.ShloMosaic.sem_eq_zero_of_no_sems (by decide) r.2⟩)
    (Cert.FfnMidRefIdeal.Value.run (F := Ideal) m ρ)

/-- The call's result is its reference's: both are the layer's row function at every token. -/
theorem value : Cert.algebraic_FfnMidIdeal_FfnMidRefIdeal (hFfnMidIdeal := Cert.FfnMidIdeal.Gen.facts)
    (hFfnMidRefIdeal := Cert.FfnMidRefIdeal.Gen.facts) := by
  intro m g m' g' _ hag
  refine ⟨_, (θ_run Cert.FfnMidIdeal.defs _ _).mono (fun r h c => ⟨(h c).1.trans (final m c), (h c).2⟩)
      (Cert.FfnMidIdeal.Value.run_blocks (F := Ideal) m g),
    (θ_run Cert.FfnMidRefIdeal.defs _ _).mono (fun r h c => ⟨(h c).1.trans ?_, (h c).2⟩)
      (Cert.FfnMidRefIdeal.Value.run (F := Ideal) m' g')⟩
  obtain ⟨h0, h1, h2, h3, h4, h5⟩ := hag c
  rw [Cert.FfnMidRefIdeal.Read.val_main_v54_eq, h0, h1, h2, h3, h4, h5]
  exact Ref.v54_eq _ _ _ _ _ _

end Cert.Ffn.Mid

end
-- ==== Proof.FfnEvenKernel.lean ====
/- The value of the feed-forward call of an even layer: the row function at every token. -/
module

public import proofs.«01_k».proof.Proof.FfnSpec
public import proofs.«01_k».proof.Proof.Gen.FfnEvenIdeal.Value

@[expose] public section

set_option maxRecDepth 16384

noncomputable section

namespace Cert.Ffn.Even

open Idealize.ShloMosaic

/-- The result's value at a token of a batch: the residual plus the normalised feed-forward block. -/
def result (h : FVec Ideal ⟨3, ![8, 8208, 1024]⟩ .f32) (g : FVec Ideal ⟨2, ![4, 1024]⟩ .f32)
    (wIn : FVec Ideal ⟨2, ![1024, 5632]⟩ .f32) (wOut : FVec Ideal ⟨2, ![2816, 1024]⟩ .f32)
    (b : Fin 8) (p : Fin 8208) (j : Fin 1024) : EReal :=
  h (ix3 b p j) + rms (ffn (fun k => h (ix3 b p k)) (fun k => g (ix2 2 k)) (fun k f => wIn (ix2 k f)) (fun f l => wOut (ix2 f l)))
    (fun k => g (ix2 3 k)) j

open Idealize.ShloMosaic Idealize.ShloMosaic.TcCoe Idealize.SL.Sem
open Cert.FfnEvenIdeal Cert.FfnEvenIdeal.Gen
open Idealize.ShloMosaic.Pipeline (Dat)

/-- The residual, at a row and a feature. -/
theorem pay2_row (h : FVec Ideal S1x912x1024 .f32) (r : Fin 912) (l : Fin 1024) :
    k0_pay2 (F := Ideal) h (ix2 r l) = h (ix3 0 r l) := by
  pointwise [k0_pay2]

/-- Its normalisation, the feed-forward block's input, at a row and a feature. -/
theorem pay3_row (h : FVec Ideal S1x912x1024 .f32) (g : FVec Ideal S1x1024 .f32) (r : Fin 912) (l : Fin 1024) :
    k0_pay3 (F := Ideal) h g (ix2 r l) = rms (fun k => h (ix3 0 r k)) (fun j => g (ix2 0 j)) l := by
  pointwise [k0_pay3]
  simp only [pay2_row]
  rfl

/-- The first chunk of hidden features, summed, at a row and a feature. -/
theorem pay4_row (h : FVec Ideal S1x912x1024 .f32) (g : FVec Ideal S1x1024 .f32) (a b : FVec Ideal S1024x1536 .bf16)
    (c : FVec Ideal S1536x1024 .bf16) (r : Fin 912) (l : Fin 1024) :
    k0_pay4 (F := Ideal) h g a b c (ix2 r l)
      = ∑ x, gated (∑ k, k0_pay3 (F := Ideal) h g (ix2 r k) * a (ix2 k x)) (∑ k, k0_pay3 (F := Ideal) h g (ix2 r k) * b (ix2 k x)) * c (ix2 x l) := by
  pointwise [k0_pay4]
  exact Finset.sum_congr rfl fun x _ => congrArg (· * c (ix2 x l)) (gated_tanh _ _)

/-- The second chunk of hidden features, the last normalisation and the residual, at a row and a feature. -/
theorem pay1_row (h : FVec Ideal S912x1024 .f32) (u : FVec Ideal S912x1024 .bf16) (s : FVec Ideal S912x1024 .f32)
    (a b : FVec Ideal S1024x1280 .bf16) (c : FVec Ideal S1280x1024 .bf16) (g : FVec Ideal S1x1024 .f32) (r : Fin 912) (l : Fin 1024) :
    k0_pay1 (F := Ideal) h u s a b c g (ix3 0 r l)
      = h (ix2 r l) + rms (fun j => s (ix2 r j)
          + ∑ x, gated (∑ k, u (ix2 r k) * a (ix2 k x)) (∑ k, u (ix2 r k) * b (ix2 k x)) * c (ix2 x j)) (fun j => g (ix2 0 j)) l := by
  pointwise [k0_pay1]
  simp only [← gated_tanh]
  rfl

/-- The `gate0` chunk of the weights, at an element. -/
theorem ld_gate0 (w : FVec Ideal S1024x5632 .bf16) (k : Fin 1024) (x : Fin 1536) :
    View.ld (Val := Elt Ideal) (e' := .bf16) w r0_2 (ix2 k x) = w (ix2 k ⟨x.val, by have := x.isLt; omega⟩) := by
  unfold r0_2
  pointwise

/-- The `up0` chunk of the weights, at an element. -/
theorem ld_up0 (w : FVec Ideal S1024x5632 .bf16) (k : Fin 1024) (x : Fin 1536) :
    View.ld (Val := Elt Ideal) (e' := .bf16) w r0_3 (ix2 k x) = w (ix2 k ⟨2816 + x.val, by have := x.isLt; omega⟩) := by
  unfold r0_3
  pointwise

/-- The `down0` chunk of the weights, at an element. -/
theorem ld_down0 (w : FVec Ideal S2816x1024 .bf16) (k : Fin 1536) (x : Fin 1024) :
    View.ld (Val := Elt Ideal) (e' := .bf16) w r0_4 (ix2 k x) = w (ix2 ⟨k.val, by have := k.isLt; omega⟩ x) := by
  unfold r0_4
  pointwise

/-- The `gate1` chunk of the weights, at an element. -/
theorem ld_gate1 (w : FVec Ideal S1024x5632 .bf16) (k : Fin 1024) (x : Fin 1280) :
    View.ld (Val := Elt Ideal) (e' := .bf16) w r0_5 (ix2 k x) = w (ix2 k ⟨1536 + x.val, by have := x.isLt; omega⟩) := by
  unfold r0_5
  pointwise

/-- The `up1` chunk of the weights, at an element. -/
theorem ld_up1 (w : FVec Ideal S1024x5632 .bf16) (k : Fin 1024) (x : Fin 1280) :
    View.ld (Val := Elt Ideal) (e' := .bf16) w r0_6 (ix2 k x) = w (ix2 k ⟨2816 + (1536 + x.val), by have := x.isLt; omega⟩) := by
  unfold r0_6
  pointwise
  exact congrArg (fun q => w (ix2 k q)) (Fin.ext (by show 4352 + x.val = 2816 + (1536 + x.val); omega))

/-- The `down1` chunk of the weights, at an element. -/
theorem ld_down1 (w : FVec Ideal S2816x1024 .bf16) (k : Fin 1280) (x : Fin 1024) :
    View.ld (Val := Elt Ideal) (e' := .bf16) w r0_7 (ix2 k x) = w (ix2 ⟨1536 + k.val, by have := k.isLt; omega⟩ x) := by
  unfold r0_7
  pointwise

/-- A grid point's output block is the row function of its input blocks. -/
theorem out_row (h : FVec Ideal S1x912x1024 .f32) (g2 : FVec Ideal S1x1024 .f32) (wi : FVec Ideal S1024x5632 .bf16)
    (wo : FVec Ideal S2816x1024 .bf16) (g3 : FVec Ideal S1x1024 .f32) (r : Fin 912) (l : Fin 1024) :
    out0_5 (F := Ideal) h g2 wi wo g3 (ix3 0 r l)
      = h (ix3 0 r l) + rms (ffn (fun k => h (ix3 0 r k)) (fun j => g2 (ix2 0 j)) (fun k f => wi (ix2 k f)) (fun f j => wo (ix2 f j)))
          (fun j => g3 (ix2 0 j)) l := by
  unfold out0_5
  frame_out
  rw [pay1_row, pay2_row]
  congr 2
  funext j
  rw [pay4_row, ffn, sum_hidden]
  simp only [pay3_row, swiglu]
  refine congrArg₂ (· + ·)
    (Finset.sum_congr rfl fun x _ => congrArg₂ (· * ·) (congrArg₂ gated
      (Finset.sum_congr rfl fun k _ => congrArg _ (ld_gate0 wi k x))
      (Finset.sum_congr rfl fun k _ => congrArg _ (ld_up0 wi k x))) (ld_down0 wo x j))
    (Finset.sum_congr rfl fun x _ => congrArg₂ (· * ·) (congrArg₂ gated
      (Finset.sum_congr rfl fun k _ => congrArg _ (ld_gate1 wi k x))
      (Finset.sum_congr rfl fun k _ => congrArg _ (ld_up1 wi k x))) (ld_down1 wo x j))

/-- The grid's index maps: a batch and a block of tokens, or the whole array. -/
theorem idx : ∀ t : Fin cfg0.N,
    win0_0.index t = ![t.val / 9, t.val % 9, 0] ∧ win0_1.index t = ![0, 0] ∧ win0_2.index t = ![0, 0] ∧ win0_3.index t = ![0, 0]
    ∧ win0_4.index t = ![0, 0] ∧ win0_5.index t = ![t.val / 9, t.val % 9, 0] :=
  (by decide +kernel : ∀ t : Fin grid0.N, _)

section Reads

variable (m : (ℓ : Loc nD τ sig) → Buf (Elt Ideal) ℓ) (c : Dev nD) (t : Fin cfg0.N)

/-- The grid has seventy-two points. -/
theorem t_lt : t.val < 72 := t.isLt

/-- A block of the residual stream. -/
theorem read0 (r : Fin 912) (k : Fin 1024) : iblk m c 0 t (ix3 0 r k)
    = m ((c.tc : Thread nD τ).loc main_arg0) (ix3 ⟨t.val / 9, by have := t_lt t; omega⟩
        ⟨t.val % 9 * 912 + r.val, by have := r.isLt; omega⟩ k) := by
  blk_ext! [iblk, V, idx t]

/-- The gain before the feed-forward block. -/
theorem read1 (l : Fin 1024) : iblk m c 1 t (ix2 0 l) = m ((c.tc : Thread nD τ).loc main_arg1) (ix2 2 l) := by
  blk_ext! [iblk, V, idx t]

/-- The up projection's weights, whole. -/
theorem read2 (k : Fin 1024) (f : Fin 5632) :
    iblk m c 2 t (ix2 k f) = m ((c.tc : Thread nD τ).loc main_arg2) (ix2 k f) := by
  blk_ext! [iblk, V, idx t]

/-- The down projection's weights, whole. -/
theorem read3 (k : Fin 2816) (f : Fin 1024) :
    iblk m c 3 t (ix2 k f) = m ((c.tc : Thread nD τ).loc main_arg3) (ix2 k f) := by
  blk_ext! [iblk, V, idx t]

/-- The gain after the feed-forward block. -/
theorem read4 (l : Fin 1024) : iblk m c 4 t (ix2 0 l) = m ((c.tc : Thread nD τ).loc main_arg1) (ix2 3 l) := by
  blk_ext! [iblk, V, idx t]

/-- A grid point computes the row function at the tokens its output block covers. -/
theorem point (r : Fin 912) (l : Fin 1024) (b : Fin 8) (p : Fin 8208) (hb : b.val = t.val / 9) (hp : p.val = t.val % 9 * 912 + r.val) :
    out0_5 (F := Ideal) (iblk m c 0 t) (iblk m c 1 t) (iblk m c 2 t) (iblk m c 3 t) (iblk m c 4 t) (ix3 0 r l)
      = result (m ((c.tc : Thread nD τ).loc main_arg0)) (m ((c.tc : Thread nD τ).loc main_arg1)) (m ((c.tc : Thread nD τ).loc main_arg2)) (m ((c.tc : Thread nD τ).loc main_arg3)) b p l := by
  have ht := t_lt t
  have q1 : b = ⟨t.val / 9, by omega⟩ := Fin.ext hb
  have q2 : p = ⟨t.val % 9 * 912 + r.val, by omega⟩ := Fin.ext hp
  rw [q1, q2]
  refine (out_row _ _ _ _ _ r l).trans ?_
  unfold result
  simp only [read0, read1, read2, read3, read4]

end Reads

/-- The output array after the run: the row function at every token. -/
theorem final (m : (ℓ : Loc nD τ sig) → Buf (Elt Ideal) ℓ) (c : Dev nD) :
    (dats (F := Ideal) m 0 c).arrAt 5 (cfgs 0).N = fun y => result (m ((c.tc : Thread nD τ).loc main_arg0)) (m ((c.tc : Thread nD τ).loc main_arg1)) (m ((c.tc : Thread nD τ).loc main_arg2)) (m ((c.tc : Thread nD τ).loc main_arg3)) (y 0) (y 1) (y 2) := by
  refine (dats m 0 c).arrAt_eq_of_covers 5 _ (by decide +kernel) fun t _ y => ?_
  blk_simp
  rw [after0_5]
  idx_vars y
  obtain rfl : y0 = 0 := Subsingleton.elim _ _
  have e0 := Pipeline.Window.rect_emb_val_off win0_5 t (ix3 0 y1 y2) 0
  have e1 := Pipeline.Window.rect_emb_val_off win0_5 t (ix3 0 y1 y2) 1
  have e2 := Pipeline.Window.rect_emb_val_off win0_5 t (ix3 0 y1 y2) 2
  rw [(idx t).2.2.2.2.2] at e0 e1 e2
  change (((View.whole main_v7).slice (win0_5.rect t)).emb (ix3 0 y1 y2) 0).val = t.val / 9 * 1 + 0 at e0
  change (((View.whole main_v7).slice (win0_5.rect t)).emb (ix3 0 y1 y2) 1).val = t.val % 9 * 912 + y1.val at e1
  change (((View.whole main_v7).slice (win0_5.rect t)).emb (ix3 0 y1 y2) 2).val = 0 * 1024 + y2.val at e2
  refine (point m c t y1 y2 (((View.whole main_v7).slice (win0_5.rect t)).emb (ix3 0 y1 y2) 0)
    (((View.whole main_v7).slice (win0_5.rect t)).emb (ix3 0 y1 y2) 1) (e0.trans (by omega)) e1).trans ?_
  exact congrArg (result _ _ _ _ _ _) (Fin.ext (by rw [e2]; omega))

end Cert.Ffn.Even

end
-- ==== Proof.FfnEvenRef.lean ====
/- The value of the even layers' reference: its result is the row function at every token. -/
module

public import proofs.«01_k».proof.Proof.FfnEvenKernel
public import proofs.«01_k».proof.Proof.Gen.FfnEvenRefIdeal.Read

@[expose] public section

set_option maxRecDepth 16384

noncomputable section

namespace Cert.Ffn.Even.Ref

open Idealize.ShloMosaic Idealize.ShloMosaic.TcCoe Idealize.SL.Sem
open Cert.FfnEvenRefIdeal Cert.FfnEvenRefIdeal.Gen Cert.FfnEvenRefIdeal.Read

variable (x0 : FVec Ideal S8x8208x1024 .f32) (x1 : FVec Ideal S4x1024 .f32)
  (x2 : FVec Ideal S1024x5632 .f32) (x3 : FVec Ideal S2816x1024 .f32)

/-- The feed-forward block's input. -/
theorem v14_row (b : Fin 8) (p : Fin 8208) (l : Fin 1024) :
    val_main_v14 (F := Ideal) x0 x1 (ix3 b p l) = rms (fun k => x0 (ix3 b p k)) (fun k => x1 (ix2 2 k)) l := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The up projection. -/
theorem v15_row (b : Fin 8) (p : Fin 8208) (f : Fin 5632) :
    val_main_v15 (F := Ideal) x0 x1 x2 (ix3 b p f)
      = ∑ k : Fin 1024, val_main_v14 (F := Ideal) x0 x1 (ix3 b p k) * x2 (ix2 k f) := by
  pointwise [val_main_v15]

/-- The gated activation. -/
theorem v19_row (b : Fin 8) (p : Fin 8208) (f : Fin 2816) :
    val_main_v19 (F := Ideal) x0 x1 x2 (ix3 b p f)
      = swiglu (fun k => val_main_v14 (F := Ideal) x0 x1 (ix3 b p k)) (fun k f => x2 (ix2 k f)) f := by
  pointwise [val_main_v19, val_main_v18, val_main_v17, val_main_v16, val_main_call0_v5, val_main_call0_v4,
    val_main_call0_v3, val_main_call0_v2, val_main_call0_v1, val_main_call0_v0, val_main_call0_cst, val_main_call0_cst_0]
  simp only [v15_row]
  rfl

/-- The feed-forward block's output. -/
theorem v20_row (b : Fin 8) (p : Fin 8208) (l : Fin 1024) :
    val_main_v20 (F := Ideal) x0 x1 x2 x3 (ix3 b p l)
      = ffn (fun k => x0 (ix3 b p k)) (fun k => x1 (ix2 2 k)) (fun k f => x2 (ix2 k f)) (fun f l => x3 (ix2 f l)) l := by
  pointwise [val_main_v20]
  simp only [v19_row, v14_row]
  rfl

/-- The output, at every token. -/
theorem v36_row (b : Fin 8) (p : Fin 8208) (l : Fin 1024) :
    val_main_v36 (F := Ideal) x0 x1 x2 x3 (ix3 b p l) = result x0 x1 x2 x3 b p l := by
  pointwise [val_main_v36, val_main_v35, val_main_v34, val_main_v33, val_main_v32, val_main_v31, val_main_v30, val_main_v29, val_main_v28, val_main_v27, val_main_v26, val_main_v25, val_main_v24, val_main_v23, val_main_v22, val_main_v21, val_main_cst_2, val_main_cst_3, val_main_cst_4]
  simp only [v20_row]
  rfl

/-- The result array. -/
theorem v36_eq : val_main_v36 (F := Ideal) x0 x1 x2 x3 = fun y => result x0 x1 x2 x3 (y 0) (y 1) (y 2) := by
  funext y
  idx_vars y
  exact v36_row x0 x1 x2 x3 y0 y1 y2

end Cert.Ffn.Even.Ref

end
-- ==== Proof.FfnEvenClaim.lean ====
/- The claims about the even layers' feed-forward call and its reference. -/
module

public import proofs.«01_k».proof.Defs
public import proofs.«01_k».proof.Proof.Gen.FfnEven.Frame
public import proofs.«01_k».proof.Proof.FfnEvenKernel
public import proofs.«01_k».proof.Proof.FfnEvenRef
public import Idealize.ShloMosaic.Adequacy
public import Idealize.ShloMosaic.Init

@[expose] public section

noncomputable section

namespace Cert.Ffn.Even

open Idealize.ShloMosaic Idealize.SL.Sem

/-- The call as written leaves its arguments and ends with every semaphore at zero. -/
theorem frame_kernel : Cert.quiescent_FfnEven (hFfnEven := Cert.FfnEven.Gen.facts) :=
  fun m ρ _ => Cert.FfnEven.Gen.frame m ρ

/-- So does its idealised form. -/
theorem frame_kernelIdeal : Cert.quiescent_FfnEvenIdeal (hFfnEvenIdeal := Cert.FfnEvenIdeal.Gen.facts) :=
  fun m ρ _ => Cert.FfnEvenIdeal.Gen.frame m ρ

/-- The reference leaves its arguments; it has no semaphores. -/
theorem frame_reference : Cert.quiescent_FfnEvenRefIdeal (hFfnEvenRefIdeal := Cert.FfnEvenRefIdeal.Gen.facts) :=
  fun m ρ _ => (θ_run Cert.FfnEvenRefIdeal.defs _ _).mono (fun r h => ⟨fun c => (h c).2,
      Idealize.ShloMosaic.sem_eq_zero_of_no_sems (by decide) r.2⟩)
    (Cert.FfnEvenRefIdeal.Value.run (F := Ideal) m ρ)

/-- The call's result is its reference's: both are the row function at every token. -/
theorem value : Cert.algebraic_FfnEvenIdeal_FfnEvenRefIdeal (hFfnEvenIdeal := Cert.FfnEvenIdeal.Gen.facts)
    (hFfnEvenRefIdeal := Cert.FfnEvenRefIdeal.Gen.facts) := by
  intro m g m' g' _ hag
  refine ⟨_, (θ_run Cert.FfnEvenIdeal.defs _ _).mono (fun r h c => ⟨(h c).1.trans (final m c), (h c).2⟩)
      (Cert.FfnEvenIdeal.Value.run_blocks (F := Ideal) m g),
    (θ_run Cert.FfnEvenRefIdeal.defs _ _).mono (fun r h c => ⟨(h c).1.trans ?_, (h c).2⟩)
      (Cert.FfnEvenRefIdeal.Value.run (F := Ideal) m' g')⟩
  obtain ⟨h0, h1, h2, h3⟩ := hag c
  rw [Cert.FfnEvenRefIdeal.Read.val_main_v36_eq, h0, h1, h2, h3]
  exact Ref.v36_eq _ _ _ _

end Cert.Ffn.Even

end
-- ==== Proof.LruSpec.lean ====
/- The recurrent mixer's input projections, as functions of one token's row. -/
module

public import proofs.«01_k».proof.Proof.FfnSpec

@[expose] public section

set_option maxRecDepth 16384

noncomputable section

namespace Cert.Lru

open Idealize.ShloMosaic
open Cert.Ffn (rms)

/-- The GELU activation in its `tanh` form. -/
def gelu (x : EReal) : EReal :=
  x * (Ideal.ofBits .f32 0x3F000000#32 * (1 + Ideal.tanh (Ideal.ofBits .f32 0x3F4C422A#32
    * (x + Ideal.ofBits .f32 0x3D372713#32 * (x * x * x)))))

/-- A feature of the gate: the activated first half of the projection of the normalised row. -/
def gate (h g : Fin 1024 → EReal) (w : Fin 1024 → Fin 2048 → EReal) (j : Fin 1024) : EReal :=
  gelu (∑ k, rms h g k * w k ⟨j.val, by have := j.isLt; omega⟩)

/-- A feature of the recurrence's input: the second half of the projection of the normalised row. -/
def inner (h g : Fin 1024 → EReal) (w : Fin 1024 → Fin 2048 → EReal) (j : Fin 1024) : EReal :=
  ∑ k, rms h g k * w k ⟨1024 + j.val, by have := j.isLt; omega⟩

/-- The activation with its half multiplied in first. -/
theorem gelu_half (x : EReal) : Ideal.ofBits .f32 0x3F000000#32 * x * (1 + Ideal.tanh (Ideal.ofBits .f32 0x3F4C422A#32
    * (x + Ideal.ofBits .f32 0x3D372713#32 * (x * x * x)))) = gelu x := by
  unfold gelu
  rw [← mul_assoc x, mul_comm x (Ideal.ofBits .f32 0x3F000000#32)]

end Cert.Lru

end
-- ==== Proof.LruFirstKernel.lean ====
/- The value of the first layer's input projections, read from the input stream and its prefix: the row functions at every token. -/
module

public import proofs.«01_k».proof.Proof.LruSpec
public import proofs.«01_k».proof.Proof.Gen.LruFirstIdeal.Value

@[expose] public section

set_option maxRecDepth 16384

noncomputable section

namespace Cert.Lru.First

open Idealize.ShloMosaic
open Cert.Ffn (rms)

/-- The stream with its prefix: the first 16 tokens of every batch are `meta`'s. -/
def stream (x : FVec Ideal ⟨3, ![8, 8192, 1024]⟩ .f32) (pre : FVec Ideal ⟨2, ![16, 1024]⟩ .f32) (b : Fin 8) (p : Fin 8208) (k : Fin 1024) : EReal :=
  if h : p.val < 16 then pre (ix2 ⟨p.val, h⟩ k) else x (ix3 b ⟨p.val - 16, by have := p.isLt; omega⟩ k)

/-- The first result's value at a token of a batch. -/
def gates (x : FVec Ideal ⟨3, ![8, 8192, 1024]⟩ .f32) (pre : FVec Ideal ⟨2, ![16, 1024]⟩ .f32) (g : FVec Ideal ⟨2, ![4, 1024]⟩ .f32)
    (w : FVec Ideal ⟨2, ![1024, 2048]⟩ .f32) (b : Fin 8) (p : Fin 8208) (j : Fin 1024) : EReal :=
  gate (fun k => stream x pre b p k) (fun k => g (ix2 0 k)) (fun k f => w (ix2 k f)) j

/-- The second result's value at a token of a batch. -/
def inners (x : FVec Ideal ⟨3, ![8, 8192, 1024]⟩ .f32) (pre : FVec Ideal ⟨2, ![16, 1024]⟩ .f32) (g : FVec Ideal ⟨2, ![4, 1024]⟩ .f32)
    (w : FVec Ideal ⟨2, ![1024, 2048]⟩ .f32) (b : Fin 8) (p : Fin 8208) (j : Fin 1024) : EReal :=
  inner (fun k => stream x pre b p k) (fun k => g (ix2 0 k)) (fun k f => w (ix2 k f)) j

open Idealize.ShloMosaic Idealize.ShloMosaic.TcCoe Idealize.SL.Sem
open Cert.LruFirstIdeal Cert.LruFirstIdeal.Gen
open Idealize.ShloMosaic.Pipeline (Dat)

/-- A row of a grid point's block: in a batch's first block the prefix comes first and the others follow 16 later. -/
def blockRow (q : ℕ) (x : FVec Ideal S912x1024 .f32) (pre : FVec Ideal S16x1024 .f32) (r : Fin 912) (k : Fin 1024) : EReal :=
  if q = 0 then (if h : r.val < 16 then pre (ix2 ⟨r.val, h⟩ k) else x (ix2 ⟨r.val - 16, by have := r.isLt; omega⟩ k)) else x (ix2 r k)

/-- The choice between the two block layouts is by the grid point's second coordinate. -/
theorem select_first (q : Fin 9) (a b : EReal) :
    Scalar.select (Scalar.cmpi CmpIPredicate.eq (BitVec.ofNat 32 q.val) 0#32) a b = if q.val = 0 then a else b := by
  have e : ∀ q : Fin 9, Scalar.cmpi CmpIPredicate.eq (BitVec.ofNat 32 q.val) 0#32 = if q.val = 0 then 1#1 else 0#1 := by decide
  rw [e q]
  split <;> rfl

/-- The normalised row, at a feature. -/
theorem pay3_row (i : grid0.Coords) (x : FVec Ideal S912x1024 .f32) (pre : FVec Ideal S16x1024 .f32) (g : FVec Ideal S1x1024 .f32) (r : Fin 912) (l : Fin 1024) :
    k0_pay3 (F := Ideal) i x pre g (ix2 r l) = rms (fun k => blockRow (i 1).val x pre r k) (fun j => g (ix2 0 j)) l := by
  pointwise [k0_pay3]
  have e := select_first (i 1)
  simp only [e]
  rfl

/-- The activated projection, at a row and a feature. -/
theorem pay4_row (i : grid0.Coords) (x : FVec Ideal S912x1024 .f32) (pre : FVec Ideal S16x1024 .f32) (g : FVec Ideal S1x1024 .f32) (w : FVec Ideal S1024x1024 .bf16) (r : Fin 912) (l : Fin 1024) :
    k0_pay1 (F := Ideal) (k0_pay4 (F := Ideal) i x pre g w) (ix3 0 r l) = gelu (∑ k, k0_pay3 (F := Ideal) i x pre g (ix2 r k) * w (ix2 k l)) := by
  pointwise [k0_pay1, k0_pay4]
  exact gelu_half _

/-- The other projection, at a row and a feature. -/
theorem pay2_row (u : FVec Ideal S912x1024 .bf16) (w : FVec Ideal S1024x1024 .bf16) (r : Fin 912) (l : Fin 1024) :
    k0_pay2 (F := Ideal) u w (ix3 0 r l) = ∑ k, u (ix2 r k) * w (ix2 k l) := by
  pointwise [k0_pay2]

/-- The gate's half of the weights, at an element. -/
theorem ld_gate (w : FVec Ideal S1024x2048 .bf16) (k x : Fin 1024) :
    View.ld (Val := Elt Ideal) (e' := .bf16) w r0_3 (ix2 k x) = w (ix2 k ⟨x.val, by have := x.isLt; omega⟩) := by
  unfold r0_3
  pointwise

/-- The recurrence's half of the weights, at an element. -/
theorem ld_inner (w : FVec Ideal S1024x2048 .bf16) (k x : Fin 1024) :
    View.ld (Val := Elt Ideal) (e' := .bf16) w r0_5 (ix2 k x) = w (ix2 k ⟨1024 + x.val, by have := x.isLt; omega⟩) := by
  unfold r0_5
  pointwise

/-- A grid point's block of result 1 is the row function of its input blocks. -/
theorem out_row4 (i : grid0.Coords) (x : FVec Ideal S912x1024 .f32) (pre : FVec Ideal S16x1024 .f32) (g : FVec Ideal S1x1024 .f32) (w : FVec Ideal S1024x2048 .bf16) (r : Fin 912) (l : Fin 1024) :
    out0_4 (F := Ideal) i x pre g w (ix3 0 r l)
      = gate (fun k => blockRow (i 1).val x pre r k) (fun j => g (ix2 0 j)) (fun k f => w (ix2 k f)) l := by
  unfold out0_4
  frame_out
  rw [pay4_row]
  simp only [pay3_row, gate]
  exact congrArg gelu (Finset.sum_congr rfl fun k _ => congrArg _ (ld_gate w k l))

/-- A grid point's block of result 2 is the row function of its input blocks. -/
theorem out_row5 (i : grid0.Coords) (x : FVec Ideal S912x1024 .f32) (pre : FVec Ideal S16x1024 .f32) (g : FVec Ideal S1x1024 .f32) (w : FVec Ideal S1024x2048 .bf16) (r : Fin 912) (l : Fin 1024) :
    out0_5 (F := Ideal) i x pre g w (ix3 0 r l)
      = inner (fun k => blockRow (i 1).val x pre r k) (fun j => g (ix2 0 j)) (fun k f => w (ix2 k f)) l := by
  unfold out0_5
  frame_out
  rw [pay2_row]
  simp only [pay3_row, inner]
  exact Finset.sum_congr rfl fun k _ => congrArg _ (ld_inner w k l)

/-- The grid's index maps: the element-indexed window starts 16 tokens early except in a batch's first block. -/
theorem idx : ∀ t : Fin cfg0.N,
    win0_0.index t = ![t.val / 9 * 8192 + (t.val % 9 * 912 - 16), 0] ∧ win0_1.index t = ![0, 0] ∧ win0_2.index t = ![0, 0] ∧ win0_3.index t = ![0, 0]
    ∧ win0_4.index t = ![t.val / 9, t.val % 9, 0] ∧ win0_5.index t = ![t.val / 9, t.val % 9, 0] :=
  (by decide +kernel : ∀ t : Fin grid0.N, _)

/-- A grid point's second coordinate. -/
theorem coord : ∀ t : Fin cfg0.N, (grid0.coords t 1).val = t.val % 9 :=
  (by decide +kernel : ∀ t : Fin grid0.N, _)

section Reads

variable (m : (ℓ : Loc nD τ sig) → Buf (Elt Ideal) ℓ) (c : Dev nD) (t : Fin cfg0.N)

/-- The grid has seventy-two points. -/
theorem t_lt : t.val < 72 := t.isLt

/-- Where window 0's block at a grid point lies: its rows start at the index map's element offset. -/
theorem emb0 (x : S912x1024.Idx) (a : Fin 2) :
    (((View.whole main_v4).slice (win0_0.rect t)).emb x a).val = win0_0.index t a + (x a).val := by
  exact Pipeline.Window.rect_emb_val_off win0_0 t x a

/-- A block of the input stream. -/
theorem read0 (r : Fin 912) (k : Fin 1024) : iblk m c 0 t (ix2 r k)
    = m ((c.tc : Thread nD τ).loc main_arg0) (ix3 ⟨t.val / 9, by have := t_lt t; omega⟩
        ⟨t.val % 9 * 912 - 16 + r.val, by have := r.isLt; omega⟩ k) := by
  have := t_lt t
  have := r.isLt
  have e0 := emb0 t (ix2 r k) 0
  have e1 := emb0 t (ix2 r k) 1
  rw [(idx t).1] at e0 e1
  change _ = t.val / 9 * 8192 + (t.val % 9 * 912 - 16) + r.val at e0
  change _ = 0 + k.val at e1
  blk_ext! [iblk, V, idx t] <;> omega

/-- The prefix, whole. -/
theorem read1 (k : Fin 16) (f : Fin 1024) :
    iblk m c 1 t (ix2 k f) = m ((c.tc : Thread nD τ).loc main_arg1) (ix2 k f) := by
  blk_ext! [iblk, V, idx t]

/-- The gain before the mixer. -/
theorem read2 (l : Fin 1024) : iblk m c 2 t (ix2 0 l) = m ((c.tc : Thread nD τ).loc main_arg2) (ix2 0 l) := by
  blk_ext! [iblk, V, idx t]

/-- The projection's weights, whole. -/
theorem read3 (k : Fin 1024) (f : Fin 2048) :
    iblk m c 3 t (ix2 k f) = m ((c.tc : Thread nD τ).loc main_arg3) (ix2 k f) := by
  blk_ext! [iblk, V, idx t]

/-- A row of a grid point's block is a token's row of the stream. -/
theorem row_eq (r : Fin 912) (k : Fin 1024) :
    blockRow (grid0.coords t 1).val (iblk m c 0 t) (iblk m c 1 t) r k
      = stream (m ((c.tc : Thread nD τ).loc main_arg0)) (m ((c.tc : Thread nD τ).loc main_arg1)) ⟨t.val / 9, by have := t_lt t; omega⟩
          ⟨t.val % 9 * 912 + r.val, by have := r.isLt; omega⟩ k := by
  have hr := r.isLt
  rw [coord]
  unfold blockRow stream
  by_cases h : t.val % 9 = 0
  · by_cases h' : r.val < 16
    · have h'' : t.val % 9 * 912 + r.val < 16 := by omega
      simp only [if_pos h, dif_pos h', dif_pos h'', read1]
      exact congrArg (fun q => m ((c.tc : Thread nD τ).loc main_arg1) (ix2 q k)) (Fin.ext (by show r.val = t.val % 9 * 912 + r.val; omega))
    · have h'' : ¬ t.val % 9 * 912 + r.val < 16 := by omega
      simp only [if_pos h, dif_neg h', dif_neg h'', read0]
      exact congrArg (fun q => m ((c.tc : Thread nD τ).loc main_arg0) (ix3 _ q k)) (Fin.ext (by
        show t.val % 9 * 912 - 16 + (r.val - 16) = t.val % 9 * 912 + r.val - 16; omega))
  · have h'' : ¬ t.val % 9 * 912 + r.val < 16 := by omega
    simp only [if_neg h, dif_neg h'', read0]
    exact congrArg (fun q => m ((c.tc : Thread nD τ).loc main_arg0) (ix3 _ q k)) (Fin.ext (by
      show t.val % 9 * 912 - 16 + r.val = t.val % 9 * 912 + r.val - 16; omega))

/-- A grid point computes the row function at the tokens its output block covers. -/
theorem point4 (r : Fin 912) (l : Fin 1024) (b : Fin 8) (p : Fin 8208) (hb : b.val = t.val / 9) (hp : p.val = t.val % 9 * 912 + r.val) :
    out0_4 (F := Ideal) (grid0.coords t) (iblk m c 0 t) (iblk m c 1 t) (iblk m c 2 t) (iblk m c 3 t) (ix3 0 r l)
      = gates (m ((c.tc : Thread nD τ).loc main_arg0)) (m ((c.tc : Thread nD τ).loc main_arg1)) (m ((c.tc : Thread nD τ).loc main_arg2)) (m ((c.tc : Thread nD τ).loc main_arg3)) b p l := by
  have ht := t_lt t
  have q1 : b = ⟨t.val / 9, by omega⟩ := Fin.ext hb
  have q2 : p = ⟨t.val % 9 * 912 + r.val, by omega⟩ := Fin.ext hp
  rw [q1, q2]
  refine (out_row4 _ _ _ _ _ r l).trans ?_
  unfold gates
  simp only [row_eq, read2, read3]

/-- A grid point computes the row function at the tokens its output block covers. -/
theorem point5 (r : Fin 912) (l : Fin 1024) (b : Fin 8) (p : Fin 8208) (hb : b.val = t.val / 9) (hp : p.val = t.val % 9 * 912 + r.val) :
    out0_5 (F := Ideal) (grid0.coords t) (iblk m c 0 t) (iblk m c 1 t) (iblk m c 2 t) (iblk m c 3 t) (ix3 0 r l)
      = inners (m ((c.tc : Thread nD τ).loc main_arg0)) (m ((c.tc : Thread nD τ).loc main_arg1)) (m ((c.tc : Thread nD τ).loc main_arg2)) (m ((c.tc : Thread nD τ).loc main_arg3)) b p l := by
  have ht := t_lt t
  have q1 : b = ⟨t.val / 9, by omega⟩ := Fin.ext hb
  have q2 : p = ⟨t.val % 9 * 912 + r.val, by omega⟩ := Fin.ext hp
  rw [q1, q2]
  refine (out_row5 _ _ _ _ _ r l).trans ?_
  unfold inners
  simp only [row_eq, read2, read3]

end Reads

/-- The output array after the run: the row function at every token. -/
theorem final4 (m : (ℓ : Loc nD τ sig) → Buf (Elt Ideal) ℓ) (c : Dev nD) :
    (dats (F := Ideal) m 0 c).arrAt 4 (cfgs 0).N = fun y => gates (m ((c.tc : Thread nD τ).loc main_arg0)) (m ((c.tc : Thread nD τ).loc main_arg1)) (m ((c.tc : Thread nD τ).loc main_arg2)) (m ((c.tc : Thread nD τ).loc main_arg3)) (y 0) (y 1) (y 2) := by
  refine (dats m 0 c).arrAt_eq_of_covers 4 _ (by decide +kernel) fun t _ y => ?_
  blk_simp
  rw [after0_4]
  idx_vars y
  obtain rfl : y0 = 0 := Subsingleton.elim _ _
  have e0 := Pipeline.Window.rect_emb_val_off win0_4 t (ix3 0 y1 y2) 0
  have e1 := Pipeline.Window.rect_emb_val_off win0_4 t (ix3 0 y1 y2) 1
  have e2 := Pipeline.Window.rect_emb_val_off win0_4 t (ix3 0 y1 y2) 2
  rw [(idx t).2.2.2.2.1] at e0 e1 e2
  change (((View.whole main_v5_0).slice (win0_4.rect t)).emb (ix3 0 y1 y2) 0).val = t.val / 9 * 1 + 0 at e0
  change (((View.whole main_v5_0).slice (win0_4.rect t)).emb (ix3 0 y1 y2) 1).val = t.val % 9 * 912 + y1.val at e1
  change (((View.whole main_v5_0).slice (win0_4.rect t)).emb (ix3 0 y1 y2) 2).val = 0 * 1024 + y2.val at e2
  refine (point4 m c t y1 y2 (((View.whole main_v5_0).slice (win0_4.rect t)).emb (ix3 0 y1 y2) 0)
    (((View.whole main_v5_0).slice (win0_4.rect t)).emb (ix3 0 y1 y2) 1) (e0.trans (by omega)) e1).trans ?_
  exact congrArg (gates _ _ _ _ _ _) (Fin.ext (by rw [e2]; omega))

/-- The output array after the run: the row function at every token. -/
theorem final5 (m : (ℓ : Loc nD τ sig) → Buf (Elt Ideal) ℓ) (c : Dev nD) :
    (dats (F := Ideal) m 0 c).arrAt 5 (cfgs 0).N = fun y => inners (m ((c.tc : Thread nD τ).loc main_arg0)) (m ((c.tc : Thread nD τ).loc main_arg1)) (m ((c.tc : Thread nD τ).loc main_arg2)) (m ((c.tc : Thread nD τ).loc main_arg3)) (y 0) (y 1) (y 2) := by
  refine (dats m 0 c).arrAt_eq_of_covers 5 _ (by decide +kernel) fun t _ y => ?_
  blk_simp
  rw [after0_5]
  idx_vars y
  obtain rfl : y0 = 0 := Subsingleton.elim _ _
  have e0 := Pipeline.Window.rect_emb_val_off win0_5 t (ix3 0 y1 y2) 0
  have e1 := Pipeline.Window.rect_emb_val_off win0_5 t (ix3 0 y1 y2) 1
  have e2 := Pipeline.Window.rect_emb_val_off win0_5 t (ix3 0 y1 y2) 2
  rw [(idx t).2.2.2.2.2] at e0 e1 e2
  change (((View.whole main_v5_1).slice (win0_5.rect t)).emb (ix3 0 y1 y2) 0).val = t.val / 9 * 1 + 0 at e0
  change (((View.whole main_v5_1).slice (win0_5.rect t)).emb (ix3 0 y1 y2) 1).val = t.val % 9 * 912 + y1.val at e1
  change (((View.whole main_v5_1).slice (win0_5.rect t)).emb (ix3 0 y1 y2) 2).val = 0 * 1024 + y2.val at e2
  refine (point5 m c t y1 y2 (((View.whole main_v5_1).slice (win0_5.rect t)).emb (ix3 0 y1 y2) 0)
    (((View.whole main_v5_1).slice (win0_5.rect t)).emb (ix3 0 y1 y2) 1) (e0.trans (by omega)) e1).trans ?_
  exact congrArg (inners _ _ _ _ _ _) (Fin.ext (by rw [e2]; omega))

end Cert.Lru.First

end
-- ==== Proof.LruFirstRef.lean ====
/- The value of the reference: its results are the row functions at every token. -/
module

public import proofs.«01_k».proof.Proof.LruFirstKernel
public import proofs.«01_k».proof.Proof.Gen.LruFirstRefIdeal.Read

@[expose] public section

set_option maxRecDepth 16384

noncomputable section

namespace Cert.Lru.First.Ref

open Idealize.ShloMosaic Idealize.ShloMosaic.TcCoe Idealize.SL.Sem
open Cert.Ffn (rms)
open Cert.LruFirstRefIdeal Cert.LruFirstRefIdeal.Gen Cert.LruFirstRefIdeal.Read

variable (x0 : FVec Ideal S8x8192x1024 .f32) (x1 : FVec Ideal S16x1024 .f32) (x2 : FVec Ideal S4x1024 .f32) (x3 : FVec Ideal S1024x2048 .f32)

/-- The stream with its prefix. -/
theorem v2_row (b : Fin 8) (p : Fin 8208) (l : Fin 1024) :
    val_main_v2 (F := Ideal) x0 x1 (ix3 b p l) = stream x0 x1 b p l := by
  unfold stream
  pointwise [val_main_v2, val_main_v1, val_main_v0]

/-- The normalised row. -/
theorem v17_row (b : Fin 8) (p : Fin 8208) (l : Fin 1024) :
    val_main_v17 (F := Ideal) x0 x1 x2 (ix3 b p l) = rms (fun k => stream x0 x1 b p k) (fun k => x2 (ix2 0 k)) l := by
  pointwise [val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  simp only [v2_row]
  rfl

/-- The projection. -/
theorem v18_row (b : Fin 8) (p : Fin 8208) (f : Fin 2048) :
    val_main_v18 (F := Ideal) x0 x1 x2 x3 (ix3 b p f)
      = ∑ k : Fin 1024, rms (fun k => stream x0 x1 b p k) (fun k => x2 (ix2 0 k)) k * x3 (ix2 k f) := by
  pointwise [val_main_v18]
  simp only [v17_row]

/-- The first result, at every token. -/
theorem v33_row (b : Fin 8) (p : Fin 8208) (l : Fin 1024) :
    val_main_v33 (F := Ideal) x0 x1 x2 x3 (ix3 b p l) = gates x0 x1 x2 x3 b p l := by
  pointwise [val_main_v33, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4, val_main_cst_5]
  simp only [v18_row]
  rfl

/-- The second result, at every token. -/
theorem v35_row (b : Fin 8) (p : Fin 8208) (l : Fin 1024) :
    val_main_v35 (F := Ideal) x0 x1 x2 x3 (ix3 b p l) = inners x0 x1 x2 x3 b p l := by
  pointwise [val_main_v35, val_main_v34]
  simp only [v18_row]
  rfl

/-- The first result array. -/
theorem v33_eq : val_main_v33 (F := Ideal) x0 x1 x2 x3 = fun y => gates x0 x1 x2 x3 (y 0) (y 1) (y 2) := by
  funext y
  idx_vars y
  exact v33_row x0 x1 x2 x3 y0 y1 y2

/-- The second result array. -/
theorem v35_eq : val_main_v35 (F := Ideal) x0 x1 x2 x3 = fun y => inners x0 x1 x2 x3 (y 0) (y 1) (y 2) := by
  funext y
  idx_vars y
  exact v35_row x0 x1 x2 x3 y0 y1 y2

end Cert.Lru.First.Ref

end
-- ==== Proof.LruFirstClaim.lean ====
/- The claims about the first layer's input projections and their reference. -/
module

public import proofs.«01_k».proof.Defs
public import proofs.«01_k».proof.Proof.Gen.LruFirst.Frame
public import proofs.«01_k».proof.Proof.LruFirstKernel
public import proofs.«01_k».proof.Proof.LruFirstRef
public import Idealize.ShloMosaic.Adequacy
public import Idealize.ShloMosaic.Init

@[expose] public section

noncomputable section

namespace Cert.Lru.First

open Idealize.ShloMosaic Idealize.SL.Sem

/-- The call as written leaves its arguments and ends with every semaphore at zero. -/
theorem frame_kernel : Cert.quiescent_LruFirst (hLruFirst := Cert.LruFirst.Gen.facts) :=
  fun m ρ _ => Cert.LruFirst.Gen.frame m ρ

/-- So does its idealised form. -/
theorem frame_kernelIdeal : Cert.quiescent_LruFirstIdeal (hLruFirstIdeal := Cert.LruFirstIdeal.Gen.facts) :=
  fun m ρ _ => Cert.LruFirstIdeal.Gen.frame m ρ

/-- The reference leaves its arguments; it has no semaphores. -/
theorem frame_reference : Cert.quiescent_LruFirstRefIdeal (hLruFirstRefIdeal := Cert.LruFirstRefIdeal.Gen.facts) :=
  fun m ρ _ => (θ_run Cert.LruFirstRefIdeal.defs _ _).mono (fun r h => ⟨fun c => (h c).2.2,
      Idealize.ShloMosaic.sem_eq_zero_of_no_sems (by decide) r.2⟩)
    (Cert.LruFirstRefIdeal.Value.run (F := Ideal) m ρ)

/-- The call's two results are its reference's: both are the row functions at every token. -/
theorem value : Cert.algebraic_LruFirstIdeal_LruFirstRefIdeal (hLruFirstIdeal := Cert.LruFirstIdeal.Gen.facts)
    (hLruFirstRefIdeal := Cert.LruFirstRefIdeal.Gen.facts) := by
  intro m g m' g' _ hag
  refine ⟨_, _, (θ_run Cert.LruFirstIdeal.defs _ _).mono (fun r h c => ⟨(h c).1.trans (final4 m c), (h c).2.1.trans (final5 m c), (h c).2.2⟩)
      (Cert.LruFirstIdeal.Value.run_blocks (F := Ideal) m g),
    (θ_run Cert.LruFirstRefIdeal.defs _ _).mono (fun r h c => ⟨(h c).1.trans ?_, (h c).2.1.trans ?_, (h c).2.2⟩)
      (Cert.LruFirstRefIdeal.Value.run (F := Ideal) m' g')⟩
  · obtain ⟨h0, h1, h2, h3⟩ := hag c
    rw [Cert.LruFirstRefIdeal.Read.val_main_v33_eq, h0, h1, h2, h3]
    exact Ref.v33_eq _ _ _ _
  · obtain ⟨h0, h1, h2, h3⟩ := hag c
    rw [Cert.LruFirstRefIdeal.Read.val_main_v35_eq, h0, h1, h2, h3]
    exact Ref.v35_eq _ _ _ _

end Cert.Lru.First

end
-- ==== Proof.LruLaterKernel.lean ====
/- The value of a later layer's input projections: the row functions at every token. -/
module

public import proofs.«01_k».proof.Proof.LruSpec
public import proofs.«01_k».proof.Proof.Gen.LruLaterIdeal.Value

@[expose] public section

set_option maxRecDepth 16384

noncomputable section

namespace Cert.Lru.Later

open Idealize.ShloMosaic
open Cert.Ffn (rms)

/-- The first result's value at a token of a batch. -/
def gates (h : FVec Ideal ⟨3, ![8, 8208, 1024]⟩ .f32) (g : FVec Ideal ⟨2, ![4, 1024]⟩ .f32) (w : FVec Ideal ⟨2, ![1024, 2048]⟩ .f32)
    (b : Fin 8) (p : Fin 8208) (j : Fin 1024) : EReal :=
  gate (fun k => h (ix3 b p k)) (fun k => g (ix2 0 k)) (fun k f => w (ix2 k f)) j

/-- The second result's value at a token of a batch. -/
def inners (h : FVec Ideal ⟨3, ![8, 8208, 1024]⟩ .f32) (g : FVec Ideal ⟨2, ![4, 1024]⟩ .f32) (w : FVec Ideal ⟨2, ![1024, 2048]⟩ .f32)
    (b : Fin 8) (p : Fin 8208) (j : Fin 1024) : EReal :=
  inner (fun k => h (ix3 b p k)) (fun k => g (ix2 0 k)) (fun k f => w (ix2 k f)) j

open Idealize.ShloMosaic Idealize.ShloMosaic.TcCoe Idealize.SL.Sem
open Cert.LruLaterIdeal Cert.LruLaterIdeal.Gen
open Idealize.ShloMosaic.Pipeline (Dat)

/-- The normalised row, at a feature. -/
theorem pay2_row (h : FVec Ideal S1x912x1024 .f32) (g : FVec Ideal S1x1024 .f32) (r : Fin 912) (l : Fin 1024) :
    k0_pay2 (F := Ideal) h g (ix2 r l) = rms (fun k => h (ix3 0 r k)) (fun j => g (ix2 0 j)) l := by
  pointwise [k0_pay2]
  rfl

/-- The activated projection, at a row and a feature. -/
theorem pay3_row (h : FVec Ideal S1x912x1024 .f32) (g : FVec Ideal S1x1024 .f32) (w : FVec Ideal S1024x1024 .bf16) (r : Fin 912) (l : Fin 1024) :
    k0_pay3 (F := Ideal) h g w (ix3 0 r l) = gelu (∑ k, k0_pay2 (F := Ideal) h g (ix2 r k) * w (ix2 k l)) := by
  pointwise [k0_pay3]
  exact gelu_half _

/-- The other projection, at a row and a feature. -/
theorem pay1_row (u : FVec Ideal S912x1024 .bf16) (w : FVec Ideal S1024x1024 .bf16) (r : Fin 912) (l : Fin 1024) :
    k0_pay1 (F := Ideal) u w (ix3 0 r l) = ∑ k, u (ix2 r k) * w (ix2 k l) := by
  pointwise [k0_pay1]

/-- The gate's half of the weights, at an element. -/
theorem ld_gate (w : FVec Ideal S1024x2048 .bf16) (k x : Fin 1024) :
    View.ld (Val := Elt Ideal) (e' := .bf16) w r0_2 (ix2 k x) = w (ix2 k ⟨x.val, by have := x.isLt; omega⟩) := by
  unfold r0_2
  pointwise

/-- The recurrence's half of the weights, at an element. -/
theorem ld_inner (w : FVec Ideal S1024x2048 .bf16) (k x : Fin 1024) :
    View.ld (Val := Elt Ideal) (e' := .bf16) w r0_3 (ix2 k x) = w (ix2 k ⟨1024 + x.val, by have := x.isLt; omega⟩) := by
  unfold r0_3
  pointwise

/-- A grid point's block of result 1 is the row function of its input blocks. -/
theorem out_row3 (h : FVec Ideal S1x912x1024 .f32) (g : FVec Ideal S1x1024 .f32) (w : FVec Ideal S1024x2048 .bf16) (r : Fin 912) (l : Fin 1024) :
    out0_3 (F := Ideal) h g w (ix3 0 r l)
      = gate (fun k => h (ix3 0 r k)) (fun j => g (ix2 0 j)) (fun k f => w (ix2 k f)) l := by
  unfold out0_3
  frame_out
  rw [pay3_row]
  simp only [pay2_row, gate]
  exact congrArg gelu (Finset.sum_congr rfl fun k _ => congrArg _ (ld_gate w k l))

/-- A grid point's block of result 2 is the row function of its input blocks. -/
theorem out_row4 (h : FVec Ideal S1x912x1024 .f32) (g : FVec Ideal S1x1024 .f32) (w : FVec Ideal S1024x2048 .bf16) (r : Fin 912) (l : Fin 1024) :
    out0_4 (F := Ideal) h g w (ix3 0 r l)
      = inner (fun k => h (ix3 0 r k)) (fun j => g (ix2 0 j)) (fun k f => w (ix2 k f)) l := by
  unfold out0_4
  frame_out
  rw [pay1_row]
  simp only [pay2_row, inner]
  exact Finset.sum_congr rfl fun k _ => congrArg _ (ld_inner w k l)

/-- The grid's index maps: a batch and a block of tokens, or the whole array. -/
theorem idx : ∀ t : Fin cfg0.N,
    win0_0.index t = ![t.val / 9, t.val % 9, 0] ∧ win0_1.index t = ![0, 0] ∧ win0_2.index t = ![0, 0]
    ∧ win0_3.index t = ![t.val / 9, t.val % 9, 0] ∧ win0_4.index t = ![t.val / 9, t.val % 9, 0] :=
  (by decide +kernel : ∀ t : Fin grid0.N, _)

section Reads

variable (m : (ℓ : Loc nD τ sig) → Buf (Elt Ideal) ℓ) (c : Dev nD) (t : Fin cfg0.N)

/-- The grid has seventy-two points. -/
theorem t_lt : t.val < 72 := t.isLt

/-- A block of the residual stream. -/
theorem read0 (r : Fin 912) (k : Fin 1024) : iblk m c 0 t (ix3 0 r k)
    = m ((c.tc : Thread nD τ).loc main_arg0) (ix3 ⟨t.val / 9, by have := t_lt t; omega⟩
        ⟨t.val % 9 * 912 + r.val, by have := r.isLt; omega⟩ k) := by
  blk_ext! [iblk, V, idx t]

/-- The gain before the mixer. -/
theorem read1 (l : Fin 1024) : iblk m c 1 t (ix2 0 l) = m ((c.tc : Thread nD τ).loc main_arg1) (ix2 0 l) := by
  blk_ext! [iblk, V, idx t]

/-- The projection's weights, whole. -/
theorem read2 (k : Fin 1024) (f : Fin 2048) :
    iblk m c 2 t (ix2 k f) = m ((c.tc : Thread nD τ).loc main_arg2) (ix2 k f) := by
  blk_ext! [iblk, V, idx t]

/-- A grid point computes the row function at the tokens its output block covers. -/
theorem point3 (r : Fin 912) (l : Fin 1024) (b : Fin 8) (p : Fin 8208) (hb : b.val = t.val / 9) (hp : p.val = t.val % 9 * 912 + r.val) :
    out0_3 (F := Ideal) (iblk m c 0 t) (iblk m c 1 t) (iblk m c 2 t) (ix3 0 r l)
      = gates (m ((c.tc : Thread nD τ).loc main_arg0)) (m ((c.tc : Thread nD τ).loc main_arg1)) (m ((c.tc : Thread nD τ).loc main_arg2)) b p l := by
  have ht := t_lt t
  have q1 : b = ⟨t.val / 9, by omega⟩ := Fin.ext hb
  have q2 : p = ⟨t.val % 9 * 912 + r.val, by omega⟩ := Fin.ext hp
  rw [q1, q2]
  refine (out_row3 _ _ _ r l).trans ?_
  unfold gates
  simp only [read0, read1, read2]

/-- A grid point computes the row function at the tokens its output block covers. -/
theorem point4 (r : Fin 912) (l : Fin 1024) (b : Fin 8) (p : Fin 8208) (hb : b.val = t.val / 9) (hp : p.val = t.val % 9 * 912 + r.val) :
    out0_4 (F := Ideal) (iblk m c 0 t) (iblk m c 1 t) (iblk m c 2 t) (ix3 0 r l)
      = inners (m ((c.tc : Thread nD τ).loc main_arg0)) (m ((c.tc : Thread nD τ).loc main_arg1)) (m ((c.tc : Thread nD τ).loc main_arg2)) b p l := by
  have ht := t_lt t
  have q1 : b = ⟨t.val / 9, by omega⟩ := Fin.ext hb
  have q2 : p = ⟨t.val % 9 * 912 + r.val, by omega⟩ := Fin.ext hp
  rw [q1, q2]
  refine (out_row4 _ _ _ r l).trans ?_
  unfold inners
  simp only [read0, read1, read2]

end Reads

/-- The output array after the run: the row function at every token. -/
theorem final3 (m : (ℓ : Loc nD τ sig) → Buf (Elt Ideal) ℓ) (c : Dev nD) :
    (dats (F := Ideal) m 0 c).arrAt 3 (cfgs 0).N = fun y => gates (m ((c.tc : Thread nD τ).loc main_arg0)) (m ((c.tc : Thread nD τ).loc main_arg1)) (m ((c.tc : Thread nD τ).loc main_arg2)) (y 0) (y 1) (y 2) := by
  refine (dats m 0 c).arrAt_eq_of_covers 3 _ (by decide +kernel) fun t _ y => ?_
  blk_simp
  rw [after0_3]
  idx_vars y
  obtain rfl : y0 = 0 := Subsingleton.elim _ _
  have e0 := Pipeline.Window.rect_emb_val_off win0_3 t (ix3 0 y1 y2) 0
  have e1 := Pipeline.Window.rect_emb_val_off win0_3 t (ix3 0 y1 y2) 1
  have e2 := Pipeline.Window.rect_emb_val_off win0_3 t (ix3 0 y1 y2) 2
  rw [(idx t).2.2.2.1] at e0 e1 e2
  change (((View.whole main_v4_0).slice (win0_3.rect t)).emb (ix3 0 y1 y2) 0).val = t.val / 9 * 1 + 0 at e0
  change (((View.whole main_v4_0).slice (win0_3.rect t)).emb (ix3 0 y1 y2) 1).val = t.val % 9 * 912 + y1.val at e1
  change (((View.whole main_v4_0).slice (win0_3.rect t)).emb (ix3 0 y1 y2) 2).val = 0 * 1024 + y2.val at e2
  refine (point3 m c t y1 y2 (((View.whole main_v4_0).slice (win0_3.rect t)).emb (ix3 0 y1 y2) 0)
    (((View.whole main_v4_0).slice (win0_3.rect t)).emb (ix3 0 y1 y2) 1) (e0.trans (by omega)) e1).trans ?_
  exact congrArg (gates _ _ _ _ _) (Fin.ext (by rw [e2]; omega))

/-- The output array after the run: the row function at every token. -/
theorem final4 (m : (ℓ : Loc nD τ sig) → Buf (Elt Ideal) ℓ) (c : Dev nD) :
    (dats (F := Ideal) m 0 c).arrAt 4 (cfgs 0).N = fun y => inners (m ((c.tc : Thread nD τ).loc main_arg0)) (m ((c.tc : Thread nD τ).loc main_arg1)) (m ((c.tc : Thread nD τ).loc main_arg2)) (y 0) (y 1) (y 2) := by
  refine (dats m 0 c).arrAt_eq_of_covers 4 _ (by decide +kernel) fun t _ y => ?_
  blk_simp
  rw [after0_4]
  idx_vars y
  obtain rfl : y0 = 0 := Subsingleton.elim _ _
  have e0 := Pipeline.Window.rect_emb_val_off win0_4 t (ix3 0 y1 y2) 0
  have e1 := Pipeline.Window.rect_emb_val_off win0_4 t (ix3 0 y1 y2) 1
  have e2 := Pipeline.Window.rect_emb_val_off win0_4 t (ix3 0 y1 y2) 2
  rw [(idx t).2.2.2.2] at e0 e1 e2
  change (((View.whole main_v4_1).slice (win0_4.rect t)).emb (ix3 0 y1 y2) 0).val = t.val / 9 * 1 + 0 at e0
  change (((View.whole main_v4_1).slice (win0_4.rect t)).emb (ix3 0 y1 y2) 1).val = t.val % 9 * 912 + y1.val at e1
  change (((View.whole main_v4_1).slice (win0_4.rect t)).emb (ix3 0 y1 y2) 2).val = 0 * 1024 + y2.val at e2
  refine (point4 m c t y1 y2 (((View.whole main_v4_1).slice (win0_4.rect t)).emb (ix3 0 y1 y2) 0)
    (((View.whole main_v4_1).slice (win0_4.rect t)).emb (ix3 0 y1 y2) 1) (e0.trans (by omega)) e1).trans ?_
  exact congrArg (inners _ _ _ _ _) (Fin.ext (by rw [e2]; omega))

end Cert.Lru.Later

end
-- ==== Proof.LruLaterRef.lean ====
/- The value of the reference: its results are the row functions at every token. -/
module

public import proofs.«01_k».proof.Proof.LruLaterKernel
public import proofs.«01_k».proof.Proof.Gen.LruLaterRefIdeal.Read

@[expose] public section

set_option maxRecDepth 16384

noncomputable section

namespace Cert.Lru.Later.Ref

open Idealize.ShloMosaic Idealize.ShloMosaic.TcCoe Idealize.SL.Sem
open Cert.Ffn (rms)
open Cert.LruLaterRefIdeal Cert.LruLaterRefIdeal.Gen Cert.LruLaterRefIdeal.Read

variable (x0 : FVec Ideal S8x8208x1024 .f32) (x1 : FVec Ideal S4x1024 .f32) (x2 : FVec Ideal S1024x2048 .f32)

/-- The normalised row. -/
theorem v14_row (b : Fin 8) (p : Fin 8208) (l : Fin 1024) :
    val_main_v14 (F := Ideal) x0 x1 (ix3 b p l) = rms (fun k => x0 (ix3 b p k)) (fun k => x1 (ix2 0 k)) l := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The projection. -/
theorem v15_row (b : Fin 8) (p : Fin 8208) (f : Fin 2048) :
    val_main_v15 (F := Ideal) x0 x1 x2 (ix3 b p f)
      = ∑ k : Fin 1024, rms (fun k => x0 (ix3 b p k)) (fun k => x1 (ix2 0 k)) k * x2 (ix2 k f) := by
  pointwise [val_main_v15]
  simp only [v14_row]

/-- The first result, at every token. -/
theorem v30_row (b : Fin 8) (p : Fin 8208) (l : Fin 1024) :
    val_main_v30 (F := Ideal) x0 x1 x2 (ix3 b p l) = gates x0 x1 x2 b p l := by
  pointwise [val_main_v30, val_main_v29, val_main_v28, val_main_v27, val_main_v26, val_main_v25, val_main_v24, val_main_v23, val_main_v22, val_main_v21, val_main_v20, val_main_v19, val_main_v18, val_main_v17, val_main_v16, val_main_cst_2, val_main_cst_3, val_main_cst_4, val_main_cst_5]
  simp only [v15_row]
  rfl

/-- The second result, at every token. -/
theorem v32_row (b : Fin 8) (p : Fin 8208) (l : Fin 1024) :
    val_main_v32 (F := Ideal) x0 x1 x2 (ix3 b p l) = inners x0 x1 x2 b p l := by
  pointwise [val_main_v32, val_main_v31]
  simp only [v15_row]
  rfl

/-- The first result array. -/
theorem v30_eq : val_main_v30 (F := Ideal) x0 x1 x2 = fun y => gates x0 x1 x2 (y 0) (y 1) (y 2) := by
  funext y
  idx_vars y
  exact v30_row x0 x1 x2 y0 y1 y2

/-- The second result array. -/
theorem v32_eq : val_main_v32 (F := Ideal) x0 x1 x2 = fun y => inners x0 x1 x2 (y 0) (y 1) (y 2) := by
  funext y
  idx_vars y
  exact v32_row x0 x1 x2 y0 y1 y2

end Cert.Lru.Later.Ref

end
-- ==== Proof.LruLaterClaim.lean ====
/- The claims about a later layer's input projections and their reference. -/
module

public import proofs.«01_k».proof.Defs
public import proofs.«01_k».proof.Proof.Gen.LruLater.Frame
public import proofs.«01_k».proof.Proof.LruLaterKernel
public import proofs.«01_k».proof.Proof.LruLaterRef
public import Idealize.ShloMosaic.Adequacy
public import Idealize.ShloMosaic.Init

@[expose] public section

noncomputable section

namespace Cert.Lru.Later

open Idealize.ShloMosaic Idealize.SL.Sem

/-- The call as written leaves its arguments and ends with every semaphore at zero. -/
theorem frame_kernel : Cert.quiescent_LruLater (hLruLater := Cert.LruLater.Gen.facts) :=
  fun m ρ _ => Cert.LruLater.Gen.frame m ρ

/-- So does its idealised form. -/
theorem frame_kernelIdeal : Cert.quiescent_LruLaterIdeal (hLruLaterIdeal := Cert.LruLaterIdeal.Gen.facts) :=
  fun m ρ _ => Cert.LruLaterIdeal.Gen.frame m ρ

/-- The reference leaves its arguments; it has no semaphores. -/
theorem frame_reference : Cert.quiescent_LruLaterRefIdeal (hLruLaterRefIdeal := Cert.LruLaterRefIdeal.Gen.facts) :=
  fun m ρ _ => (θ_run Cert.LruLaterRefIdeal.defs _ _).mono (fun r h => ⟨fun c => (h c).2.2,
      Idealize.ShloMosaic.sem_eq_zero_of_no_sems (by decide) r.2⟩)
    (Cert.LruLaterRefIdeal.Value.run (F := Ideal) m ρ)

/-- The call's two results are its reference's: both are the row functions at every token. -/
theorem value : Cert.algebraic_LruLaterIdeal_LruLaterRefIdeal (hLruLaterIdeal := Cert.LruLaterIdeal.Gen.facts)
    (hLruLaterRefIdeal := Cert.LruLaterRefIdeal.Gen.facts) := by
  intro m g m' g' _ hag
  refine ⟨_, _, (θ_run Cert.LruLaterIdeal.defs _ _).mono (fun r h c => ⟨(h c).1.trans (final3 m c), (h c).2.1.trans (final4 m c), (h c).2.2⟩)
      (Cert.LruLaterIdeal.Value.run_blocks (F := Ideal) m g),
    (θ_run Cert.LruLaterRefIdeal.defs _ _).mono (fun r h c => ⟨(h c).1.trans ?_, (h c).2.1.trans ?_, (h c).2.2⟩)
      (Cert.LruLaterRefIdeal.Value.run (F := Ideal) m' g')⟩
  · obtain ⟨h0, h1, h2⟩ := hag c
    rw [Cert.LruLaterRefIdeal.Read.val_main_v30_eq, h0, h1, h2]
    exact Ref.v30_eq _ _ _
  · obtain ⟨h0, h1, h2⟩ := hag c
    rw [Cert.LruLaterRefIdeal.Read.val_main_v32_eq, h0, h1, h2]
    exact Ref.v32_eq _ _ _

end Cert.Lru.Later

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerRefIdeal
public import proofs.«01_k».proof.Proof.Gen.MixerRefIdeal.Run
public import proofs.«01_k».proof.Proof.Gen.MixerRefIdeal.Read
public import proofs.«01_k».proof.Proof.Gen.FfnMid
public import proofs.«01_k».proof.Proof.Gen.FfnMid.Skeleton
public import proofs.«01_k».proof.Proof.Gen.FfnMid.Launch
public import proofs.«01_k».proof.Proof.Gen.FfnMid.Points
public import proofs.«01_k».proof.Proof.Gen.FfnMid.Frame
public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import proofs.«01_k».proof.Proof.Gen.FfnMidIdeal.Value
public import proofs.«01_k».proof.Proof.Gen.FfnMidRefIdeal
public import proofs.«01_k».proof.Proof.Gen.FfnMidRefIdeal.Run
public import proofs.«01_k».proof.Proof.Gen.FfnMidRefIdeal.Read
public import proofs.«01_k».proof.Proof.Gen.FfnEven
public import proofs.«01_k».proof.Proof.Gen.FfnEven.Skeleton
public import proofs.«01_k».proof.Proof.Gen.FfnEven.Launch
public import proofs.«01_k».proof.Proof.Gen.FfnEven.Points
public import proofs.«01_k».proof.Proof.Gen.FfnEven.Frame
public import proofs.«01_k».proof.Proof.Gen.FfnEvenIdeal
public import proofs.«01_k».proof.Proof.Gen.FfnEvenIdeal.Skeleton
public import proofs.«01_k».proof.Proof.Gen.FfnEvenIdeal.Launch
public import proofs.«01_k».proof.Proof.Gen.FfnEvenIdeal.Points
public import proofs.«01_k».proof.Proof.Gen.FfnEvenIdeal.Frame
public import proofs.«01_k».proof.Proof.Gen.FfnEvenIdeal.Value
public import proofs.«01_k».proof.Proof.Gen.FfnEvenRefIdeal
public import proofs.«01_k».proof.Proof.Gen.FfnEvenRefIdeal.Run
public import proofs.«01_k».proof.Proof.Gen.FfnEvenRefIdeal.Read
public import proofs.«01_k».proof.Proof.Gen.LruFirst
public import proofs.«01_k».proof.Proof.Gen.LruFirst.Skeleton
public import proofs.«01_k».proof.Proof.Gen.LruFirst.Launch
public import proofs.«01_k».proof.Proof.Gen.LruFirst.Points
public import proofs.«01_k».proof.Proof.Gen.LruFirst.Frame
public import proofs.«01_k».proof.Proof.Gen.LruFirstIdeal
public import proofs.«01_k».proof.Proof.Gen.LruFirstIdeal.Skeleton
public import proofs.«01_k».proof.Proof.Gen.LruFirstIdeal.Launch
public import proofs.«01_k».proof.Proof.Gen.LruFirstIdeal.Points
public import proofs.«01_k».proof.Proof.Gen.LruFirstIdeal.Frame
public import proofs.«01_k».proof.Proof.Gen.LruFirstIdeal.Value
public import proofs.«01_k».proof.Proof.Gen.LruFirstRefIdeal
public import proofs.«01_k».proof.Proof.Gen.LruFirstRefIdeal.Run
public import proofs.«01_k».proof.Proof.Gen.LruFirstRefIdeal.Read
public import proofs.«01_k».proof.Proof.Gen.LruLater
public import proofs.«01_k».proof.Proof.Gen.LruLater.Skeleton
public import proofs.«01_k».proof.Proof.Gen.LruLater.Launch
public import proofs.«01_k».proof.Proof.Gen.LruLater.Points
public import proofs.«01_k».proof.Proof.Gen.LruLater.Frame
public import proofs.«01_k».proof.Proof.Gen.LruLaterIdeal
public import proofs.«01_k».proof.Proof.Gen.LruLaterIdeal.Skeleton
public import proofs.«01_k».proof.Proof.Gen.LruLaterIdeal.Launch
public import proofs.«01_k».proof.Proof.Gen.LruLaterIdeal.Points
public import proofs.«01_k».proof.Proof.Gen.LruLaterIdeal.Frame
public import proofs.«01_k».proof.Proof.Gen.LruLaterIdeal.Value
public import proofs.«01_k».proof.Proof.Gen.LruLaterRefIdeal
public import proofs.«01_k».proof.Proof.Gen.LruLaterRefIdeal.Run
public import proofs.«01_k».proof.Proof.Gen.LruLaterRefIdeal.Read
public import proofs.«01_k».proof.Proof.Gen.MixerOnline
public import proofs.«01_k».proof.Proof.Gen.MixerOnline.Skeleton
public import proofs.«01_k».proof.Proof.Gen.MixerOnline.Launch
public import proofs.«01_k».proof.Proof.Gen.MixerOnline.Points
public import proofs.«01_k».proof.Proof.Gen.MixerOnline.Frame
public import proofs.«01_k».proof.Proof.Gen.MixerOnlineIdeal
public import proofs.«01_k».proof.Proof.Gen.MixerOnlineIdeal.Skeleton
public import proofs.«01_k».proof.Proof.Gen.MixerOnlineIdeal.Launch
public import proofs.«01_k».proof.Proof.Gen.MixerOnlineIdeal.Points
public import proofs.«01_k».proof.Proof.Gen.MixerOnlineIdeal.Frame
public import proofs.«01_k».proof.Proof.FfnClaim
public import proofs.«01_k».proof.Proof.MixClaim
public import proofs.«01_k».proof.Proof.OnlineClaim
public import proofs.«01_k».proof.Proof.FfnMidClaim
public import proofs.«01_k».proof.Proof.FfnEvenClaim
public import proofs.«01_k».proof.Proof.LruFirstClaim
public import proofs.«01_k».proof.Proof.LruLaterClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Mixer.Gen.facts, Cert.MixerIdeal.Gen.facts, Cert.MixerRefIdeal.Gen.facts,
    Cert.FfnMid.Gen.facts, Cert.FfnMidIdeal.Gen.facts, Cert.FfnMidRefIdeal.Gen.facts,
    Cert.FfnEven.Gen.facts, Cert.FfnEvenIdeal.Gen.facts, Cert.FfnEvenRefIdeal.Gen.facts,
    Cert.LruFirst.Gen.facts, Cert.LruFirstIdeal.Gen.facts, Cert.LruFirstRefIdeal.Gen.facts,
    Cert.LruLater.Gen.facts, Cert.LruLaterIdeal.Gen.facts, Cert.LruLaterRefIdeal.Gen.facts,
    Cert.MixerOnline.Gen.facts, Cert.MixerOnlineIdeal.Gen.facts,
    Cert.Mix.preFacts,
    Cert.Ffn.frame_kernel, Cert.Ffn.frame_kernelIdeal, Cert.Ffn.frame_reference,
    Cert.Mix.frame_mixer, Cert.Mix.frame_ideal, Cert.Mix.frame_ideal_pre, Cert.Mix.frame_ref, Cert.Mix.frame_ref_pre,
    Cert.Ffn.Mid.frame_kernel, Cert.Ffn.Mid.frame_kernelIdeal, Cert.Ffn.Mid.frame_reference,
    Cert.Ffn.Even.frame_kernel, Cert.Ffn.Even.frame_kernelIdeal, Cert.Ffn.Even.frame_reference,
    Cert.Lru.First.frame_kernel, Cert.Lru.First.frame_kernelIdeal, Cert.Lru.First.frame_reference,
    Cert.Lru.Later.frame_kernel, Cert.Lru.Later.frame_kernelIdeal, Cert.Lru.Later.frame_reference,
    Cert.Mix.Online.frame_mixer, Cert.Mix.Online.frame_ideal, Cert.Mix.Online.frame_ideal_pre,
    trivial, Cert.Ffn.value, Cert.Mix.preserves, Cert.Mix.value,
    trivial, Cert.Ffn.Mid.value, trivial, Cert.Ffn.Even.value, trivial, Cert.Lru.First.value, trivial, Cert.Lru.Later.value,
    Cert.Mix.Online.preserves, Cert.Mix.Online.value⟩

end Cert.Proof

end
